-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v17_0)) (v1 : (c : Dev Cert.Kernel2Ideal.nD) → Buf (Elt Ideal) ((c.tc : Thread Cert.Kernel2Ideal.nD Cert.Kernel2Ideal.τ).loc Cert.Kernel2Ideal.main_v17_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17_0) = v0 c
          ∧ r.2.mem ((c.tc : Thread Cert.Kernel2Ideal.nD Cert.Kernel2Ideal.τ).loc Cert.Kernel2Ideal.main_v17_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_v20) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v6_0)) (v1 : (c : Dev Cert.Kernel4Ideal.nD) → Buf (Elt Ideal) ((c.tc : Thread Cert.Kernel4Ideal.nD Cert.Kernel4Ideal.τ).loc Cert.Kernel4Ideal.main_v6_1)) (v2 : (c : Dev Cert.Kernel4Ideal.nD) → Buf (Elt Ideal) ((c.tc : Thread Cert.Kernel4Ideal.nD Cert.Kernel4Ideal.τ).loc Cert.Kernel4Ideal.main_v6_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_0) = v0 c
          ∧ r.2.mem ((c.tc : Thread Cert.Kernel4Ideal.nD Cert.Kernel4Ideal.τ).loc Cert.Kernel4Ideal.main_v6_1) = v1 c
          ∧ r.2.mem ((c.tc : Thread Cert.Kernel4Ideal.nD Cert.Kernel4Ideal.τ).loc Cert.Kernel4Ideal.main_v6_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_v22) = v1 c
          ∧ r.2.mem ((c.tc : Thread Cert.Reference4Ideal.nD Cert.Reference4Ideal.τ).loc Cert.Reference4Ideal.main_v23) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S2x8192x4384 : Shape := ⟨3, ![2, 8192, 4384]⟩
abbrev S4 : Shape := ⟨1, ![4]⟩
abbrev S4x1024 : Shape := ⟨2, ![4, 1024]⟩
abbrev S1024 : Shape := ⟨1, ![1024]⟩
abbrev S512 : Shape := ⟨1, ![512]⟩
abbrev S16384x4384 : Shape := ⟨2, ![16384, 4384]⟩
abbrev S_ : Shape := ⟨0, ![]⟩
abbrev S16384x224 : Shape := ⟨2, ![16384, 224]⟩
abbrev S16384x2560 : Shape := ⟨2, ![16384, 2560]⟩
abbrev S16384x1280 : Shape := ⟨2, ![16384, 1280]⟩
abbrev S16384x8 : Shape := ⟨2, ![16384, 8]⟩
abbrev S16384x24 : Shape := ⟨2, ![16384, 24]⟩
abbrev S16384x512 : Shape := ⟨2, ![16384, 512]⟩
abbrev S16384x4608 : Shape := ⟨2, ![16384, 4608]⟩
abbrev S16384x128 : Shape := ⟨2, ![16384, 128]⟩
abbrev S1x128 : Shape := ⟨2, ![1, 128]⟩
abbrev S1 : Shape := ⟨1, ![1]⟩
abbrev S2 : Shape := ⟨1, ![2]⟩
abbrev S2x8192x4608 : Shape := ⟨3, ![2, 8192, 4608]⟩
abbrev S2x8192x128 : Shape := ⟨3, ![2, 8192, 128]⟩
abbrev S1x1024 : Shape := ⟨2, ![1, 1024]⟩
abbrev S1x512 : Shape := ⟨2, ![1, 512]⟩
abbrev S2x8192x512 : Shape := ⟨3, ![2, 8192, 512]⟩
abbrev S2x128x512 : Shape := ⟨3, ![2, 128, 512]⟩
abbrev S2x128x128 : Shape := ⟨3, ![2, 128, 128]⟩
abbrev S2x256x1024 : Shape := ⟨3, ![2, 256, 1024]⟩
abbrev S8x128x128 : Shape := ⟨3, ![8, 128, 128]⟩
abbrev S8x1x128 : Shape := ⟨3, ![8, 1, 128]⟩
abbrev S8x1x1 : Shape := ⟨3, ![8, 1, 1]⟩
abbrev S128x256 : Shape := ⟨2, ![128, 256]⟩
abbrev S128x128 : Shape := ⟨2, ![128, 128]⟩
abbrev S1x128x512 : Shape := ⟨3, ![1, 128, 512]⟩
abbrev S128x512 : Shape := ⟨2, ![128, 512]⟩
abbrev S1x256x1024 : Shape := ⟨3, ![1, 256, 1024]⟩
abbrev S256x1024 : Shape := ⟨2, ![256, 1024]⟩
abbrev S128x1024 : Shape := ⟨2, ![128, 1024]⟩
abbrev S1x16x1024 : Shape := ⟨3, ![1, 16, 1024]⟩
abbrev S16x1024 : Shape := ⟨2, ![16, 1024]⟩
abbrev S1x128x128 : Shape := ⟨3, ![1, 128, 128]⟩
abbrev S128x1 : Shape := ⟨2, ![128, 1]⟩
abbrev S1x1x1 : Shape := ⟨3, ![1, 1, 1]⟩
abbrev S1x1 : Shape := ⟨2, ![1, 1]⟩
abbrev S128 : Shape := ⟨1, ![128]⟩
abbrev S1x1x128 : Shape := ⟨3, ![1, 1, 128]⟩

abbrev nBuf : Space → Nat
  | .hbm => 29
  | .vmem => 22
  | .smem => 0
  | _ => 0

abbrev bufTy : (tb : Table) → Fin (tcTables nBuf tb) → BufTy
  | .hbm, ⟨0, _⟩ => ⟨S2x8192x4384, .f32⟩
  | .hbm, ⟨1, _⟩ => ⟨S4, .f32⟩
  | .hbm, ⟨2, _⟩ => ⟨S4x1024, .f32⟩
  | .hbm, ⟨3, _⟩ => ⟨S1024, .f32⟩
  | .hbm, ⟨4, _⟩ => ⟨S512, .f32⟩
  | .hbm, ⟨5, _⟩ => ⟨S16384x4384, .f32⟩
  | .hbm, ⟨6, _⟩ => ⟨S_, .f32⟩
  | .hbm, ⟨7, _⟩ => ⟨S16384x224, .f32⟩
  | .hbm, ⟨8, _⟩ => ⟨S16384x2560, .f32⟩
  | .hbm, ⟨9, _⟩ => ⟨S16384x1280, .f32⟩
  | .hbm, ⟨10, _⟩ => ⟨S16384x8, .f32⟩
  | .hbm, ⟨11, _⟩ => ⟨S16384x24, .f32⟩
  | .hbm, ⟨12, _⟩ => ⟨S16384x512, .f32⟩
  | .hbm, ⟨13, _⟩ => ⟨S16384x4608, .f32⟩
  | .hbm, ⟨14, _⟩ => ⟨S16384x4608, .bf16⟩
  | .hbm, ⟨15, _⟩ => ⟨S16384x128, .f32⟩
  | .hbm, ⟨16, _⟩ => ⟨S_, .f32⟩
  | .hbm, ⟨17, _⟩ => ⟨S1x128, .f32⟩
  | .hbm, ⟨18, _⟩ => ⟨S_, .i32⟩
  | .hbm, ⟨19, _⟩ => ⟨S1, .i32⟩
  | .hbm, ⟨20, _⟩ => ⟨S_, .i32⟩
  | .hbm, ⟨21, _⟩ => ⟨S1, .i32⟩
  | .hbm, ⟨22, _⟩ => ⟨S2, .i32⟩
  | .hbm, ⟨23, _⟩ => ⟨S1x128, .f32⟩
  | .hbm, ⟨24, _⟩ => ⟨S2x8192x4608, .bf16⟩
  | .hbm, ⟨25, _⟩ => ⟨S2x8192x128, .f32⟩
  | .hbm, ⟨26, _⟩ => ⟨S1x1024, .f32⟩
  | .hbm, ⟨27, _⟩ => ⟨S1x512, .f32⟩
  | .hbm, ⟨28, _⟩ => ⟨S2x8192x512, .bf16⟩
  | .local _ .vmem, ⟨0, _⟩ => ⟨S2x128x512, .bf16⟩
  | .local _ .vmem, ⟨1, _⟩ => ⟨S2x128x512, .bf16⟩
  | .local _ .vmem, ⟨2, _⟩ => ⟨S2x128x512, .bf16⟩
  | .local _ .vmem, ⟨3, _⟩ => ⟨S2x128x512, .bf16⟩
  | .local _ .vmem, ⟨4, _⟩ => ⟨S2x128x512, .bf16⟩
  | .local _ .vmem, ⟨5, _⟩ => ⟨S2x128x512, .bf16⟩
  | .local _ .vmem, ⟨6, _⟩ => ⟨S2x128x512, .bf16⟩
  | .local _ .vmem, ⟨7, _⟩ => ⟨S2x128x512, .bf16⟩
  | .local _ .vmem, ⟨8, _⟩ => ⟨S2x128x512, .bf16⟩
  | .local _ .vmem, ⟨9, _⟩ => ⟨S2x128x512, .bf16⟩
  | .local _ .vmem, ⟨10, _⟩ => ⟨S2x128x128, .f32⟩
  | .local _ .vmem, ⟨11, _⟩ => ⟨S2x128x128, .f32⟩
  | .local _ .vmem, ⟨12, _⟩ => ⟨S4x1024, .f32⟩
  | .local _ .vmem, ⟨13, _⟩ => ⟨S1x1024, .f32⟩
  | .local _ .vmem, ⟨14, _⟩ => ⟨S1x128, .f32⟩
  | .local _ .vmem, ⟨15, _⟩ => ⟨S1x512, .f32⟩
  | .local _ .vmem, ⟨16, _⟩ => ⟨S2x128x512, .bf16⟩
  | .local _ .vmem, ⟨17, _⟩ => ⟨S2x128x512, .bf16⟩
  | .local _ .vmem, ⟨18, _⟩ => ⟨S2x256x1024, .bf16⟩
  | .local _ .vmem, ⟨19, _⟩ => ⟨S8x128x128, .f32⟩
  | .local _ .vmem, ⟨20, _⟩ => ⟨S8x1x128, .f32⟩
  | .local _ .vmem, ⟨21, _⟩ => ⟨S8x1x1, .f32⟩
  | _, _ => ⟨S2x8192x4384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![c0_i32.toNat, arg0.toNat, c1_i32.toNat]

def cc0_transform_2 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  ![c0_i32.toNat, arg0.toNat, c2_i32.toNat]

def cc0_transform_3 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  ![c0_i32.toNat, arg0.toNat, c3_i32.toNat]

def cc0_transform_4 (i : grid0.Coords) : Fin 3 → Nat :=
  let arg0 : BitVec 32 := BitVec.ofNat 32 (i 0).val
  let c0_i32 : BitVec 32 := 0#32
  let c4_i32 : BitVec 32 := 4#32
  let c0_i32_0 : BitVec 32 := 0#32
  ![c0_i32.toNat, arg0.toNat, c4_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2x128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S2x8192x4384 : Shape := ⟨3, ![2, 8192, 4384]⟩
abbrev S4 : Shape := ⟨1, ![4]⟩
abbrev S4x1024 : Shape := ⟨2, ![4, 1024]⟩
abbrev S1024 : Shape := ⟨1, ![1024]⟩
abbrev S512 : Shape := ⟨1, ![512]⟩
abbrev S2x8192x512 : Shape := ⟨3, ![2, 8192, 512]⟩
abbrev S2x8192x4 : Shape := ⟨3, ![2, 8192, 4]⟩
abbrev S2x8192x1024 : Shape := ⟨3, ![2, 8192, 1024]⟩
abbrev S_ : Shape := ⟨0, ![]⟩
abbrev S2x8195x1024 : Shape := ⟨3, ![2, 8195, 1024]⟩
abbrev S1x1024 : Shape := ⟨2, ![1, 1024]⟩
abbrev S1x1x1024 : Shape := ⟨3, ![1, 1, 1024]⟩
abbrev S2x8192x4x128 : Shape := ⟨4, ![2, 8192, 4, 128]⟩
abbrev S2x4x8192x128 : Shape := ⟨4, ![2, 4, 8192, 128]⟩
abbrev S2x4x8192 : Shape := ⟨3, ![2, 4, 8192]⟩
abbrev S1x1x4 : Shape := ⟨3, ![1, 1, 4]⟩
abbrev S128x128 : Shape := ⟨2, ![128, 128]⟩
abbrev S2x4x128x128 : Shape := ⟨4, ![2, 4, 128, 128]⟩
abbrev S2x4x128 : Shape := ⟨3, ![2, 4, 128]⟩
abbrev S2x4 : Shape := ⟨2, ![2, 4]⟩
abbrev S2x4x64x128x128 : Shape := ⟨5, ![2, 4, 64, 128, 128]⟩
abbrev S64x2x4x128x128 : Shape := ⟨5, ![64, 2, 4, 128, 128]⟩
abbrev S2x4x64x128 : Shape := ⟨4, ![2, 4, 64, 128]⟩
abbrev S64x2x4x128 : Shape := ⟨4, ![64, 2, 4, 128]⟩
abbrev S1x2x4x128x128 : Shape := ⟨5, ![1, 2, 4, 128, 128]⟩
abbrev S1x2x4x128 : Shape := ⟨4, ![1, 2, 4, 128]⟩
abbrev S2x4x128x1 : Shape := ⟨4, ![2, 4, 128, 1]⟩
abbrev S2x4x1x128 : Shape := ⟨4, ![2, 4, 1, 128]⟩
abbrev S2x4x1 : Shape := ⟨3, ![2, 4, 1]⟩
abbrev S2x4x1x1 : Shape := ⟨4, ![2, 4, 1, 1]⟩
abbrev S4x128 : Shape := ⟨2, ![4, 128]⟩
abbrev S2x8192x4x1 : Shape := ⟨4, ![2, 8192, 4, 1]⟩
abbrev S1x1x4x128 : Shape := ⟨4, ![1, 1, 4, 128]⟩

abbrev nBuf : Space → Nat
  | .hbm => 289
  | .vmem => 0
  | .smem => 0
  | _ => 0

abbrev hbmTy0_0 (i : Nat) : BufTy := match i % 128 with
  | 0 => ⟨S2x8192x4384, .f32⟩
  | 1 => ⟨S4, .f32⟩
  | 2 => ⟨S4x1024, .f32⟩
  | 3 => ⟨S1024, .f32⟩
  | 4 => ⟨S512, .f32⟩
  | 5 => ⟨S2x8192x512, .f32⟩
  | 6 => ⟨S2x8192x512, .f32⟩
  | 7 => ⟨S2x8192x512, .f32⟩
  | 8 => ⟨S2x8192x4, .f32⟩
  | 9 => ⟨S2x8192x4, .f32⟩
  | 10 => ⟨S2x8192x1024, .f32⟩
  | 11 => ⟨S_, .i32⟩
  | 12 => ⟨S_, .f32⟩
  | 13 => ⟨S2x8195x1024, .f32⟩
  | 14 => ⟨S2x8192x1024, .f32⟩
  | 15 => ⟨S1x1024, .f32⟩
  | 16 => ⟨S1024, .f32⟩
  | 17 => ⟨S1x1x1024, .f32⟩
  | 18 => ⟨S2x8192x1024, .f32⟩
  | 19 => ⟨S2x8192x1024, .f32⟩
  | 20 => ⟨S_, .f32⟩
  | 21 => ⟨S2x8192x1024, .f32⟩
  | 22 => ⟨S2x8192x1024, .f32⟩
  | 23 => ⟨S2x8192x1024, .f32⟩
  | 24 => ⟨S1x1024, .f32⟩
  | 25 => ⟨S1024, .f32⟩
  | 26 => ⟨S1x1x1024, .f32⟩
  | 27 => ⟨S2x8192x1024, .f32⟩
  | 28 => ⟨S2x8192x1024, .f32⟩
  | 29 => ⟨S2x8192x1024, .f32⟩
  | 30 => ⟨S2x8192x1024, .f32⟩
  | 31 => ⟨S1x1024, .f32⟩
  | 32 => ⟨S1024, .f32⟩
  | 33 => ⟨S1x1x1024, .f32⟩
  | 34 => ⟨S2x8192x1024, .f32⟩
  | 35 => ⟨S2x8192x1024, .f32⟩
  | 36 => ⟨S2x8192x1024, .f32⟩
  | 37 => ⟨S2x8192x1024, .f32⟩
  | 38 => ⟨S1x1024, .f32⟩
  | 39 => ⟨S1024, .f32⟩
  | 40 => ⟨S1x1x1024, .f32⟩
  | 41 => ⟨S2x8192x1024, .f32⟩
  | 42 => ⟨S2x8192x1024, .f32⟩
  | 43 => ⟨S2x8192x1024, .f32⟩
  | 44 => ⟨S1x1x1024, .f32⟩
  | 45 => ⟨S2x8192x1024, .f32⟩
  | 46 => ⟨S2x8192x1024, .f32⟩
  | 47 => ⟨S2x8192x1024, .f32⟩
  | 48 => ⟨S2x8192x1024, .f32⟩
  | 49 => ⟨S_, .f32⟩
  | 50 => ⟨S2x8192x1024, .f32⟩
  | 51 => ⟨S2x8192x1024, .f32⟩
  | 52 => ⟨S_, .f32⟩
  | 53 => ⟨S2x8192x1024, .f32⟩
  | 54 => ⟨S2x8192x1024, .f32⟩
  | 55 => ⟨S2x8192x1024, .f32⟩
  | 56 => ⟨S2x8192x512, .f32⟩
  | 57 => ⟨S2x8192x512, .f32⟩
  | 58 => ⟨S2x8192x4x128, .f32⟩
  | 59 => ⟨S2x4x8192x128, .f32⟩
  | 60 => ⟨S2x8192x4x128, .f32⟩
  | 61 => ⟨S2x4x8192x128, .f32⟩
  | 62 => ⟨S_, .f32⟩
  | 63 => ⟨S2x4x8192x128, .f32⟩
  | 64 => ⟨S2x4x8192x128, .f32⟩
  | 65 => ⟨S2x8192x4x128, .f32⟩
  | 66 => ⟨S2x4x8192x128, .f32⟩
  | 67 => ⟨S2x4x8192, .f32⟩
  | 68 => ⟨S1x1x4, .f32⟩
  | 69 => ⟨S2x8192x4, .f32⟩
  | 70 => ⟨S2x8192x4, .f32⟩
  | 71 => ⟨S2x4x8192, .f32⟩
  | 72 => ⟨S2x4x8192, .f32⟩
  | 73 => ⟨S_, .f32⟩
  | 74 => ⟨S2x4x8192, .f32⟩
  | 75 => ⟨S2x4x8192, .f32⟩
  | 76 => ⟨S2x4x8192, .f32⟩
  | 77 => ⟨S2x4x8192, .f32⟩
  | 78 => ⟨S2x4x8192, .i1⟩
  | 79 => ⟨S2x4x8192, .f32⟩
  | 80 => ⟨S2x4x8192, .f32⟩
  | 81 => ⟨S2x4x8192, .f32⟩
  | 82 => ⟨S2x4x8192, .f32⟩
  | 83 => ⟨S2x4x8192, .f32⟩
  | 84 => ⟨S2x4x8192, .f32⟩
  | 85 => ⟨S2x4x8192, .f32⟩
  | 86 => ⟨S2x4x8192, .f32⟩
  | 87 => ⟨S2x4x8192, .f32⟩
  | 88 => ⟨S_, .i1⟩
  | 89 => ⟨S128x128, .i1⟩
  | 90 => ⟨S128x128, .i32⟩
  | 91 => ⟨S_, .i32⟩
  | 92 => ⟨S128x128, .i32⟩
  | 93 => ⟨S128x128, .i32⟩
  | 94 => ⟨S128x128, .i32⟩
  | 95 => ⟨S128x128, .i1⟩
  | 96 => ⟨S_, .i1⟩
  | 97 => ⟨S128x128, .i1⟩
  | 98 => ⟨S128x128, .i1⟩
  | 99 => ⟨S_, .f32⟩
  | 100 => ⟨S2x4x128x128, .f32⟩
  | 101 => ⟨S_, .f32⟩
  | 102 => ⟨S2x4x128, .f32⟩
  | 103 => ⟨S_, .f32⟩
  | 104 => ⟨S2x4, .f32⟩
  | 105 => ⟨S2x4x64x128x128, .f32⟩
  | 106 => ⟨S64x2x4x128x128, .f32⟩
  | 107 => ⟨S2x4x64x128x128, .f32⟩
  | 108 => ⟨S64x2x4x128x128, .f32⟩
  | 109 => ⟨S2x4x64x128x128, .f32⟩
  | 110 => ⟨S64x2x4x128x128, .f32⟩
  | 111 => ⟨S2x4x64x128, .f32⟩
  | 112 => ⟨S64x2x4x128, .f32⟩
  | 113 => ⟨S2x4x64x128, .f32⟩
  | 114 => ⟨S64x2x4x128, .f32⟩
  | 115 => ⟨S_, .f32⟩
  | 116 => ⟨S64x2x4x128x128, .f32⟩
  | 117 => ⟨S_, .i32⟩
  | 118 => ⟨S64x2x4x128x128, .f32⟩
  | 119 => ⟨S64x2x4x128x128, .f32⟩
  | 120 => ⟨S64x2x4x128x128, .f32⟩
  | 121 => ⟨S64x2x4x128, .f32⟩
  | 122 => ⟨S64x2x4x128, .f32⟩
  | 123 => ⟨S128x128, .i1⟩
  | 124 => ⟨S_, .i32⟩
  | 125 => ⟨S2x4x128x128, .f32⟩
  | 126 => ⟨S2x4x128, .f32⟩
  | 127 => ⟨S2x4, .f32⟩
  | _ => ⟨S2x8192x4384, .f32⟩

abbrev hbmTy0_1 (i : Nat) : BufTy := match i % 128 with
  | 0 => ⟨S64x2x4x128x128, .f32⟩
  | 1 => ⟨S_, .i32⟩
  | 2 => ⟨S_, .i1⟩
  | 3 => ⟨S_, .i32⟩
  | 4 => ⟨S_, .i32⟩
  | 5 => ⟨S_, .i32⟩
  | 6 => ⟨S_, .i32⟩
  | 7 => ⟨S1x2x4x128x128, .f32⟩
  | 8 => ⟨S2x4x128x128, .f32⟩
  | 9 => ⟨S_, .i32⟩
  | 10 => ⟨S_, .i32⟩
  | 11 => ⟨S_, .i32⟩
  | 12 => ⟨S_, .i32⟩
  | 13 => ⟨S1x2x4x128x128, .f32⟩
  | 14 => ⟨S2x4x128x128, .f32⟩
  | 15 => ⟨S_, .i32⟩
  | 16 => ⟨S_, .i32⟩
  | 17 => ⟨S_, .i32⟩
  | 18 => ⟨S_, .i32⟩
  | 19 => ⟨S1x2x4x128x128, .f32⟩
  | 20 => ⟨S2x4x128x128, .f32⟩
  | 21 => ⟨S_, .i32⟩
  | 22 => ⟨S_, .i32⟩
  | 23 => ⟨S_, .i32⟩
  | 24 => ⟨S1x2x4x128, .f32⟩
  | 25 => ⟨S2x4x128, .f32⟩
  | 26 => ⟨S_, .i32⟩
  | 27 => ⟨S_, .i32⟩
  | 28 => ⟨S_, .i32⟩
  | 29 => ⟨S1x2x4x128, .f32⟩
  | 30 => ⟨S2x4x128, .f32⟩
  | 31 => ⟨S_, .f32⟩
  | 32 => ⟨S_, .f32⟩
  | 33 => ⟨S2x4x128, .f32⟩
  | 34 => ⟨S2x4x128x1, .f32⟩
  | 35 => ⟨S2x4x1x128, .f32⟩
  | 36 => ⟨S2x4x128x128, .f32⟩
  | 37 => ⟨S2x4x128x128, .f32⟩
  | 38 => ⟨S2x4x128x128, .f32⟩
  | 39 => ⟨S2x4x1x128, .f32⟩
  | 40 => ⟨S2x4x128x128, .f32⟩
  | 41 => ⟨S2x4x128x128, .f32⟩
  | 42 => ⟨S_, .f32⟩
  | 43 => ⟨S_, .f32⟩
  | 44 => ⟨S2x4x128x128, .i1⟩
  | 45 => ⟨S2x4x128x128, .f32⟩
  | 46 => ⟨S2x4x128x128, .f32⟩
  | 47 => ⟨S2x4x1, .f32⟩
  | 48 => ⟨S2x4x128, .f32⟩
  | 49 => ⟨S2x4x128, .f32⟩
  | 50 => ⟨S_, .f32⟩
  | 51 => ⟨S2x4x128, .f32⟩
  | 52 => ⟨S2x4x128, .f32⟩
  | 53 => ⟨S2x4x128x128, .f32⟩
  | 54 => ⟨S2x4x128x1, .f32⟩
  | 55 => ⟨S2x4x128x128, .f32⟩
  | 56 => ⟨S2x4x128x128, .f32⟩
  | 57 => ⟨S2x4x128x128, .f32⟩
  | 58 => ⟨S2x4x128x128, .f32⟩
  | 59 => ⟨S2x4x128, .f32⟩
  | 60 => ⟨S2x4x128, .f32⟩
  | 61 => ⟨S2x4x128x128, .f32⟩
  | 62 => ⟨S2x4x128x1, .f32⟩
  | 63 => ⟨S2x4x128x128, .f32⟩
  | 64 => ⟨S2x4x128x128, .f32⟩
  | 65 => ⟨S2x4x128x128, .f32⟩
  | 66 => ⟨S2x4x128x128, .f32⟩
  | 67 => ⟨S_, .f32⟩
  | 68 => ⟨S2x4x128, .f32⟩
  | 69 => ⟨S2x4x128, .f32⟩
  | 70 => ⟨S2x4x128, .f32⟩
  | 71 => ⟨S2x4x128, .f32⟩
  | 72 => ⟨S2x4x128, .f32⟩
  | 73 => ⟨S2x4x128, .f32⟩
  | 74 => ⟨S2x4x128, .f32⟩
  | 75 => ⟨S2x4x128, .f32⟩
  | 76 => ⟨S2x4x128x1, .f32⟩
  | 77 => ⟨S2x4x128x128, .f32⟩
  | 78 => ⟨S2x4x128x128, .f32⟩
  | 79 => ⟨S2x4x1, .f32⟩
  | 80 => ⟨S2x4, .f32⟩
  | 81 => ⟨S2x4x1, .f32⟩
  | 82 => ⟨S2x4x128, .f32⟩
  | 83 => ⟨S2x4x128, .f32⟩
  | 84 => ⟨S2x4x128, .f32⟩
  | 85 => ⟨S2x4, .f32⟩
  | 86 => ⟨S_, .f32⟩
  | 87 => ⟨S2x4, .f32⟩
  | 88 => ⟨S2x4, .f32⟩
  | 89 => ⟨S2x4x1, .f32⟩
  | 90 => ⟨S2x4x128, .f32⟩
  | 91 => ⟨S2x4x128, .f32⟩
  | 92 => ⟨S2x4x128, .f32⟩
  | 93 => ⟨S2x4, .f32⟩
  | 94 => ⟨S2x4, .f32⟩
  | 95 => ⟨S2x4, .f32⟩
  | 96 => ⟨S2x4x128x1, .f32⟩
  | 97 => ⟨S2x4x128x128, .f32⟩
  | 98 => ⟨S2x4x128x128, .f32⟩
  | 99 => ⟨S2x4x1x1, .f32⟩
  | 100 => ⟨S2x4x128x128, .f32⟩
  | 101 => ⟨S2x4x128x128, .f32⟩
  | 102 => ⟨S2x4x128x128, .f32⟩
  | 103 => ⟨S2x4x128x128, .f32⟩
  | 104 => ⟨S2x4x1, .f32⟩
  | 105 => ⟨S2x4x128, .f32⟩
  | 106 => ⟨S2x4x128, .f32⟩
  | 107 => ⟨S_, .f32⟩
  | 108 => ⟨S2x4x128, .f32⟩
  | 109 => ⟨S2x4x128, .f32⟩
  | 110 => ⟨S1x2x4x128x128, .f32⟩
  | 111 => ⟨S_, .i32⟩
  | 112 => ⟨S_, .i32⟩
  | 113 => ⟨S_, .i32⟩
  | 114 => ⟨S_, .i32⟩
  | 115 => ⟨S64x2x4x128x128, .f32⟩
  | 116 => ⟨S_, .i32⟩
  | 117 => ⟨S_, .i32⟩
  | 118 => ⟨S2x4x64x128x128, .f32⟩
  | 119 => ⟨S2x4x8192x128, .f32⟩
  | 120 => ⟨S2x8192x4x128, .f32⟩
  | 121 => ⟨S2x8192x512, .f32⟩
  | 122 => ⟨S2x8192x512, .f32⟩
  | 123 => ⟨S4x128, .f32⟩
  | 124 => ⟨S2x8192x4x128, .f32⟩
  | 125 => ⟨S_, .f32⟩
  | 126 => ⟨S2x8192x4, .f32⟩
  | 127 => ⟨S2x8192x4x1, .f32⟩
  | _ => ⟨S2x8192x4384, .f32⟩

abbrev hbmTy0_2 (i : Nat) : BufTy := match i % 128 with
  | 0 => ⟨S_, .f32⟩
  | 1 => ⟨S2x8192x4x1, .f32⟩
  | 2 => ⟨S2x8192x4x1, .f32⟩
  | 3 => ⟨S_, .f32⟩
  | 4 => ⟨S2x8192x4x1, .f32⟩
  | 5 => ⟨S2x8192x4x1, .f32⟩
  | 6 => ⟨S2x8192x4x1, .f32⟩
  | 7 => ⟨S2x8192x4x128, .f32⟩
  | 8 => ⟨S2x8192x4x128, .f32⟩
  | 9 => ⟨S1x1x4x128, .f32⟩
  | 10 => ⟨S2x8192x4x128, .f32⟩
  | 11 => ⟨S2x8192x4x128, .f32⟩
  | 12 => ⟨S2x8192x512, .f32⟩
  | 13 => ⟨S2x8192x512, .f32⟩
  | 14 => ⟨S2x8192x512, .f32⟩
  | 15 => ⟨S_, .f32⟩
  | 16 => ⟨S2x8192x512, .f32⟩
  | 17 => ⟨S2x8192x512, .f32⟩
  | 18 => ⟨S_, .f32⟩
  | 19 => ⟨S2x8192x512, .f32⟩
  | 20 => ⟨S2x8192x512, .f32⟩
  | 21 => ⟨S2x8192x512, .f32⟩
  | 22 => ⟨S2x8192x512, .f32⟩
  | 23 => ⟨S2x8192x512, .f32⟩
  | 24 => ⟨S_, .f32⟩
  | 25 => ⟨S2x8192x512, .f32⟩
  | 26 => ⟨S2x8192x512, .f32⟩
  | 27 => ⟨S_, .f32⟩
  | 28 => ⟨S2x8192x512, .f32⟩
  | 29 => ⟨S2x8192x512, .f32⟩
  | 30 => ⟨S2x8192x512, .f32⟩
  | 31 => ⟨S2x8192x512, .f32⟩
  | 32 => ⟨S2x8192x512, .bf16⟩
  | _ => ⟨S2x8192x4384, .f32⟩

abbrev hbmTy (i : Nat) : BufTy := match i / 128 with
  | 0 => hbmTy0_0 i
  | 1 => hbmTy0_1 i
  | 2 => hbmTy0_2 i
  | _ => ⟨S2x8192x4384, .f32⟩

abbrev bufTy : (tb : Table) → Fin (tcTables nBuf tb) → BufTy
  | .hbm, ⟨i, _⟩ => hbmTy i
  | _, _ => ⟨S2x8192x4384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_call1_v0 : Ref sig .tc := ⟨.hbm, 47, rfl⟩
abbrev main_call1_v1 : Ref sig .tc := ⟨.hbm, 48, rfl⟩
abbrev main_call1_cst : Ref sig .tc := ⟨.hbm, 49, rfl⟩
abbrev main_call1_v2 : Ref sig .tc := ⟨.hbm, 50, rfl⟩
abbrev main_call1_v3 : Ref sig .tc := ⟨.hbm, 51, rfl⟩
abbrev main_call1_cst_0 : Ref sig .tc := ⟨.hbm, 52, rfl⟩
abbrev main_call1_v4 : Ref sig .tc := ⟨.hbm, 53, rfl⟩
abbrev main_call1_v5 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_0 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_call2_v0 : Ref sig .tc := ⟨.hbm, 72, rfl⟩
abbrev main_call2_call0_cst : Ref sig .tc := ⟨.hbm, 73, rfl⟩
abbrev main_call2_call0_v0 : Ref sig .tc := ⟨.hbm, 74, rfl⟩
abbrev main_call2_call0_v1 : Ref sig .tc := ⟨.hbm, 75, rfl⟩
abbrev main_call2_call0_v2 : Ref sig .tc := ⟨.hbm, 76, rfl⟩
abbrev main_call2_call0_v3 : Ref sig .tc := ⟨.hbm, 77, rfl⟩
abbrev main_call2_call0_v4 : Ref sig .tc := ⟨.hbm, 78, rfl⟩
abbrev main_call2_call0_v5 : Ref sig .tc := ⟨.hbm, 79, rfl⟩
abbrev main_call2_call0_v6 : Ref sig .tc := ⟨.hbm, 80, rfl⟩
abbrev main_call2_call0_v7 : Ref sig .tc := ⟨.hbm, 81, rfl⟩
abbrev main_call2_call0_v8 : Ref sig .tc := ⟨.hbm, 82, rfl⟩
abbrev main_call2_call0_v9 : Ref sig .tc := ⟨.hbm, 83, rfl⟩
abbrev main_call2_call0_v10 : Ref sig .tc := ⟨.hbm, 84, rfl⟩
abbrev main_call2_call0_v11 : Ref sig .tc := ⟨.hbm, 85, rfl⟩
abbrev main_call2_v1 : Ref sig .tc := ⟨.hbm, 86, rfl⟩
abbrev main_v55 : Ref sig .tc := ⟨.hbm, 87, rfl⟩
abbrev main_c_1 : Ref sig .tc := ⟨.hbm, 88, rfl⟩
abbrev main_v56 : Ref sig .tc := ⟨.hbm, 89, rfl⟩
abbrev main_call3_v0 : Ref sig .tc := ⟨.hbm, 90, rfl⟩
abbrev main_call3_c : Ref sig .tc := ⟨.hbm, 91, rfl⟩
abbrev main_call3_v1 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_call3_c_0 : Ref sig .tc := ⟨.hbm, 96, rfl⟩
abbrev main_call3_v5 : Ref sig .tc := ⟨.hbm, 97, rfl⟩
abbrev main_v57 : Ref sig .tc := ⟨.hbm, 98, rfl⟩
abbrev main_cst_2 : Ref sig .tc := ⟨.hbm, 99, rfl⟩
abbrev main_v58 : Ref sig .tc := ⟨.hbm, 100, rfl⟩
abbrev main_cst_3 : Ref sig .tc := ⟨.hbm, 101, rfl⟩
abbrev main_v59 : Ref sig .tc := ⟨.hbm, 102, rfl⟩
abbrev main_cst_4 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_cst_5 : Ref sig .tc := ⟨.hbm, 115, rfl⟩
abbrev main_v71 : Ref sig .tc := ⟨.hbm, 116, rfl⟩
abbrev main_c_6 : Ref sig .tc := ⟨.hbm, 117, rfl⟩
abbrev main_v72_0 : Ref sig .tc := ⟨.hbm, 118, rfl⟩
abbrev main_v72_1 : Ref sig .tc := ⟨.hbm, 119, rfl⟩
abbrev main_v72_2 : Ref sig .tc := ⟨.hbm, 120, rfl⟩
abbrev main_v72_3 : Ref sig .tc := ⟨.hbm, 121, rfl⟩
abbrev main_v72_4 : Ref sig .tc := ⟨.hbm, 122, rfl⟩
abbrev main_v72_5 : Ref sig .tc := ⟨.hbm, 123, rfl⟩
abbrev main_v72_6 : Ref sig .tc := ⟨.hbm, 124, rfl⟩
abbrev main_v72_7 : Ref sig .tc := ⟨.hbm, 125, rfl⟩
abbrev main_v72_8 : Ref sig .tc := ⟨.hbm, 126, rfl⟩
abbrev main_v72_9 : Ref sig .tc := ⟨.hbm, 127, rfl⟩
abbrev main_v72_10 : Ref sig .tc := ⟨.hbm, 128, rfl⟩
abbrev main_while0c_c_22 : Ref sig .tc := ⟨.hbm, 129, rfl⟩
abbrev main_while0c_v103 : Ref sig .tc := ⟨.hbm, 130, rfl⟩
abbrev main_while0b_call4_c : Ref sig .tc := ⟨.hbm, 131, rfl⟩
abbrev main_while0b_call4_c_0 : Ref sig .tc := ⟨.hbm, 132, rfl⟩
abbrev main_while0b_call4_c_1 : Ref sig .tc := ⟨.hbm, 133, rfl⟩
abbrev main_while0b_call4_c_2 : Ref sig .tc := ⟨.hbm, 134, rfl⟩
abbrev main_while0b_call4_v0 : Ref sig .tc := ⟨.hbm, 135, rfl⟩
abbrev main_while0b_v103 : Ref sig .tc := ⟨.hbm, 136, rfl⟩
abbrev main_while0b_call5_c : Ref sig .tc := ⟨.hbm, 137, rfl⟩
abbrev main_while0b_call5_c_0 : Ref sig .tc := ⟨.hbm, 138, rfl⟩
abbrev main_while0b_call5_c_1 : Ref sig .tc := ⟨.hbm, 139, rfl⟩
abbrev main_while0b_call5_c_2 : Ref sig .tc := ⟨.hbm, 140, rfl⟩
abbrev main_while0b_call5_v0 : Ref sig .tc := ⟨.hbm, 141, rfl⟩
abbrev main_while0b_v104 : Ref sig .tc := ⟨.hbm, 142, rfl⟩
abbrev main_while0b_call6_c : Ref sig .tc := ⟨.hbm, 143, rfl⟩
abbrev main_while0b_call6_c_0 : Ref sig .tc := ⟨.hbm, 144, rfl⟩
abbrev main_while0b_call6_c_1 : Ref sig .tc := ⟨.hbm, 145, rfl⟩
abbrev main_while0b_call6_c_2 : Ref sig .tc := ⟨.hbm, 146, rfl⟩
abbrev main_while0b_call6_v0 : Ref sig .tc := ⟨.hbm, 147, rfl⟩
abbrev main_while0b_v105 : Ref sig .tc := ⟨.hbm, 148, rfl⟩
abbrev main_while0b_call7_c : Ref sig .tc := ⟨.hbm, 149, rfl⟩
abbrev main_while0b_call7_c_0 : Ref sig .tc := ⟨.hbm, 150, rfl⟩
abbrev main_while0b_call7_c_1 : Ref sig .tc := ⟨.hbm, 151, rfl⟩
abbrev main_while0b_call7_v0 : Ref sig .tc := ⟨.hbm, 152, rfl⟩
abbrev main_while0b_v106 : Ref sig .tc := ⟨.hbm, 153, rfl⟩
abbrev main_while0b_call8_c : Ref sig .tc := ⟨.hbm, 154, rfl⟩
abbrev main_while0b_call8_c_0 : Ref sig .tc := ⟨.hbm, 155, rfl⟩
abbrev main_while0b_call8_c_1 : Ref sig .tc := ⟨.hbm, 156, rfl⟩
abbrev main_while0b_call8_v0 : Ref sig .tc := ⟨.hbm, 157, rfl⟩
abbrev main_while0b_v107 : Ref sig .tc := ⟨.hbm, 158, rfl⟩
abbrev main_while0b_call9_call0_cst : Ref sig .tc := ⟨.hbm, 159, rfl⟩
abbrev main_while0b_call9_call0_v0 : Ref sig .tc := ⟨.hbm, 160, rfl⟩
abbrev main_while0b_v108 : Ref sig .tc := ⟨.hbm, 161, rfl⟩
abbrev main_while0b_v109 : Ref sig .tc := ⟨.hbm, 162, rfl⟩
abbrev main_while0b_v110 : Ref sig .tc := ⟨.hbm, 163, rfl⟩
abbrev main_while0b_v111 : Ref sig .tc := ⟨.hbm, 164, rfl⟩
abbrev main_while0b_v112 : Ref sig .tc := ⟨.hbm, 165, rfl⟩
abbrev main_while0b_v113 : Ref sig .tc := ⟨.hbm, 166, rfl⟩
abbrev main_while0b_v114 : Ref sig .tc := ⟨.hbm, 167, rfl⟩
abbrev main_while0b_v115 : Ref sig .tc := ⟨.hbm, 168, rfl⟩
abbrev main_while0b_v116 : Ref sig .tc := ⟨.hbm, 169, rfl⟩
abbrev main_while0b_cst_22 : Ref sig .tc := ⟨.hbm, 170, rfl⟩
abbrev main_while0b_call10_v0 : Ref sig .tc := ⟨.hbm, 171, rfl⟩
abbrev main_while0b_call10_v1 : Ref sig .tc := ⟨.hbm, 172, rfl⟩
abbrev main_while0b_call10_v2 : Ref sig .tc := ⟨.hbm, 173, rfl⟩
abbrev main_while0b_v117 : Ref sig .tc := ⟨.hbm, 174, rfl⟩
abbrev main_while0b_v118 : Ref sig .tc := ⟨.hbm, 175, rfl⟩
abbrev main_while0b_v119 : Ref sig .tc := ⟨.hbm, 176, rfl⟩
abbrev main_while0b_v120 : Ref sig .tc := ⟨.hbm, 177, rfl⟩
abbrev main_while0b_cst_23 : Ref sig .tc := ⟨.hbm, 178, rfl⟩
abbrev main_while0b_v121 : Ref sig .tc := ⟨.hbm, 179, rfl⟩
abbrev main_while0b_v122 : Ref sig .tc := ⟨.hbm, 180, rfl⟩
abbrev main_while0b_v123 : Ref sig .tc := ⟨.hbm, 181, rfl⟩
abbrev main_while0b_v124 : Ref sig .tc := ⟨.hbm, 182, rfl⟩
abbrev main_while0b_v125 : Ref sig .tc := ⟨.hbm, 183, rfl⟩
abbrev main_while0b_v126 : Ref sig .tc := ⟨.hbm, 184, rfl⟩
abbrev main_while0b_v127 : Ref sig .tc := ⟨.hbm, 185, rfl⟩
abbrev main_while0b_v128 : Ref sig .tc := ⟨.hbm, 186, rfl⟩
abbrev main_while0b_v129 : Ref sig .tc := ⟨.hbm, 187, rfl⟩
abbrev main_while0b_v130 : Ref sig .tc := ⟨.hbm, 188, rfl⟩
abbrev main_while0b_v131 : Ref sig .tc := ⟨.hbm, 189, rfl⟩
abbrev main_while0b_v132 : Ref sig .tc := ⟨.hbm, 190, rfl⟩
abbrev main_while0b_v133 : Ref sig .tc := ⟨.hbm, 191, rfl⟩
abbrev main_while0b_v134 : Ref sig .tc := ⟨.hbm, 192, rfl⟩
abbrev main_while0b_v135 : Ref sig .tc := ⟨.hbm, 193, rfl⟩
abbrev main_while0b_v136 : Ref sig .tc := ⟨.hbm, 194, rfl⟩
abbrev main_while0b_cst_24 : Ref sig .tc := ⟨.hbm, 195, rfl⟩
abbrev main_while0b_v137 : Ref sig .tc := ⟨.hbm, 196, rfl⟩
abbrev main_while0b_v138 : Ref sig .tc := ⟨.hbm, 197, rfl⟩
abbrev main_while0b_v139 : Ref sig .tc := ⟨.hbm, 198, rfl⟩
abbrev main_while0b_v140 : Ref sig .tc := ⟨.hbm, 199, rfl⟩
abbrev main_while0b_v141 : Ref sig .tc := ⟨.hbm, 200, rfl⟩
abbrev main_while0b_v142 : Ref sig .tc := ⟨.hbm, 201, rfl⟩
abbrev main_while0b_v143 : Ref sig .tc := ⟨.hbm, 202, rfl⟩
abbrev main_while0b_v144 : Ref sig .tc := ⟨.hbm, 203, rfl⟩
abbrev main_while0b_v145 : Ref sig .tc := ⟨.hbm, 204, rfl⟩
abbrev main_while0b_v146 : Ref sig .tc := ⟨.hbm, 205, rfl⟩
abbrev main_while0b_v147 : Ref sig .tc := ⟨.hbm, 206, rfl⟩
abbrev main_while0b_v148 : Ref sig .tc := ⟨.hbm, 207, rfl⟩
abbrev main_while0b_v149 : Ref sig .tc := ⟨.hbm, 208, rfl⟩
abbrev main_while0b_v150 : Ref sig .tc := ⟨.hbm, 209, rfl⟩
abbrev main_while0b_v151 : Ref sig .tc := ⟨.hbm, 210, rfl⟩
abbrev main_while0b_v152 : Ref sig .tc := ⟨.hbm, 211, rfl⟩
abbrev main_while0b_v153 : Ref sig .tc := ⟨.hbm, 212, rfl⟩
abbrev main_while0b_v154 : Ref sig .tc := ⟨.hbm, 213, rfl⟩
abbrev main_while0b_cst_25 : Ref sig .tc := ⟨.hbm, 214, rfl⟩
abbrev main_while0b_v155 : Ref sig .tc := ⟨.hbm, 215, rfl⟩
abbrev main_while0b_v156 : Ref sig .tc := ⟨.hbm, 216, rfl⟩
abbrev main_while0b_v157 : Ref sig .tc := ⟨.hbm, 217, rfl⟩
abbrev main_while0b_v158 : Ref sig .tc := ⟨.hbm, 218, rfl⟩
abbrev main_while0b_v159 : Ref sig .tc := ⟨.hbm, 219, rfl⟩
abbrev main_while0b_v160 : Ref sig .tc := ⟨.hbm, 220, rfl⟩
abbrev main_while0b_v161 : Ref sig .tc := ⟨.hbm, 221, rfl⟩
abbrev main_while0b_v162 : Ref sig .tc := ⟨.hbm, 222, rfl⟩
abbrev main_while0b_v163 : Ref sig .tc := ⟨.hbm, 223, rfl⟩
abbrev main_while0b_v164 : Ref sig .tc := ⟨.hbm, 224, rfl⟩
abbrev main_while0b_v165 : Ref sig .tc := ⟨.hbm, 225, rfl⟩
abbrev main_while0b_v166 : Ref sig .tc := ⟨.hbm, 226, rfl⟩
abbrev main_while0b_v167 : Ref sig .tc := ⟨.hbm, 227, rfl⟩
abbrev main_while0b_v168 : Ref sig .tc := ⟨.hbm, 228, rfl⟩
abbrev main_while0b_v169 : Ref sig .tc := ⟨.hbm, 229, rfl⟩
abbrev main_while0b_v170 : Ref sig .tc := ⟨.hbm, 230, rfl⟩
abbrev main_while0b_v171 : Ref sig .tc := ⟨.hbm, 231, rfl⟩
abbrev main_while0b_v172 : Ref sig .tc := ⟨.hbm, 232, rfl⟩
abbrev main_while0b_v173 : Ref sig .tc := ⟨.hbm, 233, rfl⟩
abbrev main_while0b_v174 : Ref sig .tc := ⟨.hbm, 234, rfl⟩
abbrev main_while0b_cst_26 : Ref sig .tc := ⟨.hbm, 235, rfl⟩
abbrev main_while0b_v175 : Ref sig .tc := ⟨.hbm, 236, rfl⟩
abbrev main_while0b_v176 : Ref sig .tc := ⟨.hbm, 237, rfl⟩
abbrev main_while0b_call11_v0 : Ref sig .tc := ⟨.hbm, 238, rfl⟩
abbrev main_while0b_call11_c : Ref sig .tc := ⟨.hbm, 239, rfl⟩
abbrev main_while0b_call11_c_0 : Ref sig .tc := ⟨.hbm, 240, rfl⟩
abbrev main_while0b_call11_c_1 : Ref sig .tc := ⟨.hbm, 241, rfl⟩
abbrev main_while0b_call11_c_2 : Ref sig .tc := ⟨.hbm, 242, rfl⟩
abbrev main_while0b_v177 : Ref sig .tc := ⟨.hbm, 243, rfl⟩
abbrev main_while0b_c_27 : Ref sig .tc := ⟨.hbm, 244, rfl⟩
abbrev main_while0b_v178 : Ref sig .tc := ⟨.hbm, 245, rfl⟩
abbrev main_v73 : Ref sig .tc := ⟨.hbm, 246, rfl⟩
abbrev main_v74 : Ref sig .tc := ⟨.hbm, 247, rfl⟩
abbrev main_v75 : Ref sig .tc := ⟨.hbm, 248, rfl⟩
abbrev main_v76 : Ref sig .tc := ⟨.hbm, 249, rfl⟩
abbrev main_v77 : Ref sig .tc := ⟨.hbm, 250, rfl⟩
abbrev main_v78 : Ref sig .tc := ⟨.hbm, 251, rfl⟩
abbrev main_v79 : Ref sig .tc := ⟨.hbm, 252, rfl⟩
abbrev main_cst_7 : Ref sig .tc := ⟨.hbm, 253, rfl⟩
abbrev main_v80 : Ref sig .tc := ⟨.hbm, 254, rfl⟩
abbrev main_v81 : Ref sig .tc := ⟨.hbm, 255, rfl⟩
abbrev main_cst_8 : Ref sig .tc := ⟨.hbm, 256, rfl⟩
abbrev main_v82 : Ref sig .tc := ⟨.hbm, 257, rfl⟩
abbrev main_v83 : Ref sig .tc := ⟨.hbm, 258, rfl⟩
abbrev main_cst_9 : Ref sig .tc := ⟨.hbm, 259, rfl⟩
abbrev main_v84 : Ref sig .tc := ⟨.hbm, 260, rfl⟩
abbrev main_v85 : Ref sig .tc := ⟨.hbm, 261, rfl⟩
abbrev main_v86 : Ref sig .tc := ⟨.hbm, 262, rfl⟩
abbrev main_v87 : Ref sig .tc := ⟨.hbm, 263, rfl⟩
abbrev main_v88 : Ref sig .tc := ⟨.hbm, 264, rfl⟩
abbrev main_v89 : Ref sig .tc := ⟨.hbm, 265, rfl⟩
abbrev main_v90 : Ref sig .tc := ⟨.hbm, 266, rfl⟩
abbrev main_v91 : Ref sig .tc := ⟨.hbm, 267, rfl⟩
abbrev main_v92 : Ref sig .tc := ⟨.hbm, 268, rfl⟩
abbrev main_v93 : Ref sig .tc := ⟨.hbm, 269, rfl⟩
abbrev main_v94 : Ref sig .tc := ⟨.hbm, 270, rfl⟩
abbrev main_cst_10 : Ref sig .tc := ⟨.hbm, 271, rfl⟩
abbrev main_v95 : Ref sig .tc := ⟨.hbm, 272, rfl⟩
abbrev main_v96 : Ref sig .tc := ⟨.hbm, 273, rfl⟩
abbrev main_cst_11 : Ref sig .tc := ⟨.hbm, 274, rfl⟩
abbrev main_v97 : Ref sig .tc := ⟨.hbm, 275, rfl⟩
abbrev main_v98 : Ref sig .tc := ⟨.hbm, 276, rfl⟩
abbrev main_v99 : Ref sig .tc := ⟨.hbm, 277, rfl⟩
abbrev main_call12_v0 : Ref sig .tc := ⟨.hbm, 278, rfl⟩
abbrev main_call12_v1 : Ref sig .tc := ⟨.hbm, 279, rfl⟩
abbrev main_call12_cst : Ref sig .tc := ⟨.hbm, 280, rfl⟩
abbrev main_call12_v2 : Ref sig .tc := ⟨.hbm, 281, rfl⟩
abbrev main_call12_v3 : Ref sig .tc := ⟨.hbm, 282, rfl⟩
abbrev main_call12_cst_0 : Ref sig .tc := ⟨.hbm, 283, rfl⟩
abbrev main_call12_v4 : Ref sig .tc := ⟨.hbm, 284, rfl⟩
abbrev main_call12_v5 : Ref sig .tc := ⟨.hbm, 285, rfl⟩
abbrev main_v100 : Ref sig .tc := ⟨.hbm, 286, rfl⟩
abbrev main_v101 : Ref sig .tc := ⟨.hbm, 287, rfl⟩
abbrev main_v102 : Ref sig .tc := ⟨.hbm, 288, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S16384x1024 : Shape := ⟨2, ![16384, 1024]⟩
abbrev S1024 : Shape := ⟨1, ![1024]⟩
abbrev S1024x4384 : Shape := ⟨2, ![1024, 4384]⟩
abbrev S4384 : Shape := ⟨1, ![4384]⟩
abbrev S_ : Shape := ⟨0, ![]⟩
abbrev S1024x224 : Shape := ⟨2, ![1024, 224]⟩
abbrev S1024x2560 : Shape := ⟨2, ![1024, 2560]⟩
abbrev S1024x1280 : Shape := ⟨2, ![1024, 1280]⟩
abbrev S1024x8 : Shape := ⟨2, ![1024, 8]⟩
abbrev S1024x24 : Shape := ⟨2, ![1024, 24]⟩
abbrev S1024x512 : Shape := ⟨2, ![1024, 512]⟩
abbrev S1024x4608 : Shape := ⟨2, ![1024, 4608]⟩
abbrev S224 : Shape := ⟨1, ![224]⟩
abbrev S2560 : Shape := ⟨1, ![2560]⟩
abbrev S1280 : Shape := ⟨1, ![1280]⟩
abbrev S8 : Shape := ⟨1, ![8]⟩
abbrev S24 : Shape := ⟨1, ![24]⟩
abbrev S512 : Shape := ⟨1, ![512]⟩
abbrev S4608 : Shape := ⟨1, ![4608]⟩
abbrev S1x1024 : Shape := ⟨2, ![1, 1024]⟩
abbrev S1x4608 : Shape := ⟨2, ![1, 4608]⟩
abbrev S16384x4608 : Shape := ⟨2, ![16384, 4608]⟩
abbrev S16384x128 : Shape := ⟨2, ![16384, 128]⟩
abbrev S2048x1024 : Shape := ⟨2, ![2048, 1024]⟩
abbrev S1024x1536 : Shape := ⟨2, ![1024, 1536]⟩
abbrev S1x1536 : Shape := ⟨2, ![1, 1536]⟩
abbrev S2048x1536 : Shape := ⟨2, ![2048, 1536]⟩
abbrev S2048x128 : Shape := ⟨2, ![2048, 128]⟩
abbrev S2048 : Shape := ⟨1, ![2048]⟩
abbrev S2048x1 : Shape := ⟨2, ![2048, 1]⟩

abbrev nBuf : Space → Nat
  | .hbm => 25
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4384, .f32⟩
  | .hbm, ⟨3, _⟩ => ⟨S4384, .f32⟩
  | .hbm, ⟨4, _⟩ => ⟨S1024x4384, .bf16⟩
  | .hbm, ⟨5, _⟩ => ⟨S_, .bf16⟩
  | .hbm, ⟨6, _⟩ => ⟨S1024x224, .bf16⟩
  | .hbm, ⟨7, _⟩ => ⟨S1024x2560, .bf16⟩
  | .hbm, ⟨8, _⟩ => ⟨S1024x1280, .bf16⟩
  | .hbm, ⟨9, _⟩ => ⟨S1024x8, .bf16⟩
  | .hbm, ⟨10, _⟩ => ⟨S1024x24, .bf16⟩
  | .hbm, ⟨11, _⟩ => ⟨S1024x512, .bf16⟩
  | .hbm, ⟨12, _⟩ => ⟨S1024x4608, .bf16⟩
  | .hbm, ⟨13, _⟩ => ⟨S_, .f32⟩
  | .hbm, ⟨14, _⟩ => ⟨S224, .f32⟩
  | .hbm, ⟨15, _⟩ => ⟨S2560, .f32⟩
  | .hbm, ⟨16, _⟩ => ⟨S1280, .f32⟩
  | .hbm, ⟨17, _⟩ => ⟨S8, .f32⟩
  | .hbm, ⟨18, _⟩ => ⟨S24, .f32⟩
  | .hbm, ⟨19, _⟩ => ⟨S512, .f32⟩
  | .hbm, ⟨20, _⟩ => ⟨S4608, .f32⟩
  | .hbm, ⟨21, _⟩ => ⟨S1x1024, .f32⟩
  | .hbm, ⟨22, _⟩ => ⟨S1x4608, .f32⟩
  | .hbm, ⟨23, _⟩ => ⟨S16384x4608, .bf16⟩
  | .hbm, ⟨24, _⟩ => ⟨S16384x128, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1024x1536, .bf16⟩
  | .local _ .vmem, ⟨4, _⟩ => ⟨S1024x1536, .bf16⟩
  | .local _ .vmem, ⟨5, _⟩ => ⟨S1x1536, .f32⟩
  | .local _ .vmem, ⟨6, _⟩ => ⟨S1x1536, .f32⟩
  | .local _ .vmem, ⟨7, _⟩ => ⟨S2048x1536, .bf16⟩
  | .local _ .vmem, ⟨8, _⟩ => ⟨S2048x1536, .bf16⟩
  | .local _ .vmem, ⟨9, _⟩ => ⟨S2048x128, .f32⟩
  | .local _ .vmem, ⟨10, _⟩ => ⟨S2048x128, .f32⟩
  | .local _ .vmem, ⟨11, _⟩ => ⟨S2048x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17_0 : Ref sig .tc := ⟨.hbm, 23, rfl⟩
abbrev main_v17_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 3], ![false, false]⟩

def k0_cond2 (i : grid0.Coords) : BitVec 1 :=
  let arg1 : BitVec 32 := BitVec.ofNat 32 (i 1).val
  let c2_i32 : BitVec 32 := 2#32
  let v13 : BitVec 1 := Scalar.cmpi .sge arg1 c2_i32
  let c3_i32 : BitVec 32 := 3#32
  let v14 : BitVec 1 := Scalar.cmpi .slt arg1 c3_i32
  let v15 : BitVec 1 := Scalar.andi v13 v14
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S16384x1024 : Shape := ⟨2, ![16384, 1024]⟩
abbrev S1024 : Shape := ⟨1, ![1024]⟩
abbrev S1024x4384 : Shape := ⟨2, ![1024, 4384]⟩
abbrev S4384 : Shape := ⟨1, ![4384]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4384 : Shape := ⟨2, ![16384, 4384]⟩
abbrev S1x4384 : Shape := ⟨2, ![1, 4384]⟩
abbrev S16384x8 : Shape := ⟨2, ![16384, 8]⟩
abbrev S16384x24 : Shape := ⟨2, ![16384, 24]⟩
abbrev S16384x96 : Shape := ⟨2, ![16384, 96]⟩
abbrev S16384x128 : Shape := ⟨2, ![16384, 128]⟩
abbrev S16384x2560 : Shape := ⟨2, ![16384, 2560]⟩
abbrev S16384x1280 : Shape := ⟨2, ![16384, 1280]⟩
abbrev S16384x512 : Shape := ⟨2, ![16384, 512]⟩
abbrev S16384x4608 : Shape := ⟨2, ![16384, 4608]⟩

abbrev nBuf : Space → Nat
  | .hbm => 36
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4384, .f32⟩
  | .hbm, ⟨3, _⟩ => ⟨S4384, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x4384, .f32⟩
  | .hbm, ⟨21, _⟩ => ⟨S1x4384, .f32⟩
  | .hbm, ⟨22, _⟩ => ⟨S16384x4384, .f32⟩
  | .hbm, ⟨23, _⟩ => ⟨S16384x4384, .f32⟩
  | .hbm, ⟨24, _⟩ => ⟨S16384x8, .f32⟩
  | .hbm, ⟨25, _⟩ => ⟨S16384x24, .f32⟩
  | .hbm, ⟨26, _⟩ => ⟨S_, .f32⟩
  | .hbm, ⟨27, _⟩ => ⟨S16384x96, .f32⟩
  | .hbm, ⟨28, _⟩ => ⟨S16384x128, .f32⟩
  | .hbm, ⟨29, _⟩ => ⟨S16384x2560, .f32⟩
  | .hbm, ⟨30, _⟩ => ⟨S16384x1280, .f32⟩
  | .hbm, ⟨31, _⟩ => ⟨S_, .f32⟩
  | .hbm, ⟨32, _⟩ => ⟨S16384x128, .f32⟩
  | .hbm, ⟨33, _⟩ => ⟨S16384x512, .f32⟩
  | .hbm, ⟨34, _⟩ => ⟨S16384x4608, .f32⟩
  | .hbm, ⟨35, _⟩ => ⟨S16384x4608, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Kernel3.lean ====
abbrev S16384x1024 : Shape := ⟨2, ![16384, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .f32⟩
  | .hbm, ⟨3, _⟩ => ⟨S1024x1024, .bf16⟩
  | .hbm, ⟨4, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S16384x1024 : Shape := ⟨2, ![16384, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel4.lean ====
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S512x1024 : Shape := ⟨2, ![512, 1024]⟩
abbrev S1x1024 : Shape := ⟨2, ![1, 1024]⟩
abbrev S1x4096 : Shape := ⟨2, ![1, 4096]⟩
abbrev S16384x4096 : Shape := ⟨2, ![16384, 4096]⟩
abbrev S1024x512 : Shape := ⟨2, ![1024, 512]⟩
abbrev S1024x1 : Shape := ⟨2, ![1024, 1]⟩

abbrev nBuf : Space → Nat
  | .hbm => 16
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096, .f32⟩
  | .hbm, ⟨7, _⟩ => ⟨S1024x1024, .bf16⟩
  | .hbm, ⟨8, _⟩ => ⟨S512x1024, .bf16⟩
  | .hbm, ⟨9, _⟩ => ⟨S512x1024, .bf16⟩
  | .hbm, ⟨10, _⟩ => ⟨S1024x4096, .bf16⟩
  | .hbm, ⟨11, _⟩ => ⟨S1x1024, .f32⟩
  | .hbm, ⟨12, _⟩ => ⟨S1x4096, .f32⟩
  | .hbm, ⟨13, _⟩ => ⟨S16384x1024, .f32⟩
  | .hbm, ⟨14, _⟩ => ⟨S16384x4096, .bf16⟩
  | .hbm, ⟨15, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .bf16⟩
  | .local _ .vmem, ⟨16, _⟩ => ⟨S1024x1024, .bf16⟩
  | .local _ .vmem, ⟨17, _⟩ => ⟨S1024x1024, .f32⟩
  | .local _ .vmem, ⟨18, _⟩ => ⟨S1024x1024, .f32⟩
  | .local _ .vmem, ⟨19, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_8 : BitVec 32 := 0#32
  let v13 : BitVec 1 := Scalar.cmpi .sge arg1 c0_i32_8
  let c1_i32 : BitVec 32 := 1#32
  let v14 : BitVec 1 := Scalar.cmpi .slt arg1 c1_i32
  let v15 : BitVec 1 := Scalar.andi v13 v14
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference4Ideal.lean ====
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩
abbrev S1x4096 : Shape := ⟨2, ![1, 4096]⟩

abbrev nBuf : Space → Nat
  | .hbm => 34
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096, .f32⟩
  | .hbm, ⟨7, _⟩ => ⟨S16384x512, .f32⟩
  | .hbm, ⟨8, _⟩ => ⟨S16384x512, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S16384x4096, .f32⟩
  | .hbm, ⟨29, _⟩ => ⟨S1x4096, .f32⟩
  | .hbm, ⟨30, _⟩ => ⟨S16384x4096, .f32⟩
  | .hbm, ⟨31, _⟩ => ⟨S16384x4096, .f32⟩
  | .hbm, ⟨32, _⟩ => ⟨S16384x4096, .bf16⟩
  | .hbm, ⟨33, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Proof.Spec.lean ====
module
public import Idealize.ShloMosaic.Lib.Pointwise

/-!
# The chunk recurrence on plain functions

One head of one batch element goes through the sequence in chunks of 128 positions and carries a matrix, a
vector and a stabilizer. What a chunk reads is `Inp`, what it carries is `St`; `hout` is what it gives out and
`step` what it carries on. Kernel and reference are both shown to compute these.
-/

@[expose] public section
noncomputable section
namespace Cert.Proof
open Idealize.ShloMosaic

/-- What one head reads of one chunk: queries, scaled keys, values, input gates, log forget gates. -/
structure Inp where
  q : Fin 128 → Fin 128 → EReal
  k : Fin 128 → Fin 128 → EReal
  v : Fin 128 → Fin 128 → EReal
  i : Fin 128 → EReal
  f : Fin 128 → EReal

/-- What one head carries from chunk to chunk: matrix, normalizer, stabilizer. -/
structure St where
  c : Fin 128 → Fin 128 → EReal
  n : Fin 128 → EReal
  m : EReal

/-- The running sum of the log forget gates, up to and with position `t`. -/
def bcum (f : Fin 128 → EReal) (t : Fin 128) : EReal := ∑ s : Fin 128, if s ≤ t then f s else 0

namespace Inp
variable (x : Inp) (σ : St)

/-- The log weight of position `s` at position `t`, over the causal triangle. -/
def dmat (t s : Fin 128) : EReal := if s ≤ t then bcum x.f t - bcum x.f s + x.i s else ⊥

/-- The log weight of the carried state at position `t`. -/
def inter (t : Fin 128) : EReal := bcum x.f t + σ.m

/-- The stabilizer of row `t`. -/
def mrow (t : Fin 128) : EReal := max (Finset.univ.fold max ⊥ fun s => x.dmat t s) (x.inter σ t)

/-- The weighted scores. -/
def smat (t s : Fin 128) : EReal := (∑ d, x.q t d * x.k s d) * Ideal.exp (x.dmat t s - x.mrow σ t)

/-- The weight of the carried state at position `t`. -/
def winter (t : Fin 128) : EReal := Ideal.exp (x.inter σ t - x.mrow σ t)

/-- The numerator of the output. -/
def num (t e : Fin 128) : EReal := (∑ s, x.smat σ t s * x.v s e) + x.winter σ t * ∑ d, x.q t d * σ.c d e

/-- The denominator of the output. -/
def den (t : Fin 128) : EReal := (∑ s, x.smat σ t s) + x.winter σ t * ∑ d, x.q t d * σ.n d

/-- The output of the chunk. -/
def hout (t e : Fin 128) : EReal :=
  Ideal.div (x.num σ t e) (max (max (x.den σ t) (-(x.den σ t))) (Ideal.exp (-(x.mrow σ t))))

/-- The sum of all log forget gates of the chunk. -/
def blast : EReal := bcum x.f 127

/-- The log weight of position `s` in the carried state. -/
def dl (s : Fin 128) : EReal := x.blast - bcum x.f s + x.i s

/-- The next stabilizer. -/
def mnew : EReal := max (x.blast + σ.m) (Finset.univ.fold max ⊥ fun s => x.dl s)

/-- The decay of the carried state. -/
def decay : EReal := Ideal.exp (x.blast + σ.m - x.mnew σ)

/-- The weighted keys. -/
def wkk (s d : Fin 128) : EReal := Ideal.exp (x.dl s - x.mnew σ) * x.k s d

/-- The carried state after the chunk. -/
def step : St where
  c := fun d e => x.decay σ * σ.c d e + ∑ s, x.wkk σ s d * x.v s e
  n := fun d => x.decay σ * σ.n d + ∑ s, x.wkk σ s d
  m := x.mnew σ

end Inp

/-- The state before any chunk. -/
def St.zero : St := ⟨fun _ _ => 0, fun _ => 0, 0⟩

/-- The state after the first `k` chunks. -/
def state (X : Fin 64 → Inp) : ℕ → St
  | 0 => St.zero
  | k + 1 => if h : k < 64 then (X ⟨k, h⟩).step (state X k) else state X k

theorem state_succ (X : Fin 64 → Inp) (k : Fin 64) : state X (k.val + 1) = (X k).step (state X k.val) :=
  dif_pos k.isLt

/-- The logistic function as both programs spell it. -/
def sigm (x : EReal) : EReal := Ideal.div 1 (1 + Ideal.exp (-x))

/-- `x` times its logistic function. -/
def silu (x : EReal) : EReal := x * sigm x

/-- The logarithm of the logistic function. -/
def logsig (x : EReal) : EReal := min x 0 - Ideal.log (1 + Ideal.exp (-(max x (-x))))

/-- The argument arrays: projection columns, forget bias, convolution weights and bias, norm weights. -/
structure Args where
  a0 : Shape.Idx ⟨3, ![2, 8192, 4384]⟩ → EReal
  a1 : Shape.Idx ⟨1, ![4]⟩ → EReal
  a2 : Shape.Idx ⟨2, ![4, 1024]⟩ → EReal
  a3 : Shape.Idx ⟨1, ![1024]⟩ → EReal
  a4 : Shape.Idx ⟨1, ![512]⟩ → EReal

namespace Args
variable (A : Args)

/-- Column `ch` of batch element `b` at position `p - 16`, and zero before the sequence starts. -/
def xpad (b : Fin 2) (p : ℕ) (ch : Fin 1024) : EReal :=
  if h : 16 ≤ p ∧ p < 16 + 8192 then A.a0 (ix3 b (⟨p - 16, by omega⟩ : Fin 8192) (⟨ch.val, by omega⟩ : Fin 4384)) else 0

/-- The causal convolution over four positions. -/
def conv (b : Fin 2) (p : ℕ) (ch : Fin 1024) : EReal :=
  A.xpad b (p + 13) ch * A.a2 (ix2 (0 : Fin 4) ch) + A.xpad b (p + 14) ch * A.a2 (ix2 (1 : Fin 4) ch)
    + A.xpad b (p + 15) ch * A.a2 (ix2 (2 : Fin 4) ch) + A.xpad b (p + 16) ch * A.a2 (ix2 (3 : Fin 4) ch)
    + A.a3 (ix1 ch)

/-- Position `t` of chunk `n`. -/
def pos (n : Fin 64) (t : Fin 128) : Fin 8192 := ⟨n.val * 128 + t.val, by omega⟩

/-- Column `d` of head `h` in the group of 512 columns that starts at `o`. -/
def hcol (o : ℕ) (ho : o ≤ 3872 := by decide) (h : Fin 4) (d : Fin 128) : Fin 4384 := ⟨o + (h.val * 128 + d.val), by omega⟩

/-- What head `h` of batch element `b` reads of chunk `n`. -/
def inp (b : Fin 2) (h : Fin 4) (n : Fin 64) : Inp where
  q := fun t d => silu (A.conv b (pos n t).val ⟨h.val * 128 + d.val, by omega⟩)
  k := fun t d => silu (A.conv b (pos n t).val ⟨512 + (h.val * 128 + d.val), by omega⟩) * Ideal.ofBits .f32 0x3DB504F3#32
  v := fun t d => A.a0 (ix3 b (pos n t) (hcol 1024 (by decide) h d))
  i := fun t => A.a0 (ix3 b (pos n t) (⟨2560 + h.val, by omega⟩ : Fin 4384))
  f := fun t => logsig (A.a0 (ix3 b (pos n t) (⟨2564 + h.val, by omega⟩ : Fin 4384)) + A.a1 (ix1 h))

/-- The state of head `h` of batch element `b` after `k` chunks. -/
def st (b : Fin 2) (h : Fin 4) (k : ℕ) : St := state (A.inp b h) k

/-- The recurrence's output. -/
def ho (b : Fin 2) (h : Fin 4) (n : Fin 64) (t e : Fin 128) : EReal := (A.inp b h n).hout (A.st b h n.val) t e

/-- The layer's result: the output normalized over its head, weighted, and gated. -/
def res (b : Fin 2) (h : Fin 4) (n : Fin 64) (t e : Fin 128) : EReal :=
  A.ho b h n t e * Ideal.rsqrt (Ideal.div (∑ d, A.ho b h n t d * A.ho b h n t d) (Ideal.ofBits .f32 0x43000000#32)
      + Ideal.ofBits .f32 0x358637BD#32) * A.a4 (ix1 (⟨h.val * 128 + e.val, by omega⟩ : Fin 512))
    * sigm (A.a0 (ix3 b (pos n t) (hcol 1536 (by decide) h e)))
    * silu (A.a0 (ix3 b (pos n t) (hcol 2048 (by decide) h e)))

end Args
end Cert.Proof
end
-- ==== Proof.Scalars.lean ====
module
public import proofs.«01_k».proof.Proof.Spec
public import Idealize.ShloMosaic.Lib.IdealHost

/-!
# Facts about single extended reals

Constants, the two spellings of the log-logistic function, and the running sum as a product of a 0/1 matrix
with the three parts of a split column.
-/

@[expose] public section
noncomputable section
namespace Cert.Proof
open Idealize.ShloMosaic

theorem w_zero : Ideal.ofBits .f32 0x00000000#32 = 0 := Ideal.ofBits_zero_f32
theorem w_one : Ideal.ofBits .f32 0x3F800000#32 = 1 := Ideal.ofBits_one_f32
theorem w_ninf : Ideal.ofBits .f32 0xFF800000#32 = ⊥ := by simp [Ideal.ofBits, Ideal.ieee]
theorem w_128 : Ideal.ofBits .f32 0x43000000#32 = ((128 : ℝ) : EReal) := by
  simp [Ideal.ofBits, Ideal.ieee, -EReal.coe_mul]; norm_num
theorem w_inv128 : Ideal.ofBits .f32 0x3C000000#32 = (((128 : ℝ)⁻¹ : ℝ) : EReal) := by
  simp [Ideal.ofBits, Ideal.ieee, -EReal.coe_mul]; norm_num

/-- A quotient by 128 is the product with 1/128. -/
theorem div_128 (x : EReal) : Ideal.div x (Ideal.ofBits .f32 0x43000000#32) = x * Ideal.ofBits .f32 0x3C000000#32 := by
  rw [w_128, w_inv128, Ideal.div, if_neg (by norm_num), ← EReal.coe_inv]

/-- The logarithm of one plus an exponential of a value that is not positive is real and not negative. -/
theorem log_one_add (y : EReal) (hy : y ≤ 0) : ∃ r : ℝ, 0 ≤ r ∧ Ideal.log (1 + Ideal.exp y) = (r : EReal) := by
  induction y with
  | bot => exact ⟨0, le_rfl, by
      show Ideal.log (1 + 0) = _
      rw [add_zero, show (1 : EReal) = ((1 : ℝ) : EReal) from rfl]
      show (if (1 : ℝ) ≤ 0 then ⊥ else ((Real.log 1 : ℝ) : EReal)) = _
      rw [if_neg (by norm_num), Real.log_one]⟩
  | top => exact absurd hy (by simp)
  | coe r =>
    refine ⟨Real.log (1 + Real.exp r), Real.log_nonneg (by linarith [Real.exp_pos r]), ?_⟩
    show Ideal.log (((1 : ℝ) : EReal) + ((Real.exp r : ℝ) : EReal)) = _
    rw [← EReal.coe_add]
    show (if 1 + Real.exp r ≤ 0 then ⊥ else ((Real.log (1 + Real.exp r) : ℝ) : EReal)) = _
    rw [if_neg (by linarith [Real.exp_pos r])]

theorem neg_abs_le (x : EReal) : -(max x (-x)) ≤ 0 := by
  rw [EReal.neg_le, neg_zero]
  rcases le_total 0 x with h | h
  · exact h.trans (le_max_left _ _)
  · exact le_trans (by rwa [EReal.le_neg, neg_zero]) (le_max_right _ _)

/-- The log-logistic function is nowhere the upper infinity. -/
theorem logsig_ne_top (x : EReal) : logsig x ≠ ⊤ := by
  obtain ⟨r, _, hr⟩ := log_one_add _ (neg_abs_le x)
  have h : logsig x ≤ 0 := by
    unfold logsig
    rw [hr]
    refine EReal.sub_nonpos.2 (le_trans (min_le_right _ _) ?_)
    exact_mod_cast ‹0 ≤ r›
  exact fun e => absurd (e ▸ h) (by simp)

/-- The negated softplus of the negated value is the log-logistic function. -/
theorem neg_softplus (x : EReal) :
    -(max (-x) 0 + Ideal.log (1 + Ideal.exp (-(max (-x) (-(-x)))))) = logsig x := by
  unfold logsig
  rw [neg_neg, max_comm (-x) x]
  obtain ⟨r, _, hr⟩ := log_one_add _ (neg_abs_le x)
  rw [hr, EReal.neg_add (by right; simp) (by right; simp)]
  have hm : -(max (-x) 0) = min x 0 := by
    rcases le_total x 0 with h | h
    · rw [min_eq_left h, max_eq_left (by rwa [EReal.le_neg, neg_zero]), neg_neg]
    · rw [min_eq_right h, max_eq_right (by rwa [EReal.neg_le, neg_zero]), neg_zero]
  rw [hm]

theorem sum_bot {ι : Type} [DecidableEq ι] (s : Finset ι) (f : ι → EReal) (i : ι) (hi : i ∈ s) (h : f i = ⊥) : ∑ j ∈ s, f j = ⊥ := by
  rw [← Finset.add_sum_erase s f hi, h, EReal.bot_add]

/-- The running sum of values none of which is the upper infinity, as the sum of three masked products with the
value and the two differences its splitting leaves. -/
theorem split_sum (f : Fin 128 → EReal) (hf : ∀ s, f s ≠ ⊤) (t : Fin 128) :
    (∑ s, (if s ≤ t then (1 : EReal) else 0) * f s) + (∑ s, (if s ≤ t then (1 : EReal) else 0) * (f s - f s))
      + (∑ s, (if s ≤ t then (1 : EReal) else 0) * (f s - f s - (f s - f s))) = bcum f t := by
  have h1 : (∑ s, (if s ≤ t then (1 : EReal) else 0) * f s) = bcum f t :=
    Finset.sum_congr rfl fun s _ => by split <;> simp
  rw [h1]
  by_cases hb : ∃ s, s ≤ t ∧ f s = ⊥
  · obtain ⟨s, hs, hfs⟩ := hb
    have : bcum f t = ⊥ := sum_bot _ _ s (Finset.mem_univ s) (by rw [if_pos hs, hfs])
    rw [this, EReal.bot_add, EReal.bot_add]
  · have hz : ∀ s, s ≤ t → f s - f s = 0 := fun s hs => by
      have h2 : f s ≠ ⊥ := fun h => hb ⟨s, hs, h⟩
      exact EReal.sub_self (hf s) h2
    have h2 : (∑ s, (if s ≤ t then (1 : EReal) else 0) * (f s - f s)) = 0 :=
      Finset.sum_eq_zero fun s _ => by
        split
        · rw [hz s ‹_›, mul_zero]
        · rw [zero_mul]
    have h3 : (∑ s, (if s ≤ t then (1 : EReal) else 0) * (f s - f s - (f s - f s))) = 0 :=
      Finset.sum_eq_zero fun s _ => by
        split
        · rw [hz s ‹_›, sub_zero, mul_zero]
        · rw [zero_mul]
    rw [h2, h3, add_zero, add_zero]

/-- A sum against a row that is one at a single position. -/
theorem pick_sum {n : ℕ} (f : Fin n → EReal) (p : Fin n → Prop) [DecidablePred p] (r : Fin n) (h : ∀ s, p s ↔ s = r) :
    ∑ s, (if p s then (1 : EReal) else 0) * f s = f r := by
  rw [Finset.sum_eq_single r]
  · rw [if_pos ((h r).2 rfl), one_mul]
  · intro s _ hs
    rw [if_neg fun hp => hs ((h s).1 hp), zero_mul]
  · intro hr
    exact absurd (Finset.mem_univ r) hr

/-- A left fold of additions is the start plus the sum. -/
theorem foldl_add {ι : Type} (l : List ι) (g : ι → EReal) (z : EReal) :
    l.foldl (fun r a => r + g a) z = z + (l.map g).sum := by
  induction l generalizing z with
  | nil => simp
  | cons a l ih => rw [List.foldl_cons, ih, List.map_cons, List.sum_cons, add_assoc]

/-- A window that ends at position `t` sums what comes up to `t`. -/
theorem window_sum (f : Fin 128 → EReal) (t : Fin 128) :
    ∑ n : Fin 128, (if h : 127 ≤ t.val + n.val ∧ t.val + n.val - 127 < 128 then f ⟨t.val + n.val - 127, h.2⟩ else 0) = bcum f t := by
  refine Fintype.sum_equiv (Equiv.addRight (t + 1)) _ _ fun n => ?_
  have hv : (Equiv.addRight (t + 1) n).val = (n.val + (t.val + 1)) % 128 := by
    show (n + (t + 1)).val = _
    rw [Fin.val_add, Fin.val_add]
    show (n.val + (t.val + 1) % 128) % 128 = _
    omega
  have hn := n.isLt
  have ht := t.isLt
  by_cases h : 127 ≤ t.val + n.val
  · have h2 : 127 ≤ t.val + n.val ∧ t.val + n.val - 127 < 128 := ⟨h, by omega⟩
    have e : Equiv.addRight (t + 1) n = ⟨t.val + n.val - 127, h2.2⟩ := Fin.ext (by rw [hv]; show _ = t.val + n.val - 127; omega)
    rw [dif_pos h2, e, if_pos (by show t.val + n.val - 127 ≤ t.val; omega)]
  · rw [dif_neg fun h2 => h h2.1, if_neg]
    show ¬ (Equiv.addRight (t + 1) n).val ≤ t.val
    rw [hv]
    omega

/-- The host's window sum over the last axis is the running sum. -/
theorem cumsum {A B : ℕ} (x : (⟨3, ![A, B, 128]⟩ : Shape).Idx → EReal)
    (h : (⟨3, ![A, B, 128]⟩ : Shape).ReduceWindows (![1, 1, 128] : Fin 3 → ℕ) ![1, 1, 1] ![0, 0, 127] ![0, 0, 0] ⟨3, ![A, B, 128]⟩)
    (a : Fin A) (b : Fin B) (t : Fin 128) :
    Ideal.hostReduceWindowAdd (s := ⟨3, ![A, B, 128]⟩) ![1, 1, 128] ![1, 1, 1] ![0, 0, 127] ![0, 0, 0] h x 0 (ix3 a b t)
      = bcum (fun s => x (ix3 a b s)) t := by
  unfold Ideal.hostReduceWindowAdd Host.reduceWindow
  dsimp only
  have hW : (⟨3, ![1, 1, 128]⟩ : Shape).numel = 128 := by decide
  have hs : ∀ n : Fin (⟨3, ![1, 1, 128]⟩ : Shape).numel,
      (⟨3, ![1, 1, 128]⟩ : Shape).rowMajor.symm n = ix3 (0 : Fin 1) (0 : Fin 1) (n.cast hW) := fun n =>
    ((⟨3, ![1, 1, 128]⟩ : Shape).rowMajor.symm_apply_eq).2 (Fin.ext (by
      rw [Shape.rowMajor_val_three]
      show n.val = (0 * 1 + 0) * 128 + n.val
      omega))
  rw [foldl_add, zero_add, ← window_sum, ← Fin.sum_univ_def]
  refine Fintype.sum_equiv (finCongr hW) _ _ fun n => ?_
  have e0 : ((⟨3, ![1, 1, 128]⟩ : Shape).rowMajor.symm n 0).val = 0 := by rw [hs]; rfl
  have e1 : ((⟨3, ![1, 1, 128]⟩ : Shape).rowMajor.symm n 1).val = 0 := by rw [hs]; rfl
  have e2 : ((⟨3, ![1, 1, 128]⟩ : Shape).rowMajor.symm n 2).val = n.val := by rw [hs]; rfl
  have hn : n.val < 128 := (n.cast hW).isLt
  by_cases h2 : 127 ≤ t.val + n.val ∧ t.val + n.val - 127 < 128
  · rw [dif_pos (show 127 ≤ t.val + (finCongr hW n).val ∧ t.val + (finCongr hW n).val - 127 < 128 from h2)]
    have hin : ∀ k : Fin 3, (![0, 0, 127] : Fin 3 → ℕ) k ≤ ((ix3 a b t : (⟨3, ![A, B, 128]⟩ : Shape).Idx) k).val * (![1, 1, 1] : Fin 3 → ℕ) k + ((⟨3, ![1, 1, 128]⟩ : Shape).rowMajor.symm n k).val
        ∧ ((ix3 a b t : (⟨3, ![A, B, 128]⟩ : Shape).Idx) k).val * (![1, 1, 1] : Fin 3 → ℕ) k + ((⟨3, ![1, 1, 128]⟩ : Shape).rowMajor.symm n k).val - (![0, 0, 127] : Fin 3 → ℕ) k < (![A, B, 128] : Fin 3 → ℕ) k := by
      intro k
      match k with
      | ⟨0, _⟩ =>
        show 0 ≤ a.val * 1 + ((⟨3, ![1, 1, 128]⟩ : Shape).rowMajor.symm n 0).val ∧ a.val * 1 + ((⟨3, ![1, 1, 128]⟩ : Shape).rowMajor.symm n 0).val - 0 < A
        rw [e0]; have := a.isLt; omega
      | ⟨1, _⟩ =>
        show 0 ≤ b.val * 1 + ((⟨3, ![1, 1, 128]⟩ : Shape).rowMajor.symm n 1).val ∧ b.val * 1 + ((⟨3, ![1, 1, 128]⟩ : Shape).rowMajor.symm n 1).val - 0 < B
        rw [e1]; have := b.isLt; omega
      | ⟨2, _⟩ =>
        show 127 ≤ t.val * 1 + ((⟨3, ![1, 1, 128]⟩ : Shape).rowMajor.symm n 2).val ∧ t.val * 1 + ((⟨3, ![1, 1, 128]⟩ : Shape).rowMajor.symm n 2).val - 127 < 128
        rw [e2]; omega
    refine (dif_pos hin).trans (congrArg x (funext fun k => Fin.ext ?_))
    match k with
    | ⟨0, _⟩ =>
      show a.val * 1 + ((⟨3, ![1, 1, 128]⟩ : Shape).rowMajor.symm n 0).val - 0 = a.val
      rw [e0]; omega
    | ⟨1, _⟩ =>
      show b.val * 1 + ((⟨3, ![1, 1, 128]⟩ : Shape).rowMajor.symm n 1).val - 0 = b.val
      rw [e1]; omega
    | ⟨2, _⟩ =>
      show t.val * 1 + ((⟨3, ![1, 1, 128]⟩ : Shape).rowMajor.symm n 2).val - 127 = t.val + n.val - 127
      rw [e2]; omega
  · rw [dif_neg (show ¬ (127 ≤ t.val + (finCongr hW n).val ∧ t.val + (finCongr hW n).val - 127 < 128) from h2)]
    refine dif_neg fun hin => h2 ?_
    have h3 := hin 2
    change 127 ≤ t.val * 1 + ((⟨3, ![1, 1, 128]⟩ : Shape).rowMajor.symm n 2).val ∧ t.val * 1 + ((⟨3, ![1, 1, 128]⟩ : Shape).rowMajor.symm n 2).val - 127 < 128 at h3
    rw [e2] at h3
    omega

end Cert.Proof
end
-- ==== Proof.KHead.lean ====
module
public import proofs.«01_k».proof.Proof.Gen.KernelIdeal.Skeleton
public import proofs.«01_k».proof.Proof.Scalars
public import Idealize.ShloMosaic.Lib.Pointwise

/-!
# One head of one chunk, in the kernel

The kernel spells the same computation out for each of its eight heads. Here it is stated once, over what a head
reads, and shown to be the chunk step of the recurrence.
-/

@[expose] public section
set_option maxRecDepth 16384
noncomputable section
namespace Cert.Proof.K
open Idealize.ShloMosaic Cert.KernelIdeal Cert.KernelIdeal.Gen

/-- What one head reads: queries, scaled keys, values, gates by column and by row, and the carried state. -/
structure Hd where
  q : FVec Ideal S128x128 .f32
  k : FVec Ideal S128x128 .f32
  v : Vec Ideal S1x128x128 .bf16
  ic : FVec Ideal S128x1 .f32
  ir : FVec Ideal S1x128 .f32
  bc : FVec Ideal S128x1 .f32
  br : FVec Ideal S1x128 .f32
  C : Vec Ideal S1x128x128 .f32
  n : Vec Ideal S1x1x128 .f32
  m : Vec Ideal S1x1x1 .f32

namespace Hd
variable (H : Hd)

def m1 : FVec Ideal S1x1 .f32 := shapeCast S1x1 H.m shapeCasts_S1x1x1_S1x1
def v1 : FVec Ideal S128x128 .bf16 := shapeCast S128x128 H.v shapeCasts_S1x128x128_S128x128
/-- The log weights over the causal triangle. -/
def D : FVec Ideal S128x128 .f32 :=
  select k0_pay6 (addf (subf (broadcastTo S128x128 H.bc broadcasts_S128x1_S128x128) (broadcastTo S128x128 H.br broadcasts_S1x128_S128x128))
    (broadcastTo S128x128 H.ir broadcasts_S1x128_S128x128)) (broadcast S128x128 (Scalar.ofBits (F := Ideal) .f32 0xFF800000#32))
def inter : FVec Ideal S128x1 .f32 := addf H.bc (broadcastTo S128x1 H.m1 broadcasts_S1x1_S128x1)
/-- The stabilizer of each row. -/
def mrow : FVec Ideal S128x1 .f32 :=
  maximumf (shapeCast S128x1 (multiReduction (F := Ideal) .maximumf [1] S128 H.D 0xFF800000#32 reduces_S128x128_S128 (.inl rfl) rfl) shapeCasts_S128_S128x1) H.inter
def blast : FVec Ideal S1x1 .f32 := extractStridedSlice S1x1 ![127, 0] H.bc slices_S128x1_o127_0_S1x1
def dl : FVec Ideal S128x1 .f32 := addf (subf (broadcastTo S128x1 H.blast broadcasts_S1x1_S128x1) H.bc) H.ic
/-- The next stabilizer. -/
def mnew : FVec Ideal S1x1 .f32 :=
  maximumf (addf H.blast H.m1) (shapeCast S1x1 (multiReduction (F := Ideal) .maximumf [0] S1 H.dl 0xFF800000#32 reduces_S128x1_S1 (.inl rfl) rfl) shapeCasts_S1_S1x1)
/-- The weighted keys. -/
def wkk : FVec Ideal S128x128 .f32 :=
  mulf (broadcastTo S128x128 (exp (subf H.dl (broadcastTo S128x1 H.mnew broadcasts_S1x1_S128x1))) broadcasts_S128x1_S128x128) H.k
def decay : FVec Ideal S1x1 .f32 := exp (subf (addf H.blast H.m1) H.mnew)
def winter : FVec Ideal S128x1 .f32 := exp (subf H.inter H.mrow)
def floor : FVec Ideal S128x1 .f32 := exp (subf (broadcast S128x1 (Scalar.ofBits (F := Ideal) .f32 0x00000000#32)) H.mrow)
def q16 : FVec Ideal S128x128 .bf16 := truncf .bf16 H.q bitsLt_bf16_f32
def k16 : FVec Ideal S128x128 .bf16 := truncf .bf16 H.k bitsLt_bf16_f32
/-- The weighted scores. -/
def smat : FVec Ideal S128x128 .bf16 :=
  truncf .bf16 (mulf (matmul dot_S128x128_S128x128_S128x128_1_1_0_0_n_n none H.q16 H.k16 (constant S128x128 .f32 0x00000000#32))
    (exp (subf H.D (broadcastTo S128x128 H.mrow broadcasts_S128x1_S128x128)))) bitsLt_bf16_f32
def num : FVec Ideal S128x128 .f32 :=
  addf (matmul dot_S128x128_S128x128_S128x128_1_0_0_1_n_n none H.smat H.v1 (constant S128x128 .f32 0x00000000#32))
    (mulf (broadcastTo S128x128 H.winter broadcasts_S128x1_S128x128)
      (matmul dot_S128x128_S128x128_S128x128_1_0_0_1_n_n none H.q16
        (truncf .bf16 (shapeCast S128x128 H.C shapeCasts_S1x128x128_S128x128 : FVec Ideal S128x128 .f32) bitsLt_bf16_f32) (constant S128x128 .f32 0x00000000#32)))
def den : FVec Ideal S128x128 .f32 :=
  addf (matmul dot_S128x128_S128x128_S128x128_1_0_0_1_n_n none H.smat (k0_pay208 (F := Ideal)) (constant S128x128 .f32 0x00000000#32))
    (mulf (broadcastTo S128x128 H.winter broadcasts_S128x1_S128x128)
      (matmul dot_S128x128_S128x128_S128x128_1_0_0_1_n_n none
        (truncf .bf16 (mulf H.q (broadcastTo S128x128 (shapeCast S1x128 H.n shapeCasts_S1x1x128_S1x128 : FVec Ideal S1x128 .f32) broadcasts_S1x128_S128x128)) bitsLt_bf16_f32)
        (k0_pay208 (F := Ideal)) (constant S128x128 .f32 0x00000000#32)))
/-- The output of the chunk. -/
def hout : FVec Ideal S128x128 .f32 := divf H.num (maximumf (absf H.den) (broadcastTo S128x128 H.floor broadcasts_S128x1_S128x128))

/-- The carried matrix, normalizer and stabilizer after the chunk. -/
def C' : FVec Ideal S1x128x128 .f32 :=
  shapeCast S1x128x128 (addf (mulf (broadcastTo S128x128 H.decay broadcasts_S1x1_S128x128) (shapeCast S128x128 H.C shapeCasts_S1x128x128_S128x128 : FVec Ideal S128x128 .f32))
    (matmul dot_S128x128_S128x128_S128x128_0_0_1_1_n_n none (truncf .bf16 H.wkk bitsLt_bf16_f32) H.v1 (constant S128x128 .f32 0x00000000#32))) shapeCasts_S128x128_S1x128x128
def n' : FVec Ideal S1x1x128 .f32 :=
  shapeCast S1x1x128 (addf (mulf (broadcastTo S1x128 H.decay broadcasts_S1x1_S1x128) (shapeCast S1x128 H.n shapeCasts_S1x1x128_S1x128 : FVec Ideal S1x128 .f32))
    (shapeCast S1x128 (multiReduction (F := Ideal) .add [0] S128 H.wkk 0x00000000#32 reduces_S128x128_S128_2 (.inl rfl) rfl) shapeCasts_S128_S1x128)) shapeCasts_S1x128_S1x1x128
def m' : FVec Ideal S1x1x1 .f32 := shapeCast S1x1x1 H.mnew shapeCasts_S1x1_S1x1x1

/-- The logistic function as the kernel spells it. -/
def sg (x : FVec Ideal S128x128 .f32) : FVec Ideal S128x128 .f32 :=
  divf (broadcast S128x128 (Scalar.ofBits (F := Ideal) .f32 0x3F800000#32)) (addf (broadcast S128x128 (Scalar.ofBits (F := Ideal) .f32 0x3F800000#32))
    (exp (subf (broadcast S128x128 (Scalar.ofBits (F := Ideal) .f32 0x00000000#32)) x)))

/-- What is stored of the head's output: normalized, weighted and gated. -/
def res (o z : Vec Ideal S1x128x128 .bf16) (w : Vec Ideal S1x128 .f32) : FVec Ideal S1x128x128 .bf16 :=
  shapeCast S1x128x128 (truncf .bf16 (mulf
    (mulf (mulf H.hout (rsqrt (addf (mulf (matmul dot_S128x128_S128x128_S128x128_1_0_0_1_n_n none (truncf .bf16 (mulf H.hout H.hout) bitsLt_bf16_f32) (k0_pay208 (F := Ideal)) (constant S128x128 .f32 0x00000000#32))
      (broadcast S128x128 (Scalar.ofBits (F := Ideal) .f32 0x3C000000#32))) (broadcast S128x128 (Scalar.ofBits (F := Ideal) .f32 0x358637BD#32)))))
      (broadcastTo S128x128 (shapeCast S1x128 w shapeCasts_S1x128_S1x128 : FVec Ideal S1x128 .f32) broadcasts_S1x128_S128x128))
    (mulf (sg (extf .f32 (shapeCast S128x128 o shapeCasts_S1x128x128_S128x128 : FVec Ideal S128x128 .bf16) bitsLt_bf16_f32))
      (mulf (extf .f32 (shapeCast S128x128 z shapeCasts_S1x128x128_S128x128 : FVec Ideal S128x128 .bf16) bitsLt_bf16_f32)
        (sg (extf .f32 (shapeCast S128x128 z shapeCasts_S1x128x128_S128x128 : FVec Ideal S128x128 .bf16) bitsLt_bf16_f32))))) bitsLt_bf16_f32) shapeCasts_S128x128_S1x128x128

/-- What a head reads is what the recurrence reads. -/
structure Rel (H : Hd) (X : Inp) (σ : St) : Prop where
  q : ∀ t d : Fin 128, H.q (ix2 t d) = X.q t d
  k : ∀ t d : Fin 128, H.k (ix2 t d) = X.k t d
  v : ∀ t d : Fin 128, H.v (ix3 (0 : Fin 1) t d) = X.v t d
  ic : ∀ t : Fin 128, H.ic (ix2 t (0 : Fin 1)) = X.i t
  ir : ∀ t : Fin 128, H.ir (ix2 (0 : Fin 1) t) = X.i t
  bc : ∀ t : Fin 128, H.bc (ix2 t (0 : Fin 1)) = bcum X.f t
  br : ∀ t : Fin 128, H.br (ix2 (0 : Fin 1) t) = bcum X.f t
  C : ∀ d e : Fin 128, H.C (ix3 (0 : Fin 1) d e) = σ.c d e
  n : ∀ d : Fin 128, H.n (ix3 (0 : Fin 1) (0 : Fin 1) d) = σ.n d
  m : H.m (ix3 (0 : Fin 1) (0 : Fin 1) (0 : Fin 1)) = σ.m

theorem sel_mask (t s : Fin 128) (a b : EReal) : Scalar.select (if s ≤ t then 1#1 else 0#1 : BitVec 1) a b = if s ≤ t then a else b := by
  split <;> rfl

/-- The causal mask. -/
theorem mask_apply (t s : Fin 128) : k0_pay6 (ix2 t s) = if s ≤ t then 1#1 else 0#1 :=
  (by decide +kernel : ∀ t s : Fin 128, k0_pay6 (ix2 t s) = if s ≤ t then 1#1 else 0#1) t s

variable {H} {X : Inp} {σ : St} (R : Rel H X σ)
include R

theorem m1_apply (x y : Fin 1) : H.m1 (ix2 x y) = σ.m := by
  have := R.m
  pointwise [m1]
  exact this

theorem v1_apply (t d : Fin 128) : H.v1 (ix2 t d) = X.v t d := by
  have := R.v t d
  pointwise [v1]
  exact this

theorem D_apply (t s : Fin 128) : H.D (ix2 t s) = X.dmat t s := by
  have h1 := R.bc t
  have h2 := R.br s
  have h3 := R.ir s
  have h4 := mask_apply t s
  unfold D
  pointwise [h1, h2, h3, h4]
  rw [sel_mask, w_ninf]
  rfl

theorem inter_apply (t : Fin 128) (u : Fin 1) : H.inter (ix2 t u) = X.inter σ t := by
  obtain rfl : u = 0 := Subsingleton.elim _ _
  have h1 := R.bc t
  have h2 := m1_apply R
  unfold inter
  pointwise [h1, h2]
  rfl

theorem mrow_apply (t : Fin 128) (u : Fin 1) : H.mrow (ix2 t u) = X.mrow σ t := by
  have h1 := fun s => D_apply R t s
  have h2 := fun u => inter_apply R t u
  unfold mrow
  pointwise [h1, h2]
  rw [w_ninf]
  rfl

theorem blast_apply (x y : Fin 1) : H.blast (ix2 x y) = X.blast := by
  obtain rfl : x = 0 := Subsingleton.elim _ _
  obtain rfl : y = 0 := Subsingleton.elim _ _
  have h1 := R.bc
  unfold blast
  pointwise [h1]
  rfl

theorem dl_apply (t : Fin 128) (u : Fin 1) : H.dl (ix2 t u) = X.dl t := by
  obtain rfl : u = 0 := Subsingleton.elim _ _
  have h1 := R.bc t
  have h2 := R.ic t
  have h3 := blast_apply R
  unfold dl
  pointwise [h1, h2, h3]
  rfl

theorem mnew_apply (x y : Fin 1) : H.mnew (ix2 x y) = X.mnew σ := by
  obtain rfl : x = 0 := Subsingleton.elim _ _
  obtain rfl : y = 0 := Subsingleton.elim _ _
  have h1 := blast_apply R
  have h2 := m1_apply R
  have h3 := dl_apply R
  unfold mnew
  pointwise [h1, h2, h3]
  rw [w_ninf]
  rfl

theorem wkk_apply (s d : Fin 128) : H.wkk (ix2 s d) = X.wkk σ s d := by
  have h1 := R.k s d
  have h2 := dl_apply R s
  have h3 := mnew_apply R
  unfold wkk
  pointwise [h1, h2, h3]
  rfl

theorem decay_apply (x y : Fin 1) : H.decay (ix2 x y) = X.decay σ := by
  have h1 := blast_apply R
  have h2 := m1_apply R
  have h3 := mnew_apply R
  unfold decay
  pointwise [h1, h2, h3]
  rfl

theorem winter_apply (t : Fin 128) (u : Fin 1) : H.winter (ix2 t u) = X.winter σ t := by
  have h1 := inter_apply R t
  have h2 := mrow_apply R t
  unfold winter
  pointwise [h1, h2]
  rfl

theorem floor_apply (t : Fin 128) (u : Fin 1) : H.floor (ix2 t u) = Ideal.exp (-(X.mrow σ t)) := by
  have h2 := mrow_apply R t
  unfold floor
  pointwise [h2]
  rw [zero_sub]

theorem smat_apply (t s : Fin 128) : H.smat (ix2 t s) = X.smat σ t s := by
  have h1 := R.q t
  have h2 := R.k s
  have h3 := D_apply R t s
  have h4 := mrow_apply R t
  unfold smat q16 k16
  pointwise [h1, h2, h3, h4]
  rfl

theorem num_apply (t e : Fin 128) : H.num (ix2 t e) = X.num σ t e := by
  have h1 := fun s => smat_apply R t s
  have h2 := fun s => v1_apply R s e
  have h3 := winter_apply R t
  have h4 := R.q t
  have h5 := fun d => R.C d e
  unfold num q16
  pointwise [h1, h2, h3, h4, h5]
  rfl

theorem den_apply (t e : Fin 128) : H.den (ix2 t e) = X.den σ t := by
  have h1 := fun s => smat_apply R t s
  have h3 := winter_apply R t
  have h4 := R.q t
  have h5 := R.n
  unfold den
  pointwise [h1, h3, h4, h5, k0_pay208]
  rfl

theorem hout_apply (t e : Fin 128) : H.hout (ix2 t e) = X.hout σ t e := by
  have h1 := num_apply R t e
  have h2 := den_apply R t e
  have h3 := floor_apply R t
  unfold hout
  pointwise [h1, h2, h3]
  rfl

theorem C'_apply (d e : Fin 128) : H.C' (ix3 (0 : Fin 1) d e) = (X.step σ).c d e := by
  have h1 := decay_apply R
  have h2 := R.C d e
  have h3 := fun s => wkk_apply R s d
  have h4 := fun s => v1_apply R s e
  unfold C'
  pointwise [h1, h2, h3, h4]
  rfl

theorem n'_apply (d : Fin 128) : H.n' (ix3 (0 : Fin 1) (0 : Fin 1) d) = (X.step σ).n d := by
  have h1 := decay_apply R
  have h2 := R.n d
  have h3 := fun s => wkk_apply R s d
  unfold n'
  pointwise [h1, h2, h3]
  rfl

theorem m'_apply : H.m' (ix3 (0 : Fin 1) (0 : Fin 1) (0 : Fin 1)) = (X.step σ).m := by
  have h1 := mnew_apply R
  unfold m'
  pointwise [h1]
  rfl

omit R in
theorem sg_apply (x : FVec Ideal S128x128 .f32) (t e : Fin 128) : sg x (ix2 t e) = sigm (x (ix2 t e)) := by
  unfold sg
  pointwise
  rw [zero_sub]
  rfl

theorem res_apply (o z : Vec Ideal S1x128x128 .bf16) (w : Vec Ideal S1x128 .f32) (t e : Fin 128) :
    H.res o z w (ix3 (0 : Fin 1) t e)
      = X.hout σ t e * Ideal.rsqrt (Ideal.div (∑ d, X.hout σ t d * X.hout σ t d) (Ideal.ofBits .f32 0x43000000#32) + Ideal.ofBits .f32 0x358637BD#32)
        * w (ix2 (0 : Fin 1) e) * sigm (o (ix3 (0 : Fin 1) t e)) * silu (z (ix3 (0 : Fin 1) t e)) := by
  have h1 := hout_apply R t
  unfold res
  pointwise [h1, sg_apply, k0_pay208]
  rw [div_128, ← mul_assoc]
  rfl

end Hd
end Cert.Proof.K
end
-- ==== Proof.KConv.lean ====
module
public import proofs.«01_k».proof.Proof.KHead

/-!
# The convolution and the gates of one chunk, in the kernel

The kernel takes the shifted rows by products with 0/1 matrices and the running sums by three 0/1 products with the
parts of a split value. Both are exact.
-/

@[expose] public section
set_option maxRecDepth 16384
noncomputable section
namespace Cert.Proof.K
open Idealize.ShloMosaic Cert.KernelIdeal Cert.KernelIdeal.Gen

/-- Queries and keys of one chunk of one batch element, from the rows at hand, the weights and the bias. -/
def qk (x : Vec Ideal S1x256x1024 .bf16) (w : Vec Ideal S4x1024 .f32) (z : Vec Ideal S1x1024 .f32) : FVec Ideal S128x1024 .f32 :=
  k0_pay15 (k0_pay10 x)
    (k0_pay13 (iota Kind.tc S128x256 32 [0] iota_S128x256_d0_w32) (iota Kind.tc S128x256 32 [1] iota_S128x256_d1_w32) (k0_pay10 x) (k0_pay11 z)
      (k0_pay12 x (View.ld w (Rect.unit (s := S4x1024) ![3, 0] ![1, 1024] inb_S4x1024_S1x1024_3_0)))
      (View.ld w (Rect.unit (s := S4x1024) ![2, 0] ![1, 1024] inb_S4x1024_S1x1024_2_0))
      (View.ld w (Rect.unit (s := S4x1024) ![1, 0] ![1, 1024] inb_S4x1024_S1x1024_1_0)))
    (k0_pay14 (iota Kind.tc S128x256 32 [0] iota_S128x256_d0_w32) (iota Kind.tc S128x256 32 [1] iota_S128x256_d1_w32))
    (View.ld w (Rect.unit (s := S4x1024) ![0, 0] ![1, 1024] inb_S4x1024_S1x1024_0_0))

/-- The gates of one chunk: input gates as they are, forget gates through the log-logistic function. -/
def gates (sm : Vec Ideal S1x128x128 .f32) (fb : Vec Ideal S1x128 .f32) : FVec Ideal S128x128 .f32 := k0_pay17 k0_pay7 sm fb

/-- The running sums of the gates. -/
def bsum (sm : Vec Ideal S1x128x128 .f32) (fb : Vec Ideal S1x128 .f32) : FVec Ideal S128x128 .f32 :=
  k0_pay20 (gates sm fb) (k0_pay18 k0_pay6) (k0_pay19 k0_pay7 sm fb)

/-- Where the forget gates lie. -/
theorem isf_apply (t j : Fin 128) : k0_pay7 (ix2 t j) = if 4 ≤ j.val ∧ j.val < 8 then 1#1 else 0#1 :=
  (by decide +kernel : ∀ j : Fin 128, k0_pay7 (ix2 (0 : Fin 128) j) = if 4 ≤ j.val ∧ j.val < 8 then 1#1 else 0#1) j

theorem sel_if (p : Prop) [Decidable p] (a b : EReal) : Scalar.select (if p then 1#1 else 0#1 : BitVec 1) a b = if p then a else b := by
  split <;> rfl

theorem gates_apply (sm : Vec Ideal S1x128x128 .f32) (fb : Vec Ideal S1x128 .f32) (t j : Fin 128) :
    gates sm fb (ix2 t j) = if 4 ≤ j.val ∧ j.val < 8 then logsig (sm (ix3 (0 : Fin 1) t j) + fb (ix2 (0 : Fin 1) j))
      else sm (ix3 (0 : Fin 1) t j) + fb (ix2 (0 : Fin 1) j) := by
  have h1 := isf_apply t j
  unfold gates
  pointwise [k0_pay17, h1]
  rw [sel_if, zero_sub]
  rfl

theorem bsum_apply (sm : Vec Ideal S1x128x128 .f32) (fb : Vec Ideal S1x128 .f32) (t j : Fin 128) (hj : 4 ≤ j.val ∧ j.val < 8) :
    bsum sm fb (ix2 t j) = bcum (fun s => logsig (sm (ix3 (0 : Fin 1) s j) + fb (ix2 (0 : Fin 1) j))) t := by
  have h1 := fun s => gates_apply sm fb s j
  simp only [if_pos hj] at h1
  have h2 := fun s => Hd.mask_apply t s
  have h3 : ∀ s, k0_pay19 k0_pay7 sm fb (ix2 s j) = logsig (sm (ix3 (0 : Fin 1) s j) + fb (ix2 (0 : Fin 1) j)) := h1
  unfold bsum
  pointwise [k0_pay20, k0_pay18, h1, h2, h3]
  simp only [Hd.sel_mask]
  refine Eq.trans ?_ (split_sum (fun s => logsig (sm (ix3 (0 : Fin 1) s j) + fb (ix2 (0 : Fin 1) j))) (fun s => logsig_ne_top _) t)
  simp only [ite_mul, one_mul, zero_mul]

/-- A masked sum picks the one row whose number the mask asks for. -/
theorem pick (f : Fin 256 → EReal) (W : BitVec 32) (r : Fin 256) (hW : W = BitVec.ofNat 32 r.val) :
    ∑ s : Fin 256, Scalar.select (IntOp.cmpi .eq (BitVec.ofNat 32 s.val) W) (f s) 0 = f r := by
  subst hW
  rw [Finset.sum_eq_single r]
  · rw [show IntOp.cmpi .eq (BitVec.ofNat 32 r.val) (BitVec.ofNat 32 r.val) = 1#1 from IntOp.cmpi_eq_self _]
    rfl
  · intro s _ hs
    have hne : BitVec.ofNat 32 s.val ≠ BitVec.ofNat 32 r.val := by
      intro h
      have := congrArg BitVec.toNat h
      simp only [BitVec.toNat_ofNat] at this
      exact hs (Fin.ext (by have := s.isLt; have := r.isLt; omega))
    have : IntOp.cmpi .eq (BitVec.ofNat 32 s.val) (BitVec.ofNat 32 r.val) = 0#1 := by
      show BitVec.ofBool (_ == _) = 0#1
      rw [beq_false_of_ne hne]
      rfl
    rw [this]
    rfl
  · intro h
    exact absurd (Finset.mem_univ r) h

theorem row_word (t : Fin 128) :
    IntOp.subi (IntOp.addi (BitVec.ofNat 32 t.val) 16#32) 1#32 = BitVec.ofNat 32 (t.val + 15)
    ∧ IntOp.subi (IntOp.addi (BitVec.ofNat 32 t.val) 16#32) 2#32 = BitVec.ofNat 32 (t.val + 14)
    ∧ IntOp.subi (IntOp.addi (BitVec.ofNat 32 t.val) 16#32) 3#32 = BitVec.ofNat 32 (t.val + 13) :=
  (by decide +kernel : ∀ t : Fin 128, IntOp.subi (IntOp.addi (BitVec.ofNat 32 t.val) 16#32) 1#32 = BitVec.ofNat 32 (t.val + 15)
    ∧ IntOp.subi (IntOp.addi (BitVec.ofNat 32 t.val) 16#32) 2#32 = BitVec.ofNat 32 (t.val + 14)
    ∧ IntOp.subi (IntOp.addi (BitVec.ofNat 32 t.val) 16#32) 3#32 = BitVec.ofNat 32 (t.val + 13)) t

theorem qk_apply (x : Vec Ideal S1x256x1024 .bf16) (w : Vec Ideal S4x1024 .f32) (z : Vec Ideal S1x1024 .f32) (t : Fin 128) (ch : Fin 1024) :
    qk x w z (ix2 t ch) = silu (x (ix3 (0 : Fin 1) (⟨t.val + 13, by omega⟩ : Fin 256) ch) * w (ix2 (0 : Fin 4) ch)
      + x (ix3 (0 : Fin 1) (⟨t.val + 14, by omega⟩ : Fin 256) ch) * w (ix2 (1 : Fin 4) ch)
      + x (ix3 (0 : Fin 1) (⟨t.val + 15, by omega⟩ : Fin 256) ch) * w (ix2 (2 : Fin 4) ch)
      + x (ix3 (0 : Fin 1) (⟨t.val + 16, by omega⟩ : Fin 256) ch) * w (ix2 (3 : Fin 4) ch) + z (ix2 (0 : Fin 1) ch)) := by
  unfold qk
  pointwise [k0_pay15, k0_pay14, k0_pay13, k0_pay12, k0_pay11, k0_pay10]
  simp only [zero_sub]
  rw [pick _ _ (⟨t.val + 15, by omega⟩ : Fin 256) (row_word t).1, pick _ _ (⟨t.val + 14, by omega⟩ : Fin 256) (row_word t).2.1,
    pick _ _ (⟨t.val + 13, by omega⟩ : Fin 256) (row_word t).2.2]
  have e : (⟨16 + t.val, by omega⟩ : Fin 256) = ⟨t.val + 16, by omega⟩ := Fin.ext (Nat.add_comm _ _)
  rw [e]
  refine Eq.trans (b := silu _) rfl (congrArg silu ?_)
  ac_rfl

/-- What head 0 of a chunk reads: its columns of the queries, keys and gates, its values and its carried state. -/
def hd0 (Q : FVec Ideal S128x1024 .f32) (G B : FVec Ideal S128x128 .f32) (v : Vec Ideal S1x128x128 .bf16)
    (C : Vec Ideal S1x128x128 .f32) (n : Vec Ideal S1x1x128 .f32) (m : Vec Ideal S1x1x1 .f32) : Hd where
  q := extractStridedSlice S128x128 ![0, 0] Q slices_S128x1024_o0_0_S128x128
  k := mulf (extractStridedSlice S128x128 ![0, 512] Q slices_S128x1024_o0_512_S128x128)
    (broadcast S128x128 (Scalar.ofBits (F := Ideal) .f32 0x3DB504F3#32))
  v := v
  ic := extractStridedSlice S128x1 ![0, 0] G slices_S128x128_o0_0_S128x1
  ir := extractStridedSlice S1x128 ![0, 0] (k0_pay21 G) slices_S128x128_o0_0_S1x128
  bc := extractStridedSlice S128x1 ![0, 4] B slices_S128x128_o0_4_S128x1
  br := extractStridedSlice S1x128 ![4, 0] (transpose S128x128 [1, 0] B transposes_S128x128_p1_0_S128x128) slices_S128x128_o4_0_S1x128
  C := C
  n := n
  m := m

/-- What head 1 of a chunk reads: its columns of the queries, keys and gates, its values and its carried state. -/
def hd1 (Q : FVec Ideal S128x1024 .f32) (G B : FVec Ideal S128x128 .f32) (v : Vec Ideal S1x128x128 .bf16)
    (C : Vec Ideal S1x128x128 .f32) (n : Vec Ideal S1x1x128 .f32) (m : Vec Ideal S1x1x1 .f32) : Hd where
  q := extractStridedSlice S128x128 ![0, 128] Q slices_S128x1024_o0_128_S128x128
  k := mulf (extractStridedSlice S128x128 ![0, 640] Q slices_S128x1024_o0_640_S128x128)
    (broadcast S128x128 (Scalar.ofBits (F := Ideal) .f32 0x3DB504F3#32))
  v := v
  ic := extractStridedSlice S128x1 ![0, 1] G slices_S128x128_o0_1_S128x1
  ir := extractStridedSlice S1x128 ![1, 0] (k0_pay21 G) slices_S128x128_o1_0_S1x128
  bc := extractStridedSlice S128x1 ![0, 5] B slices_S128x128_o0_5_S128x1
  br := extractStridedSlice S1x128 ![5, 0] (transpose S128x128 [1, 0] B transposes_S128x128_p1_0_S128x128) slices_S128x128_o5_0_S1x128
  C := C
  n := n
  m := m

/-- What head 2 of a chunk reads: its columns of the queries, keys and gates, its values and its carried state. -/
def hd2 (Q : FVec Ideal S128x1024 .f32) (G B : FVec Ideal S128x128 .f32) (v : Vec Ideal S1x128x128 .bf16)
    (C : Vec Ideal S1x128x128 .f32) (n : Vec Ideal S1x1x128 .f32) (m : Vec Ideal S1x1x1 .f32) : Hd where
  q := extractStridedSlice S128x128 ![0, 256] Q slices_S128x1024_o0_256_S128x128
  k := mulf (extractStridedSlice S128x128 ![0, 768] Q slices_S128x1024_o0_768_S128x128)
    (broadcast S128x128 (Scalar.ofBits (F := Ideal) .f32 0x3DB504F3#32))
  v := v
  ic := extractStridedSlice S128x1 ![0, 2] G slices_S128x128_o0_2_S128x1
  ir := extractStridedSlice S1x128 ![2, 0] (k0_pay21 G) slices_S128x128_o2_0_S1x128
  bc := extractStridedSlice S128x1 ![0, 6] B slices_S128x128_o0_6_S128x1
  br := extractStridedSlice S1x128 ![6, 0] (transpose S128x128 [1, 0] B transposes_S128x128_p1_0_S128x128) slices_S128x128_o6_0_S1x128
  C := C
  n := n
  m := m

/-- What head 3 of a chunk reads: its columns of the queries, keys and gates, its values and its carried state. -/
def hd3 (Q : FVec Ideal S128x1024 .f32) (G B : FVec Ideal S128x128 .f32) (v : Vec Ideal S1x128x128 .bf16)
    (C : Vec Ideal S1x128x128 .f32) (n : Vec Ideal S1x1x128 .f32) (m : Vec Ideal S1x1x1 .f32) : Hd where
  q := extractStridedSlice S128x128 ![0, 384] Q slices_S128x1024_o0_384_S128x128
  k := mulf (extractStridedSlice S128x128 ![0, 896] Q slices_S128x1024_o0_896_S128x128)
    (broadcast S128x128 (Scalar.ofBits (F := Ideal) .f32 0x3DB504F3#32))
  v := v
  ic := extractStridedSlice S128x1 ![0, 3] G slices_S128x128_o0_3_S128x1
  ir := extractStridedSlice S1x128 ![3, 0] (k0_pay21 G) slices_S128x128_o3_0_S1x128
  bc := extractStridedSlice S128x1 ![0, 7] B slices_S128x128_o0_7_S128x1
  br := extractStridedSlice S1x128 ![7, 0] (transpose S128x128 [1, 0] B transposes_S128x128_p1_0_S128x128) slices_S128x128_o7_0_S1x128
  C := C
  n := n
  m := m

end Cert.Proof.K
-- ==== Proof.KStep.lean ====
module
public import proofs.«01_k».proof.Proof.KConv
public import proofs.«01_k».proof.Proof.Gen.KernelIdeal.Frame
public import Idealize.ShloMosaic.Lib.Pipeline.ValueKit

/-!
# One grid point of the kernel, head by head

What a grid point leaves in its output block and in the carried buffers, as the list of what its eight heads store.
-/

@[expose] public section
set_option maxRecDepth 16384
noncomputable section
namespace Cert.Proof.K
open Idealize.ShloMosaic Cert.KernelIdeal Cert.KernelIdeal.Gen

/-- The input blocks of a grid point. -/
structure Wn where
  q : Vec Ideal S2x128x512 .bf16
  k : Vec Ideal S2x128x512 .bf16
  v : Vec Ideal S2x128x512 .bf16
  o : Vec Ideal S2x128x512 .bf16
  z : Vec Ideal S2x128x512 .bf16
  sm : Vec Ideal S2x128x128 .f32
  cw : Vec Ideal S4x1024 .f32
  cb : Vec Ideal S1x1024 .f32
  fb : Vec Ideal S1x128 .f32
  hn : Vec Ideal S1x512 .f32

/-- The carried states before a grid point. -/
structure Cr where
  C : Vec Ideal S8x128x128 .f32
  N : Vec Ideal S8x1x128 .f32
  M : Vec Ideal S8x1x1 .f32

namespace Wn
variable (W : Wn) (Q0 Q1 : FVec Ideal S128x1024 .f32) (Y : Cr)

def sm0 : Vec Ideal S1x128x128 .f32 := View.ld W.sm (Rect.unit (s := S2x128x128) ![0, 0, 0] ![1, 128, 128] inb_S2x128x128_S1x128x128_0_0_0)
def sm1 : Vec Ideal S1x128x128 .f32 := View.ld W.sm (Rect.unit (s := S2x128x128) ![1, 0, 0] ![1, 128, 128] inb_S2x128x128_S1x128x128_1_0_0)
/-- Head 0 of batch element 0. -/
def h0 : Hd := hd0 Q0 (gates W.sm0 W.fb) (bsum W.sm0 W.fb)
  (View.ld W.v (Rect.unit (s := S2x128x512) ![0, 0, 0] ![1, 128, 128] inb_S2x128x512_S1x128x128_0_0_0))
  (View.ld Y.C (Rect.unit (s := S8x128x128) ![0, 0, 0] ![1, 128, 128] inb_S8x128x128_S1x128x128_0_0_0))
  (View.ld Y.N (Rect.unit (s := S8x1x128) ![0, 0, 0] ![1, 1, 128] inb_S8x1x128_S1x1x128_0_0_0))
  (View.ld Y.M (Rect.unit (s := S8x1x1) ![0, 0, 0] ![1, 1, 1] inb_S8x1x1_S1x1x1_0_0_0))
/-- Head 1 of batch element 0. -/
def h1 : Hd := hd1 Q0 (gates W.sm0 W.fb) (bsum W.sm0 W.fb)
  (View.ld W.v (Rect.unit (s := S2x128x512) ![0, 0, 128] ![1, 128, 128] inb_S2x128x512_S1x128x128_0_0_128))
  (View.ld Y.C (Rect.unit (s := S8x128x128) ![1, 0, 0] ![1, 128, 128] inb_S8x128x128_S1x128x128_1_0_0))
  (View.ld Y.N (Rect.unit (s := S8x1x128) ![1, 0, 0] ![1, 1, 128] inb_S8x1x128_S1x1x128_1_0_0))
  (View.ld Y.M (Rect.unit (s := S8x1x1) ![1, 0, 0] ![1, 1, 1] inb_S8x1x1_S1x1x1_1_0_0))
/-- Head 2 of batch element 0. -/
def h2 : Hd := hd2 Q0 (gates W.sm0 W.fb) (bsum W.sm0 W.fb)
  (View.ld W.v (Rect.unit (s := S2x128x512) ![0, 0, 256] ![1, 128, 128] inb_S2x128x512_S1x128x128_0_0_256))
  (View.ld Y.C (Rect.unit (s := S8x128x128) ![2, 0, 0] ![1, 128, 128] inb_S8x128x128_S1x128x128_2_0_0))
  (View.ld Y.N (Rect.unit (s := S8x1x128) ![2, 0, 0] ![1, 1, 128] inb_S8x1x128_S1x1x128_2_0_0))
  (View.ld Y.M (Rect.unit (s := S8x1x1) ![2, 0, 0] ![1, 1, 1] inb_S8x1x1_S1x1x1_2_0_0))
/-- Head 3 of batch element 0. -/
def h3 : Hd := hd3 Q0 (gates W.sm0 W.fb) (bsum W.sm0 W.fb)
  (View.ld W.v (Rect.unit (s := S2x128x512) ![0, 0, 384] ![1, 128, 128] inb_S2x128x512_S1x128x128_0_0_384))
  (View.ld Y.C (Rect.unit (s := S8x128x128) ![3, 0, 0] ![1, 128, 128] inb_S8x128x128_S1x128x128_3_0_0))
  (View.ld Y.N (Rect.unit (s := S8x1x128) ![3, 0, 0] ![1, 1, 128] inb_S8x1x128_S1x1x128_3_0_0))
  (View.ld Y.M (Rect.unit (s := S8x1x1) ![3, 0, 0] ![1, 1, 1] inb_S8x1x1_S1x1x1_3_0_0))
/-- Head 0 of batch element 1. -/
def h4 : Hd := hd0 Q1 (gates W.sm1 W.fb) (bsum W.sm1 W.fb)
  (View.ld W.v (Rect.unit (s := S2x128x512) ![1, 0, 0] ![1, 128, 128] inb_S2x128x512_S1x128x128_1_0_0))
  (View.ld Y.C (Rect.unit (s := S8x128x128) ![4, 0, 0] ![1, 128, 128] inb_S8x128x128_S1x128x128_4_0_0))
  (View.ld Y.N (Rect.unit (s := S8x1x128) ![4, 0, 0] ![1, 1, 128] inb_S8x1x128_S1x1x128_4_0_0))
  (View.ld Y.M (Rect.unit (s := S8x1x1) ![4, 0, 0] ![1, 1, 1] inb_S8x1x1_S1x1x1_4_0_0))
/-- Head 1 of batch element 1. -/
def h5 : Hd := hd1 Q1 (gates W.sm1 W.fb) (bsum W.sm1 W.fb)
  (View.ld W.v (Rect.unit (s := S2x128x512) ![1, 0, 128] ![1, 128, 128] inb_S2x128x512_S1x128x128_1_0_128))
  (View.ld Y.C (Rect.unit (s := S8x128x128) ![5, 0, 0] ![1, 128, 128] inb_S8x128x128_S1x128x128_5_0_0))
  (View.ld Y.N (Rect.unit (s := S8x1x128) ![5, 0, 0] ![1, 1, 128] inb_S8x1x128_S1x1x128_5_0_0))
  (View.ld Y.M (Rect.unit (s := S8x1x1) ![5, 0, 0] ![1, 1, 1] inb_S8x1x1_S1x1x1_5_0_0))
/-- Head 2 of batch element 1. -/
def h6 : Hd := hd2 Q1 (gates W.sm1 W.fb) (bsum W.sm1 W.fb)
  (View.ld W.v (Rect.unit (s := S2x128x512) ![1, 0, 256] ![1, 128, 128] inb_S2x128x512_S1x128x128_1_0_256))
  (View.ld Y.C (Rect.unit (s := S8x128x128) ![6, 0, 0] ![1, 128, 128] inb_S8x128x128_S1x128x128_6_0_0))
  (View.ld Y.N (Rect.unit (s := S8x1x128) ![6, 0, 0] ![1, 1, 128] inb_S8x1x128_S1x1x128_6_0_0))
  (View.ld Y.M (Rect.unit (s := S8x1x1) ![6, 0, 0] ![1, 1, 1] inb_S8x1x1_S1x1x1_6_0_0))
/-- Head 3 of batch element 1. -/
def h7 : Hd := hd3 Q1 (gates W.sm1 W.fb) (bsum W.sm1 W.fb)
  (View.ld W.v (Rect.unit (s := S2x128x512) ![1, 0, 384] ![1, 128, 128] inb_S2x128x512_S1x128x128_1_0_384))
  (View.ld Y.C (Rect.unit (s := S8x128x128) ![7, 0, 0] ![1, 128, 128] inb_S8x128x128_S1x128x128_7_0_0))
  (View.ld Y.N (Rect.unit (s := S8x1x128) ![7, 0, 0] ![1, 1, 128] inb_S8x1x128_S1x1x128_7_0_0))
  (View.ld Y.M (Rect.unit (s := S8x1x1) ![7, 0, 0] ![1, 1, 1] inb_S8x1x1_S1x1x1_7_0_0))
/-- The matrices after the point. -/
def C1 (T : List (View.Piece (Elt Ideal) S8x128x128 .f32)) : Vec Ideal S8x128x128 .f32 := View.canon (
    (⟨Rect.unit (s := S8x128x128) ![7, 0, 0] ![1, 128, 128] inb_S8x128x128_S1x128x128_7_0_0, (W.h7 Q1 Y).C'⟩ : View.Piece (Elt Ideal) S8x128x128 .f32) ::
    (⟨Rect.unit (s := S8x128x128) ![6, 0, 0] ![1, 128, 128] inb_S8x128x128_S1x128x128_6_0_0, (W.h6 Q1 Y).C'⟩ : View.Piece (Elt Ideal) S8x128x128 .f32) ::
    (⟨Rect.unit (s := S8x128x128) ![5, 0, 0] ![1, 128, 128] inb_S8x128x128_S1x128x128_5_0_0, (W.h5 Q1 Y).C'⟩ : View.Piece (Elt Ideal) S8x128x128 .f32) ::
    (⟨Rect.unit (s := S8x128x128) ![4, 0, 0] ![1, 128, 128] inb_S8x128x128_S1x128x128_4_0_0, (W.h4 Q1 Y).C'⟩ : View.Piece (Elt Ideal) S8x128x128 .f32) ::
    (⟨Rect.unit (s := S8x128x128) ![3, 0, 0] ![1, 128, 128] inb_S8x128x128_S1x128x128_3_0_0, (W.h3 Q0 Y).C'⟩ : View.Piece (Elt Ideal) S8x128x128 .f32) ::
    (⟨Rect.unit (s := S8x128x128) ![2, 0, 0] ![1, 128, 128] inb_S8x128x128_S1x128x128_2_0_0, (W.h2 Q0 Y).C'⟩ : View.Piece (Elt Ideal) S8x128x128 .f32) ::
    (⟨Rect.unit (s := S8x128x128) ![1, 0, 0] ![1, 128, 128] inb_S8x128x128_S1x128x128_1_0_0, (W.h1 Q0 Y).C'⟩ : View.Piece (Elt Ideal) S8x128x128 .f32) ::
    (⟨Rect.unit (s := S8x128x128) ![0, 0, 0] ![1, 128, 128] inb_S8x128x128_S1x128x128_0_0_0, (W.h0 Q0 Y).C'⟩ : View.Piece (Elt Ideal) S8x128x128 .f32) :: T)
/-- The normalizers after the point. -/
def N1 (T : List (View.Piece (Elt Ideal) S8x1x128 .f32)) : Vec Ideal S8x1x128 .f32 := View.canon (
    (⟨Rect.unit (s := S8x1x128) ![7, 0, 0] ![1, 1, 128] inb_S8x1x128_S1x1x128_7_0_0, (W.h7 Q1 Y).n'⟩ : View.Piece (Elt Ideal) S8x1x128 .f32) ::
    (⟨Rect.unit (s := S8x1x128) ![6, 0, 0] ![1, 1, 128] inb_S8x1x128_S1x1x128_6_0_0, (W.h6 Q1 Y).n'⟩ : View.Piece (Elt Ideal) S8x1x128 .f32) ::
    (⟨Rect.unit (s := S8x1x128) ![5, 0, 0] ![1, 1, 128] inb_S8x1x128_S1x1x128_5_0_0, (W.h5 Q1 Y).n'⟩ : View.Piece (Elt Ideal) S8x1x128 .f32) ::
    (⟨Rect.unit (s := S8x1x128) ![4, 0, 0] ![1, 1, 128] inb_S8x1x128_S1x1x128_4_0_0, (W.h4 Q1 Y).n'⟩ : View.Piece (Elt Ideal) S8x1x128 .f32) ::
    (⟨Rect.unit (s := S8x1x128) ![3, 0, 0] ![1, 1, 128] inb_S8x1x128_S1x1x128_3_0_0, (W.h3 Q0 Y).n'⟩ : View.Piece (Elt Ideal) S8x1x128 .f32) ::
    (⟨Rect.unit (s := S8x1x128) ![2, 0, 0] ![1, 1, 128] inb_S8x1x128_S1x1x128_2_0_0, (W.h2 Q0 Y).n'⟩ : View.Piece (Elt Ideal) S8x1x128 .f32) ::
    (⟨Rect.unit (s := S8x1x128) ![1, 0, 0] ![1, 1, 128] inb_S8x1x128_S1x1x128_1_0_0, (W.h1 Q0 Y).n'⟩ : View.Piece (Elt Ideal) S8x1x128 .f32) ::
    (⟨Rect.unit (s := S8x1x128) ![0, 0, 0] ![1, 1, 128] inb_S8x1x128_S1x1x128_0_0_0, (W.h0 Q0 Y).n'⟩ : View.Piece (Elt Ideal) S8x1x128 .f32) :: T)
/-- The stabilizers after the point. -/
def M1 (T : List (View.Piece (Elt Ideal) S8x1x1 .f32)) : Vec Ideal S8x1x1 .f32 := View.canon (
    (⟨Rect.unit (s := S8x1x1) ![7, 0, 0] ![1, 1, 1] inb_S8x1x1_S1x1x1_7_0_0, (W.h7 Q1 Y).m'⟩ : View.Piece (Elt Ideal) S8x1x1 .f32) ::
    (⟨Rect.unit (s := S8x1x1) ![6, 0, 0] ![1, 1, 1] inb_S8x1x1_S1x1x1_6_0_0, (W.h6 Q1 Y).m'⟩ : View.Piece (Elt Ideal) S8x1x1 .f32) ::
    (⟨Rect.unit (s := S8x1x1) ![5, 0, 0] ![1, 1, 1] inb_S8x1x1_S1x1x1_5_0_0, (W.h5 Q1 Y).m'⟩ : View.Piece (Elt Ideal) S8x1x1 .f32) ::
    (⟨Rect.unit (s := S8x1x1) ![4, 0, 0] ![1, 1, 1] inb_S8x1x1_S1x1x1_4_0_0, (W.h4 Q1 Y).m'⟩ : View.Piece (Elt Ideal) S8x1x1 .f32) ::
    (⟨Rect.unit (s := S8x1x1) ![3, 0, 0] ![1, 1, 1] inb_S8x1x1_S1x1x1_3_0_0, (W.h3 Q0 Y).m'⟩ : View.Piece (Elt Ideal) S8x1x1 .f32) ::
    (⟨Rect.unit (s := S8x1x1) ![2, 0, 0] ![1, 1, 1] inb_S8x1x1_S1x1x1_2_0_0, (W.h2 Q0 Y).m'⟩ : View.Piece (Elt Ideal) S8x1x1 .f32) ::
    (⟨Rect.unit (s := S8x1x1) ![1, 0, 0] ![1, 1, 1] inb_S8x1x1_S1x1x1_1_0_0, (W.h1 Q0 Y).m'⟩ : View.Piece (Elt Ideal) S8x1x1 .f32) ::
    (⟨Rect.unit (s := S8x1x1) ![0, 0, 0] ![1, 1, 1] inb_S8x1x1_S1x1x1_0_0_0, (W.h0 Q0 Y).m'⟩ : View.Piece (Elt Ideal) S8x1x1 .f32) :: T)
/-- The output block. -/
def O1 : Vec Ideal S2x128x512 .bf16 := View.canon (
    (⟨(Rect.unit (s := S2x128x512) ![1, 0, 384] ![1, 128, 128] inb_S2x128x512_S1x128x128_1_0_384),
      (W.h7 Q1 Y).res (View.ld W.o (Rect.unit (s := S2x128x512) ![1, 0, 384] ![1, 128, 128] inb_S2x128x512_S1x128x128_1_0_384)) (View.ld W.z (Rect.unit (s := S2x128x512) ![1, 0, 384] ![1, 128, 128] inb_S2x128x512_S1x128x128_1_0_384)) (View.ld W.hn (Rect.unit (s := S1x512) ![0, 384] ![1, 128] inb_S1x512_S1x128_0_384))⟩ : View.Piece (Elt Ideal) S2x128x512 .bf16) ::
    (⟨(Rect.unit (s := S2x128x512) ![1, 0, 256] ![1, 128, 128] inb_S2x128x512_S1x128x128_1_0_256),
      (W.h6 Q1 Y).res (View.ld W.o (Rect.unit (s := S2x128x512) ![1, 0, 256] ![1, 128, 128] inb_S2x128x512_S1x128x128_1_0_256)) (View.ld W.z (Rect.unit (s := S2x128x512) ![1, 0, 256] ![1, 128, 128] inb_S2x128x512_S1x128x128_1_0_256)) (View.ld W.hn (Rect.unit (s := S1x512) ![0, 256] ![1, 128] inb_S1x512_S1x128_0_256))⟩ : View.Piece (Elt Ideal) S2x128x512 .bf16) ::
    (⟨(Rect.unit (s := S2x128x512) ![1, 0, 128] ![1, 128, 128] inb_S2x128x512_S1x128x128_1_0_128),
      (W.h5 Q1 Y).res (View.ld W.o (Rect.unit (s := S2x128x512) ![1, 0, 128] ![1, 128, 128] inb_S2x128x512_S1x128x128_1_0_128)) (View.ld W.z (Rect.unit (s := S2x128x512) ![1, 0, 128] ![1, 128, 128] inb_S2x128x512_S1x128x128_1_0_128)) (View.ld W.hn (Rect.unit (s := S1x512) ![0, 128] ![1, 128] inb_S1x512_S1x128_0_128))⟩ : View.Piece (Elt Ideal) S2x128x512 .bf16) ::
    (⟨(Rect.unit (s := S2x128x512) ![1, 0, 0] ![1, 128, 128] inb_S2x128x512_S1x128x128_1_0_0),
      (W.h4 Q1 Y).res (View.ld W.o (Rect.unit (s := S2x128x512) ![1, 0, 0] ![1, 128, 128] inb_S2x128x512_S1x128x128_1_0_0)) (View.ld W.z (Rect.unit (s := S2x128x512) ![1, 0, 0] ![1, 128, 128] inb_S2x128x512_S1x128x128_1_0_0)) (View.ld W.hn (Rect.unit (s := S1x512) ![0, 0] ![1, 128] inb_S1x512_S1x128_0_0))⟩ : View.Piece (Elt Ideal) S2x128x512 .bf16) ::
    (⟨(Rect.unit (s := S2x128x512) ![0, 0, 384] ![1, 128, 128] inb_S2x128x512_S1x128x128_0_0_384),
      (W.h3 Q0 Y).res (View.ld W.o (Rect.unit (s := S2x128x512) ![0, 0, 384] ![1, 128, 128] inb_S2x128x512_S1x128x128_0_0_384)) (View.ld W.z (Rect.unit (s := S2x128x512) ![0, 0, 384] ![1, 128, 128] inb_S2x128x512_S1x128x128_0_0_384)) (View.ld W.hn (Rect.unit (s := S1x512) ![0, 384] ![1, 128] inb_S1x512_S1x128_0_384))⟩ : View.Piece (Elt Ideal) S2x128x512 .bf16) ::
    (⟨(Rect.unit (s := S2x128x512) ![0, 0, 256] ![1, 128, 128] inb_S2x128x512_S1x128x128_0_0_256),
      (W.h2 Q0 Y).res (View.ld W.o (Rect.unit (s := S2x128x512) ![0, 0, 256] ![1, 128, 128] inb_S2x128x512_S1x128x128_0_0_256)) (View.ld W.z (Rect.unit (s := S2x128x512) ![0, 0, 256] ![1, 128, 128] inb_S2x128x512_S1x128x128_0_0_256)) (View.ld W.hn (Rect.unit (s := S1x512) ![0, 256] ![1, 128] inb_S1x512_S1x128_0_256))⟩ : View.Piece (Elt Ideal) S2x128x512 .bf16) ::
    (⟨(Rect.unit (s := S2x128x512) ![0, 0, 128] ![1, 128, 128] inb_S2x128x512_S1x128x128_0_0_128),
      (W.h1 Q0 Y).res (View.ld W.o (Rect.unit (s := S2x128x512) ![0, 0, 128] ![1, 128, 128] inb_S2x128x512_S1x128x128_0_0_128)) (View.ld W.z (Rect.unit (s := S2x128x512) ![0, 0, 128] ![1, 128, 128] inb_S2x128x512_S1x128x128_0_0_128)) (View.ld W.hn (Rect.unit (s := S1x512) ![0, 128] ![1, 128] inb_S1x512_S1x128_0_128))⟩ : View.Piece (Elt Ideal) S2x128x512 .bf16) ::
    (⟨(Rect.unit (s := S2x128x512) ![0, 0, 0] ![1, 128, 128] inb_S2x128x512_S1x128x128_0_0_0),
      (W.h0 Q0 Y).res (View.ld W.o (Rect.unit (s := S2x128x512) ![0, 0, 0] ![1, 128, 128] inb_S2x128x512_S1x128x128_0_0_0)) (View.ld W.z (Rect.unit (s := S2x128x512) ![0, 0, 0] ![1, 128, 128] inb_S2x128x512_S1x128x128_0_0_0)) (View.ld W.hn (Rect.unit (s := S1x512) ![0, 0] ![1, 128] inb_S1x512_S1x128_0_0))⟩ : View.Piece (Elt Ideal) S2x128x512 .bf16) :: [])
/-- The rows stored so far, before the first batch element is read. -/
def LA0 : List (View.Piece (Elt Ideal) S2x256x1024 .bf16) := ([⟨Rect.unit (s := S2x256x1024) ![0, 16, 512] ![1, 128, 512] inb_S2x256x1024_S1x128x512_0_16_512, k0_pay9 (View.ld W.k (Rect.unit (s := S2x128x512) ![0, 0, 0] ![1, 128, 512] inb_S2x128x512_S1x128x512_0_0_0))⟩,
    ⟨Rect.unit (s := S2x256x1024) ![0, 16, 0] ![1, 128, 512] inb_S2x256x1024_S1x128x512_0_16_0, k0_pay8 (View.ld W.q (Rect.unit (s := S2x128x512) ![0, 0, 0] ![1, 128, 512] inb_S2x128x512_S1x128x512_0_0_0))⟩,
    ⟨Rect.unit (s := S2x256x1024) ![0, 0, 0] ![2, 256, 1024] inb_S2x256x1024_S2x256x1024_0_0_0, k0_pay2 (F := Ideal)⟩] : List (View.Piece (Elt Ideal) S2x256x1024 .bf16))
/-- The rows stored so far, before the second batch element is read. -/
def LA1 : List (View.Piece (Elt Ideal) S2x256x1024 .bf16) := ([⟨Rect.unit (s := S2x256x1024) ![1, 16, 512] ![1, 128, 512] inb_S2x256x1024_S1x128x512_1_16_512, k0_pay97 (View.ld W.k (Rect.unit (s := S2x128x512) ![1, 0, 0] ![1, 128, 512] inb_S2x128x512_S1x128x512_1_0_0))⟩,
    ⟨Rect.unit (s := S2x256x1024) ![1, 16, 0] ![1, 128, 512] inb_S2x256x1024_S1x128x512_1_16_0, k0_pay96 (View.ld W.q (Rect.unit (s := S2x128x512) ![1, 0, 0] ![1, 128, 512] inb_S2x128x512_S1x128x512_1_0_0))⟩,
    ⟨Rect.unit (s := S2x256x1024) ![0, 0, 0] ![1, 16, 1024] inb_S2x256x1024_S1x16x1024_0_0_0, k0_pay16 ((View.whole cc0_scratch0).readCov ([⟨Rect.unit (s := S2x256x1024) ![0, 16, 512] ![1, 128, 512] inb_S2x256x1024_S1x128x512_0_16_512, k0_pay9 (View.ld W.k (Rect.unit (s := S2x128x512) ![0, 0, 0] ![1, 128, 512] inb_S2x128x512_S1x128x512_0_0_0))⟩,
    ⟨Rect.unit (s := S2x256x1024) ![0, 16, 0] ![1, 128, 512] inb_S2x256x1024_S1x128x512_0_16_0, k0_pay8 (View.ld W.q (Rect.unit (s := S2x128x512) ![0, 0, 0] ![1, 128, 512] inb_S2x128x512_S1x128x512_0_0_0))⟩,
    ⟨Rect.unit (s := S2x256x1024) ![0, 0, 0] ![2, 256, 1024] inb_S2x256x1024_S2x256x1024_0_0_0, k0_pay2 (F := Ideal)⟩] : List (View.Piece (Elt Ideal) S2x256x1024 .bf16)) (Rect.unit (s := S2x256x1024) ![0, 128, 0] ![1, 16, 1024] inb_S2x256x1024_S1x16x1024_0_128_0).toLoadRect)⟩,
    ⟨Rect.unit (s := S2x256x1024) ![0, 16, 512] ![1, 128, 512] inb_S2x256x1024_S1x128x512_0_16_512, k0_pay9 (View.ld W.k (Rect.unit (s := S2x128x512) ![0, 0, 0] ![1, 128, 512] inb_S2x128x512_S1x128x512_0_0_0))⟩,
    ⟨Rect.unit (s := S2x256x1024) ![0, 16, 0] ![1, 128, 512] inb_S2x256x1024_S1x128x512_0_16_0, k0_pay8 (View.ld W.q (Rect.unit (s := S2x128x512) ![0, 0, 0] ![1, 128, 512] inb_S2x128x512_S1x128x512_0_0_0))⟩,
    ⟨Rect.unit (s := S2x256x1024) ![0, 0, 0] ![2, 256, 1024] inb_S2x256x1024_S2x256x1024_0_0_0, k0_pay2 (F := Ideal)⟩] : List (View.Piece (Elt Ideal) S2x256x1024 .bf16))
/-- All rows stored. -/
def LA2 : List (View.Piece (Elt Ideal) S2x256x1024 .bf16) := ([⟨Rect.unit (s := S2x256x1024) ![1, 0, 0] ![1, 16, 1024] inb_S2x256x1024_S1x16x1024_1_0_0, k0_pay104 ((View.whole cc0_scratch0).readCov ([⟨Rect.unit (s := S2x256x1024) ![1, 16, 512] ![1, 128, 512] inb_S2x256x1024_S1x128x512_1_16_512, k0_pay97 (View.ld W.k (Rect.unit (s := S2x128x512) ![1, 0, 0] ![1, 128, 512] inb_S2x128x512_S1x128x512_1_0_0))⟩,
    ⟨Rect.unit (s := S2x256x1024) ![1, 16, 0] ![1, 128, 512] inb_S2x256x1024_S1x128x512_1_16_0, k0_pay96 (View.ld W.q (Rect.unit (s := S2x128x512) ![1, 0, 0] ![1, 128, 512] inb_S2x128x512_S1x128x512_1_0_0))⟩,
    ⟨Rect.unit (s := S2x256x1024) ![0, 0, 0] ![1, 16, 1024] inb_S2x256x1024_S1x16x1024_0_0_0, k0_pay16 ((View.whole cc0_scratch0).readCov ([⟨Rect.unit (s := S2x256x1024) ![0, 16, 512] ![1, 128, 512] inb_S2x256x1024_S1x128x512_0_16_512, k0_pay9 (View.ld W.k (Rect.unit (s := S2x128x512) ![0, 0, 0] ![1, 128, 512] inb_S2x128x512_S1x128x512_0_0_0))⟩,
    ⟨Rect.unit (s := S2x256x1024) ![0, 16, 0] ![1, 128, 512] inb_S2x256x1024_S1x128x512_0_16_0, k0_pay8 (View.ld W.q (Rect.unit (s := S2x128x512) ![0, 0, 0] ![1, 128, 512] inb_S2x128x512_S1x128x512_0_0_0))⟩,
    ⟨Rect.unit (s := S2x256x1024) ![0, 0, 0] ![2, 256, 1024] inb_S2x256x1024_S2x256x1024_0_0_0, k0_pay2 (F := Ideal)⟩] : List (View.Piece (Elt Ideal) S2x256x1024 .bf16)) (Rect.unit (s := S2x256x1024) ![0, 128, 0] ![1, 16, 1024] inb_S2x256x1024_S1x16x1024_0_128_0).toLoadRect)⟩,
    ⟨Rect.unit (s := S2x256x1024) ![0, 16, 512] ![1, 128, 512] inb_S2x256x1024_S1x128x512_0_16_512, k0_pay9 (View.ld W.k (Rect.unit (s := S2x128x512) ![0, 0, 0] ![1, 128, 512] inb_S2x128x512_S1x128x512_0_0_0))⟩,
    ⟨Rect.unit (s := S2x256x1024) ![0, 16, 0] ![1, 128, 512] inb_S2x256x1024_S1x128x512_0_16_0, k0_pay8 (View.ld W.q (Rect.unit (s := S2x128x512) ![0, 0, 0] ![1, 128, 512] inb_S2x128x512_S1x128x512_0_0_0))⟩,
    ⟨Rect.unit (s := S2x256x1024) ![0, 0, 0] ![2, 256, 1024] inb_S2x256x1024_S2x256x1024_0_0_0, k0_pay2 (F := Ideal)⟩] : List (View.Piece (Elt Ideal) S2x256x1024 .bf16)) (Rect.unit (s := S2x256x1024) ![1, 128, 0] ![1, 16, 1024] inb_S2x256x1024_S1x16x1024_1_128_0).toLoadRect)⟩,
    ⟨Rect.unit (s := S2x256x1024) ![1, 16, 512] ![1, 128, 512] inb_S2x256x1024_S1x128x512_1_16_512, k0_pay97 (View.ld W.k (Rect.unit (s := S2x128x512) ![1, 0, 0] ![1, 128, 512] inb_S2x128x512_S1x128x512_1_0_0))⟩,
    ⟨Rect.unit (s := S2x256x1024) ![1, 16, 0] ![1, 128, 512] inb_S2x256x1024_S1x128x512_1_16_0, k0_pay96 (View.ld W.q (Rect.unit (s := S2x128x512) ![1, 0, 0] ![1, 128, 512] inb_S2x128x512_S1x128x512_1_0_0))⟩,
    ⟨Rect.unit (s := S2x256x1024) ![0, 0, 0] ![1, 16, 1024] inb_S2x256x1024_S1x16x1024_0_0_0, k0_pay16 ((View.whole cc0_scratch0).readCov ([⟨Rect.unit (s := S2x256x1024) ![0, 16, 512] ![1, 128, 512] inb_S2x256x1024_S1x128x512_0_16_512, k0_pay9 (View.ld W.k (Rect.unit (s := S2x128x512) ![0, 0, 0] ![1, 128, 512] inb_S2x128x512_S1x128x512_0_0_0))⟩,
    ⟨Rect.unit (s := S2x256x1024) ![0, 16, 0] ![1, 128, 512] inb_S2x256x1024_S1x128x512_0_16_0, k0_pay8 (View.ld W.q (Rect.unit (s := S2x128x512) ![0, 0, 0] ![1, 128, 512] inb_S2x128x512_S1x128x512_0_0_0))⟩,
    ⟨Rect.unit (s := S2x256x1024) ![0, 0, 0] ![2, 256, 1024] inb_S2x256x1024_S2x256x1024_0_0_0, k0_pay2 (F := Ideal)⟩] : List (View.Piece (Elt Ideal) S2x256x1024 .bf16)) (Rect.unit (s := S2x256x1024) ![0, 128, 0] ![1, 16, 1024] inb_S2x256x1024_S1x16x1024_0_128_0).toLoadRect)⟩,
    ⟨Rect.unit (s := S2x256x1024) ![0, 16, 512] ![1, 128, 512] inb_S2x256x1024_S1x128x512_0_16_512, k0_pay9 (View.ld W.k (Rect.unit (s := S2x128x512) ![0, 0, 0] ![1, 128, 512] inb_S2x128x512_S1x128x512_0_0_0))⟩,
    ⟨Rect.unit (s := S2x256x1024) ![0, 16, 0] ![1, 128, 512] inb_S2x256x1024_S1x128x512_0_16_0, k0_pay8 (View.ld W.q (Rect.unit (s := S2x128x512) ![0, 0, 0] ![1, 128, 512] inb_S2x128x512_S1x128x512_0_0_0))⟩,
    ⟨Rect.unit (s := S2x256x1024) ![0, 0, 0] ![2, 256, 1024] inb_S2x256x1024_S2x256x1024_0_0_0, k0_pay2 (F := Ideal)⟩] : List (View.Piece (Elt Ideal) S2x256x1024 .bf16))
def xA0 : Vec Ideal S1x256x1024 .bf16 := (View.whole cc0_scratch0).readCov W.LA0 (Rect.unit (s := S2x256x1024) ![0, 0, 0] ![1, 256, 1024] inb_S2x256x1024_S1x256x1024_0_0_0).toLoadRect
def xA1 : Vec Ideal S1x256x1024 .bf16 := (View.whole cc0_scratch0).readCov W.LA1 (Rect.unit (s := S2x256x1024) ![1, 0, 0] ![1, 256, 1024] inb_S2x256x1024_S1x256x1024_1_0_0).toLoadRect
/-- The rows stored so far, before the first batch element is read. -/
def LB0 : List (View.Piece (Elt Ideal) S2x256x1024 .bf16) := ([⟨Rect.unit (s := S2x256x1024) ![0, 16, 512] ![1, 128, 512] inb_S2x256x1024_S1x128x512_0_16_512, k0_pay9 (View.ld W.k (Rect.unit (s := S2x128x512) ![0, 0, 0] ![1, 128, 512] inb_S2x128x512_S1x128x512_0_0_0))⟩,
    ⟨Rect.unit (s := S2x256x1024) ![0, 16, 0] ![1, 128, 512] inb_S2x256x1024_S1x128x512_0_16_0, k0_pay8 (View.ld W.q (Rect.unit (s := S2x128x512) ![0, 0, 0] ![1, 128, 512] inb_S2x128x512_S1x128x512_0_0_0))⟩] : List (View.Piece (Elt Ideal) S2x256x1024 .bf16))
/-- The rows stored so far, before the second batch element is read. -/
def LB1 : List (View.Piece (Elt Ideal) S2x256x1024 .bf16) := ([⟨Rect.unit (s := S2x256x1024) ![1, 16, 512] ![1, 128, 512] inb_S2x256x1024_S1x128x512_1_16_512, k0_pay97 (View.ld W.k (Rect.unit (s := S2x128x512) ![1, 0, 0] ![1, 128, 512] inb_S2x128x512_S1x128x512_1_0_0))⟩,
    ⟨Rect.unit (s := S2x256x1024) ![1, 16, 0] ![1, 128, 512] inb_S2x256x1024_S1x128x512_1_16_0, k0_pay96 (View.ld W.q (Rect.unit (s := S2x128x512) ![1, 0, 0] ![1, 128, 512] inb_S2x128x512_S1x128x512_1_0_0))⟩,
    ⟨Rect.unit (s := S2x256x1024) ![0, 0, 0] ![1, 16, 1024] inb_S2x256x1024_S1x16x1024_0_0_0, k0_pay16 ((View.whole cc0_scratch0).readCov ([⟨Rect.unit (s := S2x256x1024) ![0, 16, 512] ![1, 128, 512] inb_S2x256x1024_S1x128x512_0_16_512, k0_pay9 (View.ld W.k (Rect.unit (s := S2x128x512) ![0, 0, 0] ![1, 128, 512] inb_S2x128x512_S1x128x512_0_0_0))⟩,
    ⟨Rect.unit (s := S2x256x1024) ![0, 16, 0] ![1, 128, 512] inb_S2x256x1024_S1x128x512_0_16_0, k0_pay8 (View.ld W.q (Rect.unit (s := S2x128x512) ![0, 0, 0] ![1, 128, 512] inb_S2x128x512_S1x128x512_0_0_0))⟩] : List (View.Piece (Elt Ideal) S2x256x1024 .bf16)) (Rect.unit (s := S2x256x1024) ![0, 128, 0] ![1, 16, 1024] inb_S2x256x1024_S1x16x1024_0_128_0).toLoadRect)⟩,
    ⟨Rect.unit (s := S2x256x1024) ![0, 16, 512] ![1, 128, 512] inb_S2x256x1024_S1x128x512_0_16_512, k0_pay9 (View.ld W.k (Rect.unit (s := S2x128x512) ![0, 0, 0] ![1, 128, 512] inb_S2x128x512_S1x128x512_0_0_0))⟩,
    ⟨Rect.unit (s := S2x256x1024) ![0, 16, 0] ![1, 128, 512] inb_S2x256x1024_S1x128x512_0_16_0, k0_pay8 (View.ld W.q (Rect.unit (s := S2x128x512) ![0, 0, 0] ![1, 128, 512] inb_S2x128x512_S1x128x512_0_0_0))⟩] : List (View.Piece (Elt Ideal) S2x256x1024 .bf16))
/-- All rows stored. -/
def LB2 : List (View.Piece (Elt Ideal) S2x256x1024 .bf16) := ([⟨Rect.unit (s := S2x256x1024) ![1, 0, 0] ![1, 16, 1024] inb_S2x256x1024_S1x16x1024_1_0_0, k0_pay104 ((View.whole cc0_scratch0).readCov ([⟨Rect.unit (s := S2x256x1024) ![1, 16, 512] ![1, 128, 512] inb_S2x256x1024_S1x128x512_1_16_512, k0_pay97 (View.ld W.k (Rect.unit (s := S2x128x512) ![1, 0, 0] ![1, 128, 512] inb_S2x128x512_S1x128x512_1_0_0))⟩,
    ⟨Rect.unit (s := S2x256x1024) ![1, 16, 0] ![1, 128, 512] inb_S2x256x1024_S1x128x512_1_16_0, k0_pay96 (View.ld W.q (Rect.unit (s := S2x128x512) ![1, 0, 0] ![1, 128, 512] inb_S2x128x512_S1x128x512_1_0_0))⟩,
    ⟨Rect.unit (s := S2x256x1024) ![0, 0, 0] ![1, 16, 1024] inb_S2x256x1024_S1x16x1024_0_0_0, k0_pay16 ((View.whole cc0_scratch0).readCov ([⟨Rect.unit (s := S2x256x1024) ![0, 16, 512] ![1, 128, 512] inb_S2x256x1024_S1x128x512_0_16_512, k0_pay9 (View.ld W.k (Rect.unit (s := S2x128x512) ![0, 0, 0] ![1, 128, 512] inb_S2x128x512_S1x128x512_0_0_0))⟩,
    ⟨Rect.unit (s := S2x256x1024) ![0, 16, 0] ![1, 128, 512] inb_S2x256x1024_S1x128x512_0_16_0, k0_pay8 (View.ld W.q (Rect.unit (s := S2x128x512) ![0, 0, 0] ![1, 128, 512] inb_S2x128x512_S1x128x512_0_0_0))⟩] : List (View.Piece (Elt Ideal) S2x256x1024 .bf16)) (Rect.unit (s := S2x256x1024) ![0, 128, 0] ![1, 16, 1024] inb_S2x256x1024_S1x16x1024_0_128_0).toLoadRect)⟩,
    ⟨Rect.unit (s := S2x256x1024) ![0, 16, 512] ![1, 128, 512] inb_S2x256x1024_S1x128x512_0_16_512, k0_pay9 (View.ld W.k (Rect.unit (s := S2x128x512) ![0, 0, 0] ![1, 128, 512] inb_S2x128x512_S1x128x512_0_0_0))⟩,
    ⟨Rect.unit (s := S2x256x1024) ![0, 16, 0] ![1, 128, 512] inb_S2x256x1024_S1x128x512_0_16_0, k0_pay8 (View.ld W.q (Rect.unit (s := S2x128x512) ![0, 0, 0] ![1, 128, 512] inb_S2x128x512_S1x128x512_0_0_0))⟩] : List (View.Piece (Elt Ideal) S2x256x1024 .bf16)) (Rect.unit (s := S2x256x1024) ![1, 128, 0] ![1, 16, 1024] inb_S2x256x1024_S1x16x1024_1_128_0).toLoadRect)⟩,
    ⟨Rect.unit (s := S2x256x1024) ![1, 16, 512] ![1, 128, 512] inb_S2x256x1024_S1x128x512_1_16_512, k0_pay97 (View.ld W.k (Rect.unit (s := S2x128x512) ![1, 0, 0] ![1, 128, 512] inb_S2x128x512_S1x128x512_1_0_0))⟩,
    ⟨Rect.unit (s := S2x256x1024) ![1, 16, 0] ![1, 128, 512] inb_S2x256x1024_S1x128x512_1_16_0, k0_pay96 (View.ld W.q (Rect.unit (s := S2x128x512) ![1, 0, 0] ![1, 128, 512] inb_S2x128x512_S1x128x512_1_0_0))⟩,
    ⟨Rect.unit (s := S2x256x1024) ![0, 0, 0] ![1, 16, 1024] inb_S2x256x1024_S1x16x1024_0_0_0, k0_pay16 ((View.whole cc0_scratch0).readCov ([⟨Rect.unit (s := S2x256x1024) ![0, 16, 512] ![1, 128, 512] inb_S2x256x1024_S1x128x512_0_16_512, k0_pay9 (View.ld W.k (Rect.unit (s := S2x128x512) ![0, 0, 0] ![1, 128, 512] inb_S2x128x512_S1x128x512_0_0_0))⟩,
    ⟨Rect.unit (s := S2x256x1024) ![0, 16, 0] ![1, 128, 512] inb_S2x256x1024_S1x128x512_0_16_0, k0_pay8 (View.ld W.q (Rect.unit (s := S2x128x512) ![0, 0, 0] ![1, 128, 512] inb_S2x128x512_S1x128x512_0_0_0))⟩] : List (View.Piece (Elt Ideal) S2x256x1024 .bf16)) (Rect.unit (s := S2x256x1024) ![0, 128, 0] ![1, 16, 1024] inb_S2x256x1024_S1x16x1024_0_128_0).toLoadRect)⟩,
    ⟨Rect.unit (s := S2x256x1024) ![0, 16, 512] ![1, 128, 512] inb_S2x256x1024_S1x128x512_0_16_512, k0_pay9 (View.ld W.k (Rect.unit (s := S2x128x512) ![0, 0, 0] ![1, 128, 512] inb_S2x128x512_S1x128x512_0_0_0))⟩,
    ⟨Rect.unit (s := S2x256x1024) ![0, 16, 0] ![1, 128, 512] inb_S2x256x1024_S1x128x512_0_16_0, k0_pay8 (View.ld W.q (Rect.unit (s := S2x128x512) ![0, 0, 0] ![1, 128, 512] inb_S2x128x512_S1x128x512_0_0_0))⟩] : List (View.Piece (Elt Ideal) S2x256x1024 .bf16))
def xB0 (X : Vec Ideal S2x256x1024 .bf16) : Vec Ideal S1x256x1024 .bf16 :=
  View.ld (View.read (Elt Ideal) (View.whole cc0_scratch0) ((View.whole cc0_scratch0).writes (Elt Ideal) ((Memref.isWhole_whole cc0_scratch0).unread X) W.LB0)) (Rect.unit (s := S2x256x1024) ![0, 0, 0] ![1, 256, 1024] inb_S2x256x1024_S1x256x1024_0_0_0)
def xB1 (X : Vec Ideal S2x256x1024 .bf16) : Vec Ideal S1x256x1024 .bf16 :=
  View.ld (View.read (Elt Ideal) (View.whole cc0_scratch0) ((View.whole cc0_scratch0).writes (Elt Ideal) ((Memref.isWhole_whole cc0_scratch0).unread X) W.LB1)) (Rect.unit (s := S2x256x1024) ![1, 0, 0] ![1, 256, 1024] inb_S2x256x1024_S1x256x1024_1_0_0)
def XA : Vec Ideal S2x256x1024 .bf16 := View.canon W.LA2
def XB (X : Vec Ideal S2x256x1024 .bf16) : Vec Ideal S2x256x1024 .bf16 :=
  View.read (Elt Ideal) (View.whole cc0_scratch0) ((View.whole cc0_scratch0).writes (Elt Ideal) ((Memref.isWhole_whole cc0_scratch0).unread X) W.LB2)
end Wn

theorem cons_congr {s : Shape} {e : EltTy} {r : Rect s} {w w' : r.shape.Idx → Elt Ideal e} {L L' : List (View.Piece (Elt Ideal) s e)}
    (hw : w = w') (hL : L = L') : ((⟨r, w⟩ : View.Piece (Elt Ideal) s e) :: L) = ⟨r, w'⟩ :: L' := by
  rw [hw, hL]

theorem canon_congr {s : Shape} {e : EltTy} {L L' : List (View.Piece (Elt Ideal) s e)} (h : L = L') : View.canon L = View.canon L' := by
  rw [h]

/-- The input blocks of point `t` of a run. -/
def wn (m : (ℓ : Loc nD τ sig) → Buf (Elt Ideal) ℓ) (c : Dev nD) (t : Fin cfg0.N) : Wn :=
  ⟨iblk m c 0 t, iblk m c 1 t, iblk m c 2 t, iblk m c 3 t, iblk m c 4 t, iblk m c 5 t, iblk m c 6 t, iblk m c 7 t, iblk m c 8 t, iblk m c 9 t⟩
/-- What the point before left in the carried states. -/
def crB (m : (ℓ : Loc nD τ sig) → Buf (Elt Ideal) ℓ) (c : Dev nD) (n : ℕ) (hn : n < cfg0.N) : Cr :=
  ⟨(outsAt0 m c n hn).2.2.1, (outsAt0 m c n hn).2.2.2.1, (outsAt0 m c n hn).2.2.2.2⟩
/-- What a whole store of the first point's states writes. -/
def tC : List (View.Piece (Elt Ideal) S8x128x128 .f32) := [⟨Rect.unit (s := S8x128x128) ![0, 0, 0] ![8, 128, 128] inb_S8x128x128_S8x128x128_0_0_0, k0_pay3 (F := Ideal)⟩]
def tN : List (View.Piece (Elt Ideal) S8x1x128 .f32) := [⟨Rect.unit (s := S8x1x128) ![0, 0, 0] ![8, 1, 128] inb_S8x1x128_S8x1x128_0_0_0, k0_pay4 (F := Ideal)⟩]
def tM : List (View.Piece (Elt Ideal) S8x1x1 .f32) := [⟨Rect.unit (s := S8x1x1) ![0, 0, 0] ![8, 1, 1] inb_S8x1x1_S8x1x1_0_0_0, k0_pay5 (F := Ideal)⟩]
/-- The carried states the first point starts from. -/
def crA : Cr := ⟨k0_pay3 (F := Ideal), k0_pay4 (F := Ideal), k0_pay5 (F := Ideal)⟩

end Cert.Proof.K
-- ==== Proof.KFold.lean ====
module
public import proofs.«01_k».proof.Proof.KStep

/-!
# Naming what the heads share

The convolution, the gates and their running sums are spelt out once for each batch element; here each spelling is
given its name.
-/

@[expose] public section
set_option maxRecDepth 16384
noncomputable section
namespace Cert.Proof.K
open Idealize.ShloMosaic Cert.KernelIdeal Cert.KernelIdeal.Gen

/-- The convolution over its four rows of weights one by one. -/
def qk4 (x : Vec Ideal S1x256x1024 .bf16) (a b c d z : Vec Ideal S1x1024 .f32) : FVec Ideal S128x1024 .f32 :=
  k0_pay15 (k0_pay10 x)
    (k0_pay13 (iota Kind.tc S128x256 32 [0] iota_S128x256_d0_w32) (iota Kind.tc S128x256 32 [1] iota_S128x256_d1_w32) (k0_pay10 x) (k0_pay11 z)
      (k0_pay12 x a) b c)
    (k0_pay14 (iota Kind.tc S128x256 32 [0] iota_S128x256_d0_w32) (iota Kind.tc S128x256 32 [1] iota_S128x256_d1_w32)) d

theorem fold_g0 (s : ((Rect.unit (s := S2x128x128) ![0, 0, 0] ![1, 128, 128] inb_S2x128x128_S1x128x128_0_0_0).shape.Idx → Elt Ideal .f32)) (f : Vec Ideal S1x128 .f32) : k0_pay17 k0_pay7 s f = gates s f := rfl
theorem fold_b0 (s : ((Rect.unit (s := S2x128x128) ![0, 0, 0] ![1, 128, 128] inb_S2x128x128_S1x128x128_0_0_0).shape.Idx → Elt Ideal .f32)) (f : Vec Ideal S1x128 .f32) :
    k0_pay20 (gates s f) (k0_pay18 k0_pay6) (k0_pay19 k0_pay7 s f) = bsum s f := rfl
theorem fold_g1 (s : ((Rect.unit (s := S2x128x128) ![1, 0, 0] ![1, 128, 128] inb_S2x128x128_S1x128x128_1_0_0).shape.Idx → Elt Ideal .f32)) (f : Vec Ideal S1x128 .f32) : k0_pay105 k0_pay7 s f = gates s f := rfl
theorem fold_b1 (s : ((Rect.unit (s := S2x128x128) ![1, 0, 0] ![1, 128, 128] inb_S2x128x128_S1x128x128_1_0_0).shape.Idx → Elt Ideal .f32)) (f : Vec Ideal S1x128 .f32) :
    k0_pay108 (gates s f) (k0_pay106 k0_pay6) (k0_pay107 k0_pay7 s f) = bsum s f := rfl
theorem fold_q0B (x : ((Rect.unit (s := S2x256x1024) ![0, 0, 0] ![1, 256, 1024] inb_S2x256x1024_S1x256x1024_0_0_0).shape.Idx → Elt Ideal .bf16)) (a : ((Rect.unit (s := S4x1024) ![3, 0] ![1, 1024] inb_S4x1024_S1x1024_3_0).shape.Idx → Elt Ideal .f32)) (b : ((Rect.unit (s := S4x1024) ![2, 0] ![1, 1024] inb_S4x1024_S1x1024_2_0).shape.Idx → Elt Ideal .f32)) (c : ((Rect.unit (s := S4x1024) ![1, 0] ![1, 1024] inb_S4x1024_S1x1024_1_0).shape.Idx → Elt Ideal .f32)) (d : ((Rect.unit (s := S4x1024) ![0, 0] ![1, 1024] inb_S4x1024_S1x1024_0_0).shape.Idx → Elt Ideal .f32)) (z : Vec Ideal S1x1024 .f32) :
    k0_pay15 (k0_pay10 x)
    (k0_pay13 (iota Kind.tc S128x256 32 [0] iota_S128x256_d0_w32) (iota Kind.tc S128x256 32 [1] iota_S128x256_d1_w32) (k0_pay10 x) (k0_pay11 z)
      (k0_pay12 x a) b c)
    (k0_pay14 (iota Kind.tc S128x256 32 [0] iota_S128x256_d0_w32) (iota Kind.tc S128x256 32 [1] iota_S128x256_d1_w32))
    d = qk4 x a b c d z := rfl
theorem fold_q0A (x : ((Rect.unit (s := S2x256x1024) ![0, 0, 0] ![1, 256, 1024] inb_S2x256x1024_S1x256x1024_0_0_0).toLoadRect.shape.Idx → Elt Ideal .bf16)) (a : ((Rect.unit (s := S4x1024) ![3, 0] ![1, 1024] inb_S4x1024_S1x1024_3_0).shape.Idx → Elt Ideal .f32)) (b : ((Rect.unit (s := S4x1024) ![2, 0] ![1, 1024] inb_S4x1024_S1x1024_2_0).shape.Idx → Elt Ideal .f32)) (c : ((Rect.unit (s := S4x1024) ![1, 0] ![1, 1024] inb_S4x1024_S1x1024_1_0).shape.Idx → Elt Ideal .f32)) (d : ((Rect.unit (s := S4x1024) ![0, 0] ![1, 1024] inb_S4x1024_S1x1024_0_0).shape.Idx → Elt Ideal .f32)) (z : Vec Ideal S1x1024 .f32) :
    k0_pay15 (k0_pay10 x)
    (k0_pay13 (iota Kind.tc S128x256 32 [0] iota_S128x256_d0_w32) (iota Kind.tc S128x256 32 [1] iota_S128x256_d1_w32) (k0_pay10 x) (k0_pay11 z)
      (k0_pay12 x a) b c)
    (k0_pay14 (iota Kind.tc S128x256 32 [0] iota_S128x256_d0_w32) (iota Kind.tc S128x256 32 [1] iota_S128x256_d1_w32))
    d = qk4 x a b c d z := rfl
theorem fold_q1B (x : ((Rect.unit (s := S2x256x1024) ![1, 0, 0] ![1, 256, 1024] inb_S2x256x1024_S1x256x1024_1_0_0).shape.Idx → Elt Ideal .bf16)) (a : ((Rect.unit (s := S4x1024) ![3, 0] ![1, 1024] inb_S4x1024_S1x1024_3_0).shape.Idx → Elt Ideal .f32)) (b : ((Rect.unit (s := S4x1024) ![2, 0] ![1, 1024] inb_S4x1024_S1x1024_2_0).shape.Idx → Elt Ideal .f32)) (c : ((Rect.unit (s := S4x1024) ![1, 0] ![1, 1024] inb_S4x1024_S1x1024_1_0).shape.Idx → Elt Ideal .f32)) (d : ((Rect.unit (s := S4x1024) ![0, 0] ![1, 1024] inb_S4x1024_S1x1024_0_0).shape.Idx → Elt Ideal .f32)) (z : Vec Ideal S1x1024 .f32) :
    k0_pay103 (k0_pay98 x)
    (k0_pay101 (iota Kind.tc S128x256 32 [0] iota_S128x256_d0_w32) (iota Kind.tc S128x256 32 [1] iota_S128x256_d1_w32) (k0_pay98 x) (k0_pay99 z)
      (k0_pay100 x a) b c)
    (k0_pay102 (iota Kind.tc S128x256 32 [0] iota_S128x256_d0_w32) (iota Kind.tc S128x256 32 [1] iota_S128x256_d1_w32))
    d = qk4 x a b c d z := rfl
theorem fold_q1A (x : ((Rect.unit (s := S2x256x1024) ![1, 0, 0] ![1, 256, 1024] inb_S2x256x1024_S1x256x1024_1_0_0).toLoadRect.shape.Idx → Elt Ideal .bf16)) (a : ((Rect.unit (s := S4x1024) ![3, 0] ![1, 1024] inb_S4x1024_S1x1024_3_0).shape.Idx → Elt Ideal .f32)) (b : ((Rect.unit (s := S4x1024) ![2, 0] ![1, 1024] inb_S4x1024_S1x1024_2_0).shape.Idx → Elt Ideal .f32)) (c : ((Rect.unit (s := S4x1024) ![1, 0] ![1, 1024] inb_S4x1024_S1x1024_1_0).shape.Idx → Elt Ideal .f32)) (d : ((Rect.unit (s := S4x1024) ![0, 0] ![1, 1024] inb_S4x1024_S1x1024_0_0).shape.Idx → Elt Ideal .f32)) (z : Vec Ideal S1x1024 .f32) :
    k0_pay103 (k0_pay98 x)
    (k0_pay101 (iota Kind.tc S128x256 32 [0] iota_S128x256_d0_w32) (iota Kind.tc S128x256 32 [1] iota_S128x256_d1_w32) (k0_pay98 x) (k0_pay99 z)
      (k0_pay100 x a) b c)
    (k0_pay102 (iota Kind.tc S128x256 32 [0] iota_S128x256_d0_w32) (iota Kind.tc S128x256 32 [1] iota_S128x256_d1_w32))
    d = qk4 x a b c d z := rfl

/-- An output index outside the newest stored piece. -/
theorem cmiss (o0 o2 : ℕ) (inb : ∀ a, (![o0, 0, o2] : Fin 3 → ℕ) a + (![1, 128, 128] : Fin 3 → ℕ) a ≤ S2x128x512.size a)
    (w : Shape.Idx ⟨3, ![1, 128, 128]⟩ → EReal) (L : List (View.Piece (Elt Ideal) S2x128x512 .bf16))
    (b : Fin 2) (r : Fin 128) (c : Fin 512) (h : (b.val < o0 ∨ o0 + 1 ≤ b.val) ∨ (c.val < o2 ∨ o2 + 128 ≤ c.val)) :
    View.canon ((⟨Rect.unit (s := S2x128x512) ![o0, 0, o2] ![1, 128, 128] inb, w⟩ : View.Piece (Elt Ideal) S2x128x512 .bf16) :: L) (ix3 b r c)
      = View.canon L (ix3 b r c) := by
  refine View.canon_cons_of_not_mem _ _ ?_
  rw [Rect.mem_set_unit]
  intro hall
  have e0 : o0 ≤ b.val ∧ b.val < o0 + 1 := hall (0 : Fin 3)
  have e2 : o2 ≤ c.val ∧ c.val < o2 + 128 := hall (2 : Fin 3)
  omega

/-- An output index inside the newest stored piece. -/
theorem chit (o0 o2 : ℕ) (inb : ∀ a, (![o0, 0, o2] : Fin 3 → ℕ) a + (![1, 128, 128] : Fin 3 → ℕ) a ≤ S2x128x512.size a)
    (w : Shape.Idx ⟨3, ![1, 128, 128]⟩ → EReal) (L : List (View.Piece (Elt Ideal) S2x128x512 .bf16))
    (b : Fin 2) (r : Fin 128) (c : Fin 512) (i j : Fin 128) (hb : b.val = o0) (hc : c.val = o2 + j.val) (hr : r = i := by rfl) :
    View.canon ((⟨Rect.unit (s := S2x128x512) ![o0, 0, o2] ![1, 128, 128] inb, w⟩ : View.Piece (Elt Ideal) S2x128x512 .bf16) :: L) (ix3 b r c)
      = w (ix3 (0 : Fin 1) i j) := by
  have e : (Rect.unit (s := S2x128x512) ![o0, 0, o2] ![1, 128, 128] inb).emb (ix3 (0 : Fin 1) i j) = ix3 b r c := by
    subst hr
    funext a
    match a with
    | ⟨0, _⟩ => exact Fin.ext (show o0 + 1 * 0 = b.val by omega)
    | ⟨1, _⟩ => exact Fin.ext (show 0 + 1 * r.val = r.val by omega)
    | ⟨2, _⟩ => exact Fin.ext (show o2 + 1 * j.val = c.val by omega)
  rw [← e]
  exact View.canon_cons_emb (s := S2x128x512) (Rect.unit (s := S2x128x512) ![o0, 0, o2] ![1, 128, 128] inb) w L (ix3 (0 : Fin 1) i j)

end Cert.Proof.K
-- ==== Proof.KRows.lean ====
module
public import proofs.«01_k».proof.Proof.KStep
public import Idealize.ShloMosaic.Lib.Pipeline.ReadBack
public import Idealize.ShloMosaic.Lib.WritesUnit
public import Idealize.ShloMosaic.Lib.Pointwise

/-!
# The rows kept for the convolution

Rows 16 to 143 of the row buffer hold the chunk's queries and keys, rows 0 to 15 the last sixteen of the chunk before.
-/

@[expose] public section
set_option maxRecDepth 16384
noncomputable section
namespace Cert.Proof.K
open Idealize.ShloMosaic Cert.KernelIdeal Cert.KernelIdeal.Gen

/-- The row buffer after some stores. -/
def rd (f : (View.whole cc0_scratch0).ty.Contents (Elt Ideal)) (L : List (View.Piece (Elt Ideal) S2x256x1024 .bf16)) (y : S2x256x1024.Idx) : EReal :=
  View.read (Elt Ideal) (View.whole cc0_scratch0) ((View.whole cc0_scratch0).writes (Elt Ideal) f L) y

theorem rd_hit (f : (View.whole cc0_scratch0).ty.Contents (Elt Ideal)) {o0 o1 o2 s0 s1 s2 : ℕ}
    (inb : ∀ a, (![o0, o1, o2] : Fin 3 → ℕ) a + (![s0, s1, s2] : Fin 3 → ℕ) a ≤ S2x256x1024.size a)
    (w : Shape.Idx ⟨3, ![s0, s1, s2]⟩ → EReal) (L : List (View.Piece (Elt Ideal) S2x256x1024 .bf16))
    (b : Fin 2) (r : Fin 256) (c : Fin 1024) (i : Fin s0) (j : Fin s1) (k : Fin s2)
    (h0 : b.val = o0 + i.val) (h1 : r.val = o1 + j.val) (h2 : c.val = o2 + k.val) :
    rd f ((⟨Rect.unit (s := S2x256x1024) ![o0, o1, o2] ![s0, s1, s2] inb, w⟩ : View.Piece (Elt Ideal) S2x256x1024 .bf16) :: L) (ix3 b r c)
      = w (ix3 i j k) :=
  View.read_writes_cons_unit_of_mem (s := S2x256x1024) _ f inb w L (ix3 b r c) (ix3 i j k) rfl (by
    intro a
    match a with
    | ⟨0, _⟩ => exact h0
    | ⟨1, _⟩ => exact h1
    | ⟨2, _⟩ => exact h2)

theorem rd_miss (f : (View.whole cc0_scratch0).ty.Contents (Elt Ideal)) {o0 o1 o2 s0 s1 s2 : ℕ}
    (inb : ∀ a, (![o0, o1, o2] : Fin 3 → ℕ) a + (![s0, s1, s2] : Fin 3 → ℕ) a ≤ S2x256x1024.size a)
    (w : Shape.Idx ⟨3, ![s0, s1, s2]⟩ → EReal) (L : List (View.Piece (Elt Ideal) S2x256x1024 .bf16))
    (b : Fin 2) (r : Fin 256) (c : Fin 1024)
    (h : (b.val < o0 ∨ o0 + s0 ≤ b.val) ∨ (r.val < o1 ∨ o1 + s1 ≤ r.val) ∨ (c.val < o2 ∨ o2 + s2 ≤ c.val)) :
    rd f ((⟨Rect.unit (s := S2x256x1024) ![o0, o1, o2] ![s0, s1, s2] inb, w⟩ : View.Piece (Elt Ideal) S2x256x1024 .bf16) :: L) (ix3 b r c)
      = rd f L (ix3 b r c) := by
  rcases h with h | h | h
  · exact View.read_writes_cons_unit_of_not_mem (s := S2x256x1024) _ f inb w L (ix3 b r c) rfl (0 : Fin 3) h
  · exact View.read_writes_cons_unit_of_not_mem (s := S2x256x1024) _ f inb w L (ix3 b r c) rfl (1 : Fin 3) h
  · exact View.read_writes_cons_unit_of_not_mem (s := S2x256x1024) _ f inb w L (ix3 b r c) rfl (2 : Fin 3) h

theorem k0_pay2_apply (i : S2x256x1024.Idx) : k0_pay2 (F := Ideal) i = 0 := by
  unfold k0_pay2
  show Ideal.ofBits .bf16 0x0000#16 = 0
  simp [Ideal.ofBits, Ideal.ieee]

namespace Wn
variable (W : Wn)

/-- Queries and keys of the chunk side by side. -/
def cell (b : Fin 2) (r : Fin 128) (ch : Fin 1024) : EReal :=
  if h : ch.val < 512 then W.q (ix3 b r (⟨ch.val, h⟩ : Fin 512)) else W.k (ix3 b r (⟨ch.val - 512, by omega⟩ : Fin 512))

theorem src_k0 (r : Fin 128) (c : Fin 512) : k0_pay9 (View.ld W.k (Rect.unit (s := S2x128x512) ![0, 0, 0] ![1, 128, 512] inb_S2x128x512_S1x128x512_0_0_0)) (ix3 (0 : Fin 1) r c) = W.k (ix3 (0 : Fin 2) r c) := by
  pointwise [k0_pay9]
theorem src_q0 (r : Fin 128) (c : Fin 512) : k0_pay8 (View.ld W.q (Rect.unit (s := S2x128x512) ![0, 0, 0] ![1, 128, 512] inb_S2x128x512_S1x128x512_0_0_0)) (ix3 (0 : Fin 1) r c) = W.q (ix3 (0 : Fin 2) r c) := by
  pointwise [k0_pay8]

theorem rows0 (f : (View.whole cc0_scratch0).ty.Contents (Elt Ideal)) (T : List (View.Piece (Elt Ideal) S2x256x1024 .bf16)) (r : Fin 256) (hr : 16 ≤ r.val ∧ r.val < 144) (ch : Fin 1024) :
    rd f ((⟨Rect.unit (s := S2x256x1024) ![0, 16, 512] ![1, 128, 512] inb_S2x256x1024_S1x128x512_0_16_512, k0_pay9 (View.ld W.k (Rect.unit (s := S2x128x512) ![0, 0, 0] ![1, 128, 512] inb_S2x128x512_S1x128x512_0_0_0))⟩ : View.Piece (Elt Ideal) S2x256x1024 .bf16) :: (⟨Rect.unit (s := S2x256x1024) ![0, 16, 0] ![1, 128, 512] inb_S2x256x1024_S1x128x512_0_16_0, k0_pay8 (View.ld W.q (Rect.unit (s := S2x128x512) ![0, 0, 0] ![1, 128, 512] inb_S2x128x512_S1x128x512_0_0_0))⟩ : View.Piece (Elt Ideal) S2x256x1024 .bf16) :: T) (ix3 (0 : Fin 2) r ch)
      = W.cell 0 ⟨r.val - 16, by omega⟩ ch := by
  unfold cell
  by_cases h : ch.val < 512
  · rw [dif_pos h, rd_miss _ _ _ _ _ _ _ (by omega),
      rd_hit _ _ _ _ _ _ _ (0 : Fin 1) (⟨r.val - 16, by omega⟩ : Fin 128) (⟨ch.val, h⟩ : Fin 512) (by norm_num) (by simp only []; omega) (by simp only []; omega)]
    exact W.src_q0 _ _
  · rw [dif_neg h, rd_hit _ _ _ _ _ _ _ (0 : Fin 1) (⟨r.val - 16, by omega⟩ : Fin 128) (⟨ch.val - 512, by omega⟩ : Fin 512) (by norm_num) (by simp only []; omega) (by simp only []; omega)]
    exact W.src_k0 _ _

theorem rows0_low (f : (View.whole cc0_scratch0).ty.Contents (Elt Ideal)) (T : List (View.Piece (Elt Ideal) S2x256x1024 .bf16)) (b : Fin 2) (r : Fin 256) (hr : r.val < 16) (ch : Fin 1024) :
    rd f ((⟨Rect.unit (s := S2x256x1024) ![0, 16, 512] ![1, 128, 512] inb_S2x256x1024_S1x128x512_0_16_512, k0_pay9 (View.ld W.k (Rect.unit (s := S2x128x512) ![0, 0, 0] ![1, 128, 512] inb_S2x128x512_S1x128x512_0_0_0))⟩ : View.Piece (Elt Ideal) S2x256x1024 .bf16) :: (⟨Rect.unit (s := S2x256x1024) ![0, 16, 0] ![1, 128, 512] inb_S2x256x1024_S1x128x512_0_16_0, k0_pay8 (View.ld W.q (Rect.unit (s := S2x128x512) ![0, 0, 0] ![1, 128, 512] inb_S2x128x512_S1x128x512_0_0_0))⟩ : View.Piece (Elt Ideal) S2x256x1024 .bf16) :: T) (ix3 b r ch)
      = rd f T (ix3 b r ch) := by
  rw [rd_miss _ _ _ _ _ _ _ (by omega), rd_miss _ _ _ _ _ _ _ (by omega)]

theorem src_k1 (r : Fin 128) (c : Fin 512) : k0_pay97 (View.ld W.k (Rect.unit (s := S2x128x512) ![1, 0, 0] ![1, 128, 512] inb_S2x128x512_S1x128x512_1_0_0)) (ix3 (0 : Fin 1) r c) = W.k (ix3 (1 : Fin 2) r c) := by
  pointwise [k0_pay97]
theorem src_q1 (r : Fin 128) (c : Fin 512) : k0_pay96 (View.ld W.q (Rect.unit (s := S2x128x512) ![1, 0, 0] ![1, 128, 512] inb_S2x128x512_S1x128x512_1_0_0)) (ix3 (0 : Fin 1) r c) = W.q (ix3 (1 : Fin 2) r c) := by
  pointwise [k0_pay96]

theorem rows1 (f : (View.whole cc0_scratch0).ty.Contents (Elt Ideal)) (T : List (View.Piece (Elt Ideal) S2x256x1024 .bf16)) (r : Fin 256) (hr : 16 ≤ r.val ∧ r.val < 144) (ch : Fin 1024) :
    rd f ((⟨Rect.unit (s := S2x256x1024) ![1, 16, 512] ![1, 128, 512] inb_S2x256x1024_S1x128x512_1_16_512, k0_pay97 (View.ld W.k (Rect.unit (s := S2x128x512) ![1, 0, 0] ![1, 128, 512] inb_S2x128x512_S1x128x512_1_0_0))⟩ : View.Piece (Elt Ideal) S2x256x1024 .bf16) :: (⟨Rect.unit (s := S2x256x1024) ![1, 16, 0] ![1, 128, 512] inb_S2x256x1024_S1x128x512_1_16_0, k0_pay96 (View.ld W.q (Rect.unit (s := S2x128x512) ![1, 0, 0] ![1, 128, 512] inb_S2x128x512_S1x128x512_1_0_0))⟩ : View.Piece (Elt Ideal) S2x256x1024 .bf16) :: T) (ix3 (1 : Fin 2) r ch)
      = W.cell 1 ⟨r.val - 16, by omega⟩ ch := by
  unfold cell
  by_cases h : ch.val < 512
  · rw [dif_pos h, rd_miss _ _ _ _ _ _ _ (by omega),
      rd_hit _ _ _ _ _ _ _ (0 : Fin 1) (⟨r.val - 16, by omega⟩ : Fin 128) (⟨ch.val, h⟩ : Fin 512) (by norm_num) (by simp only []; omega) (by simp only []; omega)]
    exact W.src_q1 _ _
  · rw [dif_neg h, rd_hit _ _ _ _ _ _ _ (0 : Fin 1) (⟨r.val - 16, by omega⟩ : Fin 128) (⟨ch.val - 512, by omega⟩ : Fin 512) (by norm_num) (by simp only []; omega) (by simp only []; omega)]
    exact W.src_k1 _ _

theorem rows1_low (f : (View.whole cc0_scratch0).ty.Contents (Elt Ideal)) (T : List (View.Piece (Elt Ideal) S2x256x1024 .bf16)) (b : Fin 2) (r : Fin 256) (hr : r.val < 16) (ch : Fin 1024) :
    rd f ((⟨Rect.unit (s := S2x256x1024) ![1, 16, 512] ![1, 128, 512] inb_S2x256x1024_S1x128x512_1_16_512, k0_pay97 (View.ld W.k (Rect.unit (s := S2x128x512) ![1, 0, 0] ![1, 128, 512] inb_S2x128x512_S1x128x512_1_0_0))⟩ : View.Piece (Elt Ideal) S2x256x1024 .bf16) :: (⟨Rect.unit (s := S2x256x1024) ![1, 16, 0] ![1, 128, 512] inb_S2x256x1024_S1x128x512_1_16_0, k0_pay96 (View.ld W.q (Rect.unit (s := S2x128x512) ![1, 0, 0] ![1, 128, 512] inb_S2x128x512_S1x128x512_1_0_0))⟩ : View.Piece (Elt Ideal) S2x256x1024 .bf16) :: T) (ix3 b r ch)
      = rd f T (ix3 b r ch) := by
  rw [rd_miss _ _ _ _ _ _ _ (by omega), rd_miss _ _ _ _ _ _ _ (by omega)]

theorem xA0_rd (r : Fin 256) (ch : Fin 1024) : W.xA0 (ix3 (0 : Fin 1) r ch) = rd (View.junk (View.whole cc0_scratch0)) W.LA0 (ix3 (0 : Fin 2) r ch) := by
  unfold xA0
  rw [View.readCov_eq_canon', ← View.read_writes_junk_eq_canon (View.whole cc0_scratch0)]
  refine congrArg (rd (View.junk (View.whole cc0_scratch0)) W.LA0) ?_
  funext a
  match a with
  | ⟨0, _⟩ => rfl
  | ⟨1, _⟩ => exact Fin.ext (show 0 + 1 * r.val = r.val by omega)
  | ⟨2, _⟩ => exact Fin.ext (show 0 + 1 * ch.val = ch.val by omega)

theorem xA0_hi (r : Fin 256) (hr : 16 ≤ r.val ∧ r.val < 144) (ch : Fin 1024) :
    W.xA0 (ix3 (0 : Fin 1) r ch) = W.cell 0 ⟨r.val - 16, by omega⟩ ch :=
  (W.xA0_rd r ch).trans (W.rows0 _ _ r hr ch)

theorem xA0_lo (r : Fin 256) (hr : r.val < 16) (ch : Fin 1024) :
    W.xA0 (ix3 (0 : Fin 1) r ch) = 0 := by
  refine (W.xA0_rd r ch).trans ((W.rows0_low _ _ _ r hr ch).trans ?_)
  rw [rd_hit _ _ _ _ _ _ _ (0 : Fin 2) r ch (by norm_num) (by omega) (by omega)]
  exact k0_pay2_apply _

theorem xA1_rd (r : Fin 256) (ch : Fin 1024) : W.xA1 (ix3 (0 : Fin 1) r ch) = rd (View.junk (View.whole cc0_scratch0)) W.LA1 (ix3 (1 : Fin 2) r ch) := by
  unfold xA1
  rw [View.readCov_eq_canon', ← View.read_writes_junk_eq_canon (View.whole cc0_scratch0)]
  refine congrArg (rd (View.junk (View.whole cc0_scratch0)) W.LA1) ?_
  funext a
  match a with
  | ⟨0, _⟩ => rfl
  | ⟨1, _⟩ => exact Fin.ext (show 0 + 1 * r.val = r.val by omega)
  | ⟨2, _⟩ => exact Fin.ext (show 0 + 1 * ch.val = ch.val by omega)

theorem xA1_hi (r : Fin 256) (hr : 16 ≤ r.val ∧ r.val < 144) (ch : Fin 1024) :
    W.xA1 (ix3 (0 : Fin 1) r ch) = W.cell 1 ⟨r.val - 16, by omega⟩ ch :=
  (W.xA1_rd r ch).trans (W.rows1 _ _ r hr ch)

theorem xA1_lo (r : Fin 256) (hr : r.val < 16) (ch : Fin 1024) :
    W.xA1 (ix3 (0 : Fin 1) r ch) = 0 := by
  refine (W.xA1_rd r ch).trans ((W.rows1_low _ _ _ r hr ch).trans ?_)
  rw [rd_miss _ _ _ _ _ _ _ (by norm_num), W.rows0_low _ _ _ _ hr, rd_hit _ _ _ _ _ _ _ (1 : Fin 2) r ch (by norm_num) (by omega) (by omega)]
  exact k0_pay2_apply _

theorem tlA0 (r : Fin 16) (ch : Fin 1024) :
    k0_pay16 ((View.whole cc0_scratch0).readCov W.LA0 (Rect.unit (s := S2x256x1024) ![0, 128, 0] ![1, 16, 1024] inb_S2x256x1024_S1x16x1024_0_128_0).toLoadRect) (ix3 (0 : Fin 1) r ch) = W.cell 0 ⟨112 + r.val, by omega⟩ ch := by
  generalize hv : (View.whole cc0_scratch0).readCov W.LA0 (Rect.unit (s := S2x256x1024) ![0, 128, 0] ![1, 16, 1024] inb_S2x256x1024_S1x16x1024_0_128_0).toLoadRect = v
  have e : k0_pay16 v (ix3 (0 : Fin 1) r ch) = v (ix3 (0 : Fin 1) r ch) := by pointwise [k0_pay16]
  rw [e, ← hv]
  have e2 : ((Rect.unit (s := S2x256x1024) ![0, 128, 0] ![1, 16, 1024] inb_S2x256x1024_S1x16x1024_0_128_0)).toLoadRect.idx (ix3 (0 : Fin 1) r ch) = ix3 (0 : Fin 2) (⟨128 + r.val, by omega⟩ : Fin 256) ch := by
    funext a
    match a with
    | ⟨0, _⟩ => rfl
    | ⟨1, _⟩ => exact Fin.ext (show 128 + 1 * r.val = 128 + r.val by omega)
    | ⟨2, _⟩ => exact Fin.ext (show 0 + 1 * ch.val = ch.val by omega)
  refine (congrArg (rd (View.junk (View.whole cc0_scratch0)) W.LA0) e2).trans ?_
  refine (W.rows0 _ _ _ (by simp only []; omega) ch).trans ?_
  congr 1
  exact Fin.ext (by simp only []; omega)

theorem tlA1 (r : Fin 16) (ch : Fin 1024) :
    k0_pay104 ((View.whole cc0_scratch0).readCov W.LA1 (Rect.unit (s := S2x256x1024) ![1, 128, 0] ![1, 16, 1024] inb_S2x256x1024_S1x16x1024_1_128_0).toLoadRect) (ix3 (0 : Fin 1) r ch) = W.cell 1 ⟨112 + r.val, by omega⟩ ch := by
  generalize hv : (View.whole cc0_scratch0).readCov W.LA1 (Rect.unit (s := S2x256x1024) ![1, 128, 0] ![1, 16, 1024] inb_S2x256x1024_S1x16x1024_1_128_0).toLoadRect = v
  have e : k0_pay104 v (ix3 (0 : Fin 1) r ch) = v (ix3 (0 : Fin 1) r ch) := by pointwise [k0_pay104]
  rw [e, ← hv]
  have e2 : ((Rect.unit (s := S2x256x1024) ![1, 128, 0] ![1, 16, 1024] inb_S2x256x1024_S1x16x1024_1_128_0)).toLoadRect.idx (ix3 (0 : Fin 1) r ch) = ix3 (1 : Fin 2) (⟨128 + r.val, by omega⟩ : Fin 256) ch := by
    funext a
    match a with
    | ⟨0, _⟩ => rfl
    | ⟨1, _⟩ => exact Fin.ext (show 128 + 1 * r.val = 128 + r.val by omega)
    | ⟨2, _⟩ => exact Fin.ext (show 0 + 1 * ch.val = ch.val by omega)
  refine (congrArg (rd (View.junk (View.whole cc0_scratch0)) W.LA1) e2).trans ?_
  refine (W.rows1 _ _ _ (by simp only []; omega) ch).trans ?_
  congr 1
  exact Fin.ext (by simp only []; omega)

theorem XA0_tail (r : Fin 16) (ch : Fin 1024) :
    W.XA (ix3 (0 : Fin 2) (⟨r.val, by omega⟩ : Fin 256) ch) = W.cell 0 ⟨112 + r.val, by omega⟩ ch := by
  have e : W.XA (ix3 (0 : Fin 2) (⟨r.val, by omega⟩ : Fin 256) ch) = rd (View.junk (View.whole cc0_scratch0)) W.LA2 (ix3 (0 : Fin 2) (⟨r.val, by omega⟩ : Fin 256) ch) := by
    exact congrFun (View.read_writes_junk_eq_canon (View.whole cc0_scratch0) W.LA2).symm _
  refine e.trans ?_
  unfold LA2
  rw [rd_miss _ _ _ _ _ _ _ (by norm_num), W.rows1_low _ _ _ _ (by simp only []; omega), rd_hit _ _ _ _ _ _ _ (0 : Fin 1) r ch (by norm_num) (by simp only []; omega) (by omega)]
  exact W.tlA0 r ch

theorem XA1_tail (r : Fin 16) (ch : Fin 1024) :
    W.XA (ix3 (1 : Fin 2) (⟨r.val, by omega⟩ : Fin 256) ch) = W.cell 1 ⟨112 + r.val, by omega⟩ ch := by
  have e : W.XA (ix3 (1 : Fin 2) (⟨r.val, by omega⟩ : Fin 256) ch) = rd (View.junk (View.whole cc0_scratch0)) W.LA2 (ix3 (1 : Fin 2) (⟨r.val, by omega⟩ : Fin 256) ch) := by
    exact congrFun (View.read_writes_junk_eq_canon (View.whole cc0_scratch0) W.LA2).symm _
  refine e.trans ?_
  unfold LA2
  rw [rd_hit _ _ _ _ _ _ _ (0 : Fin 1) r ch (by norm_num) (by simp only []; omega) (by omega)]
  exact W.tlA1 r ch

theorem xB0_rd (X : Vec Ideal S2x256x1024 .bf16) (r : Fin 256) (ch : Fin 1024) : (W.xB0 X) (ix3 (0 : Fin 1) r ch) = rd ((Memref.isWhole_whole cc0_scratch0).unread X) W.LB0 (ix3 (0 : Fin 2) r ch) := by
  refine congrArg (rd ((Memref.isWhole_whole cc0_scratch0).unread X) W.LB0) ?_
  funext a
  match a with
  | ⟨0, _⟩ => rfl
  | ⟨1, _⟩ => exact Fin.ext (show 0 + 1 * r.val = r.val by omega)
  | ⟨2, _⟩ => exact Fin.ext (show 0 + 1 * ch.val = ch.val by omega)

theorem xB0_hi (X : Vec Ideal S2x256x1024 .bf16) (r : Fin 256) (hr : 16 ≤ r.val ∧ r.val < 144) (ch : Fin 1024) :
    (W.xB0 X) (ix3 (0 : Fin 1) r ch) = W.cell 0 ⟨r.val - 16, by omega⟩ ch :=
  (W.xB0_rd X r ch).trans (W.rows0 _ _ r hr ch)

theorem xB0_lo (X : Vec Ideal S2x256x1024 .bf16) (r : Fin 256) (hr : r.val < 16) (ch : Fin 1024) :
    (W.xB0 X) (ix3 (0 : Fin 1) r ch) = X (ix3 (0 : Fin 2) r ch) := by
  refine (W.xB0_rd X r ch).trans ((W.rows0_low _ _ _ r hr ch).trans ?_)
  skip
  exact congrFun (read_unread_whole cc0_scratch0 (Memref.isWhole_whole cc0_scratch0) X) _

theorem xB1_rd (X : Vec Ideal S2x256x1024 .bf16) (r : Fin 256) (ch : Fin 1024) : (W.xB1 X) (ix3 (0 : Fin 1) r ch) = rd ((Memref.isWhole_whole cc0_scratch0).unread X) W.LB1 (ix3 (1 : Fin 2) r ch) := by
  refine congrArg (rd ((Memref.isWhole_whole cc0_scratch0).unread X) W.LB1) ?_
  funext a
  match a with
  | ⟨0, _⟩ => rfl
  | ⟨1, _⟩ => exact Fin.ext (show 0 + 1 * r.val = r.val by omega)
  | ⟨2, _⟩ => exact Fin.ext (show 0 + 1 * ch.val = ch.val by omega)

theorem xB1_hi (X : Vec Ideal S2x256x1024 .bf16) (r : Fin 256) (hr : 16 ≤ r.val ∧ r.val < 144) (ch : Fin 1024) :
    (W.xB1 X) (ix3 (0 : Fin 1) r ch) = W.cell 1 ⟨r.val - 16, by omega⟩ ch :=
  (W.xB1_rd X r ch).trans (W.rows1 _ _ r hr ch)

theorem xB1_lo (X : Vec Ideal S2x256x1024 .bf16) (r : Fin 256) (hr : r.val < 16) (ch : Fin 1024) :
    (W.xB1 X) (ix3 (0 : Fin 1) r ch) = X (ix3 (1 : Fin 2) r ch) := by
  refine (W.xB1_rd X r ch).trans ((W.rows1_low _ _ _ r hr ch).trans ?_)
  rw [rd_miss _ _ _ _ _ _ _ (by norm_num), W.rows0_low _ _ _ _ hr]
  exact congrFun (read_unread_whole cc0_scratch0 (Memref.isWhole_whole cc0_scratch0) X) _

theorem tlB0 (r : Fin 16) (ch : Fin 1024) :
    k0_pay16 ((View.whole cc0_scratch0).readCov W.LB0 (Rect.unit (s := S2x256x1024) ![0, 128, 0] ![1, 16, 1024] inb_S2x256x1024_S1x16x1024_0_128_0).toLoadRect) (ix3 (0 : Fin 1) r ch) = W.cell 0 ⟨112 + r.val, by omega⟩ ch := by
  generalize hv : (View.whole cc0_scratch0).readCov W.LB0 (Rect.unit (s := S2x256x1024) ![0, 128, 0] ![1, 16, 1024] inb_S2x256x1024_S1x16x1024_0_128_0).toLoadRect = v
  have e : k0_pay16 v (ix3 (0 : Fin 1) r ch) = v (ix3 (0 : Fin 1) r ch) := by pointwise [k0_pay16]
  rw [e, ← hv]
  have e2 : ((Rect.unit (s := S2x256x1024) ![0, 128, 0] ![1, 16, 1024] inb_S2x256x1024_S1x16x1024_0_128_0)).toLoadRect.idx (ix3 (0 : Fin 1) r ch) = ix3 (0 : Fin 2) (⟨128 + r.val, by omega⟩ : Fin 256) ch := by
    funext a
    match a with
    | ⟨0, _⟩ => rfl
    | ⟨1, _⟩ => exact Fin.ext (show 128 + 1 * r.val = 128 + r.val by omega)
    | ⟨2, _⟩ => exact Fin.ext (show 0 + 1 * ch.val = ch.val by omega)
  refine (congrArg (rd (View.junk (View.whole cc0_scratch0)) W.LB0) e2).trans ?_
  refine (W.rows0 _ _ _ (by simp only []; omega) ch).trans ?_
  congr 1
  exact Fin.ext (by simp only []; omega)

theorem tlB1 (r : Fin 16) (ch : Fin 1024) :
    k0_pay104 ((View.whole cc0_scratch0).readCov W.LB1 (Rect.unit (s := S2x256x1024) ![1, 128, 0] ![1, 16, 1024] inb_S2x256x1024_S1x16x1024_1_128_0).toLoadRect) (ix3 (0 : Fin 1) r ch) = W.cell 1 ⟨112 + r.val, by omega⟩ ch := by
  generalize hv : (View.whole cc0_scratch0).readCov W.LB1 (Rect.unit (s := S2x256x1024) ![1, 128, 0] ![1, 16, 1024] inb_S2x256x1024_S1x16x1024_1_128_0).toLoadRect = v
  have e : k0_pay104 v (ix3 (0 : Fin 1) r ch) = v (ix3 (0 : Fin 1) r ch) := by pointwise [k0_pay104]
  rw [e, ← hv]
  have e2 : ((Rect.unit (s := S2x256x1024) ![1, 128, 0] ![1, 16, 1024] inb_S2x256x1024_S1x16x1024_1_128_0)).toLoadRect.idx (ix3 (0 : Fin 1) r ch) = ix3 (1 : Fin 2) (⟨128 + r.val, by omega⟩ : Fin 256) ch := by
    funext a
    match a with
    | ⟨0, _⟩ => rfl
    | ⟨1, _⟩ => exact Fin.ext (show 128 + 1 * r.val = 128 + r.val by omega)
    | ⟨2, _⟩ => exact Fin.ext (show 0 + 1 * ch.val = ch.val by omega)
  refine (congrArg (rd (View.junk (View.whole cc0_scratch0)) W.LB1) e2).trans ?_
  refine (W.rows1 _ _ _ (by simp only []; omega) ch).trans ?_
  congr 1
  exact Fin.ext (by simp only []; omega)

theorem XB0_tail (X : Vec Ideal S2x256x1024 .bf16) (r : Fin 16) (ch : Fin 1024) :
    (W.XB X) (ix3 (0 : Fin 2) (⟨r.val, by omega⟩ : Fin 256) ch) = W.cell 0 ⟨112 + r.val, by omega⟩ ch := by
  have e : (W.XB X) (ix3 (0 : Fin 2) (⟨r.val, by omega⟩ : Fin 256) ch) = rd ((Memref.isWhole_whole cc0_scratch0).unread X) W.LB2 (ix3 (0 : Fin 2) (⟨r.val, by omega⟩ : Fin 256) ch) := by
    rfl
  refine e.trans ?_
  unfold LB2
  rw [rd_miss _ _ _ _ _ _ _ (by norm_num), W.rows1_low _ _ _ _ (by simp only []; omega), rd_hit _ _ _ _ _ _ _ (0 : Fin 1) r ch (by norm_num) (by simp only []; omega) (by omega)]
  exact W.tlB0 r ch

theorem XB1_tail (X : Vec Ideal S2x256x1024 .bf16) (r : Fin 16) (ch : Fin 1024) :
    (W.XB X) (ix3 (1 : Fin 2) (⟨r.val, by omega⟩ : Fin 256) ch) = W.cell 1 ⟨112 + r.val, by omega⟩ ch := by
  have e : (W.XB X) (ix3 (1 : Fin 2) (⟨r.val, by omega⟩ : Fin 256) ch) = rd ((Memref.isWhole_whole cc0_scratch0).unread X) W.LB2 (ix3 (1 : Fin 2) (⟨r.val, by omega⟩ : Fin 256) ch) := by
    rfl
  refine e.trans ?_
  unfold LB2
  rw [rd_hit _ _ _ _ _ _ _ (0 : Fin 1) r ch (by norm_num) (by simp only []; omega) (by omega)]
  exact W.tlB1 r ch

end Wn
end Cert.Proof.K
-- ==== Proof.KHeads.lean ====
module
public import proofs.«01_k».proof.Proof.KFold
public import proofs.«01_k».proof.Proof.KRows
public import Idealize.ShloMosaic.Lib.Pointwise

/-!
# What each head reads and stores, index by index
-/

@[expose] public section
set_option maxRecDepth 16384
noncomputable section
namespace Cert.Proof.K
open Idealize.ShloMosaic Cert.KernelIdeal Cert.KernelIdeal.Gen

theorem hd0_q (Q : FVec Ideal S128x1024 .f32) (G B : FVec Ideal S128x128 .f32) (v : Vec Ideal S1x128x128 .bf16) (C : Vec Ideal S1x128x128 .f32) (n : Vec Ideal S1x1x128 .f32) (m : Vec Ideal S1x1x1 .f32) (t d : Fin 128) : (hd0 Q G B v C n m).q (ix2 t d) = Q (ix2 t (⟨0 + d.val, by omega⟩ : Fin 1024)) := by
  pointwise [hd0]
theorem hd0_k (Q : FVec Ideal S128x1024 .f32) (G B : FVec Ideal S128x128 .f32) (v : Vec Ideal S1x128x128 .bf16) (C : Vec Ideal S1x128x128 .f32) (n : Vec Ideal S1x1x128 .f32) (m : Vec Ideal S1x1x1 .f32) (t d : Fin 128) : (hd0 Q G B v C n m).k (ix2 t d) = Q (ix2 t (⟨512 + d.val, by omega⟩ : Fin 1024)) * Ideal.ofBits .f32 0x3DB504F3#32 := by
  pointwise [hd0]
theorem hd0_ic (Q : FVec Ideal S128x1024 .f32) (G B : FVec Ideal S128x128 .f32) (v : Vec Ideal S1x128x128 .bf16) (C : Vec Ideal S1x128x128 .f32) (n : Vec Ideal S1x1x128 .f32) (m : Vec Ideal S1x1x1 .f32) (t : Fin 128) : (hd0 Q G B v C n m).ic (ix2 t (0 : Fin 1)) = G (ix2 t (0 : Fin 128)) := by
  pointwise [hd0]
theorem hd0_ir (Q : FVec Ideal S128x1024 .f32) (G B : FVec Ideal S128x128 .f32) (v : Vec Ideal S1x128x128 .bf16) (C : Vec Ideal S1x128x128 .f32) (n : Vec Ideal S1x1x128 .f32) (m : Vec Ideal S1x1x1 .f32) (t : Fin 128) : (hd0 Q G B v C n m).ir (ix2 (0 : Fin 1) t) = G (ix2 t (0 : Fin 128)) := by
  pointwise [hd0, k0_pay21]
theorem hd0_bc (Q : FVec Ideal S128x1024 .f32) (G B : FVec Ideal S128x128 .f32) (v : Vec Ideal S1x128x128 .bf16) (C : Vec Ideal S1x128x128 .f32) (n : Vec Ideal S1x1x128 .f32) (m : Vec Ideal S1x1x1 .f32) (t : Fin 128) : (hd0 Q G B v C n m).bc (ix2 t (0 : Fin 1)) = B (ix2 t (4 : Fin 128)) := by
  pointwise [hd0]
theorem hd0_br (Q : FVec Ideal S128x1024 .f32) (G B : FVec Ideal S128x128 .f32) (v : Vec Ideal S1x128x128 .bf16) (C : Vec Ideal S1x128x128 .f32) (n : Vec Ideal S1x1x128 .f32) (m : Vec Ideal S1x1x1 .f32) (t : Fin 128) : (hd0 Q G B v C n m).br (ix2 (0 : Fin 1) t) = B (ix2 t (4 : Fin 128)) := by
  pointwise [hd0]
theorem hd1_q (Q : FVec Ideal S128x1024 .f32) (G B : FVec Ideal S128x128 .f32) (v : Vec Ideal S1x128x128 .bf16) (C : Vec Ideal S1x128x128 .f32) (n : Vec Ideal S1x1x128 .f32) (m : Vec Ideal S1x1x1 .f32) (t d : Fin 128) : (hd1 Q G B v C n m).q (ix2 t d) = Q (ix2 t (⟨128 + d.val, by omega⟩ : Fin 1024)) := by
  pointwise [hd1]
theorem hd1_k (Q : FVec Ideal S128x1024 .f32) (G B : FVec Ideal S128x128 .f32) (v : Vec Ideal S1x128x128 .bf16) (C : Vec Ideal S1x128x128 .f32) (n : Vec Ideal S1x1x128 .f32) (m : Vec Ideal S1x1x1 .f32) (t d : Fin 128) : (hd1 Q G B v C n m).k (ix2 t d) = Q (ix2 t (⟨640 + d.val, by omega⟩ : Fin 1024)) * Ideal.ofBits .f32 0x3DB504F3#32 := by
  pointwise [hd1]
theorem hd1_ic (Q : FVec Ideal S128x1024 .f32) (G B : FVec Ideal S128x128 .f32) (v : Vec Ideal S1x128x128 .bf16) (C : Vec Ideal S1x128x128 .f32) (n : Vec Ideal S1x1x128 .f32) (m : Vec Ideal S1x1x1 .f32) (t : Fin 128) : (hd1 Q G B v C n m).ic (ix2 t (0 : Fin 1)) = G (ix2 t (1 : Fin 128)) := by
  pointwise [hd1]
theorem hd1_ir (Q : FVec Ideal S128x1024 .f32) (G B : FVec Ideal S128x128 .f32) (v : Vec Ideal S1x128x128 .bf16) (C : Vec Ideal S1x128x128 .f32) (n : Vec Ideal S1x1x128 .f32) (m : Vec Ideal S1x1x1 .f32) (t : Fin 128) : (hd1 Q G B v C n m).ir (ix2 (0 : Fin 1) t) = G (ix2 t (1 : Fin 128)) := by
  pointwise [hd1, k0_pay21]
theorem hd1_bc (Q : FVec Ideal S128x1024 .f32) (G B : FVec Ideal S128x128 .f32) (v : Vec Ideal S1x128x128 .bf16) (C : Vec Ideal S1x128x128 .f32) (n : Vec Ideal S1x1x128 .f32) (m : Vec Ideal S1x1x1 .f32) (t : Fin 128) : (hd1 Q G B v C n m).bc (ix2 t (0 : Fin 1)) = B (ix2 t (5 : Fin 128)) := by
  pointwise [hd1]
theorem hd1_br (Q : FVec Ideal S128x1024 .f32) (G B : FVec Ideal S128x128 .f32) (v : Vec Ideal S1x128x128 .bf16) (C : Vec Ideal S1x128x128 .f32) (n : Vec Ideal S1x1x128 .f32) (m : Vec Ideal S1x1x1 .f32) (t : Fin 128) : (hd1 Q G B v C n m).br (ix2 (0 : Fin 1) t) = B (ix2 t (5 : Fin 128)) := by
  pointwise [hd1]
theorem hd2_q (Q : FVec Ideal S128x1024 .f32) (G B : FVec Ideal S128x128 .f32) (v : Vec Ideal S1x128x128 .bf16) (C : Vec Ideal S1x128x128 .f32) (n : Vec Ideal S1x1x128 .f32) (m : Vec Ideal S1x1x1 .f32) (t d : Fin 128) : (hd2 Q G B v C n m).q (ix2 t d) = Q (ix2 t (⟨256 + d.val, by omega⟩ : Fin 1024)) := by
  pointwise [hd2]
theorem hd2_k (Q : FVec Ideal S128x1024 .f32) (G B : FVec Ideal S128x128 .f32) (v : Vec Ideal S1x128x128 .bf16) (C : Vec Ideal S1x128x128 .f32) (n : Vec Ideal S1x1x128 .f32) (m : Vec Ideal S1x1x1 .f32) (t d : Fin 128) : (hd2 Q G B v C n m).k (ix2 t d) = Q (ix2 t (⟨768 + d.val, by omega⟩ : Fin 1024)) * Ideal.ofBits .f32 0x3DB504F3#32 := by
  pointwise [hd2]
theorem hd2_ic (Q : FVec Ideal S128x1024 .f32) (G B : FVec Ideal S128x128 .f32) (v : Vec Ideal S1x128x128 .bf16) (C : Vec Ideal S1x128x128 .f32) (n : Vec Ideal S1x1x128 .f32) (m : Vec Ideal S1x1x1 .f32) (t : Fin 128) : (hd2 Q G B v C n m).ic (ix2 t (0 : Fin 1)) = G (ix2 t (2 : Fin 128)) := by
  pointwise [hd2]
theorem hd2_ir (Q : FVec Ideal S128x1024 .f32) (G B : FVec Ideal S128x128 .f32) (v : Vec Ideal S1x128x128 .bf16) (C : Vec Ideal S1x128x128 .f32) (n : Vec Ideal S1x1x128 .f32) (m : Vec Ideal S1x1x1 .f32) (t : Fin 128) : (hd2 Q G B v C n m).ir (ix2 (0 : Fin 1) t) = G (ix2 t (2 : Fin 128)) := by
  pointwise [hd2, k0_pay21]
theorem hd2_bc (Q : FVec Ideal S128x1024 .f32) (G B : FVec Ideal S128x128 .f32) (v : Vec Ideal S1x128x128 .bf16) (C : Vec Ideal S1x128x128 .f32) (n : Vec Ideal S1x1x128 .f32) (m : Vec Ideal S1x1x1 .f32) (t : Fin 128) : (hd2 Q G B v C n m).bc (ix2 t (0 : Fin 1)) = B (ix2 t (6 : Fin 128)) := by
  pointwise [hd2]
theorem hd2_br (Q : FVec Ideal S128x1024 .f32) (G B : FVec Ideal S128x128 .f32) (v : Vec Ideal S1x128x128 .bf16) (C : Vec Ideal S1x128x128 .f32) (n : Vec Ideal S1x1x128 .f32) (m : Vec Ideal S1x1x1 .f32) (t : Fin 128) : (hd2 Q G B v C n m).br (ix2 (0 : Fin 1) t) = B (ix2 t (6 : Fin 128)) := by
  pointwise [hd2]
theorem hd3_q (Q : FVec Ideal S128x1024 .f32) (G B : FVec Ideal S128x128 .f32) (v : Vec Ideal S1x128x128 .bf16) (C : Vec Ideal S1x128x128 .f32) (n : Vec Ideal S1x1x128 .f32) (m : Vec Ideal S1x1x1 .f32) (t d : Fin 128) : (hd3 Q G B v C n m).q (ix2 t d) = Q (ix2 t (⟨384 + d.val, by omega⟩ : Fin 1024)) := by
  pointwise [hd3]
theorem hd3_k (Q : FVec Ideal S128x1024 .f32) (G B : FVec Ideal S128x128 .f32) (v : Vec Ideal S1x128x128 .bf16) (C : Vec Ideal S1x128x128 .f32) (n : Vec Ideal S1x1x128 .f32) (m : Vec Ideal S1x1x1 .f32) (t d : Fin 128) : (hd3 Q G B v C n m).k (ix2 t d) = Q (ix2 t (⟨896 + d.val, by omega⟩ : Fin 1024)) * Ideal.ofBits .f32 0x3DB504F3#32 := by
  pointwise [hd3]
theorem hd3_ic (Q : FVec Ideal S128x1024 .f32) (G B : FVec Ideal S128x128 .f32) (v : Vec Ideal S1x128x128 .bf16) (C : Vec Ideal S1x128x128 .f32) (n : Vec Ideal S1x1x128 .f32) (m : Vec Ideal S1x1x1 .f32) (t : Fin 128) : (hd3 Q G B v C n m).ic (ix2 t (0 : Fin 1)) = G (ix2 t (3 : Fin 128)) := by
  pointwise [hd3]
theorem hd3_ir (Q : FVec Ideal S128x1024 .f32) (G B : FVec Ideal S128x128 .f32) (v : Vec Ideal S1x128x128 .bf16) (C : Vec Ideal S1x128x128 .f32) (n : Vec Ideal S1x1x128 .f32) (m : Vec Ideal S1x1x1 .f32) (t : Fin 128) : (hd3 Q G B v C n m).ir (ix2 (0 : Fin 1) t) = G (ix2 t (3 : Fin 128)) := by
  pointwise [hd3, k0_pay21]
theorem hd3_bc (Q : FVec Ideal S128x1024 .f32) (G B : FVec Ideal S128x128 .f32) (v : Vec Ideal S1x128x128 .bf16) (C : Vec Ideal S1x128x128 .f32) (n : Vec Ideal S1x1x128 .f32) (m : Vec Ideal S1x1x1 .f32) (t : Fin 128) : (hd3 Q G B v C n m).bc (ix2 t (0 : Fin 1)) = B (ix2 t (7 : Fin 128)) := by
  pointwise [hd3]
theorem hd3_br (Q : FVec Ideal S128x1024 .f32) (G B : FVec Ideal S128x128 .f32) (v : Vec Ideal S1x128x128 .bf16) (C : Vec Ideal S1x128x128 .f32) (n : Vec Ideal S1x1x128 .f32) (m : Vec Ideal S1x1x1 .f32) (t : Fin 128) : (hd3 Q G B v C n m).br (ix2 (0 : Fin 1) t) = B (ix2 t (7 : Fin 128)) := by
  pointwise [hd3]

theorem smiss {n0 n1 n2 : ℕ} {e : EltTy} (o : ℕ) (inb : ∀ a, (![o, 0, 0] : Fin 3 → ℕ) a + (![1, n1, n2] : Fin 3 → ℕ) a ≤ (⟨3, ![n0, n1, n2]⟩ : Shape).size a)
    (w : Shape.Idx ⟨3, ![1, n1, n2]⟩ → Elt Ideal e) (L : List (View.Piece (Elt Ideal) ⟨3, ![n0, n1, n2]⟩ e))
    (b : Fin n0) (r : Fin n1) (c : Fin n2) (h : b.val < o ∨ o + 1 ≤ b.val) :
    View.canon ((⟨Rect.unit (s := ⟨3, ![n0, n1, n2]⟩) ![o, 0, 0] ![1, n1, n2] inb, w⟩ : View.Piece (Elt Ideal) ⟨3, ![n0, n1, n2]⟩ e) :: L) (ix3 b r c)
      = View.canon L (ix3 b r c) := by
  refine View.canon_cons_of_not_mem _ _ ?_
  rw [Rect.mem_set_unit]
  intro hall
  have e0 : o ≤ b.val ∧ b.val < o + 1 := hall (0 : Fin 3)
  omega

theorem shit {n0 n1 n2 : ℕ} {e : EltTy} (o : ℕ) (inb : ∀ a, (![o, 0, 0] : Fin 3 → ℕ) a + (![1, n1, n2] : Fin 3 → ℕ) a ≤ (⟨3, ![n0, n1, n2]⟩ : Shape).size a)
    (w : Shape.Idx ⟨3, ![1, n1, n2]⟩ → Elt Ideal e) (L : List (View.Piece (Elt Ideal) ⟨3, ![n0, n1, n2]⟩ e))
    (b : Fin n0) (r : Fin n1) (c : Fin n2) (h : b.val = o) :
    View.canon ((⟨Rect.unit (s := ⟨3, ![n0, n1, n2]⟩) ![o, 0, 0] ![1, n1, n2] inb, w⟩ : View.Piece (Elt Ideal) ⟨3, ![n0, n1, n2]⟩ e) :: L) (ix3 b r c)
      = w (ix3 (0 : Fin 1) r c) := by
  have e' : (Rect.unit (s := ⟨3, ![n0, n1, n2]⟩) ![o, 0, 0] ![1, n1, n2] inb).emb (ix3 (0 : Fin 1) r c) = ix3 b r c := by
    funext a
    match a with
    | ⟨0, _⟩ => exact Fin.ext (show o + 1 * 0 = b.val by omega)
    | ⟨1, _⟩ => exact Fin.ext (show 0 + 1 * r.val = r.val by omega)
    | ⟨2, _⟩ => exact Fin.ext (show 0 + 1 * c.val = c.val by omega)
  rw [← e']
  exact View.canon_cons_emb (s := ⟨3, ![n0, n1, n2]⟩) (Rect.unit (s := ⟨3, ![n0, n1, n2]⟩) ![o, 0, 0] ![1, n1, n2] inb) w L (ix3 (0 : Fin 1) r c)

/-- Reading one row of a carried array. -/
theorem ld_row {n0 n1 n2 : ℕ} {e : EltTy} (o : ℕ) (inb : ∀ a, (![o, 0, 0] : Fin 3 → ℕ) a + (![1, n1, n2] : Fin 3 → ℕ) a ≤ (⟨3, ![n0, n1, n2]⟩ : Shape).size a)
    (X : Shape.Idx ⟨3, ![n0, n1, n2]⟩ → Elt Ideal e) (b : Fin n0) (r : Fin n1) (c : Fin n2) (h : b.val = o) :
    View.ld X (Rect.unit (s := ⟨3, ![n0, n1, n2]⟩) ![o, 0, 0] ![1, n1, n2] inb) (ix3 (0 : Fin 1) r c) = X (ix3 b r c) := by
  refine congrArg X ?_
  funext a
  match a with
  | ⟨0, _⟩ => exact Fin.ext (show o + 1 * 0 = b.val by omega)
  | ⟨1, _⟩ => exact Fin.ext (show 0 + 1 * r.val = r.val by omega)
  | ⟨2, _⟩ => exact Fin.ext (show 0 + 1 * c.val = c.val by omega)

/-- Reading one head's block of columns. -/
theorem ld_cols {e : EltTy} (o0 o2 : ℕ) (inb : ∀ a, (![o0, 0, o2] : Fin 3 → ℕ) a + (![1, 128, 128] : Fin 3 → ℕ) a ≤ S2x128x512.size a)
    (X : Vec Ideal S2x128x512 e) (b : Fin 2) (r c : Fin 128) (c' : Fin 512) (h : b.val = o0) (hc : c'.val = o2 + c.val) :
    View.ld X (Rect.unit (s := S2x128x512) ![o0, 0, o2] ![1, 128, 128] inb) (ix3 (0 : Fin 1) r c) = X (ix3 b r c') := by
  refine congrArg X ?_
  funext a
  match a with
  | ⟨0, _⟩ => exact Fin.ext (show o0 + 1 * 0 = b.val by omega)
  | ⟨1, _⟩ => exact Fin.ext (show 0 + 1 * r.val = r.val by omega)
  | ⟨2, _⟩ => exact Fin.ext (show o2 + 1 * c.val = c'.val by omega)

/-- Reading one head's weights. -/
theorem ld_hn (o2 : ℕ) (inb : ∀ a, (![0, o2] : Fin 2 → ℕ) a + (![1, 128] : Fin 2 → ℕ) a ≤ S1x512.size a)
    (X : Vec Ideal S1x512 .f32) (c : Fin 128) (c' : Fin 512) (hc : c'.val = o2 + c.val) :
    View.ld X (Rect.unit (s := S1x512) ![0, o2] ![1, 128] inb) (ix2 (0 : Fin 1) c) = X (ix2 (0 : Fin 1) c') := by
  refine congrArg X ?_
  funext a
  match a with
  | ⟨0, _⟩ => rfl
  | ⟨1, _⟩ => exact Fin.ext (show o2 + 1 * c.val = c'.val by omega)

namespace Wn
variable (W : Wn) (Q0 Q1 : FVec Ideal S128x1024 .f32) (Y : Cr)
theorem C1_0 (T : List (View.Piece (Elt Ideal) S8x128x128 .f32)) (d : Fin 128) (e : Fin 128) :
    W.C1 Q0 Q1 Y T (ix3 (0 : Fin 8) d e) = (W.h0 Q0 Y).C' (ix3 (0 : Fin 1) d e) := by
  unfold C1
  refine (smiss (n0 := 8) (n1 := 128) (n2 := 128) 7 _ _ _ _ _ _ (by decide)).trans ?_
  refine (smiss (n0 := 8) (n1 := 128) (n2 := 128) 6 _ _ _ _ _ _ (by decide)).trans ?_
  refine (smiss (n0 := 8) (n1 := 128) (n2 := 128) 5 _ _ _ _ _ _ (by decide)).trans ?_
  refine (smiss (n0 := 8) (n1 := 128) (n2 := 128) 4 _ _ _ _ _ _ (by decide)).trans ?_
  refine (smiss (n0 := 8) (n1 := 128) (n2 := 128) 3 _ _ _ _ _ _ (by decide)).trans ?_
  refine (smiss (n0 := 8) (n1 := 128) (n2 := 128) 2 _ _ _ _ _ _ (by decide)).trans ?_
  refine (smiss (n0 := 8) (n1 := 128) (n2 := 128) 1 _ _ _ _ _ _ (by decide)).trans ?_
  exact shit (n0 := 8) (n1 := 128) (n2 := 128) 0 _ _ _ _ _ _ rfl

theorem C1_1 (T : List (View.Piece (Elt Ideal) S8x128x128 .f32)) (d : Fin 128) (e : Fin 128) :
    W.C1 Q0 Q1 Y T (ix3 (1 : Fin 8) d e) = (W.h1 Q0 Y).C' (ix3 (0 : Fin 1) d e) := by
  unfold C1
  refine (smiss (n0 := 8) (n1 := 128) (n2 := 128) 7 _ _ _ _ _ _ (by decide)).trans ?_
  refine (smiss (n0 := 8) (n1 := 128) (n2 := 128) 6 _ _ _ _ _ _ (by decide)).trans ?_
  refine (smiss (n0 := 8) (n1 := 128) (n2 := 128) 5 _ _ _ _ _ _ (by decide)).trans ?_
  refine (smiss (n0 := 8) (n1 := 128) (n2 := 128) 4 _ _ _ _ _ _ (by decide)).trans ?_
  refine (smiss (n0 := 8) (n1 := 128) (n2 := 128) 3 _ _ _ _ _ _ (by decide)).trans ?_
  refine (smiss (n0 := 8) (n1 := 128) (n2 := 128) 2 _ _ _ _ _ _ (by decide)).trans ?_
  exact shit (n0 := 8) (n1 := 128) (n2 := 128) 1 _ _ _ _ _ _ rfl

theorem C1_2 (T : List (View.Piece (Elt Ideal) S8x128x128 .f32)) (d : Fin 128) (e : Fin 128) :
    W.C1 Q0 Q1 Y T (ix3 (2 : Fin 8) d e) = (W.h2 Q0 Y).C' (ix3 (0 : Fin 1) d e) := by
  unfold C1
  refine (smiss (n0 := 8) (n1 := 128) (n2 := 128) 7 _ _ _ _ _ _ (by decide)).trans ?_
  refine (smiss (n0 := 8) (n1 := 128) (n2 := 128) 6 _ _ _ _ _ _ (by decide)).trans ?_
  refine (smiss (n0 := 8) (n1 := 128) (n2 := 128) 5 _ _ _ _ _ _ (by decide)).trans ?_
  refine (smiss (n0 := 8) (n1 := 128) (n2 := 128) 4 _ _ _ _ _ _ (by decide)).trans ?_
  refine (smiss (n0 := 8) (n1 := 128) (n2 := 128) 3 _ _ _ _ _ _ (by decide)).trans ?_
  exact shit (n0 := 8) (n1 := 128) (n2 := 128) 2 _ _ _ _ _ _ rfl

theorem C1_3 (T : List (View.Piece (Elt Ideal) S8x128x128 .f32)) (d : Fin 128) (e : Fin 128) :
    W.C1 Q0 Q1 Y T (ix3 (3 : Fin 8) d e) = (W.h3 Q0 Y).C' (ix3 (0 : Fin 1) d e) := by
  unfold C1
  refine (smiss (n0 := 8) (n1 := 128) (n2 := 128) 7 _ _ _ _ _ _ (by decide)).trans ?_
  refine (smiss (n0 := 8) (n1 := 128) (n2 := 128) 6 _ _ _ _ _ _ (by decide)).trans ?_
  refine (smiss (n0 := 8) (n1 := 128) (n2 := 128) 5 _ _ _ _ _ _ (by decide)).trans ?_
  refine (smiss (n0 := 8) (n1 := 128) (n2 := 128) 4 _ _ _ _ _ _ (by decide)).trans ?_
  exact shit (n0 := 8) (n1 := 128) (n2 := 128) 3 _ _ _ _ _ _ rfl

theorem C1_4 (T : List (View.Piece (Elt Ideal) S8x128x128 .f32)) (d : Fin 128) (e : Fin 128) :
    W.C1 Q0 Q1 Y T (ix3 (4 : Fin 8) d e) = (W.h4 Q1 Y).C' (ix3 (0 : Fin 1) d e) := by
  unfold C1
  refine (smiss (n0 := 8) (n1 := 128) (n2 := 128) 7 _ _ _ _ _ _ (by decide)).trans ?_
  refine (smiss (n0 := 8) (n1 := 128) (n2 := 128) 6 _ _ _ _ _ _ (by decide)).trans ?_
  refine (smiss (n0 := 8) (n1 := 128) (n2 := 128) 5 _ _ _ _ _ _ (by decide)).trans ?_
  exact shit (n0 := 8) (n1 := 128) (n2 := 128) 4 _ _ _ _ _ _ rfl

theorem C1_5 (T : List (View.Piece (Elt Ideal) S8x128x128 .f32)) (d : Fin 128) (e : Fin 128) :
    W.C1 Q0 Q1 Y T (ix3 (5 : Fin 8) d e) = (W.h5 Q1 Y).C' (ix3 (0 : Fin 1) d e) := by
  unfold C1
  refine (smiss (n0 := 8) (n1 := 128) (n2 := 128) 7 _ _ _ _ _ _ (by decide)).trans ?_
  refine (smiss (n0 := 8) (n1 := 128) (n2 := 128) 6 _ _ _ _ _ _ (by decide)).trans ?_
  exact shit (n0 := 8) (n1 := 128) (n2 := 128) 5 _ _ _ _ _ _ rfl

theorem C1_6 (T : List (View.Piece (Elt Ideal) S8x128x128 .f32)) (d : Fin 128) (e : Fin 128) :
    W.C1 Q0 Q1 Y T (ix3 (6 : Fin 8) d e) = (W.h6 Q1 Y).C' (ix3 (0 : Fin 1) d e) := by
  unfold C1
  refine (smiss (n0 := 8) (n1 := 128) (n2 := 128) 7 _ _ _ _ _ _ (by decide)).trans ?_
  exact shit (n0 := 8) (n1 := 128) (n2 := 128) 6 _ _ _ _ _ _ rfl

theorem C1_7 (T : List (View.Piece (Elt Ideal) S8x128x128 .f32)) (d : Fin 128) (e : Fin 128) :
    W.C1 Q0 Q1 Y T (ix3 (7 : Fin 8) d e) = (W.h7 Q1 Y).C' (ix3 (0 : Fin 1) d e) := by
  unfold C1
  exact shit (n0 := 8) (n1 := 128) (n2 := 128) 7 _ _ _ _ _ _ rfl

theorem N1_0 (T : List (View.Piece (Elt Ideal) S8x1x128 .f32)) (d : Fin 1) (e : Fin 128) :
    W.N1 Q0 Q1 Y T (ix3 (0 : Fin 8) d e) = (W.h0 Q0 Y).n' (ix3 (0 : Fin 1) d e) := by
  unfold N1
  refine (smiss (n0 := 8) (n1 := 1) (n2 := 128) 7 _ _ _ _ _ _ (by decide)).trans ?_
  refine (smiss (n0 := 8) (n1 := 1) (n2 := 128) 6 _ _ _ _ _ _ (by decide)).trans ?_
  refine (smiss (n0 := 8) (n1 := 1) (n2 := 128) 5 _ _ _ _ _ _ (by decide)).trans ?_
  refine (smiss (n0 := 8) (n1 := 1) (n2 := 128) 4 _ _ _ _ _ _ (by decide)).trans ?_
  refine (smiss (n0 := 8) (n1 := 1) (n2 := 128) 3 _ _ _ _ _ _ (by decide)).trans ?_
  refine (smiss (n0 := 8) (n1 := 1) (n2 := 128) 2 _ _ _ _ _ _ (by decide)).trans ?_
  refine (smiss (n0 := 8) (n1 := 1) (n2 := 128) 1 _ _ _ _ _ _ (by decide)).trans ?_
  exact shit (n0 := 8) (n1 := 1) (n2 := 128) 0 _ _ _ _ _ _ rfl

theorem N1_1 (T : List (View.Piece (Elt Ideal) S8x1x128 .f32)) (d : Fin 1) (e : Fin 128) :
    W.N1 Q0 Q1 Y T (ix3 (1 : Fin 8) d e) = (W.h1 Q0 Y).n' (ix3 (0 : Fin 1) d e) := by
  unfold N1
  refine (smiss (n0 := 8) (n1 := 1) (n2 := 128) 7 _ _ _ _ _ _ (by decide)).trans ?_
  refine (smiss (n0 := 8) (n1 := 1) (n2 := 128) 6 _ _ _ _ _ _ (by decide)).trans ?_
  refine (smiss (n0 := 8) (n1 := 1) (n2 := 128) 5 _ _ _ _ _ _ (by decide)).trans ?_
  refine (smiss (n0 := 8) (n1 := 1) (n2 := 128) 4 _ _ _ _ _ _ (by decide)).trans ?_
  refine (smiss (n0 := 8) (n1 := 1) (n2 := 128) 3 _ _ _ _ _ _ (by decide)).trans ?_
  refine (smiss (n0 := 8) (n1 := 1) (n2 := 128) 2 _ _ _ _ _ _ (by decide)).trans ?_
  exact shit (n0 := 8) (n1 := 1) (n2 := 128) 1 _ _ _ _ _ _ rfl

theorem N1_2 (T : List (View.Piece (Elt Ideal) S8x1x128 .f32)) (d : Fin 1) (e : Fin 128) :
    W.N1 Q0 Q1 Y T (ix3 (2 : Fin 8) d e) = (W.h2 Q0 Y).n' (ix3 (0 : Fin 1) d e) := by
  unfold N1
  refine (smiss (n0 := 8) (n1 := 1) (n2 := 128) 7 _ _ _ _ _ _ (by decide)).trans ?_
  refine (smiss (n0 := 8) (n1 := 1) (n2 := 128) 6 _ _ _ _ _ _ (by decide)).trans ?_
  refine (smiss (n0 := 8) (n1 := 1) (n2 := 128) 5 _ _ _ _ _ _ (by decide)).trans ?_
  refine (smiss (n0 := 8) (n1 := 1) (n2 := 128) 4 _ _ _ _ _ _ (by decide)).trans ?_
  refine (smiss (n0 := 8) (n1 := 1) (n2 := 128) 3 _ _ _ _ _ _ (by decide)).trans ?_
  exact shit (n0 := 8) (n1 := 1) (n2 := 128) 2 _ _ _ _ _ _ rfl

theorem N1_3 (T : List (View.Piece (Elt Ideal) S8x1x128 .f32)) (d : Fin 1) (e : Fin 128) :
    W.N1 Q0 Q1 Y T (ix3 (3 : Fin 8) d e) = (W.h3 Q0 Y).n' (ix3 (0 : Fin 1) d e) := by
  unfold N1
  refine (smiss (n0 := 8) (n1 := 1) (n2 := 128) 7 _ _ _ _ _ _ (by decide)).trans ?_
  refine (smiss (n0 := 8) (n1 := 1) (n2 := 128) 6 _ _ _ _ _ _ (by decide)).trans ?_
  refine (smiss (n0 := 8) (n1 := 1) (n2 := 128) 5 _ _ _ _ _ _ (by decide)).trans ?_
  refine (smiss (n0 := 8) (n1 := 1) (n2 := 128) 4 _ _ _ _ _ _ (by decide)).trans ?_
  exact shit (n0 := 8) (n1 := 1) (n2 := 128) 3 _ _ _ _ _ _ rfl

theorem N1_4 (T : List (View.Piece (Elt Ideal) S8x1x128 .f32)) (d : Fin 1) (e : Fin 128) :
    W.N1 Q0 Q1 Y T (ix3 (4 : Fin 8) d e) = (W.h4 Q1 Y).n' (ix3 (0 : Fin 1) d e) := by
  unfold N1
  refine (smiss (n0 := 8) (n1 := 1) (n2 := 128) 7 _ _ _ _ _ _ (by decide)).trans ?_
  refine (smiss (n0 := 8) (n1 := 1) (n2 := 128) 6 _ _ _ _ _ _ (by decide)).trans ?_
  refine (smiss (n0 := 8) (n1 := 1) (n2 := 128) 5 _ _ _ _ _ _ (by decide)).trans ?_
  exact shit (n0 := 8) (n1 := 1) (n2 := 128) 4 _ _ _ _ _ _ rfl

theorem N1_5 (T : List (View.Piece (Elt Ideal) S8x1x128 .f32)) (d : Fin 1) (e : Fin 128) :
    W.N1 Q0 Q1 Y T (ix3 (5 : Fin 8) d e) = (W.h5 Q1 Y).n' (ix3 (0 : Fin 1) d e) := by
  unfold N1
  refine (smiss (n0 := 8) (n1 := 1) (n2 := 128) 7 _ _ _ _ _ _ (by decide)).trans ?_
  refine (smiss (n0 := 8) (n1 := 1) (n2 := 128) 6 _ _ _ _ _ _ (by decide)).trans ?_
  exact shit (n0 := 8) (n1 := 1) (n2 := 128) 5 _ _ _ _ _ _ rfl

theorem N1_6 (T : List (View.Piece (Elt Ideal) S8x1x128 .f32)) (d : Fin 1) (e : Fin 128) :
    W.N1 Q0 Q1 Y T (ix3 (6 : Fin 8) d e) = (W.h6 Q1 Y).n' (ix3 (0 : Fin 1) d e) := by
  unfold N1
  refine (smiss (n0 := 8) (n1 := 1) (n2 := 128) 7 _ _ _ _ _ _ (by decide)).trans ?_
  exact shit (n0 := 8) (n1 := 1) (n2 := 128) 6 _ _ _ _ _ _ rfl

theorem N1_7 (T : List (View.Piece (Elt Ideal) S8x1x128 .f32)) (d : Fin 1) (e : Fin 128) :
    W.N1 Q0 Q1 Y T (ix3 (7 : Fin 8) d e) = (W.h7 Q1 Y).n' (ix3 (0 : Fin 1) d e) := by
  unfold N1
  exact shit (n0 := 8) (n1 := 1) (n2 := 128) 7 _ _ _ _ _ _ rfl

theorem M1_0 (T : List (View.Piece (Elt Ideal) S8x1x1 .f32)) (d : Fin 1) (e : Fin 1) :
    W.M1 Q0 Q1 Y T (ix3 (0 : Fin 8) d e) = (W.h0 Q0 Y).m' (ix3 (0 : Fin 1) d e) := by
  unfold M1
  refine (smiss (n0 := 8) (n1 := 1) (n2 := 1) 7 _ _ _ _ _ _ (by decide)).trans ?_
  refine (smiss (n0 := 8) (n1 := 1) (n2 := 1) 6 _ _ _ _ _ _ (by decide)).trans ?_
  refine (smiss (n0 := 8) (n1 := 1) (n2 := 1) 5 _ _ _ _ _ _ (by decide)).trans ?_
  refine (smiss (n0 := 8) (n1 := 1) (n2 := 1) 4 _ _ _ _ _ _ (by decide)).trans ?_
  refine (smiss (n0 := 8) (n1 := 1) (n2 := 1) 3 _ _ _ _ _ _ (by decide)).trans ?_
  refine (smiss (n0 := 8) (n1 := 1) (n2 := 1) 2 _ _ _ _ _ _ (by decide)).trans ?_
  refine (smiss (n0 := 8) (n1 := 1) (n2 := 1) 1 _ _ _ _ _ _ (by decide)).trans ?_
  exact shit (n0 := 8) (n1 := 1) (n2 := 1) 0 _ _ _ _ _ _ rfl

theorem M1_1 (T : List (View.Piece (Elt Ideal) S8x1x1 .f32)) (d : Fin 1) (e : Fin 1) :
    W.M1 Q0 Q1 Y T (ix3 (1 : Fin 8) d e) = (W.h1 Q0 Y).m' (ix3 (0 : Fin 1) d e) := by
  unfold M1
  refine (smiss (n0 := 8) (n1 := 1) (n2 := 1) 7 _ _ _ _ _ _ (by decide)).trans ?_
  refine (smiss (n0 := 8) (n1 := 1) (n2 := 1) 6 _ _ _ _ _ _ (by decide)).trans ?_
  refine (smiss (n0 := 8) (n1 := 1) (n2 := 1) 5 _ _ _ _ _ _ (by decide)).trans ?_
  refine (smiss (n0 := 8) (n1 := 1) (n2 := 1) 4 _ _ _ _ _ _ (by decide)).trans ?_
  refine (smiss (n0 := 8) (n1 := 1) (n2 := 1) 3 _ _ _ _ _ _ (by decide)).trans ?_
  refine (smiss (n0 := 8) (n1 := 1) (n2 := 1) 2 _ _ _ _ _ _ (by decide)).trans ?_
  exact shit (n0 := 8) (n1 := 1) (n2 := 1) 1 _ _ _ _ _ _ rfl

theorem M1_2 (T : List (View.Piece (Elt Ideal) S8x1x1 .f32)) (d : Fin 1) (e : Fin 1) :
    W.M1 Q0 Q1 Y T (ix3 (2 : Fin 8) d e) = (W.h2 Q0 Y).m' (ix3 (0 : Fin 1) d e) := by
  unfold M1
  refine (smiss (n0 := 8) (n1 := 1) (n2 := 1) 7 _ _ _ _ _ _ (by decide)).trans ?_
  refine (smiss (n0 := 8) (n1 := 1) (n2 := 1) 6 _ _ _ _ _ _ (by decide)).trans ?_
  refine (smiss (n0 := 8) (n1 := 1) (n2 := 1) 5 _ _ _ _ _ _ (by decide)).trans ?_
  refine (smiss (n0 := 8) (n1 := 1) (n2 := 1) 4 _ _ _ _ _ _ (by decide)).trans ?_
  refine (smiss (n0 := 8) (n1 := 1) (n2 := 1) 3 _ _ _ _ _ _ (by decide)).trans ?_
  exact shit (n0 := 8) (n1 := 1) (n2 := 1) 2 _ _ _ _ _ _ rfl

theorem M1_3 (T : List (View.Piece (Elt Ideal) S8x1x1 .f32)) (d : Fin 1) (e : Fin 1) :
    W.M1 Q0 Q1 Y T (ix3 (3 : Fin 8) d e) = (W.h3 Q0 Y).m' (ix3 (0 : Fin 1) d e) := by
  unfold M1
  refine (smiss (n0 := 8) (n1 := 1) (n2 := 1) 7 _ _ _ _ _ _ (by decide)).trans ?_
  refine (smiss (n0 := 8) (n1 := 1) (n2 := 1) 6 _ _ _ _ _ _ (by decide)).trans ?_
  refine (smiss (n0 := 8) (n1 := 1) (n2 := 1) 5 _ _ _ _ _ _ (by decide)).trans ?_
  refine (smiss (n0 := 8) (n1 := 1) (n2 := 1) 4 _ _ _ _ _ _ (by decide)).trans ?_
  exact shit (n0 := 8) (n1 := 1) (n2 := 1) 3 _ _ _ _ _ _ rfl

theorem M1_4 (T : List (View.Piece (Elt Ideal) S8x1x1 .f32)) (d : Fin 1) (e : Fin 1) :
    W.M1 Q0 Q1 Y T (ix3 (4 : Fin 8) d e) = (W.h4 Q1 Y).m' (ix3 (0 : Fin 1) d e) := by
  unfold M1
  refine (smiss (n0 := 8) (n1 := 1) (n2 := 1) 7 _ _ _ _ _ _ (by decide)).trans ?_
  refine (smiss (n0 := 8) (n1 := 1) (n2 := 1) 6 _ _ _ _ _ _ (by decide)).trans ?_
  refine (smiss (n0 := 8) (n1 := 1) (n2 := 1) 5 _ _ _ _ _ _ (by decide)).trans ?_
  exact shit (n0 := 8) (n1 := 1) (n2 := 1) 4 _ _ _ _ _ _ rfl

theorem M1_5 (T : List (View.Piece (Elt Ideal) S8x1x1 .f32)) (d : Fin 1) (e : Fin 1) :
    W.M1 Q0 Q1 Y T (ix3 (5 : Fin 8) d e) = (W.h5 Q1 Y).m' (ix3 (0 : Fin 1) d e) := by
  unfold M1
  refine (smiss (n0 := 8) (n1 := 1) (n2 := 1) 7 _ _ _ _ _ _ (by decide)).trans ?_
  refine (smiss (n0 := 8) (n1 := 1) (n2 := 1) 6 _ _ _ _ _ _ (by decide)).trans ?_
  exact shit (n0 := 8) (n1 := 1) (n2 := 1) 5 _ _ _ _ _ _ rfl

theorem M1_6 (T : List (View.Piece (Elt Ideal) S8x1x1 .f32)) (d : Fin 1) (e : Fin 1) :
    W.M1 Q0 Q1 Y T (ix3 (6 : Fin 8) d e) = (W.h6 Q1 Y).m' (ix3 (0 : Fin 1) d e) := by
  unfold M1
  refine (smiss (n0 := 8) (n1 := 1) (n2 := 1) 7 _ _ _ _ _ _ (by decide)).trans ?_
  exact shit (n0 := 8) (n1 := 1) (n2 := 1) 6 _ _ _ _ _ _ rfl

theorem M1_7 (T : List (View.Piece (Elt Ideal) S8x1x1 .f32)) (d : Fin 1) (e : Fin 1) :
    W.M1 Q0 Q1 Y T (ix3 (7 : Fin 8) d e) = (W.h7 Q1 Y).m' (ix3 (0 : Fin 1) d e) := by
  unfold M1
  exact shit (n0 := 8) (n1 := 1) (n2 := 1) 7 _ _ _ _ _ _ rfl

end Wn
end Cert.Proof.K
-- ==== Proof.KRel.lean ====
module
public import proofs.«01_k».proof.Proof.KHeads

/-!
# What a point reads, against the recurrence
-/

@[expose] public section
set_option maxRecDepth 16384
noncomputable section
namespace Cert.Proof.K
open Idealize.ShloMosaic Cert.KernelIdeal Cert.KernelIdeal.Gen

/-- The input blocks of point `n` hold the arguments' columns. -/
structure WRel (W : Wn) (A : Args) (n : Fin 64) : Prop where
  q : ∀ (b : Fin 2) (t : Fin 128) (c : Fin 512), W.q (ix3 b t c) = A.a0 (ix3 b (Args.pos n t) (⟨c.val, by omega⟩ : Fin 4384))
  k : ∀ (b : Fin 2) (t : Fin 128) (c : Fin 512), W.k (ix3 b t c) = A.a0 (ix3 b (Args.pos n t) (⟨512 + c.val, by omega⟩ : Fin 4384))
  v : ∀ (b : Fin 2) (t : Fin 128) (c : Fin 512), W.v (ix3 b t c) = A.a0 (ix3 b (Args.pos n t) (⟨1024 + c.val, by omega⟩ : Fin 4384))
  o : ∀ (b : Fin 2) (t : Fin 128) (c : Fin 512), W.o (ix3 b t c) = A.a0 (ix3 b (Args.pos n t) (⟨1536 + c.val, by omega⟩ : Fin 4384))
  z : ∀ (b : Fin 2) (t : Fin 128) (c : Fin 512), W.z (ix3 b t c) = A.a0 (ix3 b (Args.pos n t) (⟨2048 + c.val, by omega⟩ : Fin 4384))
  sm : ∀ (b : Fin 2) (t : Fin 128) (c : Fin 8), W.sm (ix3 b t (⟨c.val, by omega⟩ : Fin 128)) = A.a0 (ix3 b (Args.pos n t) (⟨2560 + c.val, by omega⟩ : Fin 4384))
  cw : ∀ (j : Fin 4) (c : Fin 1024), W.cw (ix2 j c) = A.a2 (ix2 j c)
  cb : ∀ c : Fin 1024, W.cb (ix2 (0 : Fin 1) c) = A.a3 (ix1 c)
  fbi : ∀ h : Fin 4, W.fb (ix2 (0 : Fin 1) (⟨h.val, by omega⟩ : Fin 128)) = 0
  fbf : ∀ h : Fin 4, W.fb (ix2 (0 : Fin 1) (⟨4 + h.val, by omega⟩ : Fin 128)) = A.a1 (ix1 h)
  hn : ∀ c : Fin 512, W.hn (ix2 (0 : Fin 1) c) = A.a4 (ix1 c)

/-- The row of the carried arrays that head `h` of batch element `b` owns. -/
def row8 (b : Fin 2) (h : Fin 4) : Fin 8 := ⟨4 * b.val + h.val, by omega⟩

/-- The carried states hold the recurrence's states after `k` chunks. -/
structure YRel (Y : Cr) (A : Args) (k : ℕ) : Prop where
  C : ∀ (b : Fin 2) (h : Fin 4) (d e : Fin 128), Y.C (ix3 (row8 b h) d e) = (A.st b h k).c d e
  N : ∀ (b : Fin 2) (h : Fin 4) (d : Fin 128), Y.N (ix3 (row8 b h) (0 : Fin 1) d) = (A.st b h k).n d
  M : ∀ (b : Fin 2) (h : Fin 4), Y.M (ix3 (row8 b h) (0 : Fin 1) (0 : Fin 1)) = (A.st b h k).m

/-- Convolved queries and keys of chunk `n`. -/
def QRel (Q : FVec Ideal S128x1024 .f32) (A : Args) (b : Fin 2) (n : Fin 64) : Prop :=
  ∀ (t : Fin 128) (ch : Fin 1024), Q (ix2 t ch) = silu (A.conv b (Args.pos n t).val ch)

/-- Rows that hold the padded columns give the convolved queries and keys. -/
theorem qrel {W : Wn} {A : Args} {n : Fin 64} (w : WRel W A n) (b : Fin 2) (x : Vec Ideal S1x256x1024 .bf16)
    (hx : ∀ (r : Fin 256) (_ : r.val < 144) (ch : Fin 1024), x (ix3 (0 : Fin 1) r ch) = A.xpad b (n.val * 128 + r.val) ch) :
    QRel (qk x W.cw W.cb) A b n := by
  intro t ch
  rw [qk_apply, hx _ (by simp only []; omega), hx _ (by simp only []; omega), hx _ (by simp only []; omega), hx _ (by simp only []; omega),
    w.cw, w.cw, w.cw, w.cw, w.cb]
  rfl

/-- Inside the sequence the rows of a chunk are its columns. -/
theorem cell_xpad {W : Wn} {A : Args} {n : Fin 64} (w : WRel W A n) (b : Fin 2) (r : Fin 128) (ch : Fin 1024) :
    W.cell b r ch = A.xpad b (n.val * 128 + (16 + r.val)) ch := by
  have hn := n.isLt
  have hr := r.isLt
  unfold Wn.cell Args.xpad
  have hc : 16 ≤ n.val * 128 + (16 + r.val) ∧ n.val * 128 + (16 + r.val) < 16 + 8192 := by omega
  rw [dif_pos hc]
  have hp : (⟨n.val * 128 + (16 + r.val) - 16, by omega⟩ : Fin 8192) = Args.pos n r := Fin.ext (by simp only [Args.pos]; omega)
  rw [hp]
  by_cases h : ch.val < 512
  · rw [dif_pos h, w.q]
  · rw [dif_neg h, w.k]
    refine congrArg A.a0 (congrArg (ix3 b (Args.pos n r)) (Fin.ext ?_))
    simp only []
    omega

theorem gates_i {W : Wn} {A : Args} {n : Fin 64} (w : WRel W A n) (b : Fin 2) (h : Fin 4) (s : Vec Ideal S1x128x128 .f32)
    (hs : ∀ t c : Fin 128, s (ix3 (0 : Fin 1) t c) = W.sm (ix3 b t c)) (t : Fin 128) :
    gates s W.fb (ix2 t (⟨h.val, by omega⟩ : Fin 128)) = (A.inp b h n).i t := by
  rw [gates_apply, if_neg (by simp only []; omega), hs, w.fbi, add_zero]
  exact w.sm b t ⟨h.val, by omega⟩

theorem bsum_f {W : Wn} {A : Args} {n : Fin 64} (w : WRel W A n) (b : Fin 2) (h : Fin 4) (s : Vec Ideal S1x128x128 .f32)
    (hs : ∀ t c : Fin 128, s (ix3 (0 : Fin 1) t c) = W.sm (ix3 b t c)) (t : Fin 128) :
    bsum s W.fb (ix2 t (⟨4 + h.val, by omega⟩ : Fin 128)) = bcum (A.inp b h n).f t := by
  rw [bsum_apply _ _ _ _ (by simp only []; omega)]
  refine congrArg (fun f => bcum f t) (funext fun s' => ?_)
  rw [hs, w.fbf]
  refine congrArg (fun x => logsig (x + A.a1 (ix1 h))) ((w.sm b s' ⟨4 + h.val, by omega⟩).trans ?_)
  refine congrArg A.a0 (congrArg (ix3 b (Args.pos n s')) (Fin.ext ?_))
  simp only []
  omega

namespace WRel
variable {W : Wn} {A : Args} {n : Fin 64} (w : WRel W A n)
include w
theorem sm0 (t c : Fin 128) : W.sm0 (ix3 (0 : Fin 1) t c) = W.sm (ix3 (0 : Fin 2) t c) :=
  ld_row (n0 := 2) (n1 := 128) (n2 := 128) 0 _ W.sm (0 : Fin 2) t c rfl

theorem sm1 (t c : Fin 128) : W.sm1 (ix3 (0 : Fin 1) t c) = W.sm (ix3 (1 : Fin 2) t c) :=
  ld_row (n0 := 2) (n1 := 128) (n2 := 128) 1 _ W.sm (1 : Fin 2) t c rfl

theorem rel0 {Q : FVec Ideal S128x1024 .f32} {Y : Cr} (hQ : QRel Q A 0 n) (hY : YRel Y A n.val) :
    (W.h0 Q Y).Rel (A.inp 0 0 n) (A.st 0 0 n.val) where
  q := fun t d => (hd0_q ..).trans ((hQ t _).trans (congrArg (fun c => silu (A.conv 0 (Args.pos n t).val c)) (Fin.ext rfl)))
  k := fun t d => (hd0_k ..).trans (congrArg (· * Ideal.ofBits .f32 0x3DB504F3#32)
    ((hQ t _).trans (congrArg (fun c => silu (A.conv 0 (Args.pos n t).val c)) (Fin.ext (by show 512 + d.val = 512 + (0 * 128 + d.val); omega)))))
  v := fun t d => (ld_cols 0 0 _ W.v (0 : Fin 2) t d ⟨0 + d.val, by omega⟩ rfl rfl).trans
    ((w.v 0 t _).trans (congrArg A.a0 (congrArg (ix3 (0 : Fin 2) (Args.pos n t)) (Fin.ext (by show 1024 + (0 + d.val) = 1024 + (0 * 128 + d.val); omega)))))
  ic := fun t => (hd0_ic ..).trans (gates_i w 0 0 W.sm0 w.sm0 t)
  ir := fun t => (hd0_ir ..).trans (gates_i w 0 0 W.sm0 w.sm0 t)
  bc := fun t => (hd0_bc ..).trans (bsum_f w 0 0 W.sm0 w.sm0 t)
  br := fun t => (hd0_br ..).trans (bsum_f w 0 0 W.sm0 w.sm0 t)
  C := fun d e => (ld_row (n0 := 8) (n1 := 128) (n2 := 128) 0 _ Y.C (0 : Fin 8) d e rfl).trans (hY.C 0 0 d e)
  n := fun d => (ld_row (n0 := 8) (n1 := 1) (n2 := 128) 0 _ Y.N (0 : Fin 8) (0 : Fin 1) d rfl).trans (hY.N 0 0 d)
  m := (ld_row (n0 := 8) (n1 := 1) (n2 := 1) 0 _ Y.M (0 : Fin 8) (0 : Fin 1) (0 : Fin 1) rfl).trans (hY.M 0 0)

theorem out0 {Q : FVec Ideal S128x1024 .f32} {Y : Cr} (hQ : QRel Q A 0 n) (hY : YRel Y A n.val) (i j : Fin 128) :
    (W.h0 Q Y).res
      (View.ld W.o (Rect.unit (s := S2x128x512) ![0, 0, 0] ![1, 128, 128] inb_S2x128x512_S1x128x128_0_0_0))
      (View.ld W.z (Rect.unit (s := S2x128x512) ![0, 0, 0] ![1, 128, 128] inb_S2x128x512_S1x128x128_0_0_0))
      (View.ld W.hn (Rect.unit (s := S1x512) ![0, 0] ![1, 128] inb_S1x512_S1x128_0_0)) (ix3 (0 : Fin 1) i j) = A.res 0 0 n i j := by
  have R := w.rel0 hQ hY
  have ho : View.ld W.o (Rect.unit (s := S2x128x512) ![0, 0, 0] ![1, 128, 128] inb_S2x128x512_S1x128x128_0_0_0) (ix3 (0 : Fin 1) i j)
      = A.a0 (ix3 (0 : Fin 2) (Args.pos n i) (Args.hcol 1536 (by decide) 0 j)) :=
    (ld_cols 0 0 _ W.o (0 : Fin 2) i j ⟨0 + j.val, by omega⟩ rfl rfl).trans
      ((w.o 0 i _).trans (congrArg A.a0 (congrArg (ix3 (0 : Fin 2) (Args.pos n i)) (Fin.ext (by show 1536 + (0 + j.val) = 1536 + (0 * 128 + j.val); omega)))))
  have hz : View.ld W.z (Rect.unit (s := S2x128x512) ![0, 0, 0] ![1, 128, 128] inb_S2x128x512_S1x128x128_0_0_0) (ix3 (0 : Fin 1) i j)
      = A.a0 (ix3 (0 : Fin 2) (Args.pos n i) (Args.hcol 2048 (by decide) 0 j)) :=
    (ld_cols 0 0 _ W.z (0 : Fin 2) i j ⟨0 + j.val, by omega⟩ rfl rfl).trans
      ((w.z 0 i _).trans (congrArg A.a0 (congrArg (ix3 (0 : Fin 2) (Args.pos n i)) (Fin.ext (by show 2048 + (0 + j.val) = 2048 + (0 * 128 + j.val); omega)))))
  have hw : View.ld W.hn (Rect.unit (s := S1x512) ![0, 0] ![1, 128] inb_S1x512_S1x128_0_0) (ix2 (0 : Fin 1) j)
      = A.a4 (ix1 (⟨(0 : Fin 4).val * 128 + j.val, by omega⟩ : Fin 512)) :=
    (ld_hn 0 _ W.hn j ⟨0 + j.val, by omega⟩ rfl).trans ((w.hn _).trans (congrArg A.a4 (congrArg ix1 (Fin.ext rfl))))
  rw [Hd.res_apply R, ho, hz, hw]
  rfl

theorem rel1 {Q : FVec Ideal S128x1024 .f32} {Y : Cr} (hQ : QRel Q A 0 n) (hY : YRel Y A n.val) :
    (W.h1 Q Y).Rel (A.inp 0 1 n) (A.st 0 1 n.val) where
  q := fun t d => (hd1_q ..).trans ((hQ t _).trans (congrArg (fun c => silu (A.conv 0 (Args.pos n t).val c)) (Fin.ext rfl)))
  k := fun t d => (hd1_k ..).trans (congrArg (· * Ideal.ofBits .f32 0x3DB504F3#32)
    ((hQ t _).trans (congrArg (fun c => silu (A.conv 0 (Args.pos n t).val c)) (Fin.ext (by show 640 + d.val = 512 + (1 * 128 + d.val); omega)))))
  v := fun t d => (ld_cols 0 128 _ W.v (0 : Fin 2) t d ⟨128 + d.val, by omega⟩ rfl rfl).trans
    ((w.v 0 t _).trans (congrArg A.a0 (congrArg (ix3 (0 : Fin 2) (Args.pos n t)) (Fin.ext (by show 1024 + (128 + d.val) = 1024 + (1 * 128 + d.val); omega)))))
  ic := fun t => (hd1_ic ..).trans (gates_i w 0 1 W.sm0 w.sm0 t)
  ir := fun t => (hd1_ir ..).trans (gates_i w 0 1 W.sm0 w.sm0 t)
  bc := fun t => (hd1_bc ..).trans (bsum_f w 0 1 W.sm0 w.sm0 t)
  br := fun t => (hd1_br ..).trans (bsum_f w 0 1 W.sm0 w.sm0 t)
  C := fun d e => (ld_row (n0 := 8) (n1 := 128) (n2 := 128) 1 _ Y.C (1 : Fin 8) d e rfl).trans (hY.C 0 1 d e)
  n := fun d => (ld_row (n0 := 8) (n1 := 1) (n2 := 128) 1 _ Y.N (1 : Fin 8) (0 : Fin 1) d rfl).trans (hY.N 0 1 d)
  m := (ld_row (n0 := 8) (n1 := 1) (n2 := 1) 1 _ Y.M (1 : Fin 8) (0 : Fin 1) (0 : Fin 1) rfl).trans (hY.M 0 1)

theorem out1 {Q : FVec Ideal S128x1024 .f32} {Y : Cr} (hQ : QRel Q A 0 n) (hY : YRel Y A n.val) (i j : Fin 128) :
    (W.h1 Q Y).res
      (View.ld W.o (Rect.unit (s := S2x128x512) ![0, 0, 128] ![1, 128, 128] inb_S2x128x512_S1x128x128_0_0_128))
      (View.ld W.z (Rect.unit (s := S2x128x512) ![0, 0, 128] ![1, 128, 128] inb_S2x128x512_S1x128x128_0_0_128))
      (View.ld W.hn (Rect.unit (s := S1x512) ![0, 128] ![1, 128] inb_S1x512_S1x128_0_128)) (ix3 (0 : Fin 1) i j) = A.res 0 1 n i j := by
  have R := w.rel1 hQ hY
  have ho : View.ld W.o (Rect.unit (s := S2x128x512) ![0, 0, 128] ![1, 128, 128] inb_S2x128x512_S1x128x128_0_0_128) (ix3 (0 : Fin 1) i j)
      = A.a0 (ix3 (0 : Fin 2) (Args.pos n i) (Args.hcol 1536 (by decide) 1 j)) :=
    (ld_cols 0 128 _ W.o (0 : Fin 2) i j ⟨128 + j.val, by omega⟩ rfl rfl).trans
      ((w.o 0 i _).trans (congrArg A.a0 (congrArg (ix3 (0 : Fin 2) (Args.pos n i)) (Fin.ext (by show 1536 + (128 + j.val) = 1536 + (1 * 128 + j.val); omega)))))
  have hz : View.ld W.z (Rect.unit (s := S2x128x512) ![0, 0, 128] ![1, 128, 128] inb_S2x128x512_S1x128x128_0_0_128) (ix3 (0 : Fin 1) i j)
      = A.a0 (ix3 (0 : Fin 2) (Args.pos n i) (Args.hcol 2048 (by decide) 1 j)) :=
    (ld_cols 0 128 _ W.z (0 : Fin 2) i j ⟨128 + j.val, by omega⟩ rfl rfl).trans
      ((w.z 0 i _).trans (congrArg A.a0 (congrArg (ix3 (0 : Fin 2) (Args.pos n i)) (Fin.ext (by show 2048 + (128 + j.val) = 2048 + (1 * 128 + j.val); omega)))))
  have hw : View.ld W.hn (Rect.unit (s := S1x512) ![0, 128] ![1, 128] inb_S1x512_S1x128_0_128) (ix2 (0 : Fin 1) j)
      = A.a4 (ix1 (⟨(1 : Fin 4).val * 128 + j.val, by omega⟩ : Fin 512)) :=
    (ld_hn 128 _ W.hn j ⟨128 + j.val, by omega⟩ rfl).trans ((w.hn _).trans (congrArg A.a4 (congrArg ix1 (Fin.ext rfl))))
  rw [Hd.res_apply R, ho, hz, hw]
  rfl

theorem rel2 {Q : FVec Ideal S128x1024 .f32} {Y : Cr} (hQ : QRel Q A 0 n) (hY : YRel Y A n.val) :
    (W.h2 Q Y).Rel (A.inp 0 2 n) (A.st 0 2 n.val) where
  q := fun t d => (hd2_q ..).trans ((hQ t _).trans (congrArg (fun c => silu (A.conv 0 (Args.pos n t).val c)) (Fin.ext rfl)))
  k := fun t d => (hd2_k ..).trans (congrArg (· * Ideal.ofBits .f32 0x3DB504F3#32)
    ((hQ t _).trans (congrArg (fun c => silu (A.conv 0 (Args.pos n t).val c)) (Fin.ext (by show 768 + d.val = 512 + (2 * 128 + d.val); omega)))))
  v := fun t d => (ld_cols 0 256 _ W.v (0 : Fin 2) t d ⟨256 + d.val, by omega⟩ rfl rfl).trans
    ((w.v 0 t _).trans (congrArg A.a0 (congrArg (ix3 (0 : Fin 2) (Args.pos n t)) (Fin.ext (by show 1024 + (256 + d.val) = 1024 + (2 * 128 + d.val); omega)))))
  ic := fun t => (hd2_ic ..).trans (gates_i w 0 2 W.sm0 w.sm0 t)
  ir := fun t => (hd2_ir ..).trans (gates_i w 0 2 W.sm0 w.sm0 t)
  bc := fun t => (hd2_bc ..).trans (bsum_f w 0 2 W.sm0 w.sm0 t)
  br := fun t => (hd2_br ..).trans (bsum_f w 0 2 W.sm0 w.sm0 t)
  C := fun d e => (ld_row (n0 := 8) (n1 := 128) (n2 := 128) 2 _ Y.C (2 : Fin 8) d e rfl).trans (hY.C 0 2 d e)
  n := fun d => (ld_row (n0 := 8) (n1 := 1) (n2 := 128) 2 _ Y.N (2 : Fin 8) (0 : Fin 1) d rfl).trans (hY.N 0 2 d)
  m := (ld_row (n0 := 8) (n1 := 1) (n2 := 1) 2 _ Y.M (2 : Fin 8) (0 : Fin 1) (0 : Fin 1) rfl).trans (hY.M 0 2)

theorem out2 {Q : FVec Ideal S128x1024 .f32} {Y : Cr} (hQ : QRel Q A 0 n) (hY : YRel Y A n.val) (i j : Fin 128) :
    (W.h2 Q Y).res
      (View.ld W.o (Rect.unit (s := S2x128x512) ![0, 0, 256] ![1, 128, 128] inb_S2x128x512_S1x128x128_0_0_256))
      (View.ld W.z (Rect.unit (s := S2x128x512) ![0, 0, 256] ![1, 128, 128] inb_S2x128x512_S1x128x128_0_0_256))
      (View.ld W.hn (Rect.unit (s := S1x512) ![0, 256] ![1, 128] inb_S1x512_S1x128_0_256)) (ix3 (0 : Fin 1) i j) = A.res 0 2 n i j := by
  have R := w.rel2 hQ hY
  have ho : View.ld W.o (Rect.unit (s := S2x128x512) ![0, 0, 256] ![1, 128, 128] inb_S2x128x512_S1x128x128_0_0_256) (ix3 (0 : Fin 1) i j)
      = A.a0 (ix3 (0 : Fin 2) (Args.pos n i) (Args.hcol 1536 (by decide) 2 j)) :=
    (ld_cols 0 256 _ W.o (0 : Fin 2) i j ⟨256 + j.val, by omega⟩ rfl rfl).trans
      ((w.o 0 i _).trans (congrArg A.a0 (congrArg (ix3 (0 : Fin 2) (Args.pos n i)) (Fin.ext (by show 1536 + (256 + j.val) = 1536 + (2 * 128 + j.val); omega)))))
  have hz : View.ld W.z (Rect.unit (s := S2x128x512) ![0, 0, 256] ![1, 128, 128] inb_S2x128x512_S1x128x128_0_0_256) (ix3 (0 : Fin 1) i j)
      = A.a0 (ix3 (0 : Fin 2) (Args.pos n i) (Args.hcol 2048 (by decide) 2 j)) :=
    (ld_cols 0 256 _ W.z (0 : Fin 2) i j ⟨256 + j.val, by omega⟩ rfl rfl).trans
      ((w.z 0 i _).trans (congrArg A.a0 (congrArg (ix3 (0 : Fin 2) (Args.pos n i)) (Fin.ext (by show 2048 + (256 + j.val) = 2048 + (2 * 128 + j.val); omega)))))
  have hw : View.ld W.hn (Rect.unit (s := S1x512) ![0, 256] ![1, 128] inb_S1x512_S1x128_0_256) (ix2 (0 : Fin 1) j)
      = A.a4 (ix1 (⟨(2 : Fin 4).val * 128 + j.val, by omega⟩ : Fin 512)) :=
    (ld_hn 256 _ W.hn j ⟨256 + j.val, by omega⟩ rfl).trans ((w.hn _).trans (congrArg A.a4 (congrArg ix1 (Fin.ext rfl))))
  rw [Hd.res_apply R, ho, hz, hw]
  rfl

theorem rel3 {Q : FVec Ideal S128x1024 .f32} {Y : Cr} (hQ : QRel Q A 0 n) (hY : YRel Y A n.val) :
    (W.h3 Q Y).Rel (A.inp 0 3 n) (A.st 0 3 n.val) where
  q := fun t d => (hd3_q ..).trans ((hQ t _).trans (congrArg (fun c => silu (A.conv 0 (Args.pos n t).val c)) (Fin.ext rfl)))
  k := fun t d => (hd3_k ..).trans (congrArg (· * Ideal.ofBits .f32 0x3DB504F3#32)
    ((hQ t _).trans (congrArg (fun c => silu (A.conv 0 (Args.pos n t).val c)) (Fin.ext (by show 896 + d.val = 512 + (3 * 128 + d.val); omega)))))
  v := fun t d => (ld_cols 0 384 _ W.v (0 : Fin 2) t d ⟨384 + d.val, by omega⟩ rfl rfl).trans
    ((w.v 0 t _).trans (congrArg A.a0 (congrArg (ix3 (0 : Fin 2) (Args.pos n t)) (Fin.ext (by show 1024 + (384 + d.val) = 1024 + (3 * 128 + d.val); omega)))))
  ic := fun t => (hd3_ic ..).trans (gates_i w 0 3 W.sm0 w.sm0 t)
  ir := fun t => (hd3_ir ..).trans (gates_i w 0 3 W.sm0 w.sm0 t)
  bc := fun t => (hd3_bc ..).trans (bsum_f w 0 3 W.sm0 w.sm0 t)
  br := fun t => (hd3_br ..).trans (bsum_f w 0 3 W.sm0 w.sm0 t)
  C := fun d e => (ld_row (n0 := 8) (n1 := 128) (n2 := 128) 3 _ Y.C (3 : Fin 8) d e rfl).trans (hY.C 0 3 d e)
  n := fun d => (ld_row (n0 := 8) (n1 := 1) (n2 := 128) 3 _ Y.N (3 : Fin 8) (0 : Fin 1) d rfl).trans (hY.N 0 3 d)
  m := (ld_row (n0 := 8) (n1 := 1) (n2 := 1) 3 _ Y.M (3 : Fin 8) (0 : Fin 1) (0 : Fin 1) rfl).trans (hY.M 0 3)

theorem out3 {Q : FVec Ideal S128x1024 .f32} {Y : Cr} (hQ : QRel Q A 0 n) (hY : YRel Y A n.val) (i j : Fin 128) :
    (W.h3 Q Y).res
      (View.ld W.o (Rect.unit (s := S2x128x512) ![0, 0, 384] ![1, 128, 128] inb_S2x128x512_S1x128x128_0_0_384))
      (View.ld W.z (Rect.unit (s := S2x128x512) ![0, 0, 384] ![1, 128, 128] inb_S2x128x512_S1x128x128_0_0_384))
      (View.ld W.hn (Rect.unit (s := S1x512) ![0, 384] ![1, 128] inb_S1x512_S1x128_0_384)) (ix3 (0 : Fin 1) i j) = A.res 0 3 n i j := by
  have R := w.rel3 hQ hY
  have ho : View.ld W.o (Rect.unit (s := S2x128x512) ![0, 0, 384] ![1, 128, 128] inb_S2x128x512_S1x128x128_0_0_384) (ix3 (0 : Fin 1) i j)
      = A.a0 (ix3 (0 : Fin 2) (Args.pos n i) (Args.hcol 1536 (by decide) 3 j)) :=
    (ld_cols 0 384 _ W.o (0 : Fin 2) i j ⟨384 + j.val, by omega⟩ rfl rfl).trans
      ((w.o 0 i _).trans (congrArg A.a0 (congrArg (ix3 (0 : Fin 2) (Args.pos n i)) (Fin.ext (by show 1536 + (384 + j.val) = 1536 + (3 * 128 + j.val); omega)))))
  have hz : View.ld W.z (Rect.unit (s := S2x128x512) ![0, 0, 384] ![1, 128, 128] inb_S2x128x512_S1x128x128_0_0_384) (ix3 (0 : Fin 1) i j)
      = A.a0 (ix3 (0 : Fin 2) (Args.pos n i) (Args.hcol 2048 (by decide) 3 j)) :=
    (ld_cols 0 384 _ W.z (0 : Fin 2) i j ⟨384 + j.val, by omega⟩ rfl rfl).trans
      ((w.z 0 i _).trans (congrArg A.a0 (congrArg (ix3 (0 : Fin 2) (Args.pos n i)) (Fin.ext (by show 2048 + (384 + j.val) = 2048 + (3 * 128 + j.val); omega)))))
  have hw : View.ld W.hn (Rect.unit (s := S1x512) ![0, 384] ![1, 128] inb_S1x512_S1x128_0_384) (ix2 (0 : Fin 1) j)
      = A.a4 (ix1 (⟨(3 : Fin 4).val * 128 + j.val, by omega⟩ : Fin 512)) :=
    (ld_hn 384 _ W.hn j ⟨384 + j.val, by omega⟩ rfl).trans ((w.hn _).trans (congrArg A.a4 (congrArg ix1 (Fin.ext rfl))))
  rw [Hd.res_apply R, ho, hz, hw]
  rfl

theorem rel4 {Q : FVec Ideal S128x1024 .f32} {Y : Cr} (hQ : QRel Q A 1 n) (hY : YRel Y A n.val) :
    (W.h4 Q Y).Rel (A.inp 1 0 n) (A.st 1 0 n.val) where
  q := fun t d => (hd0_q ..).trans ((hQ t _).trans (congrArg (fun c => silu (A.conv 1 (Args.pos n t).val c)) (Fin.ext rfl)))
  k := fun t d => (hd0_k ..).trans (congrArg (· * Ideal.ofBits .f32 0x3DB504F3#32)
    ((hQ t _).trans (congrArg (fun c => silu (A.conv 1 (Args.pos n t).val c)) (Fin.ext (by show 512 + d.val = 512 + (0 * 128 + d.val); omega)))))
  v := fun t d => (ld_cols 1 0 _ W.v (1 : Fin 2) t d ⟨0 + d.val, by omega⟩ rfl rfl).trans
    ((w.v 1 t _).trans (congrArg A.a0 (congrArg (ix3 (1 : Fin 2) (Args.pos n t)) (Fin.ext (by show 1024 + (0 + d.val) = 1024 + (0 * 128 + d.val); omega)))))
  ic := fun t => (hd0_ic ..).trans (gates_i w 1 0 W.sm1 w.sm1 t)
  ir := fun t => (hd0_ir ..).trans (gates_i w 1 0 W.sm1 w.sm1 t)
  bc := fun t => (hd0_bc ..).trans (bsum_f w 1 0 W.sm1 w.sm1 t)
  br := fun t => (hd0_br ..).trans (bsum_f w 1 0 W.sm1 w.sm1 t)
  C := fun d e => (ld_row (n0 := 8) (n1 := 128) (n2 := 128) 4 _ Y.C (4 : Fin 8) d e rfl).trans (hY.C 1 0 d e)
  n := fun d => (ld_row (n0 := 8) (n1 := 1) (n2 := 128) 4 _ Y.N (4 : Fin 8) (0 : Fin 1) d rfl).trans (hY.N 1 0 d)
  m := (ld_row (n0 := 8) (n1 := 1) (n2 := 1) 4 _ Y.M (4 : Fin 8) (0 : Fin 1) (0 : Fin 1) rfl).trans (hY.M 1 0)

theorem out4 {Q : FVec Ideal S128x1024 .f32} {Y : Cr} (hQ : QRel Q A 1 n) (hY : YRel Y A n.val) (i j : Fin 128) :
    (W.h4 Q Y).res
      (View.ld W.o (Rect.unit (s := S2x128x512) ![1, 0, 0] ![1, 128, 128] inb_S2x128x512_S1x128x128_1_0_0))
      (View.ld W.z (Rect.unit (s := S2x128x512) ![1, 0, 0] ![1, 128, 128] inb_S2x128x512_S1x128x128_1_0_0))
      (View.ld W.hn (Rect.unit (s := S1x512) ![0, 0] ![1, 128] inb_S1x512_S1x128_0_0)) (ix3 (0 : Fin 1) i j) = A.res 1 0 n i j := by
  have R := w.rel4 hQ hY
  have ho : View.ld W.o (Rect.unit (s := S2x128x512) ![1, 0, 0] ![1, 128, 128] inb_S2x128x512_S1x128x128_1_0_0) (ix3 (0 : Fin 1) i j)
      = A.a0 (ix3 (1 : Fin 2) (Args.pos n i) (Args.hcol 1536 (by decide) 0 j)) :=
    (ld_cols 1 0 _ W.o (1 : Fin 2) i j ⟨0 + j.val, by omega⟩ rfl rfl).trans
      ((w.o 1 i _).trans (congrArg A.a0 (congrArg (ix3 (1 : Fin 2) (Args.pos n i)) (Fin.ext (by show 1536 + (0 + j.val) = 1536 + (0 * 128 + j.val); omega)))))
  have hz : View.ld W.z (Rect.unit (s := S2x128x512) ![1, 0, 0] ![1, 128, 128] inb_S2x128x512_S1x128x128_1_0_0) (ix3 (0 : Fin 1) i j)
      = A.a0 (ix3 (1 : Fin 2) (Args.pos n i) (Args.hcol 2048 (by decide) 0 j)) :=
    (ld_cols 1 0 _ W.z (1 : Fin 2) i j ⟨0 + j.val, by omega⟩ rfl rfl).trans
      ((w.z 1 i _).trans (congrArg A.a0 (congrArg (ix3 (1 : Fin 2) (Args.pos n i)) (Fin.ext (by show 2048 + (0 + j.val) = 2048 + (0 * 128 + j.val); omega)))))
  have hw : View.ld W.hn (Rect.unit (s := S1x512) ![0, 0] ![1, 128] inb_S1x512_S1x128_0_0) (ix2 (0 : Fin 1) j)
      = A.a4 (ix1 (⟨(0 : Fin 4).val * 128 + j.val, by omega⟩ : Fin 512)) :=
    (ld_hn 0 _ W.hn j ⟨0 + j.val, by omega⟩ rfl).trans ((w.hn _).trans (congrArg A.a4 (congrArg ix1 (Fin.ext rfl))))
  rw [Hd.res_apply R, ho, hz, hw]
  rfl

theorem rel5 {Q : FVec Ideal S128x1024 .f32} {Y : Cr} (hQ : QRel Q A 1 n) (hY : YRel Y A n.val) :
    (W.h5 Q Y).Rel (A.inp 1 1 n) (A.st 1 1 n.val) where
  q := fun t d => (hd1_q ..).trans ((hQ t _).trans (congrArg (fun c => silu (A.conv 1 (Args.pos n t).val c)) (Fin.ext rfl)))
  k := fun t d => (hd1_k ..).trans (congrArg (· * Ideal.ofBits .f32 0x3DB504F3#32)
    ((hQ t _).trans (congrArg (fun c => silu (A.conv 1 (Args.pos n t).val c)) (Fin.ext (by show 640 + d.val = 512 + (1 * 128 + d.val); omega)))))
  v := fun t d => (ld_cols 1 128 _ W.v (1 : Fin 2) t d ⟨128 + d.val, by omega⟩ rfl rfl).trans
    ((w.v 1 t _).trans (congrArg A.a0 (congrArg (ix3 (1 : Fin 2) (Args.pos n t)) (Fin.ext (by show 1024 + (128 + d.val) = 1024 + (1 * 128 + d.val); omega)))))
  ic := fun t => (hd1_ic ..).trans (gates_i w 1 1 W.sm1 w.sm1 t)
  ir := fun t => (hd1_ir ..).trans (gates_i w 1 1 W.sm1 w.sm1 t)
  bc := fun t => (hd1_bc ..).trans (bsum_f w 1 1 W.sm1 w.sm1 t)
  br := fun t => (hd1_br ..).trans (bsum_f w 1 1 W.sm1 w.sm1 t)
  C := fun d e => (ld_row (n0 := 8) (n1 := 128) (n2 := 128) 5 _ Y.C (5 : Fin 8) d e rfl).trans (hY.C 1 1 d e)
  n := fun d => (ld_row (n0 := 8) (n1 := 1) (n2 := 128) 5 _ Y.N (5 : Fin 8) (0 : Fin 1) d rfl).trans (hY.N 1 1 d)
  m := (ld_row (n0 := 8) (n1 := 1) (n2 := 1) 5 _ Y.M (5 : Fin 8) (0 : Fin 1) (0 : Fin 1) rfl).trans (hY.M 1 1)

theorem out5 {Q : FVec Ideal S128x1024 .f32} {Y : Cr} (hQ : QRel Q A 1 n) (hY : YRel Y A n.val) (i j : Fin 128) :
    (W.h5 Q Y).res
      (View.ld W.o (Rect.unit (s := S2x128x512) ![1, 0, 128] ![1, 128, 128] inb_S2x128x512_S1x128x128_1_0_128))
      (View.ld W.z (Rect.unit (s := S2x128x512) ![1, 0, 128] ![1, 128, 128] inb_S2x128x512_S1x128x128_1_0_128))
      (View.ld W.hn (Rect.unit (s := S1x512) ![0, 128] ![1, 128] inb_S1x512_S1x128_0_128)) (ix3 (0 : Fin 1) i j) = A.res 1 1 n i j := by
  have R := w.rel5 hQ hY
  have ho : View.ld W.o (Rect.unit (s := S2x128x512) ![1, 0, 128] ![1, 128, 128] inb_S2x128x512_S1x128x128_1_0_128) (ix3 (0 : Fin 1) i j)
      = A.a0 (ix3 (1 : Fin 2) (Args.pos n i) (Args.hcol 1536 (by decide) 1 j)) :=
    (ld_cols 1 128 _ W.o (1 : Fin 2) i j ⟨128 + j.val, by omega⟩ rfl rfl).trans
      ((w.o 1 i _).trans (congrArg A.a0 (congrArg (ix3 (1 : Fin 2) (Args.pos n i)) (Fin.ext (by show 1536 + (128 + j.val) = 1536 + (1 * 128 + j.val); omega)))))
  have hz : View.ld W.z (Rect.unit (s := S2x128x512) ![1, 0, 128] ![1, 128, 128] inb_S2x128x512_S1x128x128_1_0_128) (ix3 (0 : Fin 1) i j)
      = A.a0 (ix3 (1 : Fin 2) (Args.pos n i) (Args.hcol 2048 (by decide) 1 j)) :=
    (ld_cols 1 128 _ W.z (1 : Fin 2) i j ⟨128 + j.val, by omega⟩ rfl rfl).trans
      ((w.z 1 i _).trans (congrArg A.a0 (congrArg (ix3 (1 : Fin 2) (Args.pos n i)) (Fin.ext (by show 2048 + (128 + j.val) = 2048 + (1 * 128 + j.val); omega)))))
  have hw : View.ld W.hn (Rect.unit (s := S1x512) ![0, 128] ![1, 128] inb_S1x512_S1x128_0_128) (ix2 (0 : Fin 1) j)
      = A.a4 (ix1 (⟨(1 : Fin 4).val * 128 + j.val, by omega⟩ : Fin 512)) :=
    (ld_hn 128 _ W.hn j ⟨128 + j.val, by omega⟩ rfl).trans ((w.hn _).trans (congrArg A.a4 (congrArg ix1 (Fin.ext rfl))))
  rw [Hd.res_apply R, ho, hz, hw]
  rfl

theorem rel6 {Q : FVec Ideal S128x1024 .f32} {Y : Cr} (hQ : QRel Q A 1 n) (hY : YRel Y A n.val) :
    (W.h6 Q Y).Rel (A.inp 1 2 n) (A.st 1 2 n.val) where
  q := fun t d => (hd2_q ..).trans ((hQ t _).trans (congrArg (fun c => silu (A.conv 1 (Args.pos n t).val c)) (Fin.ext rfl)))
  k := fun t d => (hd2_k ..).trans (congrArg (· * Ideal.ofBits .f32 0x3DB504F3#32)
    ((hQ t _).trans (congrArg (fun c => silu (A.conv 1 (Args.pos n t).val c)) (Fin.ext (by show 768 + d.val = 512 + (2 * 128 + d.val); omega)))))
  v := fun t d => (ld_cols 1 256 _ W.v (1 : Fin 2) t d ⟨256 + d.val, by omega⟩ rfl rfl).trans
    ((w.v 1 t _).trans (congrArg A.a0 (congrArg (ix3 (1 : Fin 2) (Args.pos n t)) (Fin.ext (by show 1024 + (256 + d.val) = 1024 + (2 * 128 + d.val); omega)))))
  ic := fun t => (hd2_ic ..).trans (gates_i w 1 2 W.sm1 w.sm1 t)
  ir := fun t => (hd2_ir ..).trans (gates_i w 1 2 W.sm1 w.sm1 t)
  bc := fun t => (hd2_bc ..).trans (bsum_f w 1 2 W.sm1 w.sm1 t)
  br := fun t => (hd2_br ..).trans (bsum_f w 1 2 W.sm1 w.sm1 t)
  C := fun d e => (ld_row (n0 := 8) (n1 := 128) (n2 := 128) 6 _ Y.C (6 : Fin 8) d e rfl).trans (hY.C 1 2 d e)
  n := fun d => (ld_row (n0 := 8) (n1 := 1) (n2 := 128) 6 _ Y.N (6 : Fin 8) (0 : Fin 1) d rfl).trans (hY.N 1 2 d)
  m := (ld_row (n0 := 8) (n1 := 1) (n2 := 1) 6 _ Y.M (6 : Fin 8) (0 : Fin 1) (0 : Fin 1) rfl).trans (hY.M 1 2)

theorem out6 {Q : FVec Ideal S128x1024 .f32} {Y : Cr} (hQ : QRel Q A 1 n) (hY : YRel Y A n.val) (i j : Fin 128) :
    (W.h6 Q Y).res
      (View.ld W.o (Rect.unit (s := S2x128x512) ![1, 0, 256] ![1, 128, 128] inb_S2x128x512_S1x128x128_1_0_256))
      (View.ld W.z (Rect.unit (s := S2x128x512) ![1, 0, 256] ![1, 128, 128] inb_S2x128x512_S1x128x128_1_0_256))
      (View.ld W.hn (Rect.unit (s := S1x512) ![0, 256] ![1, 128] inb_S1x512_S1x128_0_256)) (ix3 (0 : Fin 1) i j) = A.res 1 2 n i j := by
  have R := w.rel6 hQ hY
  have ho : View.ld W.o (Rect.unit (s := S2x128x512) ![1, 0, 256] ![1, 128, 128] inb_S2x128x512_S1x128x128_1_0_256) (ix3 (0 : Fin 1) i j)
      = A.a0 (ix3 (1 : Fin 2) (Args.pos n i) (Args.hcol 1536 (by decide) 2 j)) :=
    (ld_cols 1 256 _ W.o (1 : Fin 2) i j ⟨256 + j.val, by omega⟩ rfl rfl).trans
      ((w.o 1 i _).trans (congrArg A.a0 (congrArg (ix3 (1 : Fin 2) (Args.pos n i)) (Fin.ext (by show 1536 + (256 + j.val) = 1536 + (2 * 128 + j.val); omega)))))
  have hz : View.ld W.z (Rect.unit (s := S2x128x512) ![1, 0, 256] ![1, 128, 128] inb_S2x128x512_S1x128x128_1_0_256) (ix3 (0 : Fin 1) i j)
      = A.a0 (ix3 (1 : Fin 2) (Args.pos n i) (Args.hcol 2048 (by decide) 2 j)) :=
    (ld_cols 1 256 _ W.z (1 : Fin 2) i j ⟨256 + j.val, by omega⟩ rfl rfl).trans
      ((w.z 1 i _).trans (congrArg A.a0 (congrArg (ix3 (1 : Fin 2) (Args.pos n i)) (Fin.ext (by show 2048 + (256 + j.val) = 2048 + (2 * 128 + j.val); omega)))))
  have hw : View.ld W.hn (Rect.unit (s := S1x512) ![0, 256] ![1, 128] inb_S1x512_S1x128_0_256) (ix2 (0 : Fin 1) j)
      = A.a4 (ix1 (⟨(2 : Fin 4).val * 128 + j.val, by omega⟩ : Fin 512)) :=
    (ld_hn 256 _ W.hn j ⟨256 + j.val, by omega⟩ rfl).trans ((w.hn _).trans (congrArg A.a4 (congrArg ix1 (Fin.ext rfl))))
  rw [Hd.res_apply R, ho, hz, hw]
  rfl

theorem rel7 {Q : FVec Ideal S128x1024 .f32} {Y : Cr} (hQ : QRel Q A 1 n) (hY : YRel Y A n.val) :
    (W.h7 Q Y).Rel (A.inp 1 3 n) (A.st 1 3 n.val) where
  q := fun t d => (hd3_q ..).trans ((hQ t _).trans (congrArg (fun c => silu (A.conv 1 (Args.pos n t).val c)) (Fin.ext rfl)))
  k := fun t d => (hd3_k ..).trans (congrArg (· * Ideal.ofBits .f32 0x3DB504F3#32)
    ((hQ t _).trans (congrArg (fun c => silu (A.conv 1 (Args.pos n t).val c)) (Fin.ext (by show 896 + d.val = 512 + (3 * 128 + d.val); omega)))))
  v := fun t d => (ld_cols 1 384 _ W.v (1 : Fin 2) t d ⟨384 + d.val, by omega⟩ rfl rfl).trans
    ((w.v 1 t _).trans (congrArg A.a0 (congrArg (ix3 (1 : Fin 2) (Args.pos n t)) (Fin.ext (by show 1024 + (384 + d.val) = 1024 + (3 * 128 + d.val); omega)))))
  ic := fun t => (hd3_ic ..).trans (gates_i w 1 3 W.sm1 w.sm1 t)
  ir := fun t => (hd3_ir ..).trans (gates_i w 1 3 W.sm1 w.sm1 t)
  bc := fun t => (hd3_bc ..).trans (bsum_f w 1 3 W.sm1 w.sm1 t)
  br := fun t => (hd3_br ..).trans (bsum_f w 1 3 W.sm1 w.sm1 t)
  C := fun d e => (ld_row (n0 := 8) (n1 := 128) (n2 := 128) 7 _ Y.C (7 : Fin 8) d e rfl).trans (hY.C 1 3 d e)
  n := fun d => (ld_row (n0 := 8) (n1 := 1) (n2 := 128) 7 _ Y.N (7 : Fin 8) (0 : Fin 1) d rfl).trans (hY.N 1 3 d)
  m := (ld_row (n0 := 8) (n1 := 1) (n2 := 1) 7 _ Y.M (7 : Fin 8) (0 : Fin 1) (0 : Fin 1) rfl).trans (hY.M 1 3)

theorem out7 {Q : FVec Ideal S128x1024 .f32} {Y : Cr} (hQ : QRel Q A 1 n) (hY : YRel Y A n.val) (i j : Fin 128) :
    (W.h7 Q Y).res
      (View.ld W.o (Rect.unit (s := S2x128x512) ![1, 0, 384] ![1, 128, 128] inb_S2x128x512_S1x128x128_1_0_384))
      (View.ld W.z (Rect.unit (s := S2x128x512) ![1, 0, 384] ![1, 128, 128] inb_S2x128x512_S1x128x128_1_0_384))
      (View.ld W.hn (Rect.unit (s := S1x512) ![0, 384] ![1, 128] inb_S1x512_S1x128_0_384)) (ix3 (0 : Fin 1) i j) = A.res 1 3 n i j := by
  have R := w.rel7 hQ hY
  have ho : View.ld W.o (Rect.unit (s := S2x128x512) ![1, 0, 384] ![1, 128, 128] inb_S2x128x512_S1x128x128_1_0_384) (ix3 (0 : Fin 1) i j)
      = A.a0 (ix3 (1 : Fin 2) (Args.pos n i) (Args.hcol 1536 (by decide) 3 j)) :=
    (ld_cols 1 384 _ W.o (1 : Fin 2) i j ⟨384 + j.val, by omega⟩ rfl rfl).trans
      ((w.o 1 i _).trans (congrArg A.a0 (congrArg (ix3 (1 : Fin 2) (Args.pos n i)) (Fin.ext (by show 1536 + (384 + j.val) = 1536 + (3 * 128 + j.val); omega)))))
  have hz : View.ld W.z (Rect.unit (s := S2x128x512) ![1, 0, 384] ![1, 128, 128] inb_S2x128x512_S1x128x128_1_0_384) (ix3 (0 : Fin 1) i j)
      = A.a0 (ix3 (1 : Fin 2) (Args.pos n i) (Args.hcol 2048 (by decide) 3 j)) :=
    (ld_cols 1 384 _ W.z (1 : Fin 2) i j ⟨384 + j.val, by omega⟩ rfl rfl).trans
      ((w.z 1 i _).trans (congrArg A.a0 (congrArg (ix3 (1 : Fin 2) (Args.pos n i)) (Fin.ext (by show 2048 + (384 + j.val) = 2048 + (3 * 128 + j.val); omega)))))
  have hw : View.ld W.hn (Rect.unit (s := S1x512) ![0, 384] ![1, 128] inb_S1x512_S1x128_0_384) (ix2 (0 : Fin 1) j)
      = A.a4 (ix1 (⟨(3 : Fin 4).val * 128 + j.val, by omega⟩ : Fin 512)) :=
    (ld_hn 384 _ W.hn j ⟨384 + j.val, by omega⟩ rfl).trans ((w.hn _).trans (congrArg A.a4 (congrArg ix1 (Fin.ext rfl))))
  rw [Hd.res_apply R, ho, hz, hw]
  rfl

end WRel
end Cert.Proof.K
-- ==== Proof.KOpenMA.lean ====
module
public import proofs.«01_k».proof.Proof.KStep
public import Idealize.ShloMosaic.Lib.Pipeline.ValueKit
public import Idealize.ShloMosaic.Lib.Pipeline.ReadBack

/-!
# The stabilizers a point leaves, at the first point
-/

@[expose] public section
set_option maxRecDepth 16384
noncomputable section
namespace Cert.Proof.K
open Idealize.ShloMosaic Cert.KernelIdeal Cert.KernelIdeal.Gen

set_option maxHeartbeats 0 in
theorem openM_A (m : (ℓ : Loc nD τ sig) → Buf (Elt Ideal) ℓ) (c : Dev nD) (t : Fin cfg0.N) (h0 : t.val % 64 = 0) :
    (outsAt0 m c t.val t.isLt).2.2.2.2 = (wn m c t).M1
      (qk (wn m c t).xA0 (wn m c t).cw (wn m c t).cb)
      (qk (wn m c t).xA1 (wn m c t).cw (wn m c t).cb)
      crA tM := by
  suffices H : ∀ V, V = (wn m c t).M1
      (qk (wn m c t).xA0 (wn m c t).cw (wn m c t).cb)
      (qk (wn m c t).xA1 (wn m c t).cw (wn m c t).cb)
      crA tM → (outsAt0 m c t.val t.isLt).2.2.2.2 = V from H _ rfl
  intro V hV
  rw [outsAt0_A m c t h0]
  dsimp only
  frame_open
  simp (disch := decide) only [↓ View.readCov_skip, ↓ View.readCov_cons_toLoadRect, ↓ View.readCov_fill]
  frame_out
  subst hV
  rfl

end Cert.Proof.K
-- ==== Proof.KOpenMB.lean ====
module
public import proofs.«01_k».proof.Proof.KStep
public import Idealize.ShloMosaic.Lib.Pipeline.ValueKit
public import Idealize.ShloMosaic.Lib.Pipeline.ReadBack

/-!
# The stabilizers a point leaves, at a later point
-/

@[expose] public section
set_option maxRecDepth 16384
noncomputable section
namespace Cert.Proof.K
open Idealize.ShloMosaic Cert.KernelIdeal Cert.KernelIdeal.Gen

set_option maxHeartbeats 0 in
theorem openM_B (m : (ℓ : Loc nD τ sig) → Buf (Elt Ideal) ℓ) (c : Dev nD) (t : Fin cfg0.N) (h0 : ¬t.val % 64 = 0) :
    (outsAt0 m c t.val t.isLt).2.2.2.2 = (wn m c t).M1
      (qk ((wn m c t).xB0 (outsAt0 m c (t.val - 1) (Nat.lt_of_le_of_lt (Nat.sub_le _ _) t.isLt)).2.1) (wn m c t).cw (wn m c t).cb)
      (qk ((wn m c t).xB1 (outsAt0 m c (t.val - 1) (Nat.lt_of_le_of_lt (Nat.sub_le _ _) t.isLt)).2.1) (wn m c t).cw (wn m c t).cb)
      (crB m c (t.val - 1) (Nat.lt_of_le_of_lt (Nat.sub_le _ _) t.isLt)) [] := by
  suffices H : ∀ V, V = (wn m c t).M1
      (qk ((wn m c t).xB0 (outsAt0 m c (t.val - 1) (Nat.lt_of_le_of_lt (Nat.sub_le _ _) t.isLt)).2.1) (wn m c t).cw (wn m c t).cb)
      (qk ((wn m c t).xB1 (outsAt0 m c (t.val - 1) (Nat.lt_of_le_of_lt (Nat.sub_le _ _) t.isLt)).2.1) (wn m c t).cw (wn m c t).cb)
      (crB m c (t.val - 1) (Nat.lt_of_le_of_lt (Nat.sub_le _ _) t.isLt)) [] → (outsAt0 m c t.val t.isLt).2.2.2.2 = V from H _ rfl
  intro V hV
  rw [outsAt0_B m c t h0]
  dsimp only
  frame_open
  simp (disch := decide) only [↓ View.readCov_skip, ↓ View.readCov_cons_toLoadRect, ↓ View.readCov_fill]
  frame_out
  simp only [read_unread_whole]
  subst hV
  rfl

end Cert.Proof.K
-- ==== Proof.KOpenNA.lean ====
module
public import proofs.«01_k».proof.Proof.KOpenMA
public import proofs.«01_k».proof.Proof.KStep
public import Idealize.ShloMosaic.Lib.Pipeline.ValueKit
public import Idealize.ShloMosaic.Lib.Pipeline.ReadBack

/-!
# The normalizers a point leaves, at the first point
-/

@[expose] public section
set_option maxRecDepth 16384
noncomputable section
namespace Cert.Proof.K
open Idealize.ShloMosaic Cert.KernelIdeal Cert.KernelIdeal.Gen

set_option maxHeartbeats 0 in
theorem openN_A (m : (ℓ : Loc nD τ sig) → Buf (Elt Ideal) ℓ) (c : Dev nD) (t : Fin cfg0.N) (h0 : t.val % 64 = 0) :
    (outsAt0 m c t.val t.isLt).2.2.2.1 = (wn m c t).N1
      (qk (wn m c t).xA0 (wn m c t).cw (wn m c t).cb)
      (qk (wn m c t).xA1 (wn m c t).cw (wn m c t).cb)
      crA tN := by
  suffices H : ∀ V, V = (wn m c t).N1
      (qk (wn m c t).xA0 (wn m c t).cw (wn m c t).cb)
      (qk (wn m c t).xA1 (wn m c t).cw (wn m c t).cb)
      crA tN → (outsAt0 m c t.val t.isLt).2.2.2.1 = V from H _ rfl
  intro V hV
  rw [outsAt0_A m c t h0]
  dsimp only
  frame_open
  simp (disch := decide) only [↓ View.readCov_skip, ↓ View.readCov_cons_toLoadRect, ↓ View.readCov_fill]
  frame_out
  subst hV
  rfl

end Cert.Proof.K
-- ==== Proof.KOpenNB.lean ====
module
public import proofs.«01_k».proof.Proof.KOpenMB
public import proofs.«01_k».proof.Proof.KStep
public import Idealize.ShloMosaic.Lib.Pipeline.ValueKit
public import Idealize.ShloMosaic.Lib.Pipeline.ReadBack

/-!
# The normalizers a point leaves, at a later point
-/

@[expose] public section
set_option maxRecDepth 16384
noncomputable section
namespace Cert.Proof.K
open Idealize.ShloMosaic Cert.KernelIdeal Cert.KernelIdeal.Gen

set_option maxHeartbeats 0 in
theorem openN_B (m : (ℓ : Loc nD τ sig) → Buf (Elt Ideal) ℓ) (c : Dev nD) (t : Fin cfg0.N) (h0 : ¬t.val % 64 = 0) :
    (outsAt0 m c t.val t.isLt).2.2.2.1 = (wn m c t).N1
      (qk ((wn m c t).xB0 (outsAt0 m c (t.val - 1) (Nat.lt_of_le_of_lt (Nat.sub_le _ _) t.isLt)).2.1) (wn m c t).cw (wn m c t).cb)
      (qk ((wn m c t).xB1 (outsAt0 m c (t.val - 1) (Nat.lt_of_le_of_lt (Nat.sub_le _ _) t.isLt)).2.1) (wn m c t).cw (wn m c t).cb)
      (crB m c (t.val - 1) (Nat.lt_of_le_of_lt (Nat.sub_le _ _) t.isLt)) [] := by
  suffices H : ∀ V, V = (wn m c t).N1
      (qk ((wn m c t).xB0 (outsAt0 m c (t.val - 1) (Nat.lt_of_le_of_lt (Nat.sub_le _ _) t.isLt)).2.1) (wn m c t).cw (wn m c t).cb)
      (qk ((wn m c t).xB1 (outsAt0 m c (t.val - 1) (Nat.lt_of_le_of_lt (Nat.sub_le _ _) t.isLt)).2.1) (wn m c t).cw (wn m c t).cb)
      (crB m c (t.val - 1) (Nat.lt_of_le_of_lt (Nat.sub_le _ _) t.isLt)) [] → (outsAt0 m c t.val t.isLt).2.2.2.1 = V from H _ rfl
  intro V hV
  rw [outsAt0_B m c t h0]
  dsimp only
  frame_open
  simp (disch := decide) only [↓ View.readCov_skip, ↓ View.readCov_cons_toLoadRect, ↓ View.readCov_fill]
  frame_out
  simp only [read_unread_whole]
  subst hV
  rfl

end Cert.Proof.K
-- ==== Proof.KOpenXA.lean ====
module
public import proofs.«01_k».proof.Proof.KStep
public import Idealize.ShloMosaic.Lib.Pipeline.ValueKit
public import Idealize.ShloMosaic.Lib.Pipeline.ReadBack

/-!
# The rows a point leaves, at the first point
-/

@[expose] public section
set_option maxRecDepth 16384
noncomputable section
namespace Cert.Proof.K
open Idealize.ShloMosaic Cert.KernelIdeal Cert.KernelIdeal.Gen

set_option maxHeartbeats 0 in
theorem openX_A (m : (ℓ : Loc nD τ sig) → Buf (Elt Ideal) ℓ) (c : Dev nD) (t : Fin cfg0.N) (h0 : t.val % 64 = 0) :
    (outsAt0 m c t.val t.isLt).2.1 = (wn m c t).XA := by
  suffices H : ∀ V, V = (wn m c t).XA → (outsAt0 m c t.val t.isLt).2.1 = V from H _ rfl
  intro V hV
  rw [outsAt0_A m c t h0]
  dsimp only
  frame_open
  simp (disch := decide) only [↓ View.readCov_skip, ↓ View.readCov_cons_toLoadRect, ↓ View.readCov_fill]
  frame_out
  subst hV
  rfl

end Cert.Proof.K
-- ==== Proof.KOpenCA.lean ====
module
public import proofs.«01_k».proof.Proof.KOpenXA
public import proofs.«01_k».proof.Proof.KStep
public import Idealize.ShloMosaic.Lib.Pipeline.ValueKit
public import Idealize.ShloMosaic.Lib.Pipeline.ReadBack

/-!
# The matrices a point leaves, at the first point
-/

@[expose] public section
set_option maxRecDepth 16384
noncomputable section
namespace Cert.Proof.K
open Idealize.ShloMosaic Cert.KernelIdeal Cert.KernelIdeal.Gen

set_option maxHeartbeats 0 in
theorem openC_A (m : (ℓ : Loc nD τ sig) → Buf (Elt Ideal) ℓ) (c : Dev nD) (t : Fin cfg0.N) (h0 : t.val % 64 = 0) :
    (outsAt0 m c t.val t.isLt).2.2.1 = (wn m c t).C1
      (qk (wn m c t).xA0 (wn m c t).cw (wn m c t).cb)
      (qk (wn m c t).xA1 (wn m c t).cw (wn m c t).cb)
      crA tC := by
  suffices H : ∀ V, V = (wn m c t).C1
      (qk (wn m c t).xA0 (wn m c t).cw (wn m c t).cb)
      (qk (wn m c t).xA1 (wn m c t).cw (wn m c t).cb)
      crA tC → (outsAt0 m c t.val t.isLt).2.2.1 = V from H _ rfl
  intro V hV
  rw [outsAt0_A m c t h0]
  dsimp only
  frame_open
  simp (disch := decide) only [↓ View.readCov_skip, ↓ View.readCov_cons_toLoadRect, ↓ View.readCov_fill]
  frame_out
  subst hV
  rfl

end Cert.Proof.K
-- ==== Proof.KOpenXB.lean ====
module
public import proofs.«01_k».proof.Proof.KStep
public import Idealize.ShloMosaic.Lib.Pipeline.ValueKit
public import Idealize.ShloMosaic.Lib.Pipeline.ReadBack

/-!
# The rows a point leaves, at a later point
-/

@[expose] public section
set_option maxRecDepth 16384
noncomputable section
namespace Cert.Proof.K
open Idealize.ShloMosaic Cert.KernelIdeal Cert.KernelIdeal.Gen

set_option maxHeartbeats 0 in
theorem openX_B (m : (ℓ : Loc nD τ sig) → Buf (Elt Ideal) ℓ) (c : Dev nD) (t : Fin cfg0.N) (h0 : ¬t.val % 64 = 0) :
    (outsAt0 m c t.val t.isLt).2.1 = (wn m c t).XB (outsAt0 m c (t.val - 1) (Nat.lt_of_le_of_lt (Nat.sub_le _ _) t.isLt)).2.1 := by
  suffices H : ∀ V, V = (wn m c t).XB (outsAt0 m c (t.val - 1) (Nat.lt_of_le_of_lt (Nat.sub_le _ _) t.isLt)).2.1 → (outsAt0 m c t.val t.isLt).2.1 = V from H _ rfl
  intro V hV
  rw [outsAt0_B m c t h0]
  dsimp only
  frame_open
  simp (disch := decide) only [↓ View.readCov_skip, ↓ View.readCov_cons_toLoadRect, ↓ View.readCov_fill]
  frame_out
  subst hV
  rfl

end Cert.Proof.K
-- ==== Proof.KOpenCB.lean ====
module
public import proofs.«01_k».proof.Proof.KOpenXB
public import proofs.«01_k».proof.Proof.KStep
public import Idealize.ShloMosaic.Lib.Pipeline.ValueKit
public import Idealize.ShloMosaic.Lib.Pipeline.ReadBack

/-!
# The matrices a point leaves, at a later point
-/

@[expose] public section
set_option maxRecDepth 16384
noncomputable section
namespace Cert.Proof.K
open Idealize.ShloMosaic Cert.KernelIdeal Cert.KernelIdeal.Gen

set_option maxHeartbeats 0 in
theorem openC_B (m : (ℓ : Loc nD τ sig) → Buf (Elt Ideal) ℓ) (c : Dev nD) (t : Fin cfg0.N) (h0 : ¬t.val % 64 = 0) :
    (outsAt0 m c t.val t.isLt).2.2.1 = (wn m c t).C1
      (qk ((wn m c t).xB0 (outsAt0 m c (t.val - 1) (Nat.lt_of_le_of_lt (Nat.sub_le _ _) t.isLt)).2.1) (wn m c t).cw (wn m c t).cb)
      (qk ((wn m c t).xB1 (outsAt0 m c (t.val - 1) (Nat.lt_of_le_of_lt (Nat.sub_le _ _) t.isLt)).2.1) (wn m c t).cw (wn m c t).cb)
      (crB m c (t.val - 1) (Nat.lt_of_le_of_lt (Nat.sub_le _ _) t.isLt)) [] := by
  suffices H : ∀ V, V = (wn m c t).C1
      (qk ((wn m c t).xB0 (outsAt0 m c (t.val - 1) (Nat.lt_of_le_of_lt (Nat.sub_le _ _) t.isLt)).2.1) (wn m c t).cw (wn m c t).cb)
      (qk ((wn m c t).xB1 (outsAt0 m c (t.val - 1) (Nat.lt_of_le_of_lt (Nat.sub_le _ _) t.isLt)).2.1) (wn m c t).cw (wn m c t).cb)
      (crB m c (t.val - 1) (Nat.lt_of_le_of_lt (Nat.sub_le _ _) t.isLt)) [] → (outsAt0 m c t.val t.isLt).2.2.1 = V from H _ rfl
  intro V hV
  rw [outsAt0_B m c t h0]
  dsimp only
  frame_open
  simp (disch := decide) only [↓ View.readCov_skip, ↓ View.readCov_cons_toLoadRect, ↓ View.readCov_fill]
  frame_out
  simp only [read_unread_whole]
  subst hV
  rfl

end Cert.Proof.K
-- ==== Proof.KInv.lean ====
module
public import proofs.«01_k».proof.Proof.KRel
public import proofs.«01_k».proof.Proof.KOpenMA
public import proofs.«01_k».proof.Proof.KOpenMB
public import proofs.«01_k».proof.Proof.KOpenNA
public import proofs.«01_k».proof.Proof.KOpenNB
public import proofs.«01_k».proof.Proof.KOpenCA
public import proofs.«01_k».proof.Proof.KOpenCB
public import proofs.«01_k».proof.Proof.KOpenXA
public import proofs.«01_k».proof.Proof.KOpenXB

/-!
# What every point leaves in the carried arrays
-/

@[expose] public section
set_option maxRecDepth 16384
noncomputable section
namespace Cert.Proof.K
open Idealize.ShloMosaic Cert.KernelIdeal Cert.KernelIdeal.Gen

/-- The first rows of the carried window hold the sixteen positions before chunk `k`. -/
def XRel (X : Vec Ideal S2x256x1024 .bf16) (A : Args) (k : ℕ) : Prop :=
  ∀ (b : Fin 2) (r : Fin 16) (ch : Fin 1024), X (ix3 b (⟨r.val, by omega⟩ : Fin 256) ch) = A.xpad b (k * 128 + r.val) ch

theorem xpad_low (A : Args) (b : Fin 2) (p : ℕ) (h : p < 16) (ch : Fin 1024) : A.xpad b p ch = 0 := by
  unfold Args.xpad
  rw [dif_neg (by omega)]

theorem st_succ (A : Args) (b : Fin 2) (h : Fin 4) (n : Fin 64) : A.st b h (n.val + 1) = (A.inp b h n).step (A.st b h n.val) :=
  state_succ (A.inp b h) n

theorem all8 {p : Fin 2 → Fin 4 → Prop} (h0 : p 0 0) (h1 : p 0 1) (h2 : p 0 2) (h3 : p 0 3) (h4 : p 1 0) (h5 : p 1 1) (h6 : p 1 2) (h7 : p 1 3)
    (b : Fin 2) (h : Fin 4) : p b h := by
  rcases (by decide +kernel : ∀ (b : Fin 2) (h : Fin 4), (b = 0 ∨ b = 1) ∧ (h = 0 ∨ h = 1 ∨ h = 2 ∨ h = 3)) b h with ⟨rfl | rfl, rfl | rfl | rfl | rfl⟩
  exacts [h0, h1, h2, h3, h4, h5, h6, h7]

theorem pay3_zero (i : S8x128x128.Idx) : k0_pay3 (F := Ideal) i = 0 := by
  unfold k0_pay3
  show Ideal.ofBits .f32 0x00000000#32 = 0
  simp [Ideal.ofBits, Ideal.ieee]

theorem pay4_zero (i : S8x1x128.Idx) : k0_pay4 (F := Ideal) i = 0 := by
  unfold k0_pay4
  show Ideal.ofBits .f32 0x00000000#32 = 0
  simp [Ideal.ofBits, Ideal.ieee]

theorem pay5_zero (i : S8x1x1.Idx) : k0_pay5 (F := Ideal) i = 0 := by
  unfold k0_pay5
  show Ideal.ofBits .f32 0x00000000#32 = 0
  simp [Ideal.ofBits, Ideal.ieee]

namespace WRel
variable {W : Wn} {A : Args} {n : Fin 64} (w : WRel W A n)
include w

theorem hi (b : Fin 2) (r : Fin 256) (hr : 16 ≤ r.val ∧ r.val < 144) (ch : Fin 1024) :
    W.cell b ⟨r.val - 16, by omega⟩ ch = A.xpad b (n.val * 128 + r.val) ch :=
  (cell_xpad w b _ ch).trans (congrArg (fun p => A.xpad b p ch) (by show n.val * 128 + (16 + (r.val - 16)) = _; omega))

theorem tail (b : Fin 2) (r : Fin 16) (ch : Fin 1024) :
    W.cell b ⟨112 + r.val, by omega⟩ ch = A.xpad b ((n.val + 1) * 128 + r.val) ch :=
  (cell_xpad w b _ ch).trans (congrArg (fun p => A.xpad b p ch) (by show n.val * 128 + (16 + (112 + r.val)) = _; omega))

theorem qA0 (hn : n.val = 0) : QRel (qk W.xA0 W.cw W.cb) A 0 n := by
  refine qrel w _ _ fun r hr ch => ?_
  by_cases h : r.val < 16
  · rw [W.xA0_lo r h ch]
    exact (xpad_low A 0 _ (by omega) ch).symm
  · rw [W.xA0_hi r ⟨by omega, hr⟩ ch]
    exact w.hi 0 r ⟨by omega, hr⟩ ch

theorem qB0 {X : Vec Ideal S2x256x1024 .bf16} (hX : XRel X A n.val) : QRel (qk (W.xB0 X) W.cw W.cb) A 0 n := by
  refine qrel w _ _ fun r hr ch => ?_
  by_cases h : r.val < 16
  · rw [W.xB0_lo X r h ch]
    exact hX 0 ⟨r.val, h⟩ ch
  · rw [W.xB0_hi X r ⟨by omega, hr⟩ ch]
    exact w.hi 0 r ⟨by omega, hr⟩ ch

theorem qA1 (hn : n.val = 0) : QRel (qk W.xA1 W.cw W.cb) A 1 n := by
  refine qrel w _ _ fun r hr ch => ?_
  by_cases h : r.val < 16
  · rw [W.xA1_lo r h ch]
    exact (xpad_low A 1 _ (by omega) ch).symm
  · rw [W.xA1_hi r ⟨by omega, hr⟩ ch]
    exact w.hi 1 r ⟨by omega, hr⟩ ch

theorem qB1 {X : Vec Ideal S2x256x1024 .bf16} (hX : XRel X A n.val) : QRel (qk (W.xB1 X) W.cw W.cb) A 1 n := by
  refine qrel w _ _ fun r hr ch => ?_
  by_cases h : r.val < 16
  · rw [W.xB1_lo X r h ch]
    exact hX 1 ⟨r.val, h⟩ ch
  · rw [W.xB1_hi X r ⟨by omega, hr⟩ ch]
    exact w.hi 1 r ⟨by omega, hr⟩ ch

theorem xA : XRel W.XA A (n.val + 1) := fun b r ch => match b with
  | ⟨0, _⟩ => (W.XA0_tail r ch).trans (w.tail 0 r ch)
  | ⟨1, _⟩ => (W.XA1_tail r ch).trans (w.tail 1 r ch)

theorem xB (X : Vec Ideal S2x256x1024 .bf16) : XRel (W.XB X) A (n.val + 1) := fun b r ch => match b with
  | ⟨0, _⟩ => (W.XB0_tail X r ch).trans (w.tail 0 r ch)
  | ⟨1, _⟩ => (W.XB1_tail X r ch).trans (w.tail 1 r ch)

section
variable {Q0 Q1 : FVec Ideal S128x1024 .f32} {Y : Cr} (h0 : QRel Q0 A 0 n) (h1 : QRel Q1 A 1 n) (hY : YRel Y A n.val)
include h0 h1 hY

theorem sC0 (T : List (View.Piece (Elt Ideal) S8x128x128 .f32)) (d e : Fin 128) :
    W.C1 Q0 Q1 Y T (ix3 (0 : Fin 8) d e) = (A.st 0 0 (n.val + 1)).c d e := by
  rw [st_succ A 0 0 n]
  exact (W.C1_0 Q0 Q1 Y T d e).trans (Hd.C'_apply (w.rel0 h0 hY) d e)

theorem sC1 (T : List (View.Piece (Elt Ideal) S8x128x128 .f32)) (d e : Fin 128) :
    W.C1 Q0 Q1 Y T (ix3 (1 : Fin 8) d e) = (A.st 0 1 (n.val + 1)).c d e := by
  rw [st_succ A 0 1 n]
  exact (W.C1_1 Q0 Q1 Y T d e).trans (Hd.C'_apply (w.rel1 h0 hY) d e)

theorem sC2 (T : List (View.Piece (Elt Ideal) S8x128x128 .f32)) (d e : Fin 128) :
    W.C1 Q0 Q1 Y T (ix3 (2 : Fin 8) d e) = (A.st 0 2 (n.val + 1)).c d e := by
  rw [st_succ A 0 2 n]
  exact (W.C1_2 Q0 Q1 Y T d e).trans (Hd.C'_apply (w.rel2 h0 hY) d e)

theorem sC3 (T : List (View.Piece (Elt Ideal) S8x128x128 .f32)) (d e : Fin 128) :
    W.C1 Q0 Q1 Y T (ix3 (3 : Fin 8) d e) = (A.st 0 3 (n.val + 1)).c d e := by
  rw [st_succ A 0 3 n]
  exact (W.C1_3 Q0 Q1 Y T d e).trans (Hd.C'_apply (w.rel3 h0 hY) d e)

theorem sC4 (T : List (View.Piece (Elt Ideal) S8x128x128 .f32)) (d e : Fin 128) :
    W.C1 Q0 Q1 Y T (ix3 (4 : Fin 8) d e) = (A.st 1 0 (n.val + 1)).c d e := by
  rw [st_succ A 1 0 n]
  exact (W.C1_4 Q0 Q1 Y T d e).trans (Hd.C'_apply (w.rel4 h1 hY) d e)

theorem sC5 (T : List (View.Piece (Elt Ideal) S8x128x128 .f32)) (d e : Fin 128) :
    W.C1 Q0 Q1 Y T (ix3 (5 : Fin 8) d e) = (A.st 1 1 (n.val + 1)).c d e := by
  rw [st_succ A 1 1 n]
  exact (W.C1_5 Q0 Q1 Y T d e).trans (Hd.C'_apply (w.rel5 h1 hY) d e)

theorem sC6 (T : List (View.Piece (Elt Ideal) S8x128x128 .f32)) (d e : Fin 128) :
    W.C1 Q0 Q1 Y T (ix3 (6 : Fin 8) d e) = (A.st 1 2 (n.val + 1)).c d e := by
  rw [st_succ A 1 2 n]
  exact (W.C1_6 Q0 Q1 Y T d e).trans (Hd.C'_apply (w.rel6 h1 hY) d e)

theorem sC7 (T : List (View.Piece (Elt Ideal) S8x128x128 .f32)) (d e : Fin 128) :
    W.C1 Q0 Q1 Y T (ix3 (7 : Fin 8) d e) = (A.st 1 3 (n.val + 1)).c d e := by
  rw [st_succ A 1 3 n]
  exact (W.C1_7 Q0 Q1 Y T d e).trans (Hd.C'_apply (w.rel7 h1 hY) d e)

theorem sC (T : List (View.Piece (Elt Ideal) S8x128x128 .f32)) (b : Fin 2) (h : Fin 4) :
    ∀ d e : Fin 128, W.C1 Q0 Q1 Y T (ix3 (row8 b h) d e) = (A.st b h (n.val + 1)).c d e :=
  all8 (p := fun b h => ∀ d e : Fin 128, W.C1 Q0 Q1 Y T (ix3 (row8 b h) d e) = (A.st b h (n.val + 1)).c d e)
    (w.sC0 h0 h1 hY T) (w.sC1 h0 h1 hY T) (w.sC2 h0 h1 hY T) (w.sC3 h0 h1 hY T) (w.sC4 h0 h1 hY T) (w.sC5 h0 h1 hY T) (w.sC6 h0 h1 hY T) (w.sC7 h0 h1 hY T) b h

theorem sN0 (T : List (View.Piece (Elt Ideal) S8x1x128 .f32)) (d : Fin 128) :
    W.N1 Q0 Q1 Y T (ix3 (0 : Fin 8) (0 : Fin 1) d) = (A.st 0 0 (n.val + 1)).n d := by
  rw [st_succ A 0 0 n]
  exact (W.N1_0 Q0 Q1 Y T (0 : Fin 1) d).trans (Hd.n'_apply (w.rel0 h0 hY) d)

theorem sN1 (T : List (View.Piece (Elt Ideal) S8x1x128 .f32)) (d : Fin 128) :
    W.N1 Q0 Q1 Y T (ix3 (1 : Fin 8) (0 : Fin 1) d) = (A.st 0 1 (n.val + 1)).n d := by
  rw [st_succ A 0 1 n]
  exact (W.N1_1 Q0 Q1 Y T (0 : Fin 1) d).trans (Hd.n'_apply (w.rel1 h0 hY) d)

theorem sN2 (T : List (View.Piece (Elt Ideal) S8x1x128 .f32)) (d : Fin 128) :
    W.N1 Q0 Q1 Y T (ix3 (2 : Fin 8) (0 : Fin 1) d) = (A.st 0 2 (n.val + 1)).n d := by
  rw [st_succ A 0 2 n]
  exact (W.N1_2 Q0 Q1 Y T (0 : Fin 1) d).trans (Hd.n'_apply (w.rel2 h0 hY) d)

theorem sN3 (T : List (View.Piece (Elt Ideal) S8x1x128 .f32)) (d : Fin 128) :
    W.N1 Q0 Q1 Y T (ix3 (3 : Fin 8) (0 : Fin 1) d) = (A.st 0 3 (n.val + 1)).n d := by
  rw [st_succ A 0 3 n]
  exact (W.N1_3 Q0 Q1 Y T (0 : Fin 1) d).trans (Hd.n'_apply (w.rel3 h0 hY) d)

theorem sN4 (T : List (View.Piece (Elt Ideal) S8x1x128 .f32)) (d : Fin 128) :
    W.N1 Q0 Q1 Y T (ix3 (4 : Fin 8) (0 : Fin 1) d) = (A.st 1 0 (n.val + 1)).n d := by
  rw [st_succ A 1 0 n]
  exact (W.N1_4 Q0 Q1 Y T (0 : Fin 1) d).trans (Hd.n'_apply (w.rel4 h1 hY) d)

theorem sN5 (T : List (View.Piece (Elt Ideal) S8x1x128 .f32)) (d : Fin 128) :
    W.N1 Q0 Q1 Y T (ix3 (5 : Fin 8) (0 : Fin 1) d) = (A.st 1 1 (n.val + 1)).n d := by
  rw [st_succ A 1 1 n]
  exact (W.N1_5 Q0 Q1 Y T (0 : Fin 1) d).trans (Hd.n'_apply (w.rel5 h1 hY) d)

theorem sN6 (T : List (View.Piece (Elt Ideal) S8x1x128 .f32)) (d : Fin 128) :
    W.N1 Q0 Q1 Y T (ix3 (6 : Fin 8) (0 : Fin 1) d) = (A.st 1 2 (n.val + 1)).n d := by
  rw [st_succ A 1 2 n]
  exact (W.N1_6 Q0 Q1 Y T (0 : Fin 1) d).trans (Hd.n'_apply (w.rel6 h1 hY) d)

theorem sN7 (T : List (View.Piece (Elt Ideal) S8x1x128 .f32)) (d : Fin 128) :
    W.N1 Q0 Q1 Y T (ix3 (7 : Fin 8) (0 : Fin 1) d) = (A.st 1 3 (n.val + 1)).n d := by
  rw [st_succ A 1 3 n]
  exact (W.N1_7 Q0 Q1 Y T (0 : Fin 1) d).trans (Hd.n'_apply (w.rel7 h1 hY) d)

theorem sN (T : List (View.Piece (Elt Ideal) S8x1x128 .f32)) (b : Fin 2) (h : Fin 4) :
    ∀ d : Fin 128, W.N1 Q0 Q1 Y T (ix3 (row8 b h) (0 : Fin 1) d) = (A.st b h (n.val + 1)).n d :=
  all8 (p := fun b h => ∀ d : Fin 128, W.N1 Q0 Q1 Y T (ix3 (row8 b h) (0 : Fin 1) d) = (A.st b h (n.val + 1)).n d)
    (w.sN0 h0 h1 hY T) (w.sN1 h0 h1 hY T) (w.sN2 h0 h1 hY T) (w.sN3 h0 h1 hY T) (w.sN4 h0 h1 hY T) (w.sN5 h0 h1 hY T) (w.sN6 h0 h1 hY T) (w.sN7 h0 h1 hY T) b h

theorem sM0 (T : List (View.Piece (Elt Ideal) S8x1x1 .f32))  :
    W.M1 Q0 Q1 Y T (ix3 (0 : Fin 8) (0 : Fin 1) (0 : Fin 1)) = (A.st 0 0 (n.val + 1)).m := by
  rw [st_succ A 0 0 n]
  exact (W.M1_0 Q0 Q1 Y T (0 : Fin 1) (0 : Fin 1)).trans (Hd.m'_apply (w.rel0 h0 hY))

theorem sM1 (T : List (View.Piece (Elt Ideal) S8x1x1 .f32))  :
    W.M1 Q0 Q1 Y T (ix3 (1 : Fin 8) (0 : Fin 1) (0 : Fin 1)) = (A.st 0 1 (n.val + 1)).m := by
  rw [st_succ A 0 1 n]
  exact (W.M1_1 Q0 Q1 Y T (0 : Fin 1) (0 : Fin 1)).trans (Hd.m'_apply (w.rel1 h0 hY))

theorem sM2 (T : List (View.Piece (Elt Ideal) S8x1x1 .f32))  :
    W.M1 Q0 Q1 Y T (ix3 (2 : Fin 8) (0 : Fin 1) (0 : Fin 1)) = (A.st 0 2 (n.val + 1)).m := by
  rw [st_succ A 0 2 n]
  exact (W.M1_2 Q0 Q1 Y T (0 : Fin 1) (0 : Fin 1)).trans (Hd.m'_apply (w.rel2 h0 hY))

theorem sM3 (T : List (View.Piece (Elt Ideal) S8x1x1 .f32))  :
    W.M1 Q0 Q1 Y T (ix3 (3 : Fin 8) (0 : Fin 1) (0 : Fin 1)) = (A.st 0 3 (n.val + 1)).m := by
  rw [st_succ A 0 3 n]
  exact (W.M1_3 Q0 Q1 Y T (0 : Fin 1) (0 : Fin 1)).trans (Hd.m'_apply (w.rel3 h0 hY))

theorem sM4 (T : List (View.Piece (Elt Ideal) S8x1x1 .f32))  :
    W.M1 Q0 Q1 Y T (ix3 (4 : Fin 8) (0 : Fin 1) (0 : Fin 1)) = (A.st 1 0 (n.val + 1)).m := by
  rw [st_succ A 1 0 n]
  exact (W.M1_4 Q0 Q1 Y T (0 : Fin 1) (0 : Fin 1)).trans (Hd.m'_apply (w.rel4 h1 hY))

theorem sM5 (T : List (View.Piece (Elt Ideal) S8x1x1 .f32))  :
    W.M1 Q0 Q1 Y T (ix3 (5 : Fin 8) (0 : Fin 1) (0 : Fin 1)) = (A.st 1 1 (n.val + 1)).m := by
  rw [st_succ A 1 1 n]
  exact (W.M1_5 Q0 Q1 Y T (0 : Fin 1) (0 : Fin 1)).trans (Hd.m'_apply (w.rel5 h1 hY))

theorem sM6 (T : List (View.Piece (Elt Ideal) S8x1x1 .f32))  :
    W.M1 Q0 Q1 Y T (ix3 (6 : Fin 8) (0 : Fin 1) (0 : Fin 1)) = (A.st 1 2 (n.val + 1)).m := by
  rw [st_succ A 1 2 n]
  exact (W.M1_6 Q0 Q1 Y T (0 : Fin 1) (0 : Fin 1)).trans (Hd.m'_apply (w.rel6 h1 hY))

theorem sM7 (T : List (View.Piece (Elt Ideal) S8x1x1 .f32))  :
    W.M1 Q0 Q1 Y T (ix3 (7 : Fin 8) (0 : Fin 1) (0 : Fin 1)) = (A.st 1 3 (n.val + 1)).m := by
  rw [st_succ A 1 3 n]
  exact (W.M1_7 Q0 Q1 Y T (0 : Fin 1) (0 : Fin 1)).trans (Hd.m'_apply (w.rel7 h1 hY))

theorem sM (T : List (View.Piece (Elt Ideal) S8x1x1 .f32)) (b : Fin 2) (h : Fin 4) :
    W.M1 Q0 Q1 Y T (ix3 (row8 b h) (0 : Fin 1) (0 : Fin 1)) = (A.st b h (n.val + 1)).m :=
  all8 (p := fun b h => W.M1 Q0 Q1 Y T (ix3 (row8 b h) (0 : Fin 1) (0 : Fin 1)) = (A.st b h (n.val + 1)).m)
    (w.sM0 h0 h1 hY T) (w.sM1 h0 h1 hY T) (w.sM2 h0 h1 hY T) (w.sM3 h0 h1 hY T) (w.sM4 h0 h1 hY T) (w.sM5 h0 h1 hY T) (w.sM6 h0 h1 hY T) (w.sM7 h0 h1 hY T) b h

attribute [local irreducible] Wn.C1 Wn.N1 Wn.M1 Args.st in
/-- The states a point stores are the states after its chunk. -/
theorem next (TC : List (View.Piece (Elt Ideal) S8x128x128 .f32)) (TN : List (View.Piece (Elt Ideal) S8x1x128 .f32)) (TM : List (View.Piece (Elt Ideal) S8x1x1 .f32)) :
    YRel ⟨W.C1 Q0 Q1 Y TC, W.N1 Q0 Q1 Y TN, W.M1 Q0 Q1 Y TM⟩ A (n.val + 1) :=
  ⟨w.sC h0 h1 hY TC, w.sN h0 h1 hY TN, w.sM h0 h1 hY TM⟩
end

end WRel

theorem yrel_zero (A : Args) : YRel crA A 0 where
  C := fun b h d e => pay3_zero (ix3 (row8 b h) d e)
  N := fun b h d => pay4_zero (ix3 (row8 b h) (0 : Fin 1) d)
  M := fun b h => pay5_zero (ix3 (row8 b h) (0 : Fin 1) (0 : Fin 1))

section
variable (m : (ℓ : Loc nD τ sig) → Buf (Elt Ideal) ℓ) (c : Dev nD) (A : Args)

theorem yrel_congr {A : Args} {C C' : Vec Ideal S8x128x128 .f32} {N N' : Vec Ideal S8x1x128 .f32} {M M' : Vec Ideal S8x1x1 .f32} {k : ℕ}
    (hC : C' = C) (hN : N' = N) (hM : M' = M) (h : YRel ⟨C, N, M⟩ A k) : YRel ⟨C', N', M'⟩ A k := by
  subst hC hN hM
  exact h

/-- What holds of the carried arrays once point `n` is done. -/
structure Inv (n : ℕ) (hn : n < cfg0.N) : Prop where
  X : XRel (outsAt0 m c n hn).2.1 A (n + 1)
  Y : YRel (crB m c n hn) A (n + 1)

variable (hw : ∀ t : Fin cfg0.N, WRel (wn m c t) A (⟨t.val, lt_of_lt_of_eq t.isLt N_0⟩ : Fin 64))
include hw

theorem inv_A (t : Fin cfg0.N) (h0 : t.val % 64 = 0) : Inv m c A t.val t.isLt := by
  have hN := lt_of_lt_of_eq t.isLt N_0
  have hz : t.val = 0 := by omega
  have w := hw t
  have hY : YRel crA A t.val := by rw [hz]; exact yrel_zero A
  constructor
  · rw [openX_A m c t h0]
    exact w.xA
  · have h := w.next (w.qA0 hz) (w.qA1 hz) hY tC tN tM
    exact yrel_congr (openC_A m c t h0) (openN_A m c t h0) (openM_A m c t h0) h

theorem inv_B (t : Fin cfg0.N) (h0 : ¬ t.val % 64 = 0)
    (ih : Inv m c A (t.val - 1) (Nat.lt_of_le_of_lt (Nat.sub_le _ _) t.isLt)) : Inv m c A t.val t.isLt := by
  have hN := lt_of_lt_of_eq t.isLt N_0
  have hz : t.val - 1 + 1 = t.val := by omega
  have w := hw t
  have hX := ih.X
  have hY := ih.Y
  rw [hz] at hX hY
  constructor
  · rw [openX_B m c t h0]
    exact w.xB _
  · have h := w.next (w.qB0 hX) (w.qB1 hX) hY [] [] []
    exact yrel_congr (openC_B m c t h0) (openN_B m c t h0) (openM_B m c t h0) h

/-- Every point leaves the carried arrays as the recurrence says. -/
theorem inv : ∀ (n : ℕ) (hn : n < cfg0.N), Inv m c A n hn
  | 0, hn => inv_A m c A hw ⟨0, hn⟩ rfl
  | n + 1, hn => by
    have hN := lt_of_lt_of_eq hn N_0
    exact inv_B m c A hw ⟨n + 1, hn⟩ (by show ¬ (n + 1) % 64 = 0; omega) (inv n (by omega))

end
end Cert.Proof.K
-- ==== Proof.KOpenOA0.lean ====
module
public import proofs.«01_k».proof.Proof.KOpenNA
public import proofs.«01_k».proof.Proof.KFold
public import Idealize.ShloMosaic.Lib.Pipeline.ValueKit
public import Idealize.ShloMosaic.Lib.Pipeline.ReadBack

/-!
# What head 0 of batch element 0 stores of the output, at the first point
-/

@[expose] public section
set_option maxRecDepth 16384
noncomputable section
namespace Cert.Proof.K
open Idealize.ShloMosaic Cert.KernelIdeal Cert.KernelIdeal.Gen

set_option maxHeartbeats 8000000 in
theorem openOA0 (m : (ℓ : Loc nD τ sig) → Buf (Elt Ideal) ℓ) (c : Dev nD) (t : Fin cfg0.N) (h0 : t.val % 64 = 0) (i j : Fin 128) :
    (outsAt0 m c t.val t.isLt).1 (ix3 (0 : Fin 2) i (⟨0 + j.val, by omega⟩ : Fin 512)) = ((wn m c t).h0 (qk (wn m c t).xA0 (wn m c t).cw (wn m c t).cb) crA).res
      (View.ld (wn m c t).o (Rect.unit (s := S2x128x512) ![0, 0, 0] ![1, 128, 128] inb_S2x128x512_S1x128x128_0_0_0)) (View.ld (wn m c t).z (Rect.unit (s := S2x128x512) ![0, 0, 0] ![1, 128, 128] inb_S2x128x512_S1x128x128_0_0_0))
      (View.ld (wn m c t).hn (Rect.unit (s := S1x512) ![0, 0] ![1, 128] inb_S1x512_S1x128_0_0)) (ix3 (0 : Fin 1) i j) := by
  suffices H : ∀ V, V = ((wn m c t).h0 (qk (wn m c t).xA0 (wn m c t).cw (wn m c t).cb) crA).res
      (View.ld (wn m c t).o (Rect.unit (s := S2x128x512) ![0, 0, 0] ![1, 128, 128] inb_S2x128x512_S1x128x128_0_0_0)) (View.ld (wn m c t).z (Rect.unit (s := S2x128x512) ![0, 0, 0] ![1, 128, 128] inb_S2x128x512_S1x128x128_0_0_0))
      (View.ld (wn m c t).hn (Rect.unit (s := S1x512) ![0, 0] ![1, 128] inb_S1x512_S1x128_0_0)) (ix3 (0 : Fin 1) i j) → (outsAt0 m c t.val t.isLt).1 (ix3 (0 : Fin 2) i (⟨0 + j.val, by omega⟩ : Fin 512)) = V from H _ rfl
  intro V hV
  rw [outsAt0_A m c t h0]
  dsimp only
  frame_open
  simp (disch := decide) only [↓ View.readCov_skip, ↓ View.readCov_cons_toLoadRect, ↓ View.readCov_fill]
  frame_out
  subst hV
  refine (cmiss (1) (384) _ _ _ _ _ _ (by simp only []; norm_num; try omega)).trans ?_
  refine (cmiss (1) (256) _ _ _ _ _ _ (by simp only []; norm_num; try omega)).trans ?_
  refine (cmiss (1) (128) _ _ _ _ _ _ (by simp only []; norm_num; try omega)).trans ?_
  refine (cmiss (1) (0) _ _ _ _ _ _ (by simp only []; norm_num; try omega)).trans ?_
  refine (cmiss (0) (384) _ _ _ _ _ _ (by simp only []; norm_num; try omega)).trans ?_
  refine (cmiss (0) (256) _ _ _ _ _ _ (by simp only []; norm_num; try omega)).trans ?_
  refine (cmiss (0) (128) _ _ _ _ _ _ (by simp only []; norm_num; try omega)).trans ?_
  refine (chit (0) (0) _ _ _ _ _ _ i j (by norm_num) rfl).trans ?_
  refine congrFun ?_ _
  clear h0
  rfl

end Cert.Proof.K
-- ==== Proof.KOpenOA1.lean ====
module
public import proofs.«01_k».proof.Proof.KOpenOA0
public import proofs.«01_k».proof.Proof.KFold
public import Idealize.ShloMosaic.Lib.Pipeline.ValueKit
public import Idealize.ShloMosaic.Lib.Pipeline.ReadBack

/-!
# What head 1 of batch element 0 stores of the output, at the first point
-/

@[expose] public section
set_option maxRecDepth 16384
noncomputable section
namespace Cert.Proof.K
open Idealize.ShloMosaic Cert.KernelIdeal Cert.KernelIdeal.Gen

set_option maxHeartbeats 8000000 in
theorem openOA1 (m : (ℓ : Loc nD τ sig) → Buf (Elt Ideal) ℓ) (c : Dev nD) (t : Fin cfg0.N) (h0 : t.val % 64 = 0) (i j : Fin 128) :
    (outsAt0 m c t.val t.isLt).1 (ix3 (0 : Fin 2) i (⟨128 + j.val, by omega⟩ : Fin 512)) = ((wn m c t).h1 (qk (wn m c t).xA0 (wn m c t).cw (wn m c t).cb) crA).res
      (View.ld (wn m c t).o (Rect.unit (s := S2x128x512) ![0, 0, 128] ![1, 128, 128] inb_S2x128x512_S1x128x128_0_0_128)) (View.ld (wn m c t).z (Rect.unit (s := S2x128x512) ![0, 0, 128] ![1, 128, 128] inb_S2x128x512_S1x128x128_0_0_128))
      (View.ld (wn m c t).hn (Rect.unit (s := S1x512) ![0, 128] ![1, 128] inb_S1x512_S1x128_0_128)) (ix3 (0 : Fin 1) i j) := by
  suffices H : ∀ V, V = ((wn m c t).h1 (qk (wn m c t).xA0 (wn m c t).cw (wn m c t).cb) crA).res
      (View.ld (wn m c t).o (Rect.unit (s := S2x128x512) ![0, 0, 128] ![1, 128, 128] inb_S2x128x512_S1x128x128_0_0_128)) (View.ld (wn m c t).z (Rect.unit (s := S2x128x512) ![0, 0, 128] ![1, 128, 128] inb_S2x128x512_S1x128x128_0_0_128))
      (View.ld (wn m c t).hn (Rect.unit (s := S1x512) ![0, 128] ![1, 128] inb_S1x512_S1x128_0_128)) (ix3 (0 : Fin 1) i j) → (outsAt0 m c t.val t.isLt).1 (ix3 (0 : Fin 2) i (⟨128 + j.val, by omega⟩ : Fin 512)) = V from H _ rfl
  intro V hV
  rw [outsAt0_A m c t h0]
  dsimp only
  frame_open
  simp (disch := decide) only [↓ View.readCov_skip, ↓ View.readCov_cons_toLoadRect, ↓ View.readCov_fill]
  frame_out
  subst hV
  refine (cmiss (1) (384) _ _ _ _ _ _ (by simp only []; norm_num; try omega)).trans ?_
  refine (cmiss (1) (256) _ _ _ _ _ _ (by simp only []; norm_num; try omega)).trans ?_
  refine (cmiss (1) (128) _ _ _ _ _ _ (by simp only []; norm_num; try omega)).trans ?_
  refine (cmiss (1) (0) _ _ _ _ _ _ (by simp only []; norm_num; try omega)).trans ?_
  refine (cmiss (0) (384) _ _ _ _ _ _ (by simp only []; norm_num; try omega)).trans ?_
  refine (cmiss (0) (256) _ _ _ _ _ _ (by simp only []; norm_num; try omega)).trans ?_
  refine (chit (0) (128) _ _ _ _ _ _ i j (by norm_num) rfl).trans ?_
  refine congrFun ?_ _
  clear h0
  rfl

end Cert.Proof.K
-- ==== Proof.KOpenOA2.lean ====
module
public import proofs.«01_k».proof.Proof.KOpenOA1
public import proofs.«01_k».proof.Proof.KFold
public import Idealize.ShloMosaic.Lib.Pipeline.ValueKit
public import Idealize.ShloMosaic.Lib.Pipeline.ReadBack

/-!
# What head 2 of batch element 0 stores of the output, at the first point
-/

@[expose] public section
set_option maxRecDepth 16384
noncomputable section
namespace Cert.Proof.K
open Idealize.ShloMosaic Cert.KernelIdeal Cert.KernelIdeal.Gen

set_option maxHeartbeats 8000000 in
theorem openOA2 (m : (ℓ : Loc nD τ sig) → Buf (Elt Ideal) ℓ) (c : Dev nD) (t : Fin cfg0.N) (h0 : t.val % 64 = 0) (i j : Fin 128) :
    (outsAt0 m c t.val t.isLt).1 (ix3 (0 : Fin 2) i (⟨256 + j.val, by omega⟩ : Fin 512)) = ((wn m c t).h2 (qk (wn m c t).xA0 (wn m c t).cw (wn m c t).cb) crA).res
      (View.ld (wn m c t).o (Rect.unit (s := S2x128x512) ![0, 0, 256] ![1, 128, 128] inb_S2x128x512_S1x128x128_0_0_256)) (View.ld (wn m c t).z (Rect.unit (s := S2x128x512) ![0, 0, 256] ![1, 128, 128] inb_S2x128x512_S1x128x128_0_0_256))
      (View.ld (wn m c t).hn (Rect.unit (s := S1x512) ![0, 256] ![1, 128] inb_S1x512_S1x128_0_256)) (ix3 (0 : Fin 1) i j) := by
  suffices H : ∀ V, V = ((wn m c t).h2 (qk (wn m c t).xA0 (wn m c t).cw (wn m c t).cb) crA).res
      (View.ld (wn m c t).o (Rect.unit (s := S2x128x512) ![0, 0, 256] ![1, 128, 128] inb_S2x128x512_S1x128x128_0_0_256)) (View.ld (wn m c t).z (Rect.unit (s := S2x128x512) ![0, 0, 256] ![1, 128, 128] inb_S2x128x512_S1x128x128_0_0_256))
      (View.ld (wn m c t).hn (Rect.unit (s := S1x512) ![0, 256] ![1, 128] inb_S1x512_S1x128_0_256)) (ix3 (0 : Fin 1) i j) → (outsAt0 m c t.val t.isLt).1 (ix3 (0 : Fin 2) i (⟨256 + j.val, by omega⟩ : Fin 512)) = V from H _ rfl
  intro V hV
  rw [outsAt0_A m c t h0]
  dsimp only
  frame_open
  simp (disch := decide) only [↓ View.readCov_skip, ↓ View.readCov_cons_toLoadRect, ↓ View.readCov_fill]
  frame_out
  subst hV
  refine (cmiss (1) (384) _ _ _ _ _ _ (by simp only []; norm_num; try omega)).trans ?_
  refine (cmiss (1) (256) _ _ _ _ _ _ (by simp only []; norm_num; try omega)).trans ?_
  refine (cmiss (1) (128) _ _ _ _ _ _ (by simp only []; norm_num; try omega)).trans ?_
  refine (cmiss (1) (0) _ _ _ _ _ _ (by simp only []; norm_num; try omega)).trans ?_
  refine (cmiss (0) (384) _ _ _ _ _ _ (by simp only []; norm_num; try omega)).trans ?_
  refine (chit (0) (256) _ _ _ _ _ _ i j (by norm_num) rfl).trans ?_
  refine congrFun ?_ _
  clear h0
  rfl

end Cert.Proof.K
-- ==== Proof.KOpenOA3.lean ====
module
public import proofs.«01_k».proof.Proof.KOpenOA2
public import proofs.«01_k».proof.Proof.KFold
public import Idealize.ShloMosaic.Lib.Pipeline.ValueKit
public import Idealize.ShloMosaic.Lib.Pipeline.ReadBack

/-!
# What head 3 of batch element 0 stores of the output, at the first point
-/

@[expose] public section
set_option maxRecDepth 16384
noncomputable section
namespace Cert.Proof.K
open Idealize.ShloMosaic Cert.KernelIdeal Cert.KernelIdeal.Gen

set_option maxHeartbeats 8000000 in
theorem openOA3 (m : (ℓ : Loc nD τ sig) → Buf (Elt Ideal) ℓ) (c : Dev nD) (t : Fin cfg0.N) (h0 : t.val % 64 = 0) (i j : Fin 128) :
    (outsAt0 m c t.val t.isLt).1 (ix3 (0 : Fin 2) i (⟨384 + j.val, by omega⟩ : Fin 512)) = ((wn m c t).h3 (qk (wn m c t).xA0 (wn m c t).cw (wn m c t).cb) crA).res
      (View.ld (wn m c t).o (Rect.unit (s := S2x128x512) ![0, 0, 384] ![1, 128, 128] inb_S2x128x512_S1x128x128_0_0_384)) (View.ld (wn m c t).z (Rect.unit (s := S2x128x512) ![0, 0, 384] ![1, 128, 128] inb_S2x128x512_S1x128x128_0_0_384))
      (View.ld (wn m c t).hn (Rect.unit (s := S1x512) ![0, 384] ![1, 128] inb_S1x512_S1x128_0_384)) (ix3 (0 : Fin 1) i j) := by
  suffices H : ∀ V, V = ((wn m c t).h3 (qk (wn m c t).xA0 (wn m c t).cw (wn m c t).cb) crA).res
      (View.ld (wn m c t).o (Rect.unit (s := S2x128x512) ![0, 0, 384] ![1, 128, 128] inb_S2x128x512_S1x128x128_0_0_384)) (View.ld (wn m c t).z (Rect.unit (s := S2x128x512) ![0, 0, 384] ![1, 128, 128] inb_S2x128x512_S1x128x128_0_0_384))
      (View.ld (wn m c t).hn (Rect.unit (s := S1x512) ![0, 384] ![1, 128] inb_S1x512_S1x128_0_384)) (ix3 (0 : Fin 1) i j) → (outsAt0 m c t.val t.isLt).1 (ix3 (0 : Fin 2) i (⟨384 + j.val, by omega⟩ : Fin 512)) = V from H _ rfl
  intro V hV
  rw [outsAt0_A m c t h0]
  dsimp only
  frame_open
  simp (disch := decide) only [↓ View.readCov_skip, ↓ View.readCov_cons_toLoadRect, ↓ View.readCov_fill]
  frame_out
  subst hV
  refine (cmiss (1) (384) _ _ _ _ _ _ (by simp only []; norm_num; try omega)).trans ?_
  refine (cmiss (1) (256) _ _ _ _ _ _ (by simp only []; norm_num; try omega)).trans ?_
  refine (cmiss (1) (128) _ _ _ _ _ _ (by simp only []; norm_num; try omega)).trans ?_
  refine (cmiss (1) (0) _ _ _ _ _ _ (by simp only []; norm_num; try omega)).trans ?_
  refine (chit (0) (384) _ _ _ _ _ _ i j (by norm_num) rfl).trans ?_
  refine congrFun ?_ _
  clear h0
  rfl

end Cert.Proof.K
-- ==== Proof.KOpenOA4.lean ====
module
public import proofs.«01_k».proof.Proof.KOpenCA
public import proofs.«01_k».proof.Proof.KFold
public import Idealize.ShloMosaic.Lib.Pipeline.ValueKit
public import Idealize.ShloMosaic.Lib.Pipeline.ReadBack

/-!
# What head 0 of batch element 1 stores of the output, at the first point
-/

@[expose] public section
set_option maxRecDepth 16384
noncomputable section
namespace Cert.Proof.K
open Idealize.ShloMosaic Cert.KernelIdeal Cert.KernelIdeal.Gen

set_option maxHeartbeats 8000000 in
theorem openOA4 (m : (ℓ : Loc nD τ sig) → Buf (Elt Ideal) ℓ) (c : Dev nD) (t : Fin cfg0.N) (h0 : t.val % 64 = 0) (i j : Fin 128) :
    (outsAt0 m c t.val t.isLt).1 (ix3 (1 : Fin 2) i (⟨0 + j.val, by omega⟩ : Fin 512)) = ((wn m c t).h4 (qk (wn m c t).xA1 (wn m c t).cw (wn m c t).cb) crA).res
      (View.ld (wn m c t).o (Rect.unit (s := S2x128x512) ![1, 0, 0] ![1, 128, 128] inb_S2x128x512_S1x128x128_1_0_0)) (View.ld (wn m c t).z (Rect.unit (s := S2x128x512) ![1, 0, 0] ![1, 128, 128] inb_S2x128x512_S1x128x128_1_0_0))
      (View.ld (wn m c t).hn (Rect.unit (s := S1x512) ![0, 0] ![1, 128] inb_S1x512_S1x128_0_0)) (ix3 (0 : Fin 1) i j) := by
  suffices H : ∀ V, V = ((wn m c t).h4 (qk (wn m c t).xA1 (wn m c t).cw (wn m c t).cb) crA).res
      (View.ld (wn m c t).o (Rect.unit (s := S2x128x512) ![1, 0, 0] ![1, 128, 128] inb_S2x128x512_S1x128x128_1_0_0)) (View.ld (wn m c t).z (Rect.unit (s := S2x128x512) ![1, 0, 0] ![1, 128, 128] inb_S2x128x512_S1x128x128_1_0_0))
      (View.ld (wn m c t).hn (Rect.unit (s := S1x512) ![0, 0] ![1, 128] inb_S1x512_S1x128_0_0)) (ix3 (0 : Fin 1) i j) → (outsAt0 m c t.val t.isLt).1 (ix3 (1 : Fin 2) i (⟨0 + j.val, by omega⟩ : Fin 512)) = V from H _ rfl
  intro V hV
  rw [outsAt0_A m c t h0]
  dsimp only
  frame_open
  simp (disch := decide) only [↓ View.readCov_skip, ↓ View.readCov_cons_toLoadRect, ↓ View.readCov_fill]
  frame_out
  subst hV
  refine (cmiss (1) (384) _ _ _ _ _ _ (by simp only []; norm_num; try omega)).trans ?_
  refine (cmiss (1) (256) _ _ _ _ _ _ (by simp only []; norm_num; try omega)).trans ?_
  refine (cmiss (1) (128) _ _ _ _ _ _ (by simp only []; norm_num; try omega)).trans ?_
  refine (chit (1) (0) _ _ _ _ _ _ i j (by norm_num) rfl).trans ?_
  refine congrFun ?_ _
  clear h0
  rfl

end Cert.Proof.K
-- ==== Proof.KOpenOA5.lean ====
module
public import proofs.«01_k».proof.Proof.KOpenOA4
public import proofs.«01_k».proof.Proof.KFold
public import Idealize.ShloMosaic.Lib.Pipeline.ValueKit
public import Idealize.ShloMosaic.Lib.Pipeline.ReadBack

/-!
# What head 1 of batch element 1 stores of the output, at the first point
-/

@[expose] public section
set_option maxRecDepth 16384
noncomputable section
namespace Cert.Proof.K
open Idealize.ShloMosaic Cert.KernelIdeal Cert.KernelIdeal.Gen

set_option maxHeartbeats 8000000 in
theorem openOA5 (m : (ℓ : Loc nD τ sig) → Buf (Elt Ideal) ℓ) (c : Dev nD) (t : Fin cfg0.N) (h0 : t.val % 64 = 0) (i j : Fin 128) :
    (outsAt0 m c t.val t.isLt).1 (ix3 (1 : Fin 2) i (⟨128 + j.val, by omega⟩ : Fin 512)) = ((wn m c t).h5 (qk (wn m c t).xA1 (wn m c t).cw (wn m c t).cb) crA).res
      (View.ld (wn m c t).o (Rect.unit (s := S2x128x512) ![1, 0, 128] ![1, 128, 128] inb_S2x128x512_S1x128x128_1_0_128)) (View.ld (wn m c t).z (Rect.unit (s := S2x128x512) ![1, 0, 128] ![1, 128, 128] inb_S2x128x512_S1x128x128_1_0_128))
      (View.ld (wn m c t).hn (Rect.unit (s := S1x512) ![0, 128] ![1, 128] inb_S1x512_S1x128_0_128)) (ix3 (0 : Fin 1) i j) := by
  suffices H : ∀ V, V = ((wn m c t).h5 (qk (wn m c t).xA1 (wn m c t).cw (wn m c t).cb) crA).res
      (View.ld (wn m c t).o (Rect.unit (s := S2x128x512) ![1, 0, 128] ![1, 128, 128] inb_S2x128x512_S1x128x128_1_0_128)) (View.ld (wn m c t).z (Rect.unit (s := S2x128x512) ![1, 0, 128] ![1, 128, 128] inb_S2x128x512_S1x128x128_1_0_128))
      (View.ld (wn m c t).hn (Rect.unit (s := S1x512) ![0, 128] ![1, 128] inb_S1x512_S1x128_0_128)) (ix3 (0 : Fin 1) i j) → (outsAt0 m c t.val t.isLt).1 (ix3 (1 : Fin 2) i (⟨128 + j.val, by omega⟩ : Fin 512)) = V from H _ rfl
  intro V hV
  rw [outsAt0_A m c t h0]
  dsimp only
  frame_open
  simp (disch := decide) only [↓ View.readCov_skip, ↓ View.readCov_cons_toLoadRect, ↓ View.readCov_fill]
  frame_out
  subst hV
  refine (cmiss (1) (384) _ _ _ _ _ _ (by simp only []; norm_num; try omega)).trans ?_
  refine (cmiss (1) (256) _ _ _ _ _ _ (by simp only []; norm_num; try omega)).trans ?_
  refine (chit (1) (128) _ _ _ _ _ _ i j (by norm_num) rfl).trans ?_
  refine congrFun ?_ _
  clear h0
  rfl

end Cert.Proof.K
-- ==== Proof.KOpenOA6.lean ====
module
public import proofs.«01_k».proof.Proof.KOpenOA5
public import proofs.«01_k».proof.Proof.KFold
public import Idealize.ShloMosaic.Lib.Pipeline.ValueKit
public import Idealize.ShloMosaic.Lib.Pipeline.ReadBack

/-!
# What head 2 of batch element 1 stores of the output, at the first point
-/

@[expose] public section
set_option maxRecDepth 16384
noncomputable section
namespace Cert.Proof.K
open Idealize.ShloMosaic Cert.KernelIdeal Cert.KernelIdeal.Gen

set_option maxHeartbeats 8000000 in
theorem openOA6 (m : (ℓ : Loc nD τ sig) → Buf (Elt Ideal) ℓ) (c : Dev nD) (t : Fin cfg0.N) (h0 : t.val % 64 = 0) (i j : Fin 128) :
    (outsAt0 m c t.val t.isLt).1 (ix3 (1 : Fin 2) i (⟨256 + j.val, by omega⟩ : Fin 512)) = ((wn m c t).h6 (qk (wn m c t).xA1 (wn m c t).cw (wn m c t).cb) crA).res
      (View.ld (wn m c t).o (Rect.unit (s := S2x128x512) ![1, 0, 256] ![1, 128, 128] inb_S2x128x512_S1x128x128_1_0_256)) (View.ld (wn m c t).z (Rect.unit (s := S2x128x512) ![1, 0, 256] ![1, 128, 128] inb_S2x128x512_S1x128x128_1_0_256))
      (View.ld (wn m c t).hn (Rect.unit (s := S1x512) ![0, 256] ![1, 128] inb_S1x512_S1x128_0_256)) (ix3 (0 : Fin 1) i j) := by
  suffices H : ∀ V, V = ((wn m c t).h6 (qk (wn m c t).xA1 (wn m c t).cw (wn m c t).cb) crA).res
      (View.ld (wn m c t).o (Rect.unit (s := S2x128x512) ![1, 0, 256] ![1, 128, 128] inb_S2x128x512_S1x128x128_1_0_256)) (View.ld (wn m c t).z (Rect.unit (s := S2x128x512) ![1, 0, 256] ![1, 128, 128] inb_S2x128x512_S1x128x128_1_0_256))
      (View.ld (wn m c t).hn (Rect.unit (s := S1x512) ![0, 256] ![1, 128] inb_S1x512_S1x128_0_256)) (ix3 (0 : Fin 1) i j) → (outsAt0 m c t.val t.isLt).1 (ix3 (1 : Fin 2) i (⟨256 + j.val, by omega⟩ : Fin 512)) = V from H _ rfl
  intro V hV
  rw [outsAt0_A m c t h0]
  dsimp only
  frame_open
  simp (disch := decide) only [↓ View.readCov_skip, ↓ View.readCov_cons_toLoadRect, ↓ View.readCov_fill]
  frame_out
  subst hV
  refine (cmiss (1) (384) _ _ _ _ _ _ (by simp only []; norm_num; try omega)).trans ?_
  refine (chit (1) (256) _ _ _ _ _ _ i j (by norm_num) rfl).trans ?_
  refine congrFun ?_ _
  clear h0
  rfl

end Cert.Proof.K
-- ==== Proof.KOpenOA7.lean ====
module
public import proofs.«01_k».proof.Proof.KOpenOA6
public import proofs.«01_k».proof.Proof.KFold
public import Idealize.ShloMosaic.Lib.Pipeline.ValueKit
public import Idealize.ShloMosaic.Lib.Pipeline.ReadBack

/-!
# What head 3 of batch element 1 stores of the output, at the first point
-/

@[expose] public section
set_option maxRecDepth 16384
noncomputable section
namespace Cert.Proof.K
open Idealize.ShloMosaic Cert.KernelIdeal Cert.KernelIdeal.Gen

set_option maxHeartbeats 8000000 in
theorem openOA7 (m : (ℓ : Loc nD τ sig) → Buf (Elt Ideal) ℓ) (c : Dev nD) (t : Fin cfg0.N) (h0 : t.val % 64 = 0) (i j : Fin 128) :
    (outsAt0 m c t.val t.isLt).1 (ix3 (1 : Fin 2) i (⟨384 + j.val, by omega⟩ : Fin 512)) = ((wn m c t).h7 (qk (wn m c t).xA1 (wn m c t).cw (wn m c t).cb) crA).res
      (View.ld (wn m c t).o (Rect.unit (s := S2x128x512) ![1, 0, 384] ![1, 128, 128] inb_S2x128x512_S1x128x128_1_0_384)) (View.ld (wn m c t).z (Rect.unit (s := S2x128x512) ![1, 0, 384] ![1, 128, 128] inb_S2x128x512_S1x128x128_1_0_384))
      (View.ld (wn m c t).hn (Rect.unit (s := S1x512) ![0, 384] ![1, 128] inb_S1x512_S1x128_0_384)) (ix3 (0 : Fin 1) i j) := by
  suffices H : ∀ V, V = ((wn m c t).h7 (qk (wn m c t).xA1 (wn m c t).cw (wn m c t).cb) crA).res
      (View.ld (wn m c t).o (Rect.unit (s := S2x128x512) ![1, 0, 384] ![1, 128, 128] inb_S2x128x512_S1x128x128_1_0_384)) (View.ld (wn m c t).z (Rect.unit (s := S2x128x512) ![1, 0, 384] ![1, 128, 128] inb_S2x128x512_S1x128x128_1_0_384))
      (View.ld (wn m c t).hn (Rect.unit (s := S1x512) ![0, 384] ![1, 128] inb_S1x512_S1x128_0_384)) (ix3 (0 : Fin 1) i j) → (outsAt0 m c t.val t.isLt).1 (ix3 (1 : Fin 2) i (⟨384 + j.val, by omega⟩ : Fin 512)) = V from H _ rfl
  intro V hV
  rw [outsAt0_A m c t h0]
  dsimp only
  frame_open
  simp (disch := decide) only [↓ View.readCov_skip, ↓ View.readCov_cons_toLoadRect, ↓ View.readCov_fill]
  frame_out
  subst hV
  refine (chit (1) (384) _ _ _ _ _ _ i j (by norm_num) rfl).trans ?_
  refine congrFun ?_ _
  clear h0
  rfl

end Cert.Proof.K
-- ==== Proof.KOpenOB0.lean ====
module
public import proofs.«01_k».proof.Proof.KOpenNB
public import proofs.«01_k».proof.Proof.KFold
public import Idealize.ShloMosaic.Lib.Pipeline.ValueKit
public import Idealize.ShloMosaic.Lib.Pipeline.ReadBack

/-!
# What head 0 of batch element 0 stores of the output, at a later point
-/

@[expose] public section
set_option maxRecDepth 16384
noncomputable section
namespace Cert.Proof.K
open Idealize.ShloMosaic Cert.KernelIdeal Cert.KernelIdeal.Gen

set_option maxHeartbeats 8000000 in
theorem openOB0 (m : (ℓ : Loc nD τ sig) → Buf (Elt Ideal) ℓ) (c : Dev nD) (t : Fin cfg0.N) (h0 : ¬t.val % 64 = 0) (i j : Fin 128) :
    (outsAt0 m c t.val t.isLt).1 (ix3 (0 : Fin 2) i (⟨0 + j.val, by omega⟩ : Fin 512)) = ((wn m c t).h0 (qk ((wn m c t).xB0 (outsAt0 m c (t.val - 1) (Nat.lt_of_le_of_lt (Nat.sub_le _ _) t.isLt)).2.1) (wn m c t).cw (wn m c t).cb) (crB m c (t.val - 1) (Nat.lt_of_le_of_lt (Nat.sub_le _ _) t.isLt))).res
      (View.ld (wn m c t).o (Rect.unit (s := S2x128x512) ![0, 0, 0] ![1, 128, 128] inb_S2x128x512_S1x128x128_0_0_0)) (View.ld (wn m c t).z (Rect.unit (s := S2x128x512) ![0, 0, 0] ![1, 128, 128] inb_S2x128x512_S1x128x128_0_0_0))
      (View.ld (wn m c t).hn (Rect.unit (s := S1x512) ![0, 0] ![1, 128] inb_S1x512_S1x128_0_0)) (ix3 (0 : Fin 1) i j) := by
  suffices H : ∀ V, V = ((wn m c t).h0 (qk ((wn m c t).xB0 (outsAt0 m c (t.val - 1) (Nat.lt_of_le_of_lt (Nat.sub_le _ _) t.isLt)).2.1) (wn m c t).cw (wn m c t).cb) (crB m c (t.val - 1) (Nat.lt_of_le_of_lt (Nat.sub_le _ _) t.isLt))).res
      (View.ld (wn m c t).o (Rect.unit (s := S2x128x512) ![0, 0, 0] ![1, 128, 128] inb_S2x128x512_S1x128x128_0_0_0)) (View.ld (wn m c t).z (Rect.unit (s := S2x128x512) ![0, 0, 0] ![1, 128, 128] inb_S2x128x512_S1x128x128_0_0_0))
      (View.ld (wn m c t).hn (Rect.unit (s := S1x512) ![0, 0] ![1, 128] inb_S1x512_S1x128_0_0)) (ix3 (0 : Fin 1) i j) → (outsAt0 m c t.val t.isLt).1 (ix3 (0 : Fin 2) i (⟨0 + j.val, by omega⟩ : Fin 512)) = V from H _ rfl
  intro V hV
  rw [outsAt0_B m c t h0]
  dsimp only
  frame_open
  simp (disch := decide) only [↓ View.readCov_skip, ↓ View.readCov_cons_toLoadRect, ↓ View.readCov_fill]
  frame_out
  subst hV
  simp only [read_unread_whole]
  refine (cmiss (1) (384) _ _ _ _ _ _ (by simp only []; norm_num; try omega)).trans ?_
  refine (cmiss (1) (256) _ _ _ _ _ _ (by simp only []; norm_num; try omega)).trans ?_
  refine (cmiss (1) (128) _ _ _ _ _ _ (by simp only []; norm_num; try omega)).trans ?_
  refine (cmiss (1) (0) _ _ _ _ _ _ (by simp only []; norm_num; try omega)).trans ?_
  refine (cmiss (0) (384) _ _ _ _ _ _ (by simp only []; norm_num; try omega)).trans ?_
  refine (cmiss (0) (256) _ _ _ _ _ _ (by simp only []; norm_num; try omega)).trans ?_
  refine (cmiss (0) (128) _ _ _ _ _ _ (by simp only []; norm_num; try omega)).trans ?_
  refine (chit (0) (0) _ _ _ _ _ _ i j (by norm_num) rfl).trans ?_
  refine congrFun ?_ _
  clear h0
  rfl

end Cert.Proof.K
-- ==== Proof.KOpenOB1.lean ====
module
public import proofs.«01_k».proof.Proof.KOpenOB0
public import proofs.«01_k».proof.Proof.KFold
public import Idealize.ShloMosaic.Lib.Pipeline.ValueKit
public import Idealize.ShloMosaic.Lib.Pipeline.ReadBack

/-!
# What head 1 of batch element 0 stores of the output, at a later point
-/

@[expose] public section
set_option maxRecDepth 16384
noncomputable section
namespace Cert.Proof.K
open Idealize.ShloMosaic Cert.KernelIdeal Cert.KernelIdeal.Gen

set_option maxHeartbeats 8000000 in
theorem openOB1 (m : (ℓ : Loc nD τ sig) → Buf (Elt Ideal) ℓ) (c : Dev nD) (t : Fin cfg0.N) (h0 : ¬t.val % 64 = 0) (i j : Fin 128) :
    (outsAt0 m c t.val t.isLt).1 (ix3 (0 : Fin 2) i (⟨128 + j.val, by omega⟩ : Fin 512)) = ((wn m c t).h1 (qk ((wn m c t).xB0 (outsAt0 m c (t.val - 1) (Nat.lt_of_le_of_lt (Nat.sub_le _ _) t.isLt)).2.1) (wn m c t).cw (wn m c t).cb) (crB m c (t.val - 1) (Nat.lt_of_le_of_lt (Nat.sub_le _ _) t.isLt))).res
      (View.ld (wn m c t).o (Rect.unit (s := S2x128x512) ![0, 0, 128] ![1, 128, 128] inb_S2x128x512_S1x128x128_0_0_128)) (View.ld (wn m c t).z (Rect.unit (s := S2x128x512) ![0, 0, 128] ![1, 128, 128] inb_S2x128x512_S1x128x128_0_0_128))
      (View.ld (wn m c t).hn (Rect.unit (s := S1x512) ![0, 128] ![1, 128] inb_S1x512_S1x128_0_128)) (ix3 (0 : Fin 1) i j) := by
  suffices H : ∀ V, V = ((wn m c t).h1 (qk ((wn m c t).xB0 (outsAt0 m c (t.val - 1) (Nat.lt_of_le_of_lt (Nat.sub_le _ _) t.isLt)).2.1) (wn m c t).cw (wn m c t).cb) (crB m c (t.val - 1) (Nat.lt_of_le_of_lt (Nat.sub_le _ _) t.isLt))).res
      (View.ld (wn m c t).o (Rect.unit (s := S2x128x512) ![0, 0, 128] ![1, 128, 128] inb_S2x128x512_S1x128x128_0_0_128)) (View.ld (wn m c t).z (Rect.unit (s := S2x128x512) ![0, 0, 128] ![1, 128, 128] inb_S2x128x512_S1x128x128_0_0_128))
      (View.ld (wn m c t).hn (Rect.unit (s := S1x512) ![0, 128] ![1, 128] inb_S1x512_S1x128_0_128)) (ix3 (0 : Fin 1) i j) → (outsAt0 m c t.val t.isLt).1 (ix3 (0 : Fin 2) i (⟨128 + j.val, by omega⟩ : Fin 512)) = V from H _ rfl
  intro V hV
  rw [outsAt0_B m c t h0]
  dsimp only
  frame_open
  simp (disch := decide) only [↓ View.readCov_skip, ↓ View.readCov_cons_toLoadRect, ↓ View.readCov_fill]
  frame_out
  subst hV
  simp only [read_unread_whole]
  refine (cmiss (1) (384) _ _ _ _ _ _ (by simp only []; norm_num; try omega)).trans ?_
  refine (cmiss (1) (256) _ _ _ _ _ _ (by simp only []; norm_num; try omega)).trans ?_
  refine (cmiss (1) (128) _ _ _ _ _ _ (by simp only []; norm_num; try omega)).trans ?_
  refine (cmiss (1) (0) _ _ _ _ _ _ (by simp only []; norm_num; try omega)).trans ?_
  refine (cmiss (0) (384) _ _ _ _ _ _ (by simp only []; norm_num; try omega)).trans ?_
  refine (cmiss (0) (256) _ _ _ _ _ _ (by simp only []; norm_num; try omega)).trans ?_
  refine (chit (0) (128) _ _ _ _ _ _ i j (by norm_num) rfl).trans ?_
  refine congrFun ?_ _
  clear h0
  rfl

end Cert.Proof.K
-- ==== Proof.KOpenOB2.lean ====
module
public import proofs.«01_k».proof.Proof.KOpenOB1
public import proofs.«01_k».proof.Proof.KFold
public import Idealize.ShloMosaic.Lib.Pipeline.ValueKit
public import Idealize.ShloMosaic.Lib.Pipeline.ReadBack

/-!
# What head 2 of batch element 0 stores of the output, at a later point
-/

@[expose] public section
set_option maxRecDepth 16384
noncomputable section
namespace Cert.Proof.K
open Idealize.ShloMosaic Cert.KernelIdeal Cert.KernelIdeal.Gen

set_option maxHeartbeats 8000000 in
theorem openOB2 (m : (ℓ : Loc nD τ sig) → Buf (Elt Ideal) ℓ) (c : Dev nD) (t : Fin cfg0.N) (h0 : ¬t.val % 64 = 0) (i j : Fin 128) :
    (outsAt0 m c t.val t.isLt).1 (ix3 (0 : Fin 2) i (⟨256 + j.val, by omega⟩ : Fin 512)) = ((wn m c t).h2 (qk ((wn m c t).xB0 (outsAt0 m c (t.val - 1) (Nat.lt_of_le_of_lt (Nat.sub_le _ _) t.isLt)).2.1) (wn m c t).cw (wn m c t).cb) (crB m c (t.val - 1) (Nat.lt_of_le_of_lt (Nat.sub_le _ _) t.isLt))).res
      (View.ld (wn m c t).o (Rect.unit (s := S2x128x512) ![0, 0, 256] ![1, 128, 128] inb_S2x128x512_S1x128x128_0_0_256)) (View.ld (wn m c t).z (Rect.unit (s := S2x128x512) ![0, 0, 256] ![1, 128, 128] inb_S2x128x512_S1x128x128_0_0_256))
      (View.ld (wn m c t).hn (Rect.unit (s := S1x512) ![0, 256] ![1, 128] inb_S1x512_S1x128_0_256)) (ix3 (0 : Fin 1) i j) := by
  suffices H : ∀ V, V = ((wn m c t).h2 (qk ((wn m c t).xB0 (outsAt0 m c (t.val - 1) (Nat.lt_of_le_of_lt (Nat.sub_le _ _) t.isLt)).2.1) (wn m c t).cw (wn m c t).cb) (crB m c (t.val - 1) (Nat.lt_of_le_of_lt (Nat.sub_le _ _) t.isLt))).res
      (View.ld (wn m c t).o (Rect.unit (s := S2x128x512) ![0, 0, 256] ![1, 128, 128] inb_S2x128x512_S1x128x128_0_0_256)) (View.ld (wn m c t).z (Rect.unit (s := S2x128x512) ![0, 0, 256] ![1, 128, 128] inb_S2x128x512_S1x128x128_0_0_256))
      (View.ld (wn m c t).hn (Rect.unit (s := S1x512) ![0, 256] ![1, 128] inb_S1x512_S1x128_0_256)) (ix3 (0 : Fin 1) i j) → (outsAt0 m c t.val t.isLt).1 (ix3 (0 : Fin 2) i (⟨256 + j.val, by omega⟩ : Fin 512)) = V from H _ rfl
  intro V hV
  rw [outsAt0_B m c t h0]
  dsimp only
  frame_open
  simp (disch := decide) only [↓ View.readCov_skip, ↓ View.readCov_cons_toLoadRect, ↓ View.readCov_fill]
  frame_out
  subst hV
  simp only [read_unread_whole]
  refine (cmiss (1) (384) _ _ _ _ _ _ (by simp only []; norm_num; try omega)).trans ?_
  refine (cmiss (1) (256) _ _ _ _ _ _ (by simp only []; norm_num; try omega)).trans ?_
  refine (cmiss (1) (128) _ _ _ _ _ _ (by simp only []; norm_num; try omega)).trans ?_
  refine (cmiss (1) (0) _ _ _ _ _ _ (by simp only []; norm_num; try omega)).trans ?_
  refine (cmiss (0) (384) _ _ _ _ _ _ (by simp only []; norm_num; try omega)).trans ?_
  refine (chit (0) (256) _ _ _ _ _ _ i j (by norm_num) rfl).trans ?_
  refine congrFun ?_ _
  clear h0
  rfl

end Cert.Proof.K
-- ==== Proof.KOpenOB3.lean ====
module
public import proofs.«01_k».proof.Proof.KOpenOB2
public import proofs.«01_k».proof.Proof.KFold
public import Idealize.ShloMosaic.Lib.Pipeline.ValueKit
public import Idealize.ShloMosaic.Lib.Pipeline.ReadBack

/-!
# What head 3 of batch element 0 stores of the output, at a later point
-/

@[expose] public section
set_option maxRecDepth 16384
noncomputable section
namespace Cert.Proof.K
open Idealize.ShloMosaic Cert.KernelIdeal Cert.KernelIdeal.Gen

set_option maxHeartbeats 8000000 in
theorem openOB3 (m : (ℓ : Loc nD τ sig) → Buf (Elt Ideal) ℓ) (c : Dev nD) (t : Fin cfg0.N) (h0 : ¬t.val % 64 = 0) (i j : Fin 128) :
    (outsAt0 m c t.val t.isLt).1 (ix3 (0 : Fin 2) i (⟨384 + j.val, by omega⟩ : Fin 512)) = ((wn m c t).h3 (qk ((wn m c t).xB0 (outsAt0 m c (t.val - 1) (Nat.lt_of_le_of_lt (Nat.sub_le _ _) t.isLt)).2.1) (wn m c t).cw (wn m c t).cb) (crB m c (t.val - 1) (Nat.lt_of_le_of_lt (Nat.sub_le _ _) t.isLt))).res
      (View.ld (wn m c t).o (Rect.unit (s := S2x128x512) ![0, 0, 384] ![1, 128, 128] inb_S2x128x512_S1x128x128_0_0_384)) (View.ld (wn m c t).z (Rect.unit (s := S2x128x512) ![0, 0, 384] ![1, 128, 128] inb_S2x128x512_S1x128x128_0_0_384))
      (View.ld (wn m c t).hn (Rect.unit (s := S1x512) ![0, 384] ![1, 128] inb_S1x512_S1x128_0_384)) (ix3 (0 : Fin 1) i j) := by
  suffices H : ∀ V, V = ((wn m c t).h3 (qk ((wn m c t).xB0 (outsAt0 m c (t.val - 1) (Nat.lt_of_le_of_lt (Nat.sub_le _ _) t.isLt)).2.1) (wn m c t).cw (wn m c t).cb) (crB m c (t.val - 1) (Nat.lt_of_le_of_lt (Nat.sub_le _ _) t.isLt))).res
      (View.ld (wn m c t).o (Rect.unit (s := S2x128x512) ![0, 0, 384] ![1, 128, 128] inb_S2x128x512_S1x128x128_0_0_384)) (View.ld (wn m c t).z (Rect.unit (s := S2x128x512) ![0, 0, 384] ![1, 128, 128] inb_S2x128x512_S1x128x128_0_0_384))
      (View.ld (wn m c t).hn (Rect.unit (s := S1x512) ![0, 384] ![1, 128] inb_S1x512_S1x128_0_384)) (ix3 (0 : Fin 1) i j) → (outsAt0 m c t.val t.isLt).1 (ix3 (0 : Fin 2) i (⟨384 + j.val, by omega⟩ : Fin 512)) = V from H _ rfl
  intro V hV
  rw [outsAt0_B m c t h0]
  dsimp only
  frame_open
  simp (disch := decide) only [↓ View.readCov_skip, ↓ View.readCov_cons_toLoadRect, ↓ View.readCov_fill]
  frame_out
  subst hV
  simp only [read_unread_whole]
  refine (cmiss (1) (384) _ _ _ _ _ _ (by simp only []; norm_num; try omega)).trans ?_
  refine (cmiss (1) (256) _ _ _ _ _ _ (by simp only []; norm_num; try omega)).trans ?_
  refine (cmiss (1) (128) _ _ _ _ _ _ (by simp only []; norm_num; try omega)).trans ?_
  refine (cmiss (1) (0) _ _ _ _ _ _ (by simp only []; norm_num; try omega)).trans ?_
  refine (chit (0) (384) _ _ _ _ _ _ i j (by norm_num) rfl).trans ?_
  refine congrFun ?_ _
  clear h0
  rfl

end Cert.Proof.K
-- ==== Proof.KOpenOB4.lean ====
module
public import proofs.«01_k».proof.Proof.KOpenCB
public import proofs.«01_k».proof.Proof.KFold
public import Idealize.ShloMosaic.Lib.Pipeline.ValueKit
public import Idealize.ShloMosaic.Lib.Pipeline.ReadBack

/-!
# What head 0 of batch element 1 stores of the output, at a later point
-/

@[expose] public section
set_option maxRecDepth 16384
noncomputable section
namespace Cert.Proof.K
open Idealize.ShloMosaic Cert.KernelIdeal Cert.KernelIdeal.Gen

set_option maxHeartbeats 8000000 in
theorem openOB4 (m : (ℓ : Loc nD τ sig) → Buf (Elt Ideal) ℓ) (c : Dev nD) (t : Fin cfg0.N) (h0 : ¬t.val % 64 = 0) (i j : Fin 128) :
    (outsAt0 m c t.val t.isLt).1 (ix3 (1 : Fin 2) i (⟨0 + j.val, by omega⟩ : Fin 512)) = ((wn m c t).h4 (qk ((wn m c t).xB1 (outsAt0 m c (t.val - 1) (Nat.lt_of_le_of_lt (Nat.sub_le _ _) t.isLt)).2.1) (wn m c t).cw (wn m c t).cb) (crB m c (t.val - 1) (Nat.lt_of_le_of_lt (Nat.sub_le _ _) t.isLt))).res
      (View.ld (wn m c t).o (Rect.unit (s := S2x128x512) ![1, 0, 0] ![1, 128, 128] inb_S2x128x512_S1x128x128_1_0_0)) (View.ld (wn m c t).z (Rect.unit (s := S2x128x512) ![1, 0, 0] ![1, 128, 128] inb_S2x128x512_S1x128x128_1_0_0))
      (View.ld (wn m c t).hn (Rect.unit (s := S1x512) ![0, 0] ![1, 128] inb_S1x512_S1x128_0_0)) (ix3 (0 : Fin 1) i j) := by
  suffices H : ∀ V, V = ((wn m c t).h4 (qk ((wn m c t).xB1 (outsAt0 m c (t.val - 1) (Nat.lt_of_le_of_lt (Nat.sub_le _ _) t.isLt)).2.1) (wn m c t).cw (wn m c t).cb) (crB m c (t.val - 1) (Nat.lt_of_le_of_lt (Nat.sub_le _ _) t.isLt))).res
      (View.ld (wn m c t).o (Rect.unit (s := S2x128x512) ![1, 0, 0] ![1, 128, 128] inb_S2x128x512_S1x128x128_1_0_0)) (View.ld (wn m c t).z (Rect.unit (s := S2x128x512) ![1, 0, 0] ![1, 128, 128] inb_S2x128x512_S1x128x128_1_0_0))
      (View.ld (wn m c t).hn (Rect.unit (s := S1x512) ![0, 0] ![1, 128] inb_S1x512_S1x128_0_0)) (ix3 (0 : Fin 1) i j) → (outsAt0 m c t.val t.isLt).1 (ix3 (1 : Fin 2) i (⟨0 + j.val, by omega⟩ : Fin 512)) = V from H _ rfl
  intro V hV
  rw [outsAt0_B m c t h0]
  dsimp only
  frame_open
  simp (disch := decide) only [↓ View.readCov_skip, ↓ View.readCov_cons_toLoadRect, ↓ View.readCov_fill]
  frame_out
  subst hV
  simp only [read_unread_whole]
  refine (cmiss (1) (384) _ _ _ _ _ _ (by simp only []; norm_num; try omega)).trans ?_
  refine (cmiss (1) (256) _ _ _ _ _ _ (by simp only []; norm_num; try omega)).trans ?_
  refine (cmiss (1) (128) _ _ _ _ _ _ (by simp only []; norm_num; try omega)).trans ?_
  refine (chit (1) (0) _ _ _ _ _ _ i j (by norm_num) rfl).trans ?_
  refine congrFun ?_ _
  clear h0
  rfl

end Cert.Proof.K
-- ==== Proof.KOpenOB5.lean ====
module
public import proofs.«01_k».proof.Proof.KOpenOB4
public import proofs.«01_k».proof.Proof.KFold
public import Idealize.ShloMosaic.Lib.Pipeline.ValueKit
public import Idealize.ShloMosaic.Lib.Pipeline.ReadBack

/-!
# What head 1 of batch element 1 stores of the output, at a later point
-/

@[expose] public section
set_option maxRecDepth 16384
noncomputable section
namespace Cert.Proof.K
open Idealize.ShloMosaic Cert.KernelIdeal Cert.KernelIdeal.Gen

set_option maxHeartbeats 8000000 in
theorem openOB5 (m : (ℓ : Loc nD τ sig) → Buf (Elt Ideal) ℓ) (c : Dev nD) (t : Fin cfg0.N) (h0 : ¬t.val % 64 = 0) (i j : Fin 128) :
    (outsAt0 m c t.val t.isLt).1 (ix3 (1 : Fin 2) i (⟨128 + j.val, by omega⟩ : Fin 512)) = ((wn m c t).h5 (qk ((wn m c t).xB1 (outsAt0 m c (t.val - 1) (Nat.lt_of_le_of_lt (Nat.sub_le _ _) t.isLt)).2.1) (wn m c t).cw (wn m c t).cb) (crB m c (t.val - 1) (Nat.lt_of_le_of_lt (Nat.sub_le _ _) t.isLt))).res
      (View.ld (wn m c t).o (Rect.unit (s := S2x128x512) ![1, 0, 128] ![1, 128, 128] inb_S2x128x512_S1x128x128_1_0_128)) (View.ld (wn m c t).z (Rect.unit (s := S2x128x512) ![1, 0, 128] ![1, 128, 128] inb_S2x128x512_S1x128x128_1_0_128))
      (View.ld (wn m c t).hn (Rect.unit (s := S1x512) ![0, 128] ![1, 128] inb_S1x512_S1x128_0_128)) (ix3 (0 : Fin 1) i j) := by
  suffices H : ∀ V, V = ((wn m c t).h5 (qk ((wn m c t).xB1 (outsAt0 m c (t.val - 1) (Nat.lt_of_le_of_lt (Nat.sub_le _ _) t.isLt)).2.1) (wn m c t).cw (wn m c t).cb) (crB m c (t.val - 1) (Nat.lt_of_le_of_lt (Nat.sub_le _ _) t.isLt))).res
      (View.ld (wn m c t).o (Rect.unit (s := S2x128x512) ![1, 0, 128] ![1, 128, 128] inb_S2x128x512_S1x128x128_1_0_128)) (View.ld (wn m c t).z (Rect.unit (s := S2x128x512) ![1, 0, 128] ![1, 128, 128] inb_S2x128x512_S1x128x128_1_0_128))
      (View.ld (wn m c t).hn (Rect.unit (s := S1x512) ![0, 128] ![1, 128] inb_S1x512_S1x128_0_128)) (ix3 (0 : Fin 1) i j) → (outsAt0 m c t.val t.isLt).1 (ix3 (1 : Fin 2) i (⟨128 + j.val, by omega⟩ : Fin 512)) = V from H _ rfl
  intro V hV
  rw [outsAt0_B m c t h0]
  dsimp only
  frame_open
  simp (disch := decide) only [↓ View.readCov_skip, ↓ View.readCov_cons_toLoadRect, ↓ View.readCov_fill]
  frame_out
  subst hV
  simp only [read_unread_whole]
  refine (cmiss (1) (384) _ _ _ _ _ _ (by simp only []; norm_num; try omega)).trans ?_
  refine (cmiss (1) (256) _ _ _ _ _ _ (by simp only []; norm_num; try omega)).trans ?_
  refine (chit (1) (128) _ _ _ _ _ _ i j (by norm_num) rfl).trans ?_
  refine congrFun ?_ _
  clear h0
  rfl

end Cert.Proof.K
-- ==== Proof.KOpenOB6.lean ====
module
public import proofs.«01_k».proof.Proof.KOpenOB5
public import proofs.«01_k».proof.Proof.KFold
public import Idealize.ShloMosaic.Lib.Pipeline.ValueKit
public import Idealize.ShloMosaic.Lib.Pipeline.ReadBack

/-!
# What head 2 of batch element 1 stores of the output, at a later point
-/

@[expose] public section
set_option maxRecDepth 16384
noncomputable section
namespace Cert.Proof.K
open Idealize.ShloMosaic Cert.KernelIdeal Cert.KernelIdeal.Gen

set_option maxHeartbeats 8000000 in
theorem openOB6 (m : (ℓ : Loc nD τ sig) → Buf (Elt Ideal) ℓ) (c : Dev nD) (t : Fin cfg0.N) (h0 : ¬t.val % 64 = 0) (i j : Fin 128) :
    (outsAt0 m c t.val t.isLt).1 (ix3 (1 : Fin 2) i (⟨256 + j.val, by omega⟩ : Fin 512)) = ((wn m c t).h6 (qk ((wn m c t).xB1 (outsAt0 m c (t.val - 1) (Nat.lt_of_le_of_lt (Nat.sub_le _ _) t.isLt)).2.1) (wn m c t).cw (wn m c t).cb) (crB m c (t.val - 1) (Nat.lt_of_le_of_lt (Nat.sub_le _ _) t.isLt))).res
      (View.ld (wn m c t).o (Rect.unit (s := S2x128x512) ![1, 0, 256] ![1, 128, 128] inb_S2x128x512_S1x128x128_1_0_256)) (View.ld (wn m c t).z (Rect.unit (s := S2x128x512) ![1, 0, 256] ![1, 128, 128] inb_S2x128x512_S1x128x128_1_0_256))
      (View.ld (wn m c t).hn (Rect.unit (s := S1x512) ![0, 256] ![1, 128] inb_S1x512_S1x128_0_256)) (ix3 (0 : Fin 1) i j) := by
  suffices H : ∀ V, V = ((wn m c t).h6 (qk ((wn m c t).xB1 (outsAt0 m c (t.val - 1) (Nat.lt_of_le_of_lt (Nat.sub_le _ _) t.isLt)).2.1) (wn m c t).cw (wn m c t).cb) (crB m c (t.val - 1) (Nat.lt_of_le_of_lt (Nat.sub_le _ _) t.isLt))).res
      (View.ld (wn m c t).o (Rect.unit (s := S2x128x512) ![1, 0, 256] ![1, 128, 128] inb_S2x128x512_S1x128x128_1_0_256)) (View.ld (wn m c t).z (Rect.unit (s := S2x128x512) ![1, 0, 256] ![1, 128, 128] inb_S2x128x512_S1x128x128_1_0_256))
      (View.ld (wn m c t).hn (Rect.unit (s := S1x512) ![0, 256] ![1, 128] inb_S1x512_S1x128_0_256)) (ix3 (0 : Fin 1) i j) → (outsAt0 m c t.val t.isLt).1 (ix3 (1 : Fin 2) i (⟨256 + j.val, by omega⟩ : Fin 512)) = V from H _ rfl
  intro V hV
  rw [outsAt0_B m c t h0]
  dsimp only
  frame_open
  simp (disch := decide) only [↓ View.readCov_skip, ↓ View.readCov_cons_toLoadRect, ↓ View.readCov_fill]
  frame_out
  subst hV
  simp only [read_unread_whole]
  refine (cmiss (1) (384) _ _ _ _ _ _ (by simp only []; norm_num; try omega)).trans ?_
  refine (chit (1) (256) _ _ _ _ _ _ i j (by norm_num) rfl).trans ?_
  refine congrFun ?_ _
  clear h0
  rfl

end Cert.Proof.K
-- ==== Proof.KOpenOB7.lean ====
module
public import proofs.«01_k».proof.Proof.KOpenOB6
public import proofs.«01_k».proof.Proof.KFold
public import Idealize.ShloMosaic.Lib.Pipeline.ValueKit
public import Idealize.ShloMosaic.Lib.Pipeline.ReadBack

/-!
# What head 3 of batch element 1 stores of the output, at a later point
-/

@[expose] public section
set_option maxRecDepth 16384
noncomputable section
namespace Cert.Proof.K
open Idealize.ShloMosaic Cert.KernelIdeal Cert.KernelIdeal.Gen

set_option maxHeartbeats 8000000 in
theorem openOB7 (m : (ℓ : Loc nD τ sig) → Buf (Elt Ideal) ℓ) (c : Dev nD) (t : Fin cfg0.N) (h0 : ¬t.val % 64 = 0) (i j : Fin 128) :
    (outsAt0 m c t.val t.isLt).1 (ix3 (1 : Fin 2) i (⟨384 + j.val, by omega⟩ : Fin 512)) = ((wn m c t).h7 (qk ((wn m c t).xB1 (outsAt0 m c (t.val - 1) (Nat.lt_of_le_of_lt (Nat.sub_le _ _) t.isLt)).2.1) (wn m c t).cw (wn m c t).cb) (crB m c (t.val - 1) (Nat.lt_of_le_of_lt (Nat.sub_le _ _) t.isLt))).res
      (View.ld (wn m c t).o (Rect.unit (s := S2x128x512) ![1, 0, 384] ![1, 128, 128] inb_S2x128x512_S1x128x128_1_0_384)) (View.ld (wn m c t).z (Rect.unit (s := S2x128x512) ![1, 0, 384] ![1, 128, 128] inb_S2x128x512_S1x128x128_1_0_384))
      (View.ld (wn m c t).hn (Rect.unit (s := S1x512) ![0, 384] ![1, 128] inb_S1x512_S1x128_0_384)) (ix3 (0 : Fin 1) i j) := by
  suffices H : ∀ V, V = ((wn m c t).h7 (qk ((wn m c t).xB1 (outsAt0 m c (t.val - 1) (Nat.lt_of_le_of_lt (Nat.sub_le _ _) t.isLt)).2.1) (wn m c t).cw (wn m c t).cb) (crB m c (t.val - 1) (Nat.lt_of_le_of_lt (Nat.sub_le _ _) t.isLt))).res
      (View.ld (wn m c t).o (Rect.unit (s := S2x128x512) ![1, 0, 384] ![1, 128, 128] inb_S2x128x512_S1x128x128_1_0_384)) (View.ld (wn m c t).z (Rect.unit (s := S2x128x512) ![1, 0, 384] ![1, 128, 128] inb_S2x128x512_S1x128x128_1_0_384))
      (View.ld (wn m c t).hn (Rect.unit (s := S1x512) ![0, 384] ![1, 128] inb_S1x512_S1x128_0_384)) (ix3 (0 : Fin 1) i j) → (outsAt0 m c t.val t.isLt).1 (ix3 (1 : Fin 2) i (⟨384 + j.val, by omega⟩ : Fin 512)) = V from H _ rfl
  intro V hV
  rw [outsAt0_B m c t h0]
  dsimp only
  frame_open
  simp (disch := decide) only [↓ View.readCov_skip, ↓ View.readCov_cons_toLoadRect, ↓ View.readCov_fill]
  frame_out
  subst hV
  simp only [read_unread_whole]
  refine (chit (1) (384) _ _ _ _ _ _ i j (by norm_num) rfl).trans ?_
  refine congrFun ?_ _
  clear h0
  rfl

end Cert.Proof.K
-- ==== Proof.KOut.lean ====
module
public import proofs.«01_k».proof.Proof.KInv
public import proofs.«01_k».proof.Proof.KOpenOA0
public import proofs.«01_k».proof.Proof.KOpenOA1
public import proofs.«01_k».proof.Proof.KOpenOA2
public import proofs.«01_k».proof.Proof.KOpenOA3
public import proofs.«01_k».proof.Proof.KOpenOA4
public import proofs.«01_k».proof.Proof.KOpenOA5
public import proofs.«01_k».proof.Proof.KOpenOA6
public import proofs.«01_k».proof.Proof.KOpenOA7
public import proofs.«01_k».proof.Proof.KOpenOB0
public import proofs.«01_k».proof.Proof.KOpenOB1
public import proofs.«01_k».proof.Proof.KOpenOB2
public import proofs.«01_k».proof.Proof.KOpenOB3
public import proofs.«01_k».proof.Proof.KOpenOB4
public import proofs.«01_k».proof.Proof.KOpenOB5
public import proofs.«01_k».proof.Proof.KOpenOB6
public import proofs.«01_k».proof.Proof.KOpenOB7

/-!
# What every point writes out
-/

@[expose] public section
set_option maxRecDepth 16384
noncomputable section
namespace Cert.Proof.K
open Idealize.ShloMosaic Cert.KernelIdeal Cert.KernelIdeal.Gen

section
variable (m : (ℓ : Loc nD τ sig) → Buf (Elt Ideal) ℓ) (c : Dev nD) (A : Args)
variable (hw : ∀ t : Fin cfg0.N, WRel (wn m c t) A (⟨t.val, lt_of_lt_of_eq t.isLt N_0⟩ : Fin 64))
include hw

theorem block0 (t : Fin cfg0.N) (i j : Fin 128) :
    (outsAt0 m c t.val t.isLt).1 (ix3 (0 : Fin 2) i (⟨0 + j.val, by omega⟩ : Fin 512)) = A.res 0 0 ⟨t.val, lt_of_lt_of_eq t.isLt N_0⟩ i j := by
  have hN := lt_of_lt_of_eq t.isLt N_0
  have w := hw t
  by_cases h0 : t.val % 64 = 0
  · have hz : t.val = 0 := by omega
    have hY : YRel crA A t.val := by rw [hz]; exact yrel_zero A
    exact (openOA0 m c t h0 i j).trans (w.out0 (w.qA0 hz) hY i j)
  · have ih := inv m c A hw (t.val - 1) (Nat.lt_of_le_of_lt (Nat.sub_le _ _) t.isLt)
    have hz : t.val - 1 + 1 = t.val := by omega
    have hX := ih.X
    have hY := ih.Y
    rw [hz] at hX hY
    exact (openOB0 m c t h0 i j).trans (w.out0 (w.qB0 hX) hY i j)

theorem block1 (t : Fin cfg0.N) (i j : Fin 128) :
    (outsAt0 m c t.val t.isLt).1 (ix3 (0 : Fin 2) i (⟨128 + j.val, by omega⟩ : Fin 512)) = A.res 0 1 ⟨t.val, lt_of_lt_of_eq t.isLt N_0⟩ i j := by
  have hN := lt_of_lt_of_eq t.isLt N_0
  have w := hw t
  by_cases h0 : t.val % 64 = 0
  · have hz : t.val = 0 := by omega
    have hY : YRel crA A t.val := by rw [hz]; exact yrel_zero A
    exact (openOA1 m c t h0 i j).trans (w.out1 (w.qA0 hz) hY i j)
  · have ih := inv m c A hw (t.val - 1) (Nat.lt_of_le_of_lt (Nat.sub_le _ _) t.isLt)
    have hz : t.val - 1 + 1 = t.val := by omega
    have hX := ih.X
    have hY := ih.Y
    rw [hz] at hX hY
    exact (openOB1 m c t h0 i j).trans (w.out1 (w.qB0 hX) hY i j)

theorem block2 (t : Fin cfg0.N) (i j : Fin 128) :
    (outsAt0 m c t.val t.isLt).1 (ix3 (0 : Fin 2) i (⟨256 + j.val, by omega⟩ : Fin 512)) = A.res 0 2 ⟨t.val, lt_of_lt_of_eq t.isLt N_0⟩ i j := by
  have hN := lt_of_lt_of_eq t.isLt N_0
  have w := hw t
  by_cases h0 : t.val % 64 = 0
  · have hz : t.val = 0 := by omega
    have hY : YRel crA A t.val := by rw [hz]; exact yrel_zero A
    exact (openOA2 m c t h0 i j).trans (w.out2 (w.qA0 hz) hY i j)
  · have ih := inv m c A hw (t.val - 1) (Nat.lt_of_le_of_lt (Nat.sub_le _ _) t.isLt)
    have hz : t.val - 1 + 1 = t.val := by omega
    have hX := ih.X
    have hY := ih.Y
    rw [hz] at hX hY
    exact (openOB2 m c t h0 i j).trans (w.out2 (w.qB0 hX) hY i j)

theorem block3 (t : Fin cfg0.N) (i j : Fin 128) :
    (outsAt0 m c t.val t.isLt).1 (ix3 (0 : Fin 2) i (⟨384 + j.val, by omega⟩ : Fin 512)) = A.res 0 3 ⟨t.val, lt_of_lt_of_eq t.isLt N_0⟩ i j := by
  have hN := lt_of_lt_of_eq t.isLt N_0
  have w := hw t
  by_cases h0 : t.val % 64 = 0
  · have hz : t.val = 0 := by omega
    have hY : YRel crA A t.val := by rw [hz]; exact yrel_zero A
    exact (openOA3 m c t h0 i j).trans (w.out3 (w.qA0 hz) hY i j)
  · have ih := inv m c A hw (t.val - 1) (Nat.lt_of_le_of_lt (Nat.sub_le _ _) t.isLt)
    have hz : t.val - 1 + 1 = t.val := by omega
    have hX := ih.X
    have hY := ih.Y
    rw [hz] at hX hY
    exact (openOB3 m c t h0 i j).trans (w.out3 (w.qB0 hX) hY i j)

theorem block4 (t : Fin cfg0.N) (i j : Fin 128) :
    (outsAt0 m c t.val t.isLt).1 (ix3 (1 : Fin 2) i (⟨0 + j.val, by omega⟩ : Fin 512)) = A.res 1 0 ⟨t.val, lt_of_lt_of_eq t.isLt N_0⟩ i j := by
  have hN := lt_of_lt_of_eq t.isLt N_0
  have w := hw t
  by_cases h0 : t.val % 64 = 0
  · have hz : t.val = 0 := by omega
    have hY : YRel crA A t.val := by rw [hz]; exact yrel_zero A
    exact (openOA4 m c t h0 i j).trans (w.out4 (w.qA1 hz) hY i j)
  · have ih := inv m c A hw (t.val - 1) (Nat.lt_of_le_of_lt (Nat.sub_le _ _) t.isLt)
    have hz : t.val - 1 + 1 = t.val := by omega
    have hX := ih.X
    have hY := ih.Y
    rw [hz] at hX hY
    exact (openOB4 m c t h0 i j).trans (w.out4 (w.qB1 hX) hY i j)

theorem block5 (t : Fin cfg0.N) (i j : Fin 128) :
    (outsAt0 m c t.val t.isLt).1 (ix3 (1 : Fin 2) i (⟨128 + j.val, by omega⟩ : Fin 512)) = A.res 1 1 ⟨t.val, lt_of_lt_of_eq t.isLt N_0⟩ i j := by
  have hN := lt_of_lt_of_eq t.isLt N_0
  have w := hw t
  by_cases h0 : t.val % 64 = 0
  · have hz : t.val = 0 := by omega
    have hY : YRel crA A t.val := by rw [hz]; exact yrel_zero A
    exact (openOA5 m c t h0 i j).trans (w.out5 (w.qA1 hz) hY i j)
  · have ih := inv m c A hw (t.val - 1) (Nat.lt_of_le_of_lt (Nat.sub_le _ _) t.isLt)
    have hz : t.val - 1 + 1 = t.val := by omega
    have hX := ih.X
    have hY := ih.Y
    rw [hz] at hX hY
    exact (openOB5 m c t h0 i j).trans (w.out5 (w.qB1 hX) hY i j)

theorem block6 (t : Fin cfg0.N) (i j : Fin 128) :
    (outsAt0 m c t.val t.isLt).1 (ix3 (1 : Fin 2) i (⟨256 + j.val, by omega⟩ : Fin 512)) = A.res 1 2 ⟨t.val, lt_of_lt_of_eq t.isLt N_0⟩ i j := by
  have hN := lt_of_lt_of_eq t.isLt N_0
  have w := hw t
  by_cases h0 : t.val % 64 = 0
  · have hz : t.val = 0 := by omega
    have hY : YRel crA A t.val := by rw [hz]; exact yrel_zero A
    exact (openOA6 m c t h0 i j).trans (w.out6 (w.qA1 hz) hY i j)
  · have ih := inv m c A hw (t.val - 1) (Nat.lt_of_le_of_lt (Nat.sub_le _ _) t.isLt)
    have hz : t.val - 1 + 1 = t.val := by omega
    have hX := ih.X
    have hY := ih.Y
    rw [hz] at hX hY
    exact (openOB6 m c t h0 i j).trans (w.out6 (w.qB1 hX) hY i j)

theorem block7 (t : Fin cfg0.N) (i j : Fin 128) :
    (outsAt0 m c t.val t.isLt).1 (ix3 (1 : Fin 2) i (⟨384 + j.val, by omega⟩ : Fin 512)) = A.res 1 3 ⟨t.val, lt_of_lt_of_eq t.isLt N_0⟩ i j := by
  have hN := lt_of_lt_of_eq t.isLt N_0
  have w := hw t
  by_cases h0 : t.val % 64 = 0
  · have hz : t.val = 0 := by omega
    have hY : YRel crA A t.val := by rw [hz]; exact yrel_zero A
    exact (openOA7 m c t h0 i j).trans (w.out7 (w.qA1 hz) hY i j)
  · have ih := inv m c A hw (t.val - 1) (Nat.lt_of_le_of_lt (Nat.sub_le _ _) t.isLt)
    have hz : t.val - 1 + 1 = t.val := by omega
    have hX := ih.X
    have hY := ih.Y
    rw [hz] at hX hY
    exact (openOB7 m c t h0 i j).trans (w.out7 (w.qB1 hX) hY i j)

/-- The block of every point holds the layer's result. -/
theorem block (t : Fin cfg0.N) (b : Fin 2) (h : Fin 4) (i j : Fin 128) :
    (outsAt0 m c t.val t.isLt).1 (ix3 b i (⟨h.val * 128 + j.val, by omega⟩ : Fin 512)) = A.res b h ⟨t.val, lt_of_lt_of_eq t.isLt N_0⟩ i j :=
  match b, h with
  | ⟨0, _⟩, ⟨0, _⟩ => block0 m c A hw t i j
  | ⟨0, _⟩, ⟨1, _⟩ => block1 m c A hw t i j
  | ⟨0, _⟩, ⟨2, _⟩ => block2 m c A hw t i j
  | ⟨0, _⟩, ⟨3, _⟩ => block3 m c A hw t i j
  | ⟨1, _⟩, ⟨0, _⟩ => block4 m c A hw t i j
  | ⟨1, _⟩, ⟨1, _⟩ => block5 m c A hw t i j
  | ⟨1, _⟩, ⟨2, _⟩ => block6 m c A hw t i j
  | ⟨1, _⟩, ⟨3, _⟩ => block7 m c A hw t i j

end
end Cert.Proof.K
-- ==== Proof.KOps.lean ====
module
public import proofs.«01_k».proof.Proof.KRel
public import Idealize.ShloMosaic.Lib.Pointwise
public import Idealize.ShloMosaic.Lib.Claim
public import proofs.«01_k».proof.Proof.Gen.KernelIdeal.Frame
public import Idealize.ShloMosaic.Lib.Pipeline.ValueKit
public import Idealize.ShloMosaic.Lib.StableHlo.RunRead
public import Idealize.ShloMosaic.Lib.Routing.OpsPair
public import Idealize.ShloMosaic.Lib.Routing.OpsSet

/-!
# The host operations, in three groups
-/

@[expose] public section
set_option maxRecDepth 100000
set_option maxHeartbeats 2000000
noncomputable section
namespace Cert.Proof.K
open Idealize.ShloMosaic Idealize.ShloMosaic.TcCoe Idealize.SL.Sem Cert.KernelIdeal Cert.KernelIdeal.Gen Idealize.ShloMosaic.StableHlo

variable (m : (ℓ : Loc nD τ sig) → Buf (Elt Ideal) ℓ) (c : Dev nD)

theorem rs0 (x : S2x8192x4384.Idx → EReal) (b : Fin 2) (p : Fin 8192) (ch : Fin 4384) :
    shapeCast S16384x4384 x shapeCasts_S2x8192x4384_S16384x4384 (ix2 (⟨b.val * 8192 + p.val, by omega⟩ : Fin 16384) ch) = x (ix3 b p ch) := by
  pointwise

theorem rs1 (x : S16384x4608.Idx → EReal) (b : Fin 2) (p : Fin 8192) (ch : Fin 4608) :
    shapeCast S2x8192x4608 x shapeCasts_S16384x4608_S2x8192x4608 (ix3 b p ch) = x (ix2 (⟨b.val * 8192 + p.val, by omega⟩ : Fin 16384) ch) := by
  pointwise

theorem rs2 (x : S16384x128.Idx → EReal) (b : Fin 2) (p : Fin 8192) (ch : Fin 128) :
    shapeCast S2x8192x128 x shapeCasts_S16384x128_S2x8192x128 (ix3 b p ch) = x (ix2 (⟨b.val * 8192 + p.val, by omega⟩ : Fin 16384) ch) := by
  pointwise

/-- The host operations before the columns are put together. -/
abbrev opsA : List (HloOp τ sig (Elt Ideal)) :=
  [ StableHlo.reshape main_arg0 main_v0 (rfl : (.f32 : EltTy) = .f32) shapeCasts_S2x8192x4384_S16384x4384,
    StableHlo.nullary main_cst (constant (F := Ideal) S_ .f32 0x00000000#32),
    StableHlo.unary main_cst main_v1 (broadcastInDim S16384x224 ![] bcast_S_S16384x224 : (⟨S_, .f32⟩ : BufTy).Contents (Elt Ideal) → (⟨S16384x224, .f32⟩ : BufTy).Contents (Elt Ideal)),
    StableHlo.unary main_v0 main_v2 ((extractStridedSlice S16384x2560 ![0, 0] · slices_S16384x4384_S16384x2560_0_0) : (⟨S16384x4384, .f32⟩ : BufTy).Contents (Elt Ideal) → (⟨S16384x2560, .f32⟩ : BufTy).Contents (Elt Ideal)),
    StableHlo.unary main_v0 main_v3 ((extractStridedSlice S16384x1280 ![0, 2568] · slices_S16384x4384_S16384x1280_0_2568) : (⟨S16384x4384, .f32⟩ : BufTy).Contents (Elt Ideal) → (⟨S16384x1280, .f32⟩ : BufTy).Contents (Elt Ideal)),
    StableHlo.unary main_v0 main_v4 ((extractStridedSlice S16384x8 ![0, 2560] · slices_S16384x4384_S16384x8_0_2560) : (⟨S16384x4384, .f32⟩ : BufTy).Contents (Elt Ideal) → (⟨S16384x8, .f32⟩ : BufTy).Contents (Elt Ideal)),
    StableHlo.unary main_v0 main_v5 ((extractStridedSlice S16384x24 ![0, 3848] · slices_S16384x4384_S16384x24_0_3848) : (⟨S16384x4384, .f32⟩ : BufTy).Contents (Elt Ideal) → (⟨S16384x24, .f32⟩ : BufTy).Contents (Elt Ideal)),
    StableHlo.unary main_v0 main_v6 ((extractStridedSlice S16384x512 ![0, 3872] · slices_S16384x4384_S16384x512_0_3872) : (⟨S16384x4384, .f32⟩ : BufTy).Contents (Elt Ideal) → (⟨S16384x512, .f32⟩ : BufTy).Contents (Elt Ideal)) ]

/-- The one that puts them together. -/
abbrev opsB : List (HloOp τ sig (Elt Ideal)) :=
  [ StableHlo.nary ![main_v2, main_v3, main_v4, main_v5, main_v1, main_v6] main_v7 (fun u => (concatenate S16384x4608 1 [⟨S16384x2560, (u 0 : (⟨S16384x2560, .f32⟩ : BufTy).Contents (Elt Ideal))⟩, ⟨S16384x1280, (u 1 : (⟨S16384x1280, .f32⟩ : BufTy).Contents (Elt Ideal))⟩, ⟨S16384x8, (u 2 : (⟨S16384x8, .f32⟩ : BufTy).Contents (Elt Ideal))⟩, ⟨S16384x24, (u 3 : (⟨S16384x24, .f32⟩ : BufTy).Contents (Elt Ideal))⟩, ⟨S16384x224, (u 4 : (⟨S16384x224, .f32⟩ : BufTy).Contents (Elt Ideal))⟩, ⟨S16384x512, (u 5 : (⟨S16384x512, .f32⟩ : BufTy).Contents (Elt Ideal))⟩] concatenates_S16384x2560_S16384x1280_S16384x8_S16384x24_S16384x224_S16384x512_S16384x4608_d1 : (⟨S16384x4608, .f32⟩ : BufTy).Contents (Elt Ideal))) ]

/-- Those after it. -/
abbrev opsC : List (HloOp τ sig (Elt Ideal)) :=
  [ StableHlo.unary main_v7 main_v8 ((truncf (F := Ideal) .bf16 · bitsLt_bf16_f32) : (⟨S16384x4608, .f32⟩ : BufTy).Contents (Elt Ideal) → (⟨S16384x4608, .bf16⟩ : BufTy).Contents (Elt Ideal)),
    StableHlo.unary main_v7 main_v9 ((extractStridedSlice S16384x128 ![0, 3840] · slices_S16384x4608_S16384x128_0_3840) : (⟨S16384x4608, .f32⟩ : BufTy).Contents (Elt Ideal) → (⟨S16384x128, .f32⟩ : BufTy).Contents (Elt Ideal)),
    StableHlo.nullary main_cst_0 (constant (F := Ideal) S_ .f32 0x00000000#32),
    StableHlo.unary main_cst_0 main_v10 (broadcastInDim S1x128 ![] bcast_S_S1x128 : (⟨S_, .f32⟩ : BufTy).Contents (Elt Ideal) → (⟨S1x128, .f32⟩ : BufTy).Contents (Elt Ideal)),
    StableHlo.nullary main_c (constantI S_ 32 0#32),
    StableHlo.unary main_c main_v11 (broadcastInDim S1 ![] bcast_S_S1 : (⟨S_, .i32⟩ : BufTy).Contents (Elt Ideal) → (⟨S1, .i32⟩ : BufTy).Contents (Elt Ideal)),
    StableHlo.nullary main_c_1 (constantI S_ 32 4#32),
    StableHlo.unary main_c_1 main_v12 (broadcastInDim S1 ![] bcast_S_S1 : (⟨S_, .i32⟩ : BufTy).Contents (Elt Ideal) → (⟨S1, .i32⟩ : BufTy).Contents (Elt Ideal)),
    StableHlo.binary main_v11 main_v12 main_v13 ((fun a b => concatenate S2 0 [⟨S1, a⟩, ⟨S1, b⟩] concatenates_S1_S1_S2_d0) : (⟨S1, .i32⟩ : BufTy).Contents (Elt Ideal) → (⟨S1, .i32⟩ : BufTy).Contents (Elt Ideal) → (⟨S2, .i32⟩ : BufTy).Contents (Elt Ideal)),
    StableHlo.ternary main_v10 main_v13 main_arg1 main_v14 ((fun x i u => Host.scatter scatter_S1x128_S2_S4_0_0_01_0 (fun _ b => b) x i u) : (⟨S1x128, .f32⟩ : BufTy).Contents (Elt Ideal) → (⟨S2, .i32⟩ : BufTy).Contents (Elt Ideal) → (⟨S4, .f32⟩ : BufTy).Contents (Elt Ideal) → (⟨S1x128, .f32⟩ : BufTy).Contents (Elt Ideal)),
    StableHlo.reshape main_v8 main_v15 (rfl : (.bf16 : EltTy) = .bf16) shapeCasts_S16384x4608_S2x8192x4608,
    StableHlo.reshape main_v9 main_v16 (rfl : (.f32 : EltTy) = .f32) shapeCasts_S16384x128_S2x8192x128,
    StableHlo.reshape main_arg3 main_v17 (rfl : (.f32 : EltTy) = .f32) shapeCasts_S1024_S1x1024,
    StableHlo.reshape main_arg4 main_v18 (rfl : (.f32 : EltTy) = .f32) shapeCasts_S512_S1x512 ]

theorem split (V : Valuation τ sig (Elt Ideal)) : after hostOps0 V = after opsC (after opsB (after opsA V)) := rfl

theorem c15 (V : Valuation τ sig (Elt Ideal)) : after opsC V (Proc.devRef .tc main_v15) = shapeCast S2x8192x4608 (truncf (F := Ideal) .bf16 (V main_v7) bitsLt_bf16_f32) shapeCasts_S16384x4608_S2x8192x4608 := by
  after_reads_simp
  rfl

theorem c16 (V : Valuation τ sig (Elt Ideal)) : after opsC V (Proc.devRef .tc main_v16) = shapeCast S2x8192x128 (extractStridedSlice S16384x128 ![0, 3840] (V main_v7) slices_S16384x4608_S16384x128_0_3840) shapeCasts_S16384x128_S2x8192x128 := by
  after_reads_simp
  rfl

theorem b7 (V : Valuation τ sig (Elt Ideal)) : after opsB V (Proc.devRef .tc main_v7) = concatenate S16384x4608 1 [⟨S16384x2560, V main_v2⟩, ⟨S16384x1280, V main_v3⟩, ⟨S16384x8, V main_v4⟩, ⟨S16384x24, V main_v5⟩, ⟨S16384x224, V main_v1⟩, ⟨S16384x512, V main_v6⟩] concatenates_S16384x2560_S16384x1280_S16384x8_S16384x24_S16384x224_S16384x512_S16384x4608_d1 := by
  simp only [opsB, after_cons, after_nil]
  exact nary_result ..

theorem a2 (V : Valuation τ sig (Elt Ideal)) : after opsA V (Proc.devRef .tc main_v2) = extractStridedSlice S16384x2560 ![0, 0] (shapeCast S16384x4384 (V main_arg0) shapeCasts_S2x8192x4384_S16384x4384) slices_S16384x4384_S16384x2560_0_0 := by
  after_reads_simp
  rfl

theorem a4 (V : Valuation τ sig (Elt Ideal)) : after opsA V (Proc.devRef .tc main_v4) = extractStridedSlice S16384x8 ![0, 2560] (shapeCast S16384x4384 (V main_arg0) shapeCasts_S2x8192x4384_S16384x4384) slices_S16384x4384_S16384x8_0_2560 := by
  after_reads_simp
  rfl

theorem slice2 (x : S16384x4608.Idx → EReal) (p : Fin 16384) (ch : Fin 8) :
    extractStridedSlice S16384x128 ![0, 3840] x slices_S16384x4608_S16384x128_0_3840 (ix2 p (⟨ch.val, by omega⟩ : Fin 128)) = x (ix2 p (⟨3840 + ch.val, by omega⟩ : Fin 4608)) := by
  pointwise

/-- The columns up to the small ones. -/
theorem cat0 {A : S16384x2560.Idx → EReal} {B : S16384x1280.Idx → EReal} {C : S16384x8.Idx → EReal} {D : S16384x24.Idx → EReal} {E : S16384x224.Idx → EReal} {G : S16384x512.Idx → EReal}
    (p : Fin 16384) (ch : Fin 4608) (h : ch.val < 2560) :
    concatenate S16384x4608 1 [⟨S16384x2560, A⟩, ⟨S16384x1280, B⟩, ⟨S16384x8, C⟩, ⟨S16384x24, D⟩, ⟨S16384x224, E⟩, ⟨S16384x512, G⟩] concatenates_S16384x2560_S16384x1280_S16384x8_S16384x24_S16384x224_S16384x512_S16384x4608_d1 (ix2 p ch)
      = A (ix2 p (⟨ch.val, h⟩ : Fin 2560)) :=
  concatenate_apply_piece (t := S16384x4608) (1 : Fin 2) [⟨S16384x2560, A⟩, ⟨S16384x1280, B⟩, ⟨S16384x8, C⟩, ⟨S16384x24, D⟩, ⟨S16384x224, E⟩, ⟨S16384x512, G⟩] _ _ 0 (by simp) S16384x2560 A rfl rfl 0 rfl _
    (fun b hb => match b with | ⟨0, _⟩ => rfl | ⟨1, _⟩ => absurd rfl hb) (Nat.zero_add _)

/-- The small columns. -/
theorem cat2 {A : S16384x2560.Idx → EReal} {B : S16384x1280.Idx → EReal} {C : S16384x8.Idx → EReal} {D : S16384x24.Idx → EReal} {E : S16384x224.Idx → EReal} {G : S16384x512.Idx → EReal}
    (p : Fin 16384) (ch : Fin 8) :
    concatenate S16384x4608 1 [⟨S16384x2560, A⟩, ⟨S16384x1280, B⟩, ⟨S16384x8, C⟩, ⟨S16384x24, D⟩, ⟨S16384x224, E⟩, ⟨S16384x512, G⟩] concatenates_S16384x2560_S16384x1280_S16384x8_S16384x24_S16384x224_S16384x512_S16384x4608_d1 (ix2 p (⟨3840 + ch.val, by omega⟩ : Fin 4608))
      = C (ix2 p ch) :=
  concatenate_apply_piece (t := S16384x4608) (1 : Fin 2) [⟨S16384x2560, A⟩, ⟨S16384x1280, B⟩, ⟨S16384x8, C⟩, ⟨S16384x24, D⟩, ⟨S16384x224, E⟩, ⟨S16384x512, G⟩] _ _ 2 (by simp) S16384x8 C rfl rfl 3840 rfl _
    (fun b hb => match b with | ⟨0, _⟩ => rfl | ⟨1, _⟩ => absurd rfl hb) rfl

end Cert.Proof.K
-- ==== Proof.KHost.lean ====
module
public import proofs.«01_k».proof.Proof.KRel
public import proofs.«01_k».proof.Proof.KOps
public import Idealize.ShloMosaic.Lib.Pointwise
public import Idealize.ShloMosaic.Lib.Claim
public import proofs.«01_k».proof.Proof.Gen.KernelIdeal.Frame
public import Idealize.ShloMosaic.Lib.Pipeline.ValueKit
public import Idealize.ShloMosaic.Lib.StableHlo.RunRead
public import Idealize.ShloMosaic.Lib.Routing.OpsPair
public import Idealize.ShloMosaic.Lib.Routing.OpsSet

/-!
# What the host hands to the windows
-/

@[expose] public section
set_option maxRecDepth 100000
set_option maxHeartbeats 2000000
noncomputable section
namespace Cert.Proof.K
open Idealize.ShloMosaic Idealize.ShloMosaic.TcCoe Idealize.SL.Sem Cert.KernelIdeal Cert.KernelIdeal.Gen Idealize.ShloMosaic.StableHlo

variable (m : (ℓ : Loc nD τ sig) → Buf (Elt Ideal) ℓ) (c : Dev nD)

/-- The projection's columns before the small ones come through in place. -/
theorem v15_gen (X : S16384x4608.Idx → EReal) (Z : S2x8192x4384.Idx → EReal) (A : S16384x2560.Idx → EReal) (B : S16384x1280.Idx → EReal) (C : S16384x8.Idx → EReal) (D : S16384x24.Idx → EReal) (E : S16384x224.Idx → EReal) (G : S16384x512.Idx → EReal)
    (hX : X = concatenate S16384x4608 1 [⟨S16384x2560, A⟩, ⟨S16384x1280, B⟩, ⟨S16384x8, C⟩, ⟨S16384x24, D⟩, ⟨S16384x224, E⟩, ⟨S16384x512, G⟩] concatenates_S16384x2560_S16384x1280_S16384x8_S16384x24_S16384x224_S16384x512_S16384x4608_d1)
    (hA : A = extractStridedSlice S16384x2560 ![0, 0] (shapeCast S16384x4384 Z shapeCasts_S2x8192x4384_S16384x4384) slices_S16384x4384_S16384x2560_0_0)
    (b : Fin 2) (p : Fin 8192) (ch : Fin 4608) (h : ch.val < 2560) :
    shapeCast S2x8192x4608 X shapeCasts_S16384x4608_S2x8192x4608 (ix3 b p ch) = Z (ix3 b p (⟨ch.val, by omega⟩ : Fin 4384)) := by
  rw [rs1, hX, cat0 _ ch h, hA, ← rs0 Z b p]
  pointwise

theorem v16_gen (X : S16384x4608.Idx → EReal) (Z : S2x8192x4384.Idx → EReal) (A : S16384x2560.Idx → EReal) (B : S16384x1280.Idx → EReal) (C : S16384x8.Idx → EReal) (D : S16384x24.Idx → EReal) (E : S16384x224.Idx → EReal) (G : S16384x512.Idx → EReal)
    (hX : X = concatenate S16384x4608 1 [⟨S16384x2560, A⟩, ⟨S16384x1280, B⟩, ⟨S16384x8, C⟩, ⟨S16384x24, D⟩, ⟨S16384x224, E⟩, ⟨S16384x512, G⟩] concatenates_S16384x2560_S16384x1280_S16384x8_S16384x24_S16384x224_S16384x512_S16384x4608_d1)
    (hC : C = extractStridedSlice S16384x8 ![0, 2560] (shapeCast S16384x4384 Z shapeCasts_S2x8192x4384_S16384x4384) slices_S16384x4384_S16384x8_0_2560)
    (b : Fin 2) (p : Fin 8192) (ch : Fin 8) :
    shapeCast S2x8192x128 (extractStridedSlice S16384x128 ![0, 3840] X slices_S16384x4608_S16384x128_0_3840) shapeCasts_S16384x128_S2x8192x128 (ix3 b p (⟨ch.val, by omega⟩ : Fin 128)) = Z (ix3 b p (⟨2560 + ch.val, by omega⟩ : Fin 4384)) := by
  rw [rs2, slice2, hX, cat2 _ ch, hC, ← rs0 Z b p]
  pointwise

theorem v15_eq : V m c main_v15 = shapeCast S2x8192x4608 (truncf (F := Ideal) .bf16 (after opsB (after opsA (fun b => m (c, b))) main_v7) bitsLt_bf16_f32) shapeCasts_S16384x4608_S2x8192x4608 :=
  (congrFun (split _) _).trans (c15 _)

theorem v16_eq : V m c main_v16 = shapeCast S2x8192x128 (extractStridedSlice S16384x128 ![0, 3840] (after opsB (after opsA (fun b => m (c, b))) main_v7) slices_S16384x4608_S16384x128_0_3840) shapeCasts_S16384x128_S2x8192x128 :=
  (congrFun (split _) _).trans (c16 _)

theorem v15_read (b : Fin 2) (p : Fin 8192) (ch : Fin 4608) (h : ch.val < 2560) :
    V m c main_v15 (ix3 b p ch) = m ((c : Thread nD τ).loc main_arg0) (ix3 b p (⟨ch.val, by omega⟩ : Fin 4384)) :=
  (congrFun (v15_eq m c) _).trans (v15_gen _ _ _ _ _ _ _ _ (b7 (after opsA (fun b => m (c, b)))) (a2 (fun b => m (c, b))) b p ch h)

theorem v16_read (b : Fin 2) (p : Fin 8192) (ch : Fin 8) :
    V m c main_v16 (ix3 b p (⟨ch.val, by omega⟩ : Fin 128)) = m ((c : Thread nD τ).loc main_arg0) (ix3 b p (⟨2560 + ch.val, by omega⟩ : Fin 4384)) :=
  (congrFun (v16_eq m c) _).trans (v16_gen _ _ _ _ _ _ _ _ (b7 (after opsA (fun b => m (c, b)))) (a4 (fun b => m (c, b))) b p ch)

/-- Where the scatter writes. -/
theorem lands (k : Fin 4) (j : Fin 128) :
    scatter_S1x128_S2_S4_0_0_01_0.resultIdx? (ix1 k) (concatenate S2 0
        [⟨S1, broadcastInDim S1 ![] bcast_S_S1 (constantI S_ 32 0#32)⟩, ⟨S1, broadcastInDim S1 ![] bcast_S_S1 (constantI S_ 32 4#32)⟩]
        concatenates_S1_S1_S2_d0) = some (ix2 (0 : Fin 1) j) ↔ 4 + k.val = j.val := by
  have hs : ∀ k : Fin 4, scatter_S1x128_S2_S4_0_0_01_0.start (ix1 k) (concatenate S2 0
        [⟨S1, broadcastInDim S1 ![] bcast_S_S1 (constantI S_ 32 0#32)⟩,
          ⟨S1, broadcastInDim S1 ![] bcast_S_S1 (constantI S_ 32 4#32)⟩]
        concatenates_S1_S1_S2_d0) 0 = 0 := by decide +kernel
  have hs1 : ∀ k : Fin 4, scatter_S1x128_S2_S4_0_0_01_0.start (ix1 k) (concatenate S2 0
        [⟨S1, broadcastInDim S1 ![] bcast_S_S1 (constantI S_ 32 0#32)⟩,
          ⟨S1, broadcastInDim S1 ![] bcast_S_S1 (constantI S_ 32 4#32)⟩]
        concatenates_S1_S1_S2_d0) 1 = 4 := by decide +kernel
  have hw : ∀ k : Fin 4, scatter_S1x128_S2_S4_0_0_01_0.window (ix1 k) 0 = 0 := by decide +kernel
  have hw1 : ∀ k : Fin 4, scatter_S1x128_S2_S4_0_0_01_0.window (ix1 k) 1 = k.val := by decide +kernel
  rw [Routing.resultIdx?_eq_some]
  constructor
  · intro h
    have h1 := h 1
    rw [hs1, hw1] at h1
    have h2 : (4 : Int) + k.val = j.val := h1
    omega
  · intro h a
    match a with
    | ⟨0, _⟩ => exact (congrArg₂ (fun (x : Int) (y : Nat) => x + y) (hs k) (hw k))
    | ⟨1, _⟩ =>
      refine (congrArg₂ (fun (x : Int) (y : Nat) => x + y) (hs1 k) (hw1 k)).trans ?_
      show (4 : Int) + k.val = j.val
      omega

theorem v14_hit (k : Fin 4) : V m c main_v14 (ix2 (0 : Fin 1) (⟨4 + k.val, by omega⟩ : Fin 128)) = m ((c : Thread nD τ).loc main_arg1) (ix1 k) := by
  entry_read
  refine Routing.scatter_set_hit _ _ _ _ _ _ (fun k' hk' => ?_) (ix1 k) ((lands k _).2 rfl)
  obtain ⟨k'', rfl⟩ : ∃ q : Fin 4, k' = ix1 q := ⟨k' 0, ValueIdx.eq_ix1 k'⟩
  have := (lands k'' _).1 hk'
  refine congrArg _ (congrArg ix1 (Fin.ext ?_))
  simpa using this

theorem v14_miss (k : Fin 4) : (V m c main_v14 (ix2 (0 : Fin 1) (⟨k.val, by omega⟩ : Fin 128)) : EReal) = (0 : EReal) := by
  entry_read
  refine (Routing.scatter_set_miss _ _ _ _ _ (fun k' hk' => ?_)).trans ?_
  · obtain ⟨k'', rfl⟩ : ∃ q : Fin 4, k' = ix1 q := ⟨k' 0, ValueIdx.eq_ix1 k'⟩
    have := (lands k'' _).1 hk'
    simp only [] at this
    omega
  · show Ideal.ofBits .f32 0x00000000#32 = 0
    simp [Ideal.ofBits, Ideal.ieee]

theorem v17_read (ch : Fin 1024) : V m c main_v17 (ix2 (0 : Fin 1) ch) = m ((c : Thread nD τ).loc main_arg3) (ix1 ch) := by
  entry_read
  pointwise

theorem v18_read (ch : Fin 512) : V m c main_v18 (ix2 (0 : Fin 1) ch) = m ((c : Thread nD τ).loc main_arg4) (ix1 ch) := by
  entry_read
  pointwise

end Cert.Proof.K
-- ==== Proof.KWin.lean ====
module
public import proofs.«01_k».proof.Proof.KRel
public import proofs.«01_k».proof.Proof.KHost
public import Idealize.ShloMosaic.Lib.Pointwise
public import Idealize.ShloMosaic.Lib.Claim
public import proofs.«01_k».proof.Proof.Gen.KernelIdeal.Frame
public import Idealize.ShloMosaic.Lib.Pipeline.ValueKit
public import Idealize.ShloMosaic.Lib.StableHlo.RunRead
public import Idealize.ShloMosaic.Lib.Routing.OpsPair
public import Idealize.ShloMosaic.Lib.Routing.OpsSet

/-!
# What the windows read
-/

@[expose] public section
set_option maxRecDepth 100000
set_option maxHeartbeats 2000000
noncomputable section
namespace Cert.Proof.K
open Idealize.ShloMosaic Idealize.ShloMosaic.TcCoe Idealize.SL.Sem Cert.KernelIdeal Cert.KernelIdeal.Gen Idealize.ShloMosaic.StableHlo

theorem idx3 : ∀ t : Fin cfg0.N, win0_0.index t = ![0, t.val, 0] ∧ win0_1.index t = ![0, t.val, 1] ∧ win0_2.index t = ![0, t.val, 2] ∧ win0_3.index t = ![0, t.val, 3] ∧ win0_4.index t = ![0, t.val, 4] ∧ win0_5.index t = ![0, t.val, 0] ∧ win0_6.index t = ![0, 0] ∧ win0_7.index t = ![0, 0] ∧ win0_8.index t = ![0, 0] ∧ win0_9.index t = ![0, 0] := by decide +kernel

theorem blk0 (X : Vec Ideal S2x8192x4608 .bf16) (t : Fin cfg0.N) (b : Fin 2) (r : Fin 128) (ch : Fin 512) (n : Fin 64) (hn : n.val = t.val) :
    ((cfg0.win 0).blk t).view.read (Elt Ideal) X (ix3 b r ch) = X (ix3 b (Args.pos n r) (⟨0 + ch.val, by omega⟩ : Fin 4608)) := by
  have e := (idx3 t).1
  refine congrArg X ?_
  funext a
  apply Fin.ext
  match a with
  | ⟨0, _⟩ => blk_simp [e]
  | ⟨1, _⟩ =>
    blk_simp [e]
    show t.val * 128 + r.val = n.val * 128 + r.val
    rw [hn]
  | ⟨2, _⟩ => blk_simp [e]

theorem blk1 (X : Vec Ideal S2x8192x4608 .bf16) (t : Fin cfg0.N) (b : Fin 2) (r : Fin 128) (ch : Fin 512) (n : Fin 64) (hn : n.val = t.val) :
    ((cfg0.win 1).blk t).view.read (Elt Ideal) X (ix3 b r ch) = X (ix3 b (Args.pos n r) (⟨512 + ch.val, by omega⟩ : Fin 4608)) := by
  have e := (idx3 t).2.1
  refine congrArg X ?_
  funext a
  apply Fin.ext
  match a with
  | ⟨0, _⟩ => blk_simp [e]
  | ⟨1, _⟩ =>
    blk_simp [e]
    show t.val * 128 + r.val = n.val * 128 + r.val
    rw [hn]
  | ⟨2, _⟩ => blk_simp [e]

theorem blk2 (X : Vec Ideal S2x8192x4608 .bf16) (t : Fin cfg0.N) (b : Fin 2) (r : Fin 128) (ch : Fin 512) (n : Fin 64) (hn : n.val = t.val) :
    ((cfg0.win 2).blk t).view.read (Elt Ideal) X (ix3 b r ch) = X (ix3 b (Args.pos n r) (⟨1024 + ch.val, by omega⟩ : Fin 4608)) := by
  have e := (idx3 t).2.2.1
  refine congrArg X ?_
  funext a
  apply Fin.ext
  match a with
  | ⟨0, _⟩ => blk_simp [e]
  | ⟨1, _⟩ =>
    blk_simp [e]
    show t.val * 128 + r.val = n.val * 128 + r.val
    rw [hn]
  | ⟨2, _⟩ => blk_simp [e]

theorem blk3 (X : Vec Ideal S2x8192x4608 .bf16) (t : Fin cfg0.N) (b : Fin 2) (r : Fin 128) (ch : Fin 512) (n : Fin 64) (hn : n.val = t.val) :
    ((cfg0.win 3).blk t).view.read (Elt Ideal) X (ix3 b r ch) = X (ix3 b (Args.pos n r) (⟨1536 + ch.val, by omega⟩ : Fin 4608)) := by
  have e := (idx3 t).2.2.2.1
  refine congrArg X ?_
  funext a
  apply Fin.ext
  match a with
  | ⟨0, _⟩ => blk_simp [e]
  | ⟨1, _⟩ =>
    blk_simp [e]
    show t.val * 128 + r.val = n.val * 128 + r.val
    rw [hn]
  | ⟨2, _⟩ => blk_simp [e]

theorem blk4 (X : Vec Ideal S2x8192x4608 .bf16) (t : Fin cfg0.N) (b : Fin 2) (r : Fin 128) (ch : Fin 512) (n : Fin 64) (hn : n.val = t.val) :
    ((cfg0.win 4).blk t).view.read (Elt Ideal) X (ix3 b r ch) = X (ix3 b (Args.pos n r) (⟨2048 + ch.val, by omega⟩ : Fin 4608)) := by
  have e := (idx3 t).2.2.2.2.1
  refine congrArg X ?_
  funext a
  apply Fin.ext
  match a with
  | ⟨0, _⟩ => blk_simp [e]
  | ⟨1, _⟩ =>
    blk_simp [e]
    show t.val * 128 + r.val = n.val * 128 + r.val
    rw [hn]
  | ⟨2, _⟩ => blk_simp [e]

theorem blk5 (X : Vec Ideal S2x8192x128 .f32) (t : Fin cfg0.N) (b : Fin 2) (r : Fin 128) (ch : Fin 128) (n : Fin 64) (hn : n.val = t.val) :
    ((cfg0.win 5).blk t).view.read (Elt Ideal) X (ix3 b r ch) = X (ix3 b (Args.pos n r) ch) := by
  have e := (idx3 t).2.2.2.2.2.1
  refine congrArg X ?_
  funext a
  apply Fin.ext
  match a with
  | ⟨0, _⟩ => blk_simp [e]
  | ⟨1, _⟩ =>
    blk_simp [e]
    show t.val * 128 + r.val = n.val * 128 + r.val
    rw [hn]
  | ⟨2, _⟩ => blk_simp [e]

theorem blk6 (X : Vec Ideal S4x1024 .f32) (t : Fin cfg0.N) (r : Fin 4) (ch : Fin 1024) :
    ((cfg0.win 6).blk t).view.read (Elt Ideal) X (ix2 r ch) = X (ix2 r ch) := by
  have e := (idx3 t).2.2.2.2.2.2.1
  refine congrArg X ?_
  funext a
  apply Fin.ext
  match a with
  | ⟨0, _⟩ => blk_simp [e]
  | ⟨1, _⟩ => blk_simp [e]

theorem blk7 (X : Vec Ideal S1x1024 .f32) (t : Fin cfg0.N) (r : Fin 1) (ch : Fin 1024) :
    ((cfg0.win 7).blk t).view.read (Elt Ideal) X (ix2 r ch) = X (ix2 r ch) := by
  have e := (idx3 t).2.2.2.2.2.2.2.1
  refine congrArg X ?_
  funext a
  apply Fin.ext
  match a with
  | ⟨0, _⟩ => blk_simp [e]
  | ⟨1, _⟩ => blk_simp [e]

theorem blk8 (X : Vec Ideal S1x128 .f32) (t : Fin cfg0.N) (r : Fin 1) (ch : Fin 128) :
    ((cfg0.win 8).blk t).view.read (Elt Ideal) X (ix2 r ch) = X (ix2 r ch) := by
  have e := (idx3 t).2.2.2.2.2.2.2.2.1
  refine congrArg X ?_
  funext a
  apply Fin.ext
  match a with
  | ⟨0, _⟩ => blk_simp [e]
  | ⟨1, _⟩ => blk_simp [e]

theorem blk9 (X : Vec Ideal S1x512 .f32) (t : Fin cfg0.N) (r : Fin 1) (ch : Fin 512) :
    ((cfg0.win 9).blk t).view.read (Elt Ideal) X (ix2 r ch) = X (ix2 r ch) := by
  have e := (idx3 t).2.2.2.2.2.2.2.2.2
  refine congrArg X ?_
  funext a
  apply Fin.ext
  match a with
  | ⟨0, _⟩ => blk_simp [e]
  | ⟨1, _⟩ => blk_simp [e]

variable (m : (ℓ : Loc nD τ sig) → Buf (Elt Ideal) ℓ) (c : Dev nD)

/-- The arguments as the kernel's launch finds them. -/
def kargs : Args :=
  ⟨m ((c : Thread nD τ).loc main_arg0), m ((c : Thread nD τ).loc main_arg1), m ((c : Thread nD τ).loc main_arg2), m ((c : Thread nD τ).loc main_arg3), m ((c : Thread nD τ).loc main_arg4)⟩

theorem v2_read : V m c main_arg2 = m ((c : Thread nD τ).loc main_arg2) := by
  entry_read
  rfl

theorem in0 (t : Fin cfg0.N) (n : Fin 64) (hn : n.val = t.val) (b : Fin 2) (r : Fin 128) (ch : Fin 512) :
    iblk m c 0 t (ix3 b r ch) = (kargs m c).a0 (ix3 b (Args.pos n r) (⟨0 + ch.val, by omega⟩ : Fin 4384)) :=
  (blk0 (V m c main_v15) t b r ch n hn).trans (v15_read m c b (Args.pos n r) (⟨0 + ch.val, by omega⟩ : Fin 4608) (by simp only []; omega))

theorem in1 (t : Fin cfg0.N) (n : Fin 64) (hn : n.val = t.val) (b : Fin 2) (r : Fin 128) (ch : Fin 512) :
    iblk m c 1 t (ix3 b r ch) = (kargs m c).a0 (ix3 b (Args.pos n r) (⟨512 + ch.val, by omega⟩ : Fin 4384)) :=
  (blk1 (V m c main_v15) t b r ch n hn).trans (v15_read m c b (Args.pos n r) (⟨512 + ch.val, by omega⟩ : Fin 4608) (by simp only []; omega))

theorem in2 (t : Fin cfg0.N) (n : Fin 64) (hn : n.val = t.val) (b : Fin 2) (r : Fin 128) (ch : Fin 512) :
    iblk m c 2 t (ix3 b r ch) = (kargs m c).a0 (ix3 b (Args.pos n r) (⟨1024 + ch.val, by omega⟩ : Fin 4384)) :=
  (blk2 (V m c main_v15) t b r ch n hn).trans (v15_read m c b (Args.pos n r) (⟨1024 + ch.val, by omega⟩ : Fin 4608) (by simp only []; omega))

theorem in3 (t : Fin cfg0.N) (n : Fin 64) (hn : n.val = t.val) (b : Fin 2) (r : Fin 128) (ch : Fin 512) :
    iblk m c 3 t (ix3 b r ch) = (kargs m c).a0 (ix3 b (Args.pos n r) (⟨1536 + ch.val, by omega⟩ : Fin 4384)) :=
  (blk3 (V m c main_v15) t b r ch n hn).trans (v15_read m c b (Args.pos n r) (⟨1536 + ch.val, by omega⟩ : Fin 4608) (by simp only []; omega))

theorem in4 (t : Fin cfg0.N) (n : Fin 64) (hn : n.val = t.val) (b : Fin 2) (r : Fin 128) (ch : Fin 512) :
    iblk m c 4 t (ix3 b r ch) = (kargs m c).a0 (ix3 b (Args.pos n r) (⟨2048 + ch.val, by omega⟩ : Fin 4384)) :=
  (blk4 (V m c main_v15) t b r ch n hn).trans (v15_read m c b (Args.pos n r) (⟨2048 + ch.val, by omega⟩ : Fin 4608) (by simp only []; omega))

theorem in5 (t : Fin cfg0.N) (n : Fin 64) (hn : n.val = t.val) (b : Fin 2) (r : Fin 128) (ch : Fin 8) :
    iblk m c 5 t (ix3 b r (⟨ch.val, by omega⟩ : Fin 128)) = (kargs m c).a0 (ix3 b (Args.pos n r) (⟨2560 + ch.val, by omega⟩ : Fin 4384)) :=
  (blk5 (V m c main_v16) t b r _ n hn).trans (v16_read m c b (Args.pos n r) ch)

/-- What a point's input blocks hold. -/
theorem wrel (t : Fin cfg0.N) : WRel (wn m c t) (kargs m c) (⟨t.val, lt_of_lt_of_eq t.isLt N_0⟩ : Fin 64) where
  q := fun b r ch => (in0 m c t _ rfl b r ch).trans (congrArg (kargs m c).a0 (congrArg (ix3 b _) (Fin.ext (Nat.zero_add _))))
  k := fun b r ch => in1 m c t _ rfl b r ch
  v := fun b r ch => in2 m c t _ rfl b r ch
  o := fun b r ch => in3 m c t _ rfl b r ch
  z := fun b r ch => in4 m c t _ rfl b r ch
  sm := fun b r ch => in5 m c t _ rfl b r ch
  cw := fun j ch => (blk6 (V m c main_arg2) t j ch).trans (congrFun (v2_read m c) _)
  cb := fun ch => (blk7 (V m c main_v17) t 0 ch).trans (v17_read m c ch)
  fbi := fun h => (blk8 (V m c main_v14) t 0 _).trans (v14_miss m c h)
  fbf := fun h => (blk8 (V m c main_v14) t 0 _).trans (v14_hit m c h)
  hn := fun ch => (blk9 (V m c main_v18) t 0 ch).trans (v18_read m c ch)

end Cert.Proof.K
-- ==== Proof.KFinal.lean ====
module
public import proofs.«01_k».proof.Proof.KOut
public import proofs.«01_k».proof.Proof.KWin

/-!
# The kernel's whole result

Every point's block is the layer's result at its 128 positions, and the blocks tile the array.
-/

@[expose] public section
set_option maxRecDepth 16384
noncomputable section
namespace Cert.Proof.K
open Idealize.ShloMosaic Idealize.ShloMosaic.TcCoe Idealize.SL.Sem Cert.KernelIdeal Cert.KernelIdeal.Gen

/-- The layer's result, as an array. -/
def resArr (A : Args) : S2x8192x512.Idx → EReal := fun i =>
  A.res (i 0) (⟨(i 2).val / 128, by have := (i 2).isLt; change (i 2).val < 512 at this; omega⟩ : Fin 4)
    (⟨(i 1).val / 128, by have := (i 1).isLt; change (i 1).val < 8192 at this; omega⟩ : Fin 64)
    (⟨(i 1).val % 128, by omega⟩ : Fin 128) (⟨(i 2).val % 128, by omega⟩ : Fin 128)

/-- That array at a position and a column of a head. -/
theorem resArr_at (A : Args) (b : Fin 2) (p : Fin 8192) (col : Fin 512) (h : Fin 4) (n : Fin 64) (t e : Fin 128)
    (hp : p.val = n.val * 128 + t.val) (hc : col.val = h.val * 128 + e.val) :
    resArr A (ix3 b p col) = A.res b h n t e := by
  unfold resArr
  congr 1
  all_goals (apply Fin.ext; first | (show col.val / 128 = h.val; omega) | (show p.val / 128 = n.val; omega) |
    (show p.val % 128 = t.val; omega) | (show col.val % 128 = e.val; omega))

variable (m : (ℓ : Loc nD τ sig) → Buf (Elt Ideal) ℓ) (c : Dev nD)

/-- A point's output block is the point's own. -/
theorem idx10 : ∀ t : Fin cfg0.N, win0_10.index t = ![0, t.val, 0] := by decide +kernel

/-- One point's block of any array. -/
theorem blkOut (X : S2x8192x512.Idx → EReal) (t : Fin cfg0.N) (b : Fin 2) (r : Fin 128) (ch : Fin 512) (n : Fin 64) (hn : n.val = t.val) :
    X (((cfg0.win 10).blk t).view.emb (ix3 b r ch)) = X (ix3 b (Args.pos n r) ch) := by
  have e := idx10 t
  refine congrArg X ?_
  funext a
  apply Fin.ext
  match a with
  | ⟨0, _⟩ => blk_simp [e]
  | ⟨1, _⟩ =>
    blk_simp [e]
    show t.val * 128 + r.val = n.val * 128 + r.val
    rw [hn]
  | ⟨2, _⟩ => blk_simp [e]

/-- Any column is a head's. -/
theorem block' (t : Fin cfg0.N) (b : Fin 2) (r : Fin 128) (ch : Fin 512) :
    (outsAt0 m c t.val t.isLt).1 (ix3 b r ch)
      = resArr (kargs m c) (ix3 b (Args.pos (⟨t.val, lt_of_lt_of_eq t.isLt N_0⟩ : Fin 64) r) ch) := by
  have hc := ch.isLt
  have B := block m c (kargs m c) (wrel m c) t b (⟨ch.val / 128, by omega⟩ : Fin 4) r (⟨ch.val % 128, by omega⟩ : Fin 128)
  have he : (⟨ch.val / 128 * 128 + ch.val % 128, by omega⟩ : Fin 512) = ch := Fin.ext (by show ch.val / 128 * 128 + ch.val % 128 = ch.val; omega)
  refine ((congrArg (fun k => (outsAt0 m c t.val t.isLt).1 (ix3 b r k)) he).symm.trans B).trans (Eq.symm ?_)
  exact resArr_at _ _ _ _ _ _ _ _ rfl (by show ch.val = ch.val / 128 * 128 + ch.val % 128; omega)

/-- The kernel's result is the layer's, from the launch's arguments. -/
theorem final : (dats m 0 c).arrAt 10 cfg0.N = resArr (kargs m c) := by
  refine (dats m 0 c).arrAt_eq_of_covers 10 _ (by decide +kernel) fun t hf y => ?_
  blk_simp
  rw [after0_10]
  have ey : y = ix3 (y 0) (y 1) (y 2) := ValueIdx.eq_ix3 y
  rw [ey]
  exact (block' m c t (y 0) (y 1) (y 2)).trans (blkOut (resArr (kargs m c)) t (y 0) (y 1) (y 2) _ rfl).symm
end Cert.Proof.K
end
-- ==== Proof.RefStep.lean ====
module
public import proofs.«01_k».proof.Proof.Gen.ReferenceIdeal.Run
public import proofs.«01_k».proof.Proof.Scalars
public import Idealize.ShloMosaic.Lib.Pointwise
public import Idealize.ShloMosaic.Lib.Tactic.CleanTypes
public import Idealize.ShloMosaic.Lib.DynamicIndex

/-!
# One trip of the reference's loop

Each named value of the loop body, read at an index, is the corresponding function of `Spec`.
-/

@[expose] public section
set_option maxRecDepth 16384
noncomputable section
namespace Cert.Proof
open Idealize.ShloMosaic Idealize.ShloMosaic.TcCoe Idealize.SL.Sem Cert.ReferenceIdeal Cert.ReferenceIdeal.Value Cert.ReferenceIdeal.Gen

local notation "Val" => Valuation τ sig (Elt Ideal)

/-- What head `h` of batch element `b` reads in trip `k`. -/
def rinp (V : Val) (k : Fin 64) (b : Fin 2) (h : Fin 4) : Inp where
  q := fun t d => V main_v72_0 (ix5 k b h t d)
  k := fun t d => V main_v72_1 (ix5 k b h t d)
  v := fun t d => V main_v72_2 (ix5 k b h t d)
  i := fun t => V main_v72_3 (ix4 k b h t)
  f := fun t => V main_v72_4 (ix4 k b h t)

/-- What it carries into the trip. -/
def rst (V : Val) (b : Fin 2) (h : Fin 4) : St where
  c := fun d e => V main_v72_7 (ix4 b h d e)
  n := fun d => V main_v72_8 (ix3 b h d)
  m := V main_v72_9 (ix2 b h)

/-- The counter holds `k` and the mask holds the causal triangle. -/
structure Ctx (V : Val) (k : Fin 64) : Prop where
  ctr : V main_v72_6 = fun _ => BitVec.ofNat 32 k.val
  mask : ∀ t s : Fin 128, V main_v72_5 (ix2 t s) = if s ≤ t then 1#1 else 0#1

variable {V : Val} {k : Fin 64} (H : Ctx V k) (b : Fin 2) (h : Fin 4)

theorem start5 (H : Ctx V k) : (fun j : Fin 5 => (((![V main_v72_6, constantI S_ 32 0#32, constantI S_ 32 0#32, constantI S_ 32 0#32, constantI S_ 32 0#32] : Fin 5 → (⟨S_, .i32⟩ : BufTy).Contents (Elt Ideal))) j (Shape.Idx.first h_S_)).toInt)
    = ![(k.val : ℤ), 0, 0, 0, 0] := by
  funext j
  have hk := k.isLt
  match j with
  | ⟨0, _⟩ =>
    show (V main_v72_6 (Shape.Idx.first h_S_)).toInt = (k.val : ℤ)
    rw [H.ctr]
    show (BitVec.ofNat 32 k.val).toInt = _
    rw [BitVec.toInt_eq_toNat_of_lt (by rw [BitVec.toNat_ofNat]; omega), BitVec.toNat_ofNat]
    omega
  | ⟨1, _⟩ => rfl
  | ⟨2, _⟩ => rfl
  | ⟨3, _⟩ => rfl
  | ⟨4, _⟩ => rfl

theorem start4 (H : Ctx V k) : (fun j : Fin 4 => (((![V main_v72_6, constantI S_ 32 0#32, constantI S_ 32 0#32, constantI S_ 32 0#32] : Fin 4 → (⟨S_, .i32⟩ : BufTy).Contents (Elt Ideal))) j (Shape.Idx.first h_S_)).toInt)
    = ![(k.val : ℤ), 0, 0, 0] := by
  funext j
  match j with
  | ⟨0, _⟩ => exact congrFun (start5 H) 0
  | ⟨1, _⟩ => rfl
  | ⟨2, _⟩ => rfl
  | ⟨3, _⟩ => rfl

theorem fits5 (k : Fin 64) : S64x2x4x128x128.Slices ![k.val, 0, 0, 0, 0] S1x2x4x128x128 :=
  (by decide +kernel : ∀ k : Fin 64, S64x2x4x128x128.Slices ![k.val, 0, 0, 0, 0] S1x2x4x128x128) k

theorem fits4 (k : Fin 64) : S64x2x4x128.Slices ![k.val, 0, 0, 0] S1x2x4x128 :=
  (by decide +kernel : ∀ k : Fin 64, S64x2x4x128.Slices ![k.val, 0, 0, 0] S1x2x4x128) k

theorem cast5 (k : Fin 64) : ∀ a : Fin 5, (![(k.val : ℤ), 0, 0, 0, 0] : Fin 5 → ℤ) a = ((![k.val, 0, 0, 0, 0] : Fin 5 → ℕ) a : ℤ)
  | ⟨0, _⟩ => rfl | ⟨1, _⟩ => rfl | ⟨2, _⟩ => rfl | ⟨3, _⟩ => rfl | ⟨4, _⟩ => rfl

theorem cast4 (k : Fin 64) : ∀ a : Fin 4, (![(k.val : ℤ), 0, 0, 0] : Fin 4 → ℤ) a = ((![k.val, 0, 0, 0] : Fin 4 → ℕ) a : ℤ)
  | ⟨0, _⟩ => rfl | ⟨1, _⟩ => rfl | ⟨2, _⟩ => rfl | ⟨3, _⟩ => rfl

/-- One chunk out of 64, of an array with five axes. -/
theorem slice5 {α : Type} (x : S64x2x4x128x128.Idx → α) (start : Fin 5 → ℤ) (k : Fin 64) (hst : start = ![(k.val : ℤ), 0, 0, 0, 0]) (b : Fin 2) (h : Fin 4) (t d : Fin 128) :
    Host.dynamicSlice S1x2x4x128x128 x start sliceFits_S64x2x4x128x128_S1x2x4x128x128 (ix5 (0 : Fin 1) b h t d)
      = x (ix5 k b h t d) := by
  subst hst
  rw [Host.dynamicSlice_eq_extractStridedSlice S1x2x4x128x128 x _ ![k.val, 0, 0, 0, 0] _ (fits5 k) (cast5 k)]
  pointwise

/-- One chunk out of 64, of an array with four axes. -/
theorem slice4 {α : Type} (x : S64x2x4x128.Idx → α) (start : Fin 4 → ℤ) (k : Fin 64) (hst : start = ![(k.val : ℤ), 0, 0, 0]) (b : Fin 2) (h : Fin 4) (t : Fin 128) :
    Host.dynamicSlice S1x2x4x128 x start sliceFits_S64x2x4x128_S1x2x4x128 (ix4 (0 : Fin 1) b h t)
      = x (ix4 k b h t) := by
  subst hst
  rw [Host.dynamicSlice_eq_extractStridedSlice S1x2x4x128 x _ ![k.val, 0, 0, 0] _ (fits4 k) (cast4 k)]
  pointwise

/-- One chunk out of 64 replaced: that chunk is the new one, the others stay. -/
theorem update5 {α : Type} (x : S64x2x4x128x128.Idx → α) (u : S1x2x4x128x128.Idx → α) (start : Fin 5 → ℤ) (k : Fin 64)
    (hst : start = ![(k.val : ℤ), 0, 0, 0, 0]) (l : Fin 64) (b : Fin 2) (h : Fin 4) (t d : Fin 128) :
    Host.dynamicUpdateSlice x u start updateFits_S64x2x4x128x128_S1x2x4x128x128 (ix5 l b h t d)
      = if l = k then u (ix5 (0 : Fin 1) b h t d) else x (ix5 l b h t d) := by
  subst hst
  rw [Host.dynamicUpdateSlice_eq_updateSlice x u _ _ ![k.val, 0, 0, 0, 0]
    (fun a => by have := (fits5 k).2 a; rw [cast5 k a]; omega) (fits5 k)]
  have hb := b.isLt; have hh := h.isLt; have ht := t.isLt; have hd := d.isLt
  unfold updateSlice
  by_cases hl : l = k
  · subst hl
    rw [if_pos rfl, dif_pos]
    · refine congrArg u (funext fun a => Fin.ext ?_)
      match a with
      | ⟨0, _⟩ => exact Nat.sub_self l.val
      | ⟨1, _⟩ => rfl
      | ⟨2, _⟩ => rfl
      | ⟨3, _⟩ => rfl
      | ⟨4, _⟩ => rfl
    · intro a
      match a with
      | ⟨0, _⟩ => exact ⟨le_rfl, Nat.lt_succ_self _⟩
      | ⟨1, _⟩ => exact ⟨Nat.zero_le _, by show b.val < 0 + 2; omega⟩
      | ⟨2, _⟩ => exact ⟨Nat.zero_le _, by show h.val < 0 + 4; omega⟩
      | ⟨3, _⟩ => exact ⟨Nat.zero_le _, by show t.val < 0 + 128; omega⟩
      | ⟨4, _⟩ => exact ⟨Nat.zero_le _, by show d.val < 0 + 128; omega⟩
  · rw [if_neg hl, dif_neg]
    intro hin
    have h0 := hin 0
    change k.val ≤ l.val ∧ l.val < k.val + 1 at h0
    exact hl (Fin.ext (by omega))

/-- Dropping the leading axis of one. -/
theorem drop5 {α : Type} (x : S1x2x4x128x128.Idx → α) (b : Fin 2) (h : Fin 4) (t d : Fin 128) :
    shapeCast S2x4x128x128 x shapeCasts_S1x2x4x128x128_S2x4x128x128 (ix4 b h t d) = x (ix5 (0 : Fin 1) b h t d) := by
  pointwise

theorem drop4 {α : Type} (x : S1x2x4x128.Idx → α) (b : Fin 2) (h : Fin 4) (t : Fin 128) :
    shapeCast S2x4x128 x shapeCasts_S1x2x4x128_S2x4x128 (ix3 b h t) = x (ix4 (0 : Fin 1) b h t) := by
  pointwise

/-- The host's running sum over the last axis. -/
theorem cumsumHost (x : FVec Ideal S2x4x128 .f32) (z : FVec Ideal S_ .f32) (hz : z (Shape.Idx.first h_S_) = 0) (b : Fin 2) (h : Fin 4) (t : Fin 128) :
    Host.reduceWindowAdd ![1, 1, 128] ![1, 1, 1] ![0, 0, 127] ![0, 0, 0] x z reduceWindows_S2x4x128_S2x4x128_w1s1p0_0_w1s1p0_0_w128s1p127_0 h_S_ (ix3 b h t)
      = bcum (fun s => x (ix3 b h s)) t := by
  show Ideal.hostReduceWindowAdd ![1, 1, 128] ![1, 1, 1] ![0, 0, 127] ![0, 0, 0] reduceWindows_S2x4x128_S2x4x128_w1s1p0_0_w1s1p0_0_w128s1p127_0 x (z (Shape.Idx.first h_S_)) (ix3 b h t) = _
  rw [hz]
  exact cumsum _ _ b h t

include H

theorem r103 (t d : Fin 128) : res_main_while0b_v103 (F := Ideal) V (ix4 b h t d) = (rinp V k b h).q t d := by
  unfold res_main_while0b_v103
  exact (drop5 _ b h t d).trans (slice5 _ _ k (start5 H) b h t d)

theorem r104 (t d : Fin 128) : res_main_while0b_v104 (F := Ideal) V (ix4 b h t d) = (rinp V k b h).k t d := by
  unfold res_main_while0b_v104
  exact (drop5 _ b h t d).trans (slice5 _ _ k (start5 H) b h t d)

theorem r105 (t d : Fin 128) : res_main_while0b_v105 (F := Ideal) V (ix4 b h t d) = (rinp V k b h).v t d := by
  unfold res_main_while0b_v105
  exact (drop5 _ b h t d).trans (slice5 _ _ k (start5 H) b h t d)

theorem r106 (t : Fin 128) : res_main_while0b_v106 (F := Ideal) V (ix3 b h t) = (rinp V k b h).i t := by
  unfold res_main_while0b_v106
  exact (drop4 _ b h t).trans (slice4 _ _ k (start4 H) b h t)

theorem r108 (t : Fin 128) : res_main_while0b_v108 (F := Ideal) V (ix3 b h t) = bcum (rinp V k b h).f t := by
  unfold res_main_while0b_v108
  refine (cumsumHost _ _ w_zero b h t).trans (congrArg (fun f => bcum f t) (funext fun s => ?_))
  exact (drop4 _ b h s).trans (slice4 _ _ k (start4 H) b h s)

theorem r117 (t s : Fin 128) : res_main_while0b_v117 (F := Ideal) V (ix4 b h t s) = (rinp V k b h).dmat t s := by
  unfold res_main_while0b_v117
  clean_types
  simp only [id_eq]
  pointwise
  rw [H.mask, r108 H, r108 H, r106 H]
  unfold Inp.dmat
  by_cases hts : s ≤ t
  · rw [if_pos hts, if_pos hts]; rfl
  · rw [if_neg hts, if_neg hts]; exact w_ninf

theorem r120 (t : Fin 128) : res_main_while0b_v120 (F := Ideal) V (ix3 b h t) = (rinp V k b h).inter (rst V b h) t := by
  unfold res_main_while0b_v120
  clean_types
  pointwise
  rw [r108 H]
  rfl

theorem r122 (t : Fin 128) : res_main_while0b_v122 (F := Ideal) V (ix3 b h t) = (rinp V k b h).mrow (rst V b h) t := by
  unfold res_main_while0b_v122
  clean_types
  pointwise
  simp only [r117 H, r120 H, w_ninf]
  rfl

theorem r128 (t s : Fin 128) : res_main_while0b_v128 (F := Ideal) V (ix4 b h t s) = (rinp V k b h).smat (rst V b h) t s := by
  unfold res_main_while0b_v128
  clean_types
  pointwise
  simp only [r117 H, r122 H, r103 H, r104 H]
  rfl

theorem r130 (t : Fin 128) : res_main_while0b_v130 (F := Ideal) V (ix3 b h t) = (rinp V k b h).winter (rst V b h) t := by
  unfold res_main_while0b_v130
  clean_types
  pointwise
  simp only [r120 H, r122 H]
  rfl

theorem r149 : res_main_while0b_v149 (F := Ideal) V (ix2 b h) = (rinp V k b h).blast := by
  unfold res_main_while0b_v149
  clean_types
  pointwise
  exact r108 H b h 127

theorem r153 (s : Fin 128) : res_main_while0b_v153 (F := Ideal) V (ix3 b h s) = (rinp V k b h).dl s := by
  unfold res_main_while0b_v153
  clean_types
  pointwise
  rw [r149 H, r108 H, r106 H]
  rfl

theorem r156 : res_main_while0b_v156 (F := Ideal) V (ix2 b h) = (rinp V k b h).mnew (rst V b h) := by
  unfold res_main_while0b_v156
  clean_types
  pointwise
  simp only [r149 H, r153 H, w_ninf]
  rfl

theorem r163 : res_main_while0b_v163 (F := Ideal) V (ix2 b h) = (rinp V k b h).decay (rst V b h) := by
  unfold res_main_while0b_v163
  clean_types
  pointwise
  rw [r149 H, r156 H]
  rfl

theorem r166 (s d : Fin 128) : res_main_while0b_v166 (F := Ideal) V (ix4 b h s d) = (rinp V k b h).wkk (rst V b h) s d := by
  unfold res_main_while0b_v166
  clean_types
  pointwise
  rw [r153 H, r156 H, r104 H]
  rfl

theorem step7 (d e : Fin 128) : step_main_v72_7 (F := Ideal) V (ix4 b h d e) = ((rinp V k b h).step (rst V b h)).c d e := by
  unfold step_main_v72_7
  simp only [id_eq]
  clean_types
  pointwise
  simp only [r163 H, r166 H, r105 H]
  rfl

theorem step8 (d : Fin 128) : step_main_v72_8 (F := Ideal) V (ix3 b h d) = ((rinp V k b h).step (rst V b h)).n d := by
  unfold step_main_v72_8
  simp only [id_eq]
  clean_types
  pointwise
  simp only [r163 H, r166 H, w_zero, zero_add]
  rfl

theorem step9 : step_main_v72_9 (F := Ideal) V (ix2 b h) = ((rinp V k b h).step (rst V b h)).m := by
  unfold step_main_v72_9
  exact r156 H b h

theorem step6 : step_main_v72_6 (F := Ideal) V = fun _ => BitVec.ofNat 32 (k.val + 1) := by
  unfold step_main_v72_6
  simp only [id_eq]
  rw [H.ctr]
  funext j
  show BitVec.ofNat 32 k.val + 1#32 = _
  rw [BitVec.ofNat_add]

/-- What the trip puts into the stacked outputs: its chunk is the output, the others stay. -/
theorem step10 (l : Fin 64) (t e : Fin 128) : step_main_v72_10 (F := Ideal) V (ix5 l b h t e)
    = if l = k then (rinp V k b h).hout (rst V b h) t e else V main_v72_10 (ix5 l b h t e) := by
  unfold step_main_v72_10
  refine (update5 _ _ _ k (start5 H) l b h t e).trans (if_congr Iff.rfl ?_ rfl)
  clean_types
  pointwise
  simp only [r103 H, r105 H, r122 H, r128 H, r130 H, w_zero, zero_add]
  rfl

end Cert.Proof
end
-- ==== Proof.RefEntry.lean ====
module
public import proofs.«01_k».proof.Proof.RefStep

/-!
# What the reference's loop starts from

The host operations before the loop, one group after the other: each array they make, read at an index, in
terms of what the group reads.
-/

@[expose] public section
set_option maxRecDepth 100000
set_option maxHeartbeats 2000000
noncomputable section
namespace Cert.Proof
open Idealize.ShloMosaic Idealize.ShloMosaic.TcCoe Idealize.SL.Sem Cert.ReferenceIdeal Cert.ReferenceIdeal.Value Cert.ReferenceIdeal.Gen Idealize.ShloMosaic.HostLoop Idealize.ShloMosaic.StableHlo

local notation "Val" => Valuation τ sig (Elt Ideal)

namespace Entry

theorem s0_v5' (V : Val) : after hostOps0 V (Proc.devRef .tc main_v5)
    = concatenate S2x8192x1024 2 [⟨S2x8192x512, extractStridedSlice S2x8192x512 ![0, 0, 0] (V main_arg0) slices_S2x8192x4384_S2x8192x512_0_0_0⟩,
      ⟨S2x8192x512, extractStridedSlice S2x8192x512 ![0, 0, 512] (V main_arg0) slices_S2x8192x4384_S2x8192x512_0_0_512⟩] concatenates_S2x8192x512_S2x8192x512_S2x8192x1024_d2 := by
  after_reads_simp
  rfl

/-- Queries and keys side by side are the first 1024 columns. -/
theorem s0_v5 (V : Val) (b : Fin 2) (p : Fin 8192) (ch : Fin 1024) :
    after hostOps0 V (Proc.devRef .tc main_v5) (ix3 b p ch) = V main_arg0 (ix3 b p (⟨ch.val, by omega⟩ : Fin 4384)) := by
  rw [s0_v5']
  pointwise
  split
  · rfl
  · exact congrArg (fun q => V main_arg0 (ix3 b p q)) (Fin.ext (by show 512 + (ch.val - 512) = ch.val; omega))

theorem s0_v2 (V : Val) (b : Fin 2) (p : Fin 8192) (ch : Fin 512) :
    after hostOps0 V (Proc.devRef .tc main_v2) (ix3 b p ch) = V main_arg0 (ix3 b p (⟨1024 + ch.val, by omega⟩ : Fin 4384)) := by
  after_reads_simp
  clean_types
  pointwise

theorem s0_v3 (V : Val) (b : Fin 2) (p : Fin 8192) (h : Fin 4) :
    after hostOps0 V (Proc.devRef .tc main_v3) (ix3 b p h) = V main_arg0 (ix3 b p (⟨2560 + h.val, by omega⟩ : Fin 4384)) := by
  after_reads_simp
  clean_types
  pointwise

theorem s0_v4 (V : Val) (b : Fin 2) (p : Fin 8192) (h : Fin 4) :
    after hostOps0 V (Proc.devRef .tc main_v4) (ix3 b p h) = V main_arg0 (ix3 b p (⟨2564 + h.val, by omega⟩ : Fin 4384)) := by
  after_reads_simp
  clean_types
  pointwise

theorem s0_c (V : Val) : after hostOps0 V (Proc.devRef .tc main_c) = constantI S_ 32 0#32 := by
  after_reads_simp

/-- Three rows of padding come first. -/
theorem s1_v6 (V : Val) (hc : V main_c = constantI S_ 32 0#32) (b : Fin 2) (p : Fin 8195) (ch : Fin 1024) :
    after hostOps0_1 V (Proc.devRef .tc main_v6) (ix3 b p ch)
      = if h : 3 ≤ p.val then V main_v5 (ix3 b (⟨p.val - 3, by omega⟩ : Fin 8192) ch) else (0 : EReal) := by
  have e : after hostOps0_1 V (Proc.devRef .tc main_v6)
      = pad S2x8195x1024 ![0, 3, 0] ![0, 0, 0] ![0, 0, 0] (V main_v5) (sitofp (F := Ideal) .f32 (V main_c)) pads_S2x8192x1024_S2x8195x1024_000_300_000 h_S_ := by
    after_reads_simp
    rfl
  rw [e, hc]
  pointwise
  have hp := p.isLt
  have hb := b.isLt
  have hch := ch.isLt
  by_cases h3 : 3 ≤ p.val
  · rw [dif_pos h3]
    refine dif_pos fun a => ?_
    match a with
    | ⟨0, _⟩ => exact ⟨Nat.zero_le _, Nat.mod_one _, by show (b.val - 0) / 1 < 2; omega⟩
    | ⟨1, _⟩ => exact ⟨h3, Nat.mod_one _, by show (p.val - 3) / 1 < 8192; omega⟩
    | ⟨2, _⟩ => exact ⟨Nat.zero_le _, Nat.mod_one _, by show (ch.val - 0) / 1 < 1024; omega⟩
  · rw [dif_neg h3]
    refine (dif_neg fun hin => h3 (hin 1).1).trans ?_
    show (((0#32 : BitVec 32).toInt : ℝ) : EReal) = 0
    simp

/-- The convolution, from the padded columns. -/
theorem s2_v38 (V : Val) (x : S2x8195x1024.Idx → EReal) (w : S4x1024.Idx → EReal) (z : S1024.Idx → EReal)
    (hx : V main_v6 = x) (hw : V main_arg2 = w) (hz : V main_arg3 = z) (b : Fin 2) (p : Fin 8192) (ch : Fin 1024) :
    after hostOps0_2 V (Proc.devRef .tc main_v38) (ix3 b p ch)
      = x (ix3 b (⟨p.val, by omega⟩ : Fin 8195) ch) * w (ix2 (0 : Fin 4) ch) + x (ix3 b (⟨1 + p.val, by omega⟩ : Fin 8195) ch) * w (ix2 (1 : Fin 4) ch)
        + x (ix3 b (⟨2 + p.val, by omega⟩ : Fin 8195) ch) * w (ix2 (2 : Fin 4) ch)
        + x (ix3 b (⟨3 + p.val, by omega⟩ : Fin 8195) ch) * w (ix2 (3 : Fin 4) ch) + z (ix1 ch) := by
  after_reads_simp
  rw [hx, hw, hz]
  clean_types
  pointwise

theorem s3_v39 (V : Val) (b : Fin 2) (p : Fin 8192) (ch : Fin 1024) :
    after hostOps0_3 V (Proc.devRef .tc main_v39) (ix3 b p ch) = silu (V main_v38 (ix3 b p ch)) := by
  have e : after hostOps0_3 V (Proc.devRef .tc main_v39)
      = mulf (F := Ideal) (φ := .f32) (V main_v38) (Host.divf (broadcastInDim S2x8192x1024 ![] bcast_S_S2x8192x1024 (constant S_ .f32 0x3F800000#32))
        (addf (broadcastInDim S2x8192x1024 ![] bcast_S_S2x8192x1024 (constant S_ .f32 0x3F800000#32)) (Host.exp (Host.negf (V main_v38))))) := by
    after_reads_simp
    rfl
  rw [e]
  pointwise
  rfl

theorem s4_v43 (V : Val) (b : Fin 2) (h : Fin 4) (p : Fin 8192) (d : Fin 128) :
    after hostOps0_4 V (Proc.devRef .tc main_v43) (ix4 b h p d) = V main_v39 (ix3 b p (⟨h.val * 128 + d.val, by omega⟩ : Fin 1024)) := by
  after_reads_simp
  clean_types
  pointwise

theorem s4_v47 (V : Val) (x : S2x8192x1024.Idx → EReal) (hx : V main_v39 = x) (b : Fin 2) (h : Fin 4) (p : Fin 8192) (d : Fin 128) :
    after hostOps0_4 V (Proc.devRef .tc main_v47) (ix4 b h p d)
      = x (ix3 b p (⟨512 + (h.val * 128 + d.val), by omega⟩ : Fin 1024)) * Ideal.ofBits .f32 0x3DB504F3#32 := by
  after_reads_simp
  rw [hx]
  clean_types
  pointwise

theorem s4_v49 (V : Val) (b : Fin 2) (h : Fin 4) (p : Fin 8192) (d : Fin 128) :
    after hostOps0_4 V (Proc.devRef .tc main_v49) (ix4 b h p d) = V main_v2 (ix3 b p (⟨h.val * 128 + d.val, by omega⟩ : Fin 512)) := by
  after_reads_simp
  clean_types
  pointwise

theorem s4_v50 (V : Val) (b : Fin 2) (h : Fin 4) (p : Fin 8192) :
    after hostOps0_4 V (Proc.devRef .tc main_v50) (ix3 b h p) = V main_v3 (ix3 b p h) := by
  after_reads_simp
  clean_types
  pointwise

theorem s4_v54 (V : Val) (x : S2x8192x4.Idx → EReal) (w : S4.Idx → EReal) (hx : V main_v4 = x) (hw : V main_arg1 = w)
    (b : Fin 2) (h : Fin 4) (p : Fin 8192) :
    after hostOps0_4 V (Proc.devRef .tc main_v54) (ix3 b h p) = x (ix3 b p h) + w (ix1 h) := by
  after_reads_simp
  rw [hx, hw]
  clean_types
  pointwise

theorem s5_v55 (V : Val) (b : Fin 2) (h : Fin 4) (p : Fin 8192) :
    after hostOps0_5 V (Proc.devRef .tc main_v55) (ix3 b h p) = logsig (V main_v54 (ix3 b h p)) := by
  have e : after hostOps0_5 V (Proc.devRef .tc main_v55)
      = Host.negf (F := Ideal) (φ := .f32) (select
        (cmpf .une (subf (Host.negf (V main_v54)) (broadcastInDim S2x4x8192 ![] bcast_S_S2x4x8192 (constant (F := Ideal) S_ .f32 0x00000000#32)))
          (subf (Host.negf (V main_v54)) (broadcastInDim S2x4x8192 ![] bcast_S_S2x4x8192 (constant (F := Ideal) S_ .f32 0x00000000#32))))
        (addf (Host.negf (V main_v54)) (broadcastInDim S2x4x8192 ![] bcast_S_S2x4x8192 (constant (F := Ideal) S_ .f32 0x00000000#32)))
        (addf (maximumf (Host.negf (V main_v54)) (broadcastInDim S2x4x8192 ![] bcast_S_S2x4x8192 (constant (F := Ideal) S_ .f32 0x00000000#32)))
          (Host.log1p (Host.exp (Host.negf (Host.absf (subf (Host.negf (V main_v54)) (broadcastInDim S2x4x8192 ![] bcast_S_S2x4x8192 (constant (F := Ideal) S_ .f32 0x00000000#32))))))))) := by
    after_reads_simp
    rfl
  rw [e]
  pointwise
  rw [if_neg (fun h => h rfl)]
  exact neg_softplus _

theorem s6_v56 (V : Val) : after hostOps0_6 V (Proc.devRef .tc main_v56) = broadcastInDim S128x128 ![] bcast_S_S128x128 (constantI S_ 1 1#1) := by
  after_reads_simp

theorem s7_v57 (V : Val) (hv : V main_v56 = broadcastInDim S128x128 ![] bcast_S_S128x128 (constantI S_ 1 1#1)) (t s : Fin 128) :
    after hostOps0_7 V (Proc.devRef .tc main_v57) (ix2 t s) = if s ≤ t then 1#1 else 0#1 := by
  have e : after hostOps0_7 V (Proc.devRef .tc main_v57)
      = select (cmpi .sge (addi (iotaInDim S128x128 32 0) (broadcastInDim S128x128 ![] bcast_S_S128x128 (constantI S_ 32 0#32))) (iotaInDim S128x128 32 1))
        (V main_v56) (broadcastInDim S128x128 ![] bcast_S_S128x128 (constantI S_ 1 0#1)) := by
    after_reads_simp
    rfl
  rw [e, hv]
  pointwise
  exact (by decide +kernel : ∀ t s : Fin 128, Scalar.select (IntOp.cmpi .sge (IntOp.addi (BitVec.ofNat 32 t.val) 0#32) (BitVec.ofNat 32 s.val)) 1#1 0#1
    = if s ≤ t then 1#1 else 0#1) t s

theorem s8_0 (V : Val) (k : Fin 64) (b : Fin 2) (h : Fin 4) (t d : Fin 128) :
    after hostOps0_8 V (Proc.devRef .tc main_v72_0) (ix5 k b h t d) = V main_v43 (ix4 b h (Args.pos k t) d) := by
  after_reads_simp
  simp only [id_eq]
  clean_types
  pointwise
  rfl

theorem s8_1 (V : Val) (k : Fin 64) (b : Fin 2) (h : Fin 4) (t d : Fin 128) :
    after hostOps0_8 V (Proc.devRef .tc main_v72_1) (ix5 k b h t d) = V main_v47 (ix4 b h (Args.pos k t) d) := by
  after_reads_simp
  simp only [id_eq]
  clean_types
  pointwise
  rfl

theorem s8_2 (V : Val) (k : Fin 64) (b : Fin 2) (h : Fin 4) (t d : Fin 128) :
    after hostOps0_8 V (Proc.devRef .tc main_v72_2) (ix5 k b h t d) = V main_v49 (ix4 b h (Args.pos k t) d) := by
  after_reads_simp
  simp only [id_eq]
  clean_types
  pointwise
  rfl

theorem s8_3 (V : Val) (k : Fin 64) (b : Fin 2) (h : Fin 4) (t : Fin 128) :
    after hostOps0_8 V (Proc.devRef .tc main_v72_3) (ix4 k b h t) = V main_v50 (ix3 b h (Args.pos k t)) := by
  after_reads_simp
  simp only [id_eq]
  clean_types
  pointwise
  rfl

theorem s8_4 (V : Val) (k : Fin 64) (b : Fin 2) (h : Fin 4) (t : Fin 128) :
    after hostOps0_8 V (Proc.devRef .tc main_v72_4) (ix4 k b h t) = V main_v55 (ix3 b h (Args.pos k t)) := by
  after_reads_simp
  simp only [id_eq]
  clean_types
  pointwise
  rfl

theorem s8_5 (V : Val) : after hostOps0_8 V (Proc.devRef .tc main_v72_5) = V main_v57 := by
  after_reads_simp
  rfl
theorem s8_6 (V : Val) : after hostOps0_8 V (Proc.devRef .tc main_v72_6) = constantI S_ 32 0#32 := by
  after_reads_simp
  rfl
theorem s8_7 (V : Val) (b : Fin 2) (h : Fin 4) (d e : Fin 128) : after hostOps0_8 V (Proc.devRef .tc main_v72_7) (ix4 b h d e) = (0 : EReal) := by
  after_reads_simp
  exact w_zero
theorem s8_8 (V : Val) (b : Fin 2) (h : Fin 4) (d : Fin 128) : after hostOps0_8 V (Proc.devRef .tc main_v72_8) (ix3 b h d) = (0 : EReal) := by
  after_reads_simp
  exact w_zero
theorem s8_9 (V : Val) (b : Fin 2) (h : Fin 4) : after hostOps0_8 V (Proc.devRef .tc main_v72_9) (ix2 b h) = (0 : EReal) := by
  after_reads_simp
  exact w_zero

theorem p7_v43 (V : Val) : after hostOps0_7 V (Proc.devRef .tc main_v43) = V main_v43 :=
  after_of_writes_sub hostOps0_7 V hostOps0_7_writes (by decide +kernel)
theorem p6_v43 (V : Val) : after hostOps0_6 V (Proc.devRef .tc main_v43) = V main_v43 :=
  after_of_writes_sub hostOps0_6 V hostOps0_6_writes (by decide +kernel)
theorem p5_v43 (V : Val) : after hostOps0_5 V (Proc.devRef .tc main_v43) = V main_v43 :=
  after_of_writes_sub hostOps0_5 V hostOps0_5_writes (by decide +kernel)
theorem p7_v47 (V : Val) : after hostOps0_7 V (Proc.devRef .tc main_v47) = V main_v47 :=
  after_of_writes_sub hostOps0_7 V hostOps0_7_writes (by decide +kernel)
theorem p6_v47 (V : Val) : after hostOps0_6 V (Proc.devRef .tc main_v47) = V main_v47 :=
  after_of_writes_sub hostOps0_6 V hostOps0_6_writes (by decide +kernel)
theorem p5_v47 (V : Val) : after hostOps0_5 V (Proc.devRef .tc main_v47) = V main_v47 :=
  after_of_writes_sub hostOps0_5 V hostOps0_5_writes (by decide +kernel)
theorem p7_v49 (V : Val) : after hostOps0_7 V (Proc.devRef .tc main_v49) = V main_v49 :=
  after_of_writes_sub hostOps0_7 V hostOps0_7_writes (by decide +kernel)
theorem p6_v49 (V : Val) : after hostOps0_6 V (Proc.devRef .tc main_v49) = V main_v49 :=
  after_of_writes_sub hostOps0_6 V hostOps0_6_writes (by decide +kernel)
theorem p5_v49 (V : Val) : after hostOps0_5 V (Proc.devRef .tc main_v49) = V main_v49 :=
  after_of_writes_sub hostOps0_5 V hostOps0_5_writes (by decide +kernel)
theorem p7_v50 (V : Val) : after hostOps0_7 V (Proc.devRef .tc main_v50) = V main_v50 :=
  after_of_writes_sub hostOps0_7 V hostOps0_7_writes (by decide +kernel)
theorem p6_v50 (V : Val) : after hostOps0_6 V (Proc.devRef .tc main_v50) = V main_v50 :=
  after_of_writes_sub hostOps0_6 V hostOps0_6_writes (by decide +kernel)
theorem p5_v50 (V : Val) : after hostOps0_5 V (Proc.devRef .tc main_v50) = V main_v50 :=
  after_of_writes_sub hostOps0_5 V hostOps0_5_writes (by decide +kernel)
theorem p7_v55 (V : Val) : after hostOps0_7 V (Proc.devRef .tc main_v55) = V main_v55 :=
  after_of_writes_sub hostOps0_7 V hostOps0_7_writes (by decide +kernel)
theorem p6_v55 (V : Val) : after hostOps0_6 V (Proc.devRef .tc main_v55) = V main_v55 :=
  after_of_writes_sub hostOps0_6 V hostOps0_6_writes (by decide +kernel)
theorem p3_v2 (V : Val) : after hostOps0_3 V (Proc.devRef .tc main_v2) = V main_v2 :=
  after_of_writes_sub hostOps0_3 V hostOps0_3_writes (by decide +kernel)
theorem p2_v2 (V : Val) : after hostOps0_2 V (Proc.devRef .tc main_v2) = V main_v2 :=
  after_of_writes_sub hostOps0_2 V hostOps0_2_writes (by decide +kernel)
theorem p1_v2 (V : Val) : after hostOps0_1 V (Proc.devRef .tc main_v2) = V main_v2 :=
  after_of_writes_sub hostOps0_1 V hostOps0_1_writes (by decide +kernel)
theorem p3_v3 (V : Val) : after hostOps0_3 V (Proc.devRef .tc main_v3) = V main_v3 :=
  after_of_writes_sub hostOps0_3 V hostOps0_3_writes (by decide +kernel)
theorem p2_v3 (V : Val) : after hostOps0_2 V (Proc.devRef .tc main_v3) = V main_v3 :=
  after_of_writes_sub hostOps0_2 V hostOps0_2_writes (by decide +kernel)
theorem p1_v3 (V : Val) : after hostOps0_1 V (Proc.devRef .tc main_v3) = V main_v3 :=
  after_of_writes_sub hostOps0_1 V hostOps0_1_writes (by decide +kernel)
theorem p3_v4 (V : Val) : after hostOps0_3 V (Proc.devRef .tc main_v4) = V main_v4 :=
  after_of_writes_sub hostOps0_3 V hostOps0_3_writes (by decide +kernel)
theorem p2_v4 (V : Val) : after hostOps0_2 V (Proc.devRef .tc main_v4) = V main_v4 :=
  after_of_writes_sub hostOps0_2 V hostOps0_2_writes (by decide +kernel)
theorem p1_v4 (V : Val) : after hostOps0_1 V (Proc.devRef .tc main_v4) = V main_v4 :=
  after_of_writes_sub hostOps0_1 V hostOps0_1_writes (by decide +kernel)
theorem p3_arg1 (V : Val) : after hostOps0_3 V (Proc.devRef .tc main_arg1) = V main_arg1 :=
  after_of_writes_sub hostOps0_3 V hostOps0_3_writes (by decide +kernel)
theorem p2_arg1 (V : Val) : after hostOps0_2 V (Proc.devRef .tc main_arg1) = V main_arg1 :=
  after_of_writes_sub hostOps0_2 V hostOps0_2_writes (by decide +kernel)
theorem p1_arg1 (V : Val) : after hostOps0_1 V (Proc.devRef .tc main_arg1) = V main_arg1 :=
  after_of_writes_sub hostOps0_1 V hostOps0_1_writes (by decide +kernel)
theorem p0_arg1 (V : Val) : after hostOps0 V (Proc.devRef .tc main_arg1) = V main_arg1 :=
  after_of_writes_sub hostOps0 V hostOps0_writes (by decide +kernel)
theorem p1_arg2 (V : Val) : after hostOps0_1 V (Proc.devRef .tc main_arg2) = V main_arg2 :=
  after_of_writes_sub hostOps0_1 V hostOps0_1_writes (by decide +kernel)
theorem p0_arg2 (V : Val) : after hostOps0 V (Proc.devRef .tc main_arg2) = V main_arg2 :=
  after_of_writes_sub hostOps0 V hostOps0_writes (by decide +kernel)
theorem p1_arg3 (V : Val) : after hostOps0_1 V (Proc.devRef .tc main_arg3) = V main_arg3 :=
  after_of_writes_sub hostOps0_1 V hostOps0_1_writes (by decide +kernel)
theorem p0_arg3 (V : Val) : after hostOps0 V (Proc.devRef .tc main_arg3) = V main_arg3 :=
  after_of_writes_sub hostOps0 V hostOps0_writes (by decide +kernel)

end Entry
end Cert.Proof
end
-- ==== Proof.RefFinal.lean ====
module
public import proofs.«01_k».proof.Proof.RefEntry

/-!
# The reference's result

By induction over the trips the carried buffers are the recurrence's states, and the stacked outputs its
outputs; the operations after the loop make the layer's result of them.
-/

@[expose] public section
set_option maxRecDepth 16384
noncomputable section
namespace Cert.Proof
open Idealize.ShloMosaic Idealize.ShloMosaic.TcCoe Idealize.SL.Sem Cert.ReferenceIdeal Cert.ReferenceIdeal.Value Cert.ReferenceIdeal.Gen Idealize.ShloMosaic.HostLoop Idealize.ShloMosaic.StableHlo

local notation "Val" => Valuation τ sig (Elt Ideal)

/-- The argument arrays a valuation holds. -/
def vargs (V : Val) : Args := ⟨V main_arg0, V main_arg1, V main_arg2, V main_arg3, V main_arg4⟩

namespace Entry

/-- The padded columns. -/
theorem e_v6 (V : Val) (b : Fin 2) (p : Fin 8195) (ch : Fin 1024) :
    after hostOps0_1 (after hostOps0 V) (Proc.devRef .tc main_v6) (ix3 b p ch) = (vargs V).xpad b (p.val + 13) ch := by
  have hp := p.isLt
  rw [s1_v6 _ (s0_c V)]
  unfold Args.xpad
  by_cases h3 : 3 ≤ p.val
  · rw [dif_pos h3, dif_pos ⟨by omega, by omega⟩, s0_v5]
    refine congrArg (fun q => V main_arg0 (ix3 b q _)) (Fin.ext ?_)
    show p.val - 3 = p.val + 13 - 16
    omega
  · rw [dif_neg h3, dif_neg (by omega)]

/-- The convolution. -/
theorem e_v38 (V : Val) (b : Fin 2) (p : Fin 8192) (ch : Fin 1024) :
    after hostOps0_2 (after hostOps0_1 (after hostOps0 V)) (Proc.devRef .tc main_v38) (ix3 b p ch) = (vargs V).conv b p.val ch := by
  rw [s2_v38 _ _ (vargs V).a2 (vargs V).a3 rfl (by rw [p1_arg2, p0_arg2]; rfl) (by rw [p1_arg3, p0_arg3]; rfl)]
  rw [e_v6, e_v6, e_v6, e_v6]
  unfold Args.conv
  rw [show 1 + p.val + 13 = p.val + 14 by omega, show 2 + p.val + 13 = p.val + 15 by omega, show 3 + p.val + 13 = p.val + 16 by omega]

/-- Queries and keys after the convolution. -/
theorem e_v39 (V : Val) (b : Fin 2) (p : Fin 8192) (ch : Fin 1024) :
    after hostOps0_3 (after hostOps0_2 (after hostOps0_1 (after hostOps0 V))) (Proc.devRef .tc main_v39) (ix3 b p ch)
      = silu ((vargs V).conv b p.val ch) := by
  rw [s3_v39]
  exact congrArg silu (e_v38 V b p ch)

theorem e_0 (V : Val) (k : Fin 64) (b : Fin 2) (h : Fin 4) (t d : Fin 128) :
    afterL preI V (Proc.devRef .tc main_v72_0) (ix5 k b h t d) = ((vargs V).inp b h k).q t d := by
  simp only [afterL_cons, afterL_nil]
  rw [s8_0, p7_v43, p6_v43, p5_v43, s4_v43]
  exact e_v39 V b _ _

theorem e_1 (V : Val) (k : Fin 64) (b : Fin 2) (h : Fin 4) (t d : Fin 128) :
    afterL preI V (Proc.devRef .tc main_v72_1) (ix5 k b h t d) = ((vargs V).inp b h k).k t d := by
  simp only [afterL_cons, afterL_nil]
  rw [s8_1, p7_v47, p6_v47, p5_v47, s4_v47 _ _ rfl, e_v39]
  rfl

theorem e_2 (V : Val) (k : Fin 64) (b : Fin 2) (h : Fin 4) (t d : Fin 128) :
    afterL preI V (Proc.devRef .tc main_v72_2) (ix5 k b h t d) = ((vargs V).inp b h k).v t d := by
  simp only [afterL_cons, afterL_nil]
  rw [s8_2, p7_v49, p6_v49, p5_v49, s4_v49, p3_v2, p2_v2, p1_v2, s0_v2]
  rfl

theorem e_3 (V : Val) (k : Fin 64) (b : Fin 2) (h : Fin 4) (t : Fin 128) :
    afterL preI V (Proc.devRef .tc main_v72_3) (ix4 k b h t) = ((vargs V).inp b h k).i t := by
  simp only [afterL_cons, afterL_nil]
  rw [s8_3, p7_v50, p6_v50, p5_v50, s4_v50, p3_v3, p2_v3, p1_v3, s0_v3]
  rfl

theorem e_4 (V : Val) (k : Fin 64) (b : Fin 2) (h : Fin 4) (t : Fin 128) :
    afterL preI V (Proc.devRef .tc main_v72_4) (ix4 k b h t) = ((vargs V).inp b h k).f t := by
  simp only [afterL_cons, afterL_nil]
  rw [s8_4, p7_v55, p6_v55, s5_v55, s4_v54 _ _ (vargs V).a1 rfl (by rw [p3_arg1, p2_arg1, p1_arg1, p0_arg1]; rfl), p3_v4, p2_v4, p1_v4, s0_v4]
  rfl

theorem e_5 (V : Val) (t s : Fin 128) :
    afterL preI V (Proc.devRef .tc main_v72_5) (ix2 t s) = if s ≤ t then 1#1 else 0#1 := by
  simp only [afterL_cons, afterL_nil]
  rw [s8_5]
  exact s7_v57 _ (s6_v56 _) t s

theorem e_6 (V : Val) : afterL preI V (Proc.devRef .tc main_v72_6) = fun _ => BitVec.ofNat 32 0 := by
  simp only [afterL_cons, afterL_nil]
  exact s8_6 _

theorem e_st (V : Val) (b : Fin 2) (h : Fin 4) : rst (afterL preI V) b h = St.zero := by
  simp only [afterL_cons, afterL_nil]
  unfold rst St.zero
  congr 1
  · exact funext fun d => funext fun e => s8_7 _ b h d e
  · exact funext fun d => s8_8 _ b h d
  · exact s8_9 _ b h

theorem e_inp (V : Val) (k : Fin 64) (b : Fin 2) (h : Fin 4) : rinp (afterL preI V) k b h = (vargs V).inp b h k := by
  unfold rinp
  have h0 := fun t d => e_0 V k b h t d
  have h1 := fun t d => e_1 V k b h t d
  have h2 := fun t d => e_2 V k b h t d
  have h3 := fun t => e_3 V k b h t
  have h4 := fun t => e_4 V k b h t
  simp only [h0, h1, h2, h3, h4]

end Entry

/-- The buffers before trip `k`: inputs, mask and counter, the states, and the outputs so far. -/
structure Inv (V W : Val) (k : ℕ) : Prop where
  ctr : W main_v72_6 = fun _ => BitVec.ofNat 32 k
  mask : ∀ t s : Fin 128, W main_v72_5 (ix2 t s) = if s ≤ t then 1#1 else 0#1
  inp : ∀ (l : Fin 64) (b : Fin 2) (h : Fin 4), rinp W l b h = (vargs V).inp b h l
  st : ∀ (b : Fin 2) (h : Fin 4), rst W b h = (vargs V).st b h k
  out : ∀ (l : Fin 64) (b : Fin 2) (h : Fin 4) (t e : Fin 128), l.val < k → W main_v72_10 (ix5 l b h t e) = (vargs V).ho b h l t e

theorem inv_zero (V : Val) : Inv V (afterL preI V) 0 where
  ctr := Entry.e_6 V
  mask := Entry.e_5 V
  inp := fun l b h => Entry.e_inp V l b h
  st := fun b h => Entry.e_st V b h
  out := fun l b h t e hl => absurd hl (Nat.not_lt_zero _)

theorem inv_succ (V W : Val) (k : Fin 64) (I : Inv V W k.val) : Inv V (STEP W) (k.val + 1) where
  ctr := by
    rw [STEP_main_v72_6]
    exact step6 ⟨I.ctr, I.mask⟩
  mask := by
    rw [STEP_main_v72_5]
    exact I.mask
  inp := fun l b h => by
    rw [← I.inp l b h]
    unfold rinp
    rw [STEP_main_v72_0, STEP_main_v72_1, STEP_main_v72_2, STEP_main_v72_3, STEP_main_v72_4]
  st := fun b h => by
    have C : Ctx W k := ⟨I.ctr, I.mask⟩
    have e : rst (STEP W) b h = (rinp W k b h).step (rst W b h) := by
      unfold rst
      rw [STEP_main_v72_7, STEP_main_v72_8, STEP_main_v72_9]
      congr 1
      · exact funext fun d => funext fun e => step7 C b h d e
      · exact funext fun d => step8 C b h d
      · exact step9 C b h
    rw [e, I.inp, I.st]
    exact (state_succ _ k).symm
  out := fun l b h t e hl => by
    have C : Ctx W k := ⟨I.ctr, I.mask⟩
    rw [STEP_main_v72_10, step10 C b h l t e]
    split
    · next hlk =>
      subst hlk
      rw [I.inp, I.st]
      rfl
    · next hlk => exact I.out l b h t e (by have : l.val ≠ k.val := fun h => hlk (Fin.ext h); omega)

theorem inv (V : Val) : ∀ k : ℕ, k ≤ 64 → Inv V (STEP^[k] (afterL preI V)) k
  | 0, _ => inv_zero V
  | k + 1, hk => by
    rw [Function.iterate_succ_apply']
    exact inv_succ V _ ⟨k, hk⟩ (inv V k (Nat.le_of_succ_le hk))

/-- The operations after the loop, read at an index. -/
theorem out_apply (W : Val) (H : S64x2x4x128x128.Idx → EReal) (A0 : S2x8192x4384.Idx → EReal) (A4 : S512.Idx → EReal)
    (hH : W main_v72_10 = H) (h0 : W main_arg0 = A0) (h4 : W main_arg4 = A4) (b : Fin 2) (h : Fin 4) (n : Fin 64) (t e : Fin 128) :
    out_main_v102 (F := Ideal) W (ix3 b (Args.pos n t) (⟨h.val * 128 + e.val, by omega⟩ : Fin 512))
      = H (ix5 n b h t e) * Ideal.rsqrt (Ideal.div (∑ d, H (ix5 n b h t d) * H (ix5 n b h t d)) (Ideal.ofBits .f32 0x43000000#32)
      + Ideal.ofBits .f32 0x358637BD#32) * A4 (ix1 (⟨h.val * 128 + e.val, by omega⟩ : Fin 512))
        * sigm (A0 (ix3 b (Args.pos n t) (Args.hcol 1536 (by decide) h e)))
        * silu (A0 (ix3 b (Args.pos n t) (Args.hcol 2048 (by decide) h e))) := by
  unfold out_main_v102
  rw [hH, h0, h4]
  clean_types
  pointwise
  have hn := n.isLt
  have ht := t.isLt
  have e1 : ∀ hq, (⟨(Args.pos n t).val / 128, hq⟩ : Fin 64) = n := fun hq => Fin.ext (by show (n.val * 128 + t.val) / 128 = n.val; omega)
  have e2 : ∀ hq, (⟨(Args.pos n t).val % 128, hq⟩ : Fin 128) = t := fun hq => Fin.ext (by show (n.val * 128 + t.val) % 128 = t.val; omega)
  simp only [e1, e2]
  rfl

/-- The result from any launch contents: the layer's own formula, at every place. -/
theorem ref_out (V : Val) (b : Fin 2) (h : Fin 4) (n : Fin 64) (t e : Fin 128)
    (h0 : STEP^[64] (afterL preI V) main_arg0 = V main_arg0) (h4 : STEP^[64] (afterL preI V) main_arg4 = V main_arg4) :
    out_main_v102 (F := Ideal) (STEP^[64] (afterL preI V)) (ix3 b (Args.pos n t) (⟨h.val * 128 + e.val, by omega⟩ : Fin 512))
      = (vargs V).res b h n t e := by
  rw [out_apply _ _ (vargs V).a0 (vargs V).a4 rfl h0 h4]
  have I := inv V 64 le_rfl
  have ho := fun e => I.out n b h t e n.isLt
  simp only [ho]
  rfl
end Cert.Proof
end
-- ==== Proof.EvenStep.lean ====
module
public import proofs.«01_k».proof.Proof.Gen.Kernel2Ideal.Value
public import Idealize.ShloMosaic.Lib.Pointwise
public import Idealize.ShloMosaic.Lib.Pipeline.ValueKit
public import Idealize.ShloMosaic.Lib.Tactic.CleanTypes

/-!
# The even layer's projection: what a point leaves
-/

@[expose] public section
set_option maxRecDepth 16384
noncomputable section
namespace Cert.Proof.Even
open Idealize.ShloMosaic Idealize.ShloMosaic.TcCoe Idealize.SL.Sem Cert.Kernel2Ideal Cert.Kernel2Ideal.Gen
variable (m : (ℓ : Loc nD τ sig) → Buf (Elt Ideal) ℓ) (c : Dev nD)

/-- The scratch after a tile's first point: the tile's normalized rows. -/
theorem sA (t : Fin cfg0.N) (h0 : t.val % 3 = 0) (h1 : ¬t.val % 3 = 2) :
    (outsAt0 m c t.val t.isLt).2.2 = k0_pay1 (iblk m c 0 t) (iblk m c 1 t) := by
  rw [outsAt0_A m c t h0 h1]
  frame_out

theorem oA (t : Fin cfg0.N) (h0 : t.val % 3 = 0) (h1 : ¬t.val % 3 = 2) :
    (outsAt0 m c t.val t.isLt).1 = k0_pay3 (k0_pay1 (iblk m c 0 t) (iblk m c 1 t)) (iblk m c 2 t) (iblk m c 3 t) := by
  rw [outsAt0_A m c t h0 h1]
  frame_out

theorem sB (t : Fin cfg0.N) (h0 : ¬t.val % 3 = 0) (h1 : ¬t.val % 3 = 2) :
    (outsAt0 m c t.val t.isLt).2.2 = (outsAt0 m c (t.val - 1) (Nat.lt_of_le_of_lt (Nat.sub_le _ _) t.isLt)).2.2 := by
  rw [outsAt0_B m c t h0 h1]
  rfl

theorem oB (t : Fin cfg0.N) (h0 : ¬t.val % 3 = 0) (h1 : ¬t.val % 3 = 2) :
    (outsAt0 m c t.val t.isLt).1 = k0_pay3 (outsAt0 m c (t.val - 1) (Nat.lt_of_le_of_lt (Nat.sub_le _ _) t.isLt)).2.2 (iblk m c 2 t) (iblk m c 3 t) := by
  rw [outsAt0_B m c t h0 h1]
  frame_out
  exact congrArg (fun h => k0_pay3 h (iblk m c 2 t) (iblk m c 3 t)) (Memref.IsWhole.read_unread _ _)

theorem sC (t : Fin cfg0.N) (h0 : ¬t.val % 3 = 0) (h1 : t.val % 3 = 2) :
    (outsAt0 m c t.val t.isLt).2.2 = (outsAt0 m c (t.val - 1) (Nat.lt_of_le_of_lt (Nat.sub_le _ _) t.isLt)).2.2 := by
  rw [outsAt0_C m c t h0 h1]
  rfl

theorem oC (t : Fin cfg0.N) (h0 : ¬t.val % 3 = 0) (h1 : t.val % 3 = 2) :
    (outsAt0 m c t.val t.isLt).1 = k0_pay3 (outsAt0 m c (t.val - 1) (Nat.lt_of_le_of_lt (Nat.sub_le _ _) t.isLt)).2.2 (iblk m c 2 t) (iblk m c 3 t) := by
  rw [outsAt0_C m c t h0 h1]
  frame_out
  exact congrArg (fun h => k0_pay3 h (iblk m c 2 t) (iblk m c 3 t)) (Memref.IsWhole.read_unread _ _)

theorem gC (t : Fin cfg0.N) (h0 : ¬t.val % 3 = 0) (h1 : t.val % 3 = 2) :
    (outsAt0 m c t.val t.isLt).2.1 = k0_pay4 (outsAt0 m c (t.val - 1) (Nat.lt_of_le_of_lt (Nat.sub_le _ _) t.isLt)).2.2 (iblk m c 2 t) (iblk m c 3 t) := by
  rw [outsAt0_C m c t h0 h1]
  frame_out
  exact congrArg (fun h => k0_pay4 h (iblk m c 2 t) (iblk m c 3 t)) (Memref.IsWhole.read_unread _ _)

/-- The normalized row. -/
theorem pay1 (x : Vec Ideal S2048x1024 .f32) (g : Vec Ideal S1x1024 .f32) (r : Fin 2048) (k : Fin 1024) :
    k0_pay1 (F := Ideal) x g (ix2 r k) = x (ix2 r k) * Ideal.rsqrt (Ideal.div (∑ q : Fin 1024, x (ix2 r q) * x (ix2 r q)) (Ideal.ofBits FTy.f32 1149239296#32) + Ideal.ofBits FTy.f32 897988541#32) * g (ix2 0 k) := by
  clean_types
  pointwise [k0_pay1]

theorem pay3 (h : Vec Ideal S2048x1024 .bf16) (w : Vec Ideal S1024x1536 .bf16) (b : Vec Ideal S1x1536 .f32) (r : Fin 2048) (j : Fin 1536) :
    k0_pay3 (F := Ideal) h w b (ix2 r j) = (∑ k : Fin 1024, h (ix2 r k) * w (ix2 k j)) + b (ix2 0 j) := by
  clean_types
  pointwise [k0_pay3, k0_pay2]

theorem pay4 (h : Vec Ideal S2048x1024 .bf16) (w : Vec Ideal S1024x1536 .bf16) (b : Vec Ideal S1x1536 .f32) (r : Fin 2048) (j : Fin 128) :
    k0_pay4 (F := Ideal) h w b (ix2 r j) = (∑ k : Fin 1024, h (ix2 r k) * w (ix2 k (⟨768 + j.val, by omega⟩ : Fin 1536))) + b (ix2 0 (⟨768 + j.val, by omega⟩ : Fin 1536)) := by
  clean_types
  pointwise [k0_pay4, k0_pay2]

end Cert.Proof.Even
end
-- ==== Proof.EvenSpec.lean ====
module
public import Idealize.ShloMosaic.Lib.Pointwise
public import Idealize.ShloMosaic.Lib.Pipeline.ValueKit

/-!
# The even layer's projection: the formulas

The normalized rows, their product with the weight, and where each of its columns goes.
-/

@[expose] public section
noncomputable section
namespace Cert.Proof.Even
open Idealize.ShloMosaic

/-- A row over the root of its mean square, times the norm's weight. -/
def nrm (x : (⟨2, ![16384, 1024]⟩ : Shape).Idx → EReal) (g : (⟨1, ![1024]⟩ : Shape).Idx → EReal) (i : Fin 16384) (k : Fin 1024) : EReal :=
  x (ix2 i k) * Ideal.rsqrt (Ideal.div (∑ q : Fin 1024, x (ix2 i q) * x (ix2 i q)) (Ideal.ofBits FTy.f32 1149239296#32) + Ideal.ofBits FTy.f32 897988541#32) * g (ix1 k)

/-- The projection. -/
def proj (x : (⟨2, ![16384, 1024]⟩ : Shape).Idx → EReal) (g : (⟨1, ![1024]⟩ : Shape).Idx → EReal) (w : (⟨2, ![1024, 4384]⟩ : Shape).Idx → EReal)
    (b : (⟨1, ![4384]⟩ : Shape).Idx → EReal) (i : Fin 16384) (ch : Fin 4384) : EReal :=
  (∑ k : Fin 1024, nrm x g i k * w (ix2 k ch)) + b (ix1 ch)

/-- The columns in their new order: the large ones of the two mixers, their small ones, zeros, the last ones. -/
def pick (f : Fin 4384 → EReal) (j : Fin 4608) : EReal :=
  if h : j.val < 2560 then f ⟨j.val, by omega⟩
  else if h : j.val < 3840 then f ⟨j.val + 8, by omega⟩
  else if h : j.val < 3848 then f ⟨j.val - 1280, by omega⟩
  else if h : j.val < 3872 then f ⟨j.val, by omega⟩
  else if h : j.val < 4096 then 0
  else f ⟨j.val - 224, by omega⟩

/-- Each new column comes from one old one, or is zero throughout. -/
theorem pick_cases (j : Fin 4608) : (∃ ch : Fin 4384, ∀ f, pick f j = f ch) ∨ ∀ f, pick f j = 0 := by
  unfold pick
  by_cases h1 : j.val < 2560
  · exact .inl ⟨_, fun f => dif_pos h1⟩
  by_cases h2 : j.val < 3840
  · exact .inl ⟨_, fun f => (dif_neg h1).trans (dif_pos h2)⟩
  by_cases h3 : j.val < 3848
  · exact .inl ⟨_, fun f => (dif_neg h1).trans ((dif_neg h2).trans (dif_pos h3))⟩
  by_cases h4 : j.val < 3872
  · exact .inl ⟨_, fun f => (dif_neg h1).trans ((dif_neg h2).trans ((dif_neg h3).trans (dif_pos h4)))⟩
  by_cases h5 : j.val < 4096
  · exact .inr fun f => (dif_neg h1).trans ((dif_neg h2).trans ((dif_neg h3).trans ((dif_neg h4).trans (dif_pos h5))))
  · exact .inl ⟨_, fun f => (dif_neg h1).trans ((dif_neg h2).trans ((dif_neg h3).trans ((dif_neg h4).trans (dif_neg h5))))⟩

theorem pick1 (f : Fin 4384 → EReal) (j : Fin 4608) (ch : Fin 4384) (h : j.val < 2560) (e : ch.val = j.val) : f ch = pick f j := by
  unfold pick
  rw [dif_pos h]
  exact congrArg f (Fin.ext e)

theorem pick2 (f : Fin 4384 → EReal) (j : Fin 4608) (ch : Fin 4384) (h1 : ¬j.val < 2560) (h : j.val < 3840) (e : ch.val = j.val + 8) : f ch = pick f j := by
  unfold pick
  rw [dif_neg h1, dif_pos h]
  exact congrArg f (Fin.ext e)

theorem pick3 (f : Fin 4384 → EReal) (j : Fin 4608) (ch : Fin 4384) (h1 : ¬j.val < 2560) (h2 : ¬j.val < 3840) (h : j.val < 3848) (e : ch.val = j.val - 1280) : f ch = pick f j := by
  unfold pick
  rw [dif_neg h1, dif_neg h2, dif_pos h]
  exact congrArg f (Fin.ext e)

theorem pick4 (f : Fin 4384 → EReal) (j : Fin 4608) (ch : Fin 4384) (h1 : ¬j.val < 2560) (h2 : ¬j.val < 3840) (h3 : ¬j.val < 3848) (h : j.val < 3872) (e : ch.val = j.val) : f ch = pick f j := by
  unfold pick
  rw [dif_neg h1, dif_neg h2, dif_neg h3, dif_pos h]
  exact congrArg f (Fin.ext e)

theorem pick5 (f : Fin 4384 → EReal) (j : Fin 4608) (h1 : ¬j.val < 2560) (h2 : ¬j.val < 3840) (h3 : ¬j.val < 3848) (h4 : ¬j.val < 3872) (h : j.val < 4096) : 0 = pick f j := by
  unfold pick
  rw [dif_neg h1, dif_neg h2, dif_neg h3, dif_neg h4, dif_pos h]

theorem pick6 (f : Fin 4384 → EReal) (j : Fin 4608) (ch : Fin 4384) (h1 : ¬j.val < 2560) (h2 : ¬j.val < 3840) (h3 : ¬j.val < 3848) (h4 : ¬j.val < 3872) (h5 : ¬j.val < 4096) (e : ch.val = j.val - 224) : f ch = pick f j := by
  unfold pick
  rw [dif_neg h1, dif_neg h2, dif_neg h3, dif_neg h4, dif_neg h5]
  exact congrArg f (Fin.ext e)

/-- The product with the reordered weight is the reordered product. -/
theorem pick_proj (x : (⟨2, ![16384, 1024]⟩ : Shape).Idx → EReal) (g : (⟨1, ![1024]⟩ : Shape).Idx → EReal) (w : (⟨2, ![1024, 4384]⟩ : Shape).Idx → EReal)
    (b : (⟨1, ![4384]⟩ : Shape).Idx → EReal) (i : Fin 16384) (j : Fin 4608) :
    (∑ k : Fin 1024, nrm x g i k * pick (fun ch => w (ix2 k ch)) j) + pick (fun ch => b (ix1 ch)) j = pick (proj x g w b i) j := by
  rcases pick_cases j with ⟨ch, h⟩ | h
  · simp only [h]
    rfl
  · simp only [h, mul_zero, Finset.sum_const_zero, add_zero]

end Cert.Proof.Even
end
-- ==== Proof.EvenHost.lean ====
module
public import proofs.«01_k».proof.Proof.EvenSpec
public import proofs.«01_k».proof.Proof.Gen.Kernel2Ideal.Frame
public import Idealize.ShloMosaic.Lib.Tactic.CleanTypes
public import Idealize.ShloMosaic.Lib.StableHlo.RunRead

/-!
# The even layer's projection: the reordered weight and bias
-/

@[expose] public section
set_option maxRecDepth 100000
set_option maxHeartbeats 2000000
noncomputable section
namespace Cert.Proof.Even
open Idealize.ShloMosaic Idealize.ShloMosaic.TcCoe Idealize.SL.Sem Cert.Kernel2Ideal Cert.Kernel2Ideal.Gen Idealize.ShloMosaic.StableHlo
variable (m : (ℓ : Loc nD τ sig) → Buf (Elt Ideal) ℓ) (c : Dev nD)

theorem catW (W : Vec Ideal S1024x4384 .bf16) (k : Fin 1024) (j : Fin 4608) :
    concatenate S1024x4608 1 [⟨S1024x2560, extractStridedSlice S1024x2560 ![0, 0] W slices_S1024x4384_S1024x2560_0_0⟩, ⟨S1024x1280, extractStridedSlice S1024x1280 ![0, 2568] W slices_S1024x4384_S1024x1280_0_2568⟩,
      ⟨S1024x8, extractStridedSlice S1024x8 ![0, 2560] W slices_S1024x4384_S1024x8_0_2560⟩, ⟨S1024x24, extractStridedSlice S1024x24 ![0, 3848] W slices_S1024x4384_S1024x24_0_3848⟩,
      ⟨S1024x224, broadcastInDim S1024x224 ![] bcast_S_S1024x224 (constant (F := Ideal) S_ .bf16 0x0000#16)⟩, ⟨S1024x512, extractStridedSlice S1024x512 ![0, 3872] W slices_S1024x4384_S1024x512_0_3872⟩]
      concatenates_S1024x2560_S1024x1280_S1024x8_S1024x24_S1024x224_S1024x512_S1024x4608_d1 (ix2 k j) = pick (fun ch => W (ix2 k ch)) j := by
  clean_types
  pointwise
  split_ifs <;> first
    | (exfalso; omega)
    | exact pick1 (fun z => W (ix2 k z)) _ _ (by first | omega | (dsimp only <;> omega)) (by first | omega | (dsimp only <;> omega))
    | exact pick2 (fun z => W (ix2 k z)) _ _ (by first | omega | (dsimp only <;> omega)) (by first | omega | (dsimp only <;> omega)) (by first | omega | (dsimp only <;> omega))
    | exact pick3 (fun z => W (ix2 k z)) _ _ (by first | omega | (dsimp only <;> omega)) (by first | omega | (dsimp only <;> omega)) (by first | omega | (dsimp only <;> omega)) (by first | omega | (dsimp only <;> omega))
    | exact pick4 (fun z => W (ix2 k z)) _ _ (by first | omega | (dsimp only <;> omega)) (by first | omega | (dsimp only <;> omega)) (by first | omega | (dsimp only <;> omega)) (by first | omega | (dsimp only <;> omega)) (by first | omega | (dsimp only <;> omega))
    | exact pick5 (fun z => W (ix2 k z)) _ (by first | omega | (dsimp only <;> omega)) (by first | omega | (dsimp only <;> omega)) (by first | omega | (dsimp only <;> omega)) (by first | omega | (dsimp only <;> omega)) (by first | omega | (dsimp only <;> omega))
    | exact pick6 (fun z => W (ix2 k z)) _ _ (by first | omega | (dsimp only <;> omega)) (by first | omega | (dsimp only <;> omega)) (by first | omega | (dsimp only <;> omega)) (by first | omega | (dsimp only <;> omega)) (by first | omega | (dsimp only <;> omega)) (by first | omega | (dsimp only <;> omega))

theorem catB (B : Vec Ideal S4384 .f32) (j : Fin 4608) :
    concatenate S4608 0 [⟨S2560, extractStridedSlice S2560 ![0] B slices_S4384_S2560_0⟩, ⟨S1280, extractStridedSlice S1280 ![2568] B slices_S4384_S1280_2568⟩,
      ⟨S8, extractStridedSlice S8 ![2560] B slices_S4384_S8_2560⟩, ⟨S24, extractStridedSlice S24 ![3848] B slices_S4384_S24_3848⟩,
      ⟨S224, broadcastInDim S224 ![] bcast_S_S224 (constant (F := Ideal) S_ .f32 0x00000000#32)⟩, ⟨S512, extractStridedSlice S512 ![3872] B slices_S4384_S512_3872⟩]
      concatenates_S2560_S1280_S8_S24_S224_S512_S4608_d0 (ix1 j) = pick (fun ch => B (ix1 ch)) j := by
  clean_types
  pointwise
  split_ifs <;> first
    | (exfalso; omega)
    | exact pick1 (fun z => B (ix1 z)) _ _ (by first | omega | (dsimp only <;> omega)) (by first | omega | (dsimp only <;> omega))
    | exact pick2 (fun z => B (ix1 z)) _ _ (by first | omega | (dsimp only <;> omega)) (by first | omega | (dsimp only <;> omega)) (by first | omega | (dsimp only <;> omega))
    | exact pick3 (fun z => B (ix1 z)) _ _ (by first | omega | (dsimp only <;> omega)) (by first | omega | (dsimp only <;> omega)) (by first | omega | (dsimp only <;> omega)) (by first | omega | (dsimp only <;> omega))
    | exact pick4 (fun z => B (ix1 z)) _ _ (by first | omega | (dsimp only <;> omega)) (by first | omega | (dsimp only <;> omega)) (by first | omega | (dsimp only <;> omega)) (by first | omega | (dsimp only <;> omega)) (by first | omega | (dsimp only <;> omega))
    | exact pick5 (fun z => B (ix1 z)) _ (by first | omega | (dsimp only <;> omega)) (by first | omega | (dsimp only <;> omega)) (by first | omega | (dsimp only <;> omega)) (by first | omega | (dsimp only <;> omega)) (by first | omega | (dsimp only <;> omega))
    | exact pick6 (fun z => B (ix1 z)) _ _ (by first | omega | (dsimp only <;> omega)) (by first | omega | (dsimp only <;> omega)) (by first | omega | (dsimp only <;> omega)) (by first | omega | (dsimp only <;> omega)) (by first | omega | (dsimp only <;> omega)) (by first | omega | (dsimp only <;> omega))

/-- The host's operations before the weight's columns are put together. -/
abbrev opsA : List (HloOp τ sig (Elt Ideal)) :=
  [ StableHlo.unary main_arg2 main_v0 ((truncf (F := Ideal) .bf16 · bitsLt_bf16_f32) : (⟨S1024x4384, .f32⟩ : BufTy).Contents (Elt Ideal) → (⟨S1024x4384, .bf16⟩ : BufTy).Contents (Elt Ideal)),
    StableHlo.nullary main_cst (constant (F := Ideal) S_ .bf16 0x0000#16),
    StableHlo.unary main_cst main_v1 (broadcastInDim S1024x224 ![] bcast_S_S1024x224 : (⟨S_, .bf16⟩ : BufTy).Contents (Elt Ideal) → (⟨S1024x224, .bf16⟩ : BufTy).Contents (Elt Ideal)),
    StableHlo.unary main_v0 main_v2 ((extractStridedSlice S1024x2560 ![0, 0] · slices_S1024x4384_S1024x2560_0_0) : (⟨S1024x4384, .bf16⟩ : BufTy).Contents (Elt Ideal) → (⟨S1024x2560, .bf16⟩ : BufTy).Contents (Elt Ideal)),
    StableHlo.unary main_v0 main_v3 ((extractStridedSlice S1024x1280 ![0, 2568] · slices_S1024x4384_S1024x1280_0_2568) : (⟨S1024x4384, .bf16⟩ : BufTy).Contents (Elt Ideal) → (⟨S1024x1280, .bf16⟩ : BufTy).Contents (Elt Ideal)),
    StableHlo.unary main_v0 main_v4 ((extractStridedSlice S1024x8 ![0, 2560] · slices_S1024x4384_S1024x8_0_2560) : (⟨S1024x4384, .bf16⟩ : BufTy).Contents (Elt Ideal) → (⟨S1024x8, .bf16⟩ : BufTy).Contents (Elt Ideal)),
    StableHlo.unary main_v0 main_v5 ((extractStridedSlice S1024x24 ![0, 3848] · slices_S1024x4384_S1024x24_0_3848) : (⟨S1024x4384, .bf16⟩ : BufTy).Contents (Elt Ideal) → (⟨S1024x24, .bf16⟩ : BufTy).Contents (Elt Ideal)),
    StableHlo.unary main_v0 main_v6 ((extractStridedSlice S1024x512 ![0, 3872] · slices_S1024x4384_S1024x512_0_3872) : (⟨S1024x4384, .bf16⟩ : BufTy).Contents (Elt Ideal) → (⟨S1024x512, .bf16⟩ : BufTy).Contents (Elt Ideal)) ]

/-- The weight's columns put together. -/
abbrev opsB : List (HloOp τ sig (Elt Ideal)) :=
  [ StableHlo.nary ![main_v2, main_v3, main_v4, main_v5, main_v1, main_v6] main_v7 (fun u => (concatenate S1024x4608 1 [⟨S1024x2560, (u 0 : (⟨S1024x2560, .bf16⟩ : BufTy).Contents (Elt Ideal))⟩, ⟨S1024x1280, (u 1 : (⟨S1024x1280, .bf16⟩ : BufTy).Contents (Elt Ideal))⟩, ⟨S1024x8, (u 2 : (⟨S1024x8, .bf16⟩ : BufTy).Contents (Elt Ideal))⟩, ⟨S1024x24, (u 3 : (⟨S1024x24, .bf16⟩ : BufTy).Contents (Elt Ideal))⟩, ⟨S1024x224, (u 4 : (⟨S1024x224, .bf16⟩ : BufTy).Contents (Elt Ideal))⟩, ⟨S1024x512, (u 5 : (⟨S1024x512, .bf16⟩ : BufTy).Contents (Elt Ideal))⟩] concatenates_S1024x2560_S1024x1280_S1024x8_S1024x24_S1024x224_S1024x512_S1024x4608_d1 : (⟨S1024x4608, .bf16⟩ : BufTy).Contents (Elt Ideal))) ]

/-- Those before the bias's entries are put together. -/
abbrev opsC : List (HloOp τ sig (Elt Ideal)) :=
  [ StableHlo.nullary main_cst_0 (constant (F := Ideal) S_ .f32 0x00000000#32),
    StableHlo.unary main_cst_0 main_v8 (broadcastInDim S224 ![] bcast_S_S224 : (⟨S_, .f32⟩ : BufTy).Contents (Elt Ideal) → (⟨S224, .f32⟩ : BufTy).Contents (Elt Ideal)),
    StableHlo.unary main_arg3 main_v9 ((extractStridedSlice S2560 ![0] · slices_S4384_S2560_0) : (⟨S4384, .f32⟩ : BufTy).Contents (Elt Ideal) → (⟨S2560, .f32⟩ : BufTy).Contents (Elt Ideal)),
    StableHlo.unary main_arg3 main_v10 ((extractStridedSlice S1280 ![2568] · slices_S4384_S1280_2568) : (⟨S4384, .f32⟩ : BufTy).Contents (Elt Ideal) → (⟨S1280, .f32⟩ : BufTy).Contents (Elt Ideal)),
    StableHlo.unary main_arg3 main_v11 ((extractStridedSlice S8 ![2560] · slices_S4384_S8_2560) : (⟨S4384, .f32⟩ : BufTy).Contents (Elt Ideal) → (⟨S8, .f32⟩ : BufTy).Contents (Elt Ideal)),
    StableHlo.unary main_arg3 main_v12 ((extractStridedSlice S24 ![3848] · slices_S4384_S24_3848) : (⟨S4384, .f32⟩ : BufTy).Contents (Elt Ideal) → (⟨S24, .f32⟩ : BufTy).Contents (Elt Ideal)),
    StableHlo.unary main_arg3 main_v13 ((extractStridedSlice S512 ![3872] · slices_S4384_S512_3872) : (⟨S4384, .f32⟩ : BufTy).Contents (Elt Ideal) → (⟨S512, .f32⟩ : BufTy).Contents (Elt Ideal)) ]

/-- The bias's entries put together. -/
abbrev opsD : List (HloOp τ sig (Elt Ideal)) :=
  [ StableHlo.nary ![main_v9, main_v10, main_v11, main_v12, main_v8, main_v13] main_v14 (fun u => (concatenate S4608 0 [⟨S2560, (u 0 : (⟨S2560, .f32⟩ : BufTy).Contents (Elt Ideal))⟩, ⟨S1280, (u 1 : (⟨S1280, .f32⟩ : BufTy).Contents (Elt Ideal))⟩, ⟨S8, (u 2 : (⟨S8, .f32⟩ : BufTy).Contents (Elt Ideal))⟩, ⟨S24, (u 3 : (⟨S24, .f32⟩ : BufTy).Contents (Elt Ideal))⟩, ⟨S224, (u 4 : (⟨S224, .f32⟩ : BufTy).Contents (Elt Ideal))⟩, ⟨S512, (u 5 : (⟨S512, .f32⟩ : BufTy).Contents (Elt Ideal))⟩] concatenates_S2560_S1280_S8_S24_S224_S512_S4608_d0 : (⟨S4608, .f32⟩ : BufTy).Contents (Elt Ideal))) ]

/-- The last ones. -/
abbrev opsE : List (HloOp τ sig (Elt Ideal)) :=
  [ StableHlo.reshape main_arg1 main_v15 (rfl : (.f32 : EltTy) = .f32) shapeCasts_S1024_S1x1024,
    StableHlo.reshape main_v14 main_v16 (rfl : (.f32 : EltTy) = .f32) shapeCasts_S4608_S1x4608 ]

theorem split (V : Valuation τ sig (Elt Ideal)) : after hostOps0 V = after opsE (after opsD (after opsC (after opsB (after opsA V)))) := rfl

theorem eKeep (V : Valuation τ sig (Elt Ideal)) : after opsE V (Proc.devRef .tc main_v7) = V main_v7 := by
  after_reads_simp

theorem e16 (V : Valuation τ sig (Elt Ideal)) : after opsE V (Proc.devRef .tc main_v16) = shapeCast S1x4608 (V main_v14) shapeCasts_S4608_S1x4608 := by
  after_reads_simp
  all_goals rfl

theorem dKeep (V : Valuation τ sig (Elt Ideal)) : after opsD V (Proc.devRef .tc main_v7) = V main_v7 := by
  simp only [opsD, after_cons, after_nil]
  exact nary_result_ne (h := by decide) ..

theorem d14 (V : Valuation τ sig (Elt Ideal)) : after opsD V (Proc.devRef .tc main_v14) = concatenate S4608 0 [⟨S2560, V main_v9⟩, ⟨S1280, V main_v10⟩, ⟨S8, V main_v11⟩, ⟨S24, V main_v12⟩, ⟨S224, V main_v8⟩, ⟨S512, V main_v13⟩]
      concatenates_S2560_S1280_S8_S24_S224_S512_S4608_d0 := by
  simp only [opsD, after_cons, after_nil]
  exact nary_result ..

theorem cKeep (V : Valuation τ sig (Elt Ideal)) : after opsC V (Proc.devRef .tc main_v7) = V main_v7 := by
  after_reads_simp

theorem b7 (V : Valuation τ sig (Elt Ideal)) : after opsB V (Proc.devRef .tc main_v7) = concatenate S1024x4608 1 [⟨S1024x2560, V main_v2⟩, ⟨S1024x1280, V main_v3⟩, ⟨S1024x8, V main_v4⟩, ⟨S1024x24, V main_v5⟩, ⟨S1024x224, V main_v1⟩, ⟨S1024x512, V main_v6⟩]
      concatenates_S1024x2560_S1024x1280_S1024x8_S1024x24_S1024x224_S1024x512_S1024x4608_d1 := by
  simp only [opsB, after_cons, after_nil]
  exact nary_result ..

theorem bKeep (V : Valuation τ sig (Elt Ideal)) : after opsB V (Proc.devRef .tc main_arg3) = V main_arg3 := by
  simp only [opsB, after_cons, after_nil]
  exact nary_result_ne (h := by decide) ..

theorem aKeep (V : Valuation τ sig (Elt Ideal)) : after opsA V (Proc.devRef .tc main_arg3) = V main_arg3 := by
  after_reads_simp

theorem a2 (V : Valuation τ sig (Elt Ideal)) : after opsA V (Proc.devRef .tc main_v2) = extractStridedSlice S1024x2560 ![0, 0] (V main_arg2 : Vec Ideal S1024x4384 .bf16) slices_S1024x4384_S1024x2560_0_0 := by
  after_reads_simp
  all_goals rfl

theorem a3 (V : Valuation τ sig (Elt Ideal)) : after opsA V (Proc.devRef .tc main_v3) = extractStridedSlice S1024x1280 ![0, 2568] (V main_arg2 : Vec Ideal S1024x4384 .bf16) slices_S1024x4384_S1024x1280_0_2568 := by
  after_reads_simp
  all_goals rfl

theorem a4 (V : Valuation τ sig (Elt Ideal)) : after opsA V (Proc.devRef .tc main_v4) = extractStridedSlice S1024x8 ![0, 2560] (V main_arg2 : Vec Ideal S1024x4384 .bf16) slices_S1024x4384_S1024x8_0_2560 := by
  after_reads_simp
  all_goals rfl

theorem a5 (V : Valuation τ sig (Elt Ideal)) : after opsA V (Proc.devRef .tc main_v5) = extractStridedSlice S1024x24 ![0, 3848] (V main_arg2 : Vec Ideal S1024x4384 .bf16) slices_S1024x4384_S1024x24_0_3848 := by
  after_reads_simp
  all_goals rfl

theorem a6 (V : Valuation τ sig (Elt Ideal)) : after opsA V (Proc.devRef .tc main_v6) = extractStridedSlice S1024x512 ![0, 3872] (V main_arg2 : Vec Ideal S1024x4384 .bf16) slices_S1024x4384_S1024x512_0_3872 := by
  after_reads_simp
  all_goals rfl

theorem a1 (V : Valuation τ sig (Elt Ideal)) : after opsA V (Proc.devRef .tc main_v1) = broadcastInDim S1024x224 ![] bcast_S_S1024x224 (constant (F := Ideal) S_ .bf16 0x0000#16) := by
  after_reads_simp
  all_goals rfl

theorem c9 (V : Valuation τ sig (Elt Ideal)) : after opsC V (Proc.devRef .tc main_v9) = extractStridedSlice S2560 ![0] (V main_arg3) slices_S4384_S2560_0 := by
  after_reads_simp
  all_goals rfl

theorem c10 (V : Valuation τ sig (Elt Ideal)) : after opsC V (Proc.devRef .tc main_v10) = extractStridedSlice S1280 ![2568] (V main_arg3) slices_S4384_S1280_2568 := by
  after_reads_simp
  all_goals rfl

theorem c11 (V : Valuation τ sig (Elt Ideal)) : after opsC V (Proc.devRef .tc main_v11) = extractStridedSlice S8 ![2560] (V main_arg3) slices_S4384_S8_2560 := by
  after_reads_simp
  all_goals rfl

theorem c12 (V : Valuation τ sig (Elt Ideal)) : after opsC V (Proc.devRef .tc main_v12) = extractStridedSlice S24 ![3848] (V main_arg3) slices_S4384_S24_3848 := by
  after_reads_simp
  all_goals rfl

theorem c13 (V : Valuation τ sig (Elt Ideal)) : after opsC V (Proc.devRef .tc main_v13) = extractStridedSlice S512 ![3872] (V main_arg3) slices_S4384_S512_3872 := by
  after_reads_simp
  all_goals rfl

theorem c8 (V : Valuation τ sig (Elt Ideal)) : after opsC V (Proc.devRef .tc main_v8) = broadcastInDim S224 ![] bcast_S_S224 (constant (F := Ideal) S_ .f32 0x00000000#32) := by
  after_reads_simp
  all_goals rfl

/-- The weight's columns put together, whatever the pieces are called. -/
theorem genW (W : Vec Ideal S1024x4384 .bf16) (X : S1024x4608.Idx → EReal) (A : S1024x2560.Idx → EReal) (B : S1024x1280.Idx → EReal) (C : S1024x8.Idx → EReal) (D : S1024x24.Idx → EReal) (E : S1024x224.Idx → EReal) (G : S1024x512.Idx → EReal)
    (hX : X = concatenate S1024x4608 1 [⟨S1024x2560, A⟩, ⟨S1024x1280, B⟩, ⟨S1024x8, C⟩, ⟨S1024x24, D⟩, ⟨S1024x224, E⟩, ⟨S1024x512, G⟩] concatenates_S1024x2560_S1024x1280_S1024x8_S1024x24_S1024x224_S1024x512_S1024x4608_d1)
    (hA : A = extractStridedSlice S1024x2560 ![0, 0] W slices_S1024x4384_S1024x2560_0_0) (hB : B = extractStridedSlice S1024x1280 ![0, 2568] W slices_S1024x4384_S1024x1280_0_2568)
    (hC : C = extractStridedSlice S1024x8 ![0, 2560] W slices_S1024x4384_S1024x8_0_2560) (hD : D = extractStridedSlice S1024x24 ![0, 3848] W slices_S1024x4384_S1024x24_0_3848)
    (hE : E = broadcastInDim S1024x224 ![] bcast_S_S1024x224 (constant (F := Ideal) S_ .bf16 0x0000#16)) (hG : G = extractStridedSlice S1024x512 ![0, 3872] W slices_S1024x4384_S1024x512_0_3872) (k : Fin 1024) (j : Fin 4608) :
    X (ix2 k j) = pick (fun ch => W (ix2 k ch)) j := by
  subst hX hA hB hC hD hE hG
  exact catW W k j

/-- The bias's entries put together, whatever the pieces are called. -/
theorem genB (W : Vec Ideal S4384 .f32) (X : S1x4608.Idx → EReal) (Y : S4608.Idx → EReal) (A : S2560.Idx → EReal) (B : S1280.Idx → EReal) (C : S8.Idx → EReal) (D : S24.Idx → EReal) (E : S224.Idx → EReal) (G : S512.Idx → EReal)
    (hX : X = shapeCast S1x4608 Y shapeCasts_S4608_S1x4608)
    (hY : Y = concatenate S4608 0 [⟨S2560, A⟩, ⟨S1280, B⟩, ⟨S8, C⟩, ⟨S24, D⟩, ⟨S224, E⟩, ⟨S512, G⟩] concatenates_S2560_S1280_S8_S24_S224_S512_S4608_d0)
    (hA : A = extractStridedSlice S2560 ![0] W slices_S4384_S2560_0) (hB : B = extractStridedSlice S1280 ![2568] W slices_S4384_S1280_2568)
    (hC : C = extractStridedSlice S8 ![2560] W slices_S4384_S8_2560) (hD : D = extractStridedSlice S24 ![3848] W slices_S4384_S24_3848)
    (hE : E = broadcastInDim S224 ![] bcast_S_S224 (constant (F := Ideal) S_ .f32 0x00000000#32)) (hG : G = extractStridedSlice S512 ![3872] W slices_S4384_S512_3872) (j : Fin 4608) :
    X (ix2 0 j) = pick (fun ch => W (ix1 ch)) j := by
  have hXY : X (ix2 0 j) = Y (ix1 j) := by
    rw [hX]
    pointwise
  rw [hXY]
  subst hY hA hB hC hD hE hG
  exact catB W j

/-- The weight the windows read. -/
theorem v7_read (k : Fin 1024) (j : Fin 4608) : V m c main_v7 (ix2 k j) = pick (fun ch => m ((c : Thread nD τ).loc main_arg2) (ix2 k ch)) j :=
  genW _ _ _ _ _ _ _ _ ((congrFun (split _) _).trans ((eKeep _).trans ((dKeep _).trans ((cKeep _).trans (b7 _)))))
    (a2 (fun b => m (c, b))) (a3 _) (a4 _) (a5 _) (a1 _) (a6 _) k j

/-- The bias the windows read. -/
theorem v16_read (j : Fin 4608) : V m c main_v16 (ix2 0 j) = pick (fun ch => m ((c : Thread nD τ).loc main_arg3) (ix1 ch)) j := by
  have hK : ∀ W : Valuation τ sig (Elt Ideal), after opsB (after opsA W) (Proc.devRef .tc main_arg3) = W main_arg3 := fun W => (bKeep _).trans (aKeep _)
  exact genB _ _ _ _ _ _ _ _ _ ((congrFun (split _) _).trans (e16 _)) (d14 _)
    ((c9 (after opsB (after opsA (fun b => m (c, b))))).trans (congrArg (fun X => extractStridedSlice S2560 ![0] X slices_S4384_S2560_0) (hK _)))
    ((c10 _).trans (congrArg (fun X => extractStridedSlice S1280 ![2568] X slices_S4384_S1280_2568) (hK _)))
    ((c11 _).trans (congrArg (fun X => extractStridedSlice S8 ![2560] X slices_S4384_S8_2560) (hK _)))
    ((c12 _).trans (congrArg (fun X => extractStridedSlice S24 ![3848] X slices_S4384_S24_3848) (hK _))) (c8 _)
    ((c13 _).trans (congrArg (fun X => extractStridedSlice S512 ![3872] X slices_S4384_S512_3872) (hK _))) j

theorem dKeep15 (V : Valuation τ sig (Elt Ideal)) : after opsD V (Proc.devRef .tc main_arg1) = V main_arg1 := by
  simp only [opsD, after_cons, after_nil]
  exact nary_result_ne (h := by decide) ..

theorem bKeep15 (V : Valuation τ sig (Elt Ideal)) : after opsB V (Proc.devRef .tc main_arg1) = V main_arg1 := by
  simp only [opsB, after_cons, after_nil]
  exact nary_result_ne (h := by decide) ..

theorem e15 (V : Valuation τ sig (Elt Ideal)) : after opsE V (Proc.devRef .tc main_v15) = shapeCast S1x1024 (V main_arg1) shapeCasts_S1024_S1x1024 := by
  after_reads_simp
  all_goals rfl

theorem cKeep15 (V : Valuation τ sig (Elt Ideal)) : after opsC V (Proc.devRef .tc main_arg1) = V main_arg1 := by
  after_reads_simp

theorem aKeep15 (V : Valuation τ sig (Elt Ideal)) : after opsA V (Proc.devRef .tc main_arg1) = V main_arg1 := by
  after_reads_simp

theorem genG (X : S1x1024.Idx → EReal) (Y W : S1024.Idx → EReal) (hX : X = shapeCast S1x1024 Y shapeCasts_S1024_S1x1024) (hY : Y = W) (k : Fin 1024) : X (ix2 0 k) = W (ix1 k) := by
  rw [hX, hY]
  pointwise

/-- The norm's weight the windows read. -/
theorem v15_read (k : Fin 1024) : V m c main_v15 (ix2 0 k) = m ((c : Thread nD τ).loc main_arg1) (ix1 k) :=
  genG _ _ _ ((congrFun (split _) _).trans (e15 _)) ((dKeep15 _).trans ((cKeep15 _).trans ((bKeep15 _).trans (aKeep15 _)))) k

end Cert.Proof.Even
end
-- ==== Proof.EvenKer.lean ====
module
public import proofs.«01_k».proof.Proof.EvenStep
public import proofs.«01_k».proof.Proof.EvenHost

/-!
# The even layer's projection at the kernel

The scratch holds the tile's normalized rows at every point of the tile; each point's block of the wide result is the
reordered projection, and so is the narrow result.
-/

@[expose] public section
set_option maxRecDepth 16384
noncomputable section
namespace Cert.Proof.Even
open Idealize.ShloMosaic Idealize.ShloMosaic.TcCoe Idealize.SL.Sem Cert.Kernel2Ideal Cert.Kernel2Ideal.Gen
variable (m : (ℓ : Loc nD τ sig) → Buf (Elt Ideal) ℓ) (c : Dev nD)

/-- Which block of each array a point has. -/
theorem idx : ∀ t : Fin cfg0.N, win0_0.index t = ![t.val / 3, 0] ∧ win0_1.index t = ![0, 0] ∧ win0_2.index t = ![0, t.val % 3] ∧ win0_3.index t = ![0, t.val % 3]
    ∧ win0_4.index t = ![t.val / 3, t.val % 3] ∧ win0_5.index t = ![t.val / 3, 0] := by decide +kernel

theorem blk0 (X : Vec Ideal S16384x1024 .f32) (t : Fin cfg0.N) (r : Fin 2048) (ch : Fin 1024) (p : Fin 16384) (hp : p.val = t.val / 3 * 2048 + r.val) :
    ((cfg0.win 0).blk t).view.read (Elt Ideal) X (ix2 r ch) = X (ix2 p ch) := by
  have e := (idx t).1
  refine congrArg X ?_
  funext a
  apply Fin.ext
  match a with
  | ⟨0, _⟩ => blk_simp [e]; exact hp.symm
  | ⟨1, _⟩ => blk_simp [e]

theorem blk1 (X : Vec Ideal S1x1024 .f32) (t : Fin cfg0.N) (ch : Fin 1024) :
    ((cfg0.win 1).blk t).view.read (Elt Ideal) X (ix2 0 ch) = X (ix2 0 ch) := by
  have e := (idx t).2.1
  refine congrArg X ?_
  funext a
  apply Fin.ext
  match a with
  | ⟨0, _⟩ => blk_simp [e]
  | ⟨1, _⟩ => blk_simp [e]

theorem blk2 (X : Vec Ideal S1024x4608 .bf16) (t : Fin cfg0.N) (k : Fin 1024) (ch : Fin 1536) (q : Fin 4608) (hq : q.val = t.val % 3 * 1536 + ch.val) :
    ((cfg0.win 2).blk t).view.read (Elt Ideal) X (ix2 k ch) = X (ix2 k q) := by
  have e := (idx t).2.2.1
  refine congrArg X ?_
  funext a
  apply Fin.ext
  match a with
  | ⟨0, _⟩ => blk_simp [e]
  | ⟨1, _⟩ => blk_simp [e]; exact hq.symm

theorem blk3 (X : Vec Ideal S1x4608 .f32) (t : Fin cfg0.N) (ch : Fin 1536) (q : Fin 4608) (hq : q.val = t.val % 3 * 1536 + ch.val) :
    ((cfg0.win 3).blk t).view.read (Elt Ideal) X (ix2 0 ch) = X (ix2 0 q) := by
  have e := (idx t).2.2.2.1
  refine congrArg X ?_
  funext a
  apply Fin.ext
  match a with
  | ⟨0, _⟩ => blk_simp [e]
  | ⟨1, _⟩ => blk_simp [e]; exact hq.symm

theorem blk4 (X : S16384x4608.Idx → EReal) (t : Fin cfg0.N) (r : Fin 2048) (ch : Fin 1536) (p : Fin 16384) (hp : p.val = t.val / 3 * 2048 + r.val) (q : Fin 4608) (hq : q.val = t.val % 3 * 1536 + ch.val) :
    X (((cfg0.win 4).blk t).view.emb (ix2 r ch)) = X (ix2 p q) := by
  have e := (idx t).2.2.2.2.1
  refine congrArg X ?_
  funext a
  apply Fin.ext
  match a with
  | ⟨0, _⟩ => blk_simp [e]; exact hp.symm
  | ⟨1, _⟩ => blk_simp [e]; exact hq.symm

theorem blk5 (X : S16384x128.Idx → EReal) (t : Fin cfg0.N) (r : Fin 2048) (ch : Fin 128) (p : Fin 16384) (hp : p.val = t.val / 3 * 2048 + r.val) :
    X (((cfg0.win 5).blk t).view.emb (ix2 r ch)) = X (ix2 p ch) := by
  have e := (idx t).2.2.2.2.2
  refine congrArg X ?_
  funext a
  apply Fin.ext
  match a with
  | ⟨0, _⟩ => blk_simp [e]; exact hp.symm
  | ⟨1, _⟩ => blk_simp [e]

/-- The normalized rows at the kernel's arguments. -/
def N (p : Fin 16384) (k : Fin 1024) : EReal := nrm (m ((c : Thread nD τ).loc main_arg0)) (m ((c : Thread nD τ).loc main_arg1)) p k

/-- The reordered projection at the kernel's arguments. -/
def Y (p : Fin 16384) (q : Fin 4608) : EReal :=
  pick (proj (m ((c : Thread nD τ).loc main_arg0)) (m ((c : Thread nD τ).loc main_arg1)) (m ((c : Thread nD τ).loc main_arg2)) (m ((c : Thread nD τ).loc main_arg3)) p) q

/-- A tile's first point normalizes the tile's rows. -/
theorem fresh (t : Fin cfg0.N) (r : Fin 2048) (k : Fin 1024) (p : Fin 16384) (hp : p.val = t.val / 3 * 2048 + r.val) :
    k0_pay1 (F := Ideal) (iblk m c 0 t) (iblk m c 1 t) (ix2 r k) = N m c p k := by
  rw [pay1]
  unfold N nrm
  have hx : ∀ q, iblk m c 0 t (ix2 r q) = m ((c : Thread nD τ).loc main_arg0) (ix2 p q) := fun q =>
    (blk0 (V m c main_arg0) t r q p hp).trans (congrFun (V_main_arg0 m c) _)
  have hg : iblk m c 1 t (ix2 0 k) = m ((c : Thread nD τ).loc main_arg1) (ix1 k) := (blk1 (V m c main_v15) t k).trans (v15_read m c k)
  simp only [hx]
  exact congrArg (fun z => _ * z) hg

/-- The scratch after a point: the normalized rows of the point's tile. -/
theorem scratch (n : ℕ) : ∀ (hn : n < cfg0.N) (r : Fin 2048) (k : Fin 1024) (p : Fin 16384) (_ : p.val = n / 3 * 2048 + r.val),
    (outsAt0 m c n hn).2.2 (ix2 r k) = N m c p k := by
  induction n with
  | zero =>
    intro hn r k p hp
    exact (congrFun (sA m c ⟨0, hn⟩ (Nat.zero_mod 3) (by dsimp only; omega)) _).trans (fresh m c ⟨0, hn⟩ r k p hp)
  | succ n ih =>
    intro hn r k p hp
    by_cases h0 : (n + 1) % 3 = 0
    · exact (congrFun (sA m c ⟨n + 1, hn⟩ h0 (by dsimp only; omega)) _).trans (fresh m c ⟨n + 1, hn⟩ r k p hp)
    · have e : n / 3 = (n + 1) / 3 := by omega
      by_cases h1 : (n + 1) % 3 = 2
      · exact (congrFun (sC m c ⟨n + 1, hn⟩ h0 h1) _).trans (ih _ r k p (by rw [e]; exact hp))
      · exact (congrFun (sB m c ⟨n + 1, hn⟩ h0 h1) _).trans (ih _ r k p (by rw [e]; exact hp))

/-- The product of normalized rows with the point's columns. -/
theorem prod (t : Fin cfg0.N) (h : Vec Ideal S2048x1024 .bf16) (r : Fin 2048) (p : Fin 16384) (hh : ∀ k : Fin 1024, h (ix2 r k) = N m c p k)
    (j : Fin 1536) (q : Fin 4608) (hq : q.val = t.val % 3 * 1536 + j.val) :
    (∑ k : Fin 1024, h (ix2 r k) * (iblk m c 2 t : Vec Ideal S1024x1536 .bf16) (ix2 k j)) + (iblk m c 3 t : Vec Ideal S1x1536 .f32) (ix2 0 j) = Y m c p q := by
  refine Eq.trans ?_ (pick_proj _ _ _ _ p q)
  refine congrArg₂ (· + ·) (Finset.sum_congr rfl fun k _ => congrArg₂ (· * ·) (hh k) ?_) ?_
  · exact (blk2 (V m c main_v7) t k j q hq).trans (v7_read m c k q)
  · exact (blk3 (V m c main_v16) t j q hq).trans (v16_read m c q)

/-- The block of the wide result a point leaves. -/
theorem wide (t : Fin cfg0.N) (r : Fin 2048) (j : Fin 1536) (p : Fin 16384) (hp : p.val = t.val / 3 * 2048 + r.val) (q : Fin 4608) (hq : q.val = t.val % 3 * 1536 + j.val) :
    (outsAt0 m c t.val t.isLt).1 (ix2 r j) = Y m c p q := by
  by_cases h0 : t.val % 3 = 0
  · rw [oA m c t h0 (by omega), pay3]
    exact prod m c t _ r p (fun k => fresh m c t r k p hp) j q hq
  · have hs : ∀ k, (outsAt0 m c (t.val - 1) (Nat.lt_of_le_of_lt (Nat.sub_le _ _) t.isLt)).2.2 (ix2 r k) = N m c p k := fun k =>
      scratch m c _ _ r k p (by rw [hp]; congr 2; omega)
    by_cases h1 : t.val % 3 = 2
    · rw [oC m c t h0 h1, pay3]
      exact prod m c t _ r p hs j q hq
    · rw [oB m c t h0 h1, pay3]
      exact prod m c t _ r p hs j q hq

/-- The block of the narrow result a tile's last point leaves. -/
theorem narrow (t : Fin cfg0.N) (h1 : t.val % 3 = 2) (r : Fin 2048) (j : Fin 128) (p : Fin 16384) (hp : p.val = t.val / 3 * 2048 + r.val) (q : Fin 4608) (hq : q.val = 3840 + j.val) :
    (outsAt0 m c t.val t.isLt).2.1 (ix2 r j) = Y m c p q := by
  have hs : ∀ k, (outsAt0 m c (t.val - 1) (Nat.lt_of_le_of_lt (Nat.sub_le _ _) t.isLt)).2.2 (ix2 r k) = N m c p k := fun k =>
    scratch m c _ _ r k p (by rw [hp]; congr 2; omega)
  rw [gC m c t (by omega) h1, pay4]
  exact prod m c t _ r p hs _ q (by rw [h1, hq]; dsimp only; omega)

/-- The wide result. -/
def W : S16384x4608.Idx → EReal := fun i => Y m c (i 0) (i 1)

/-- The narrow result. -/
def S : S16384x128.Idx → EReal := fun i => Y m c (i 0) ⟨3840 + (i 1).val, by have h : (i 1).val < 128 := (i 1).isLt; omega⟩

theorem final4 : (dats m 0 c).arrAt 4 cfg0.N = W m c := by
  refine (dats m 0 c).arrAt_eq_of_covers 4 _ (by decide +kernel) fun t hf y => ?_
  blk_simp
  rw [after0_4]
  have ey : y = ix2 (y 0) (y 1) := ValueIdx.eq_ix2 y
  rw [ey]
  have h0 : (y 0).val < 2048 := (y 0).isLt
  have h1 : (y 1).val < 1536 := (y 1).isLt
  have ht : t.val < 24 := lt_of_lt_of_eq t.isLt N_0
  let p : Fin 16384 := ⟨t.val / 3 * 2048 + (y 0).val, by omega⟩
  let q : Fin 4608 := ⟨t.val % 3 * 1536 + (y 1).val, by omega⟩
  exact (wide m c t (y 0) (y 1) p rfl q rfl).trans (blk4 (W m c) t (y 0) (y 1) p rfl q rfl).symm

theorem flush5 : ∀ t : Fin cfg0.N, (cfg0.win 5).flush t = true → t.val % 3 = 2 := by decide +kernel

theorem final5 : (dats m 0 c).arrAt 5 cfg0.N = S m c := by
  refine (dats m 0 c).arrAt_eq_of_covers 5 _ (by decide +kernel) fun t hf y => ?_
  have hl := flush5 t hf
  blk_simp
  rw [after0_5]
  have ey : y = ix2 (y 0) (y 1) := ValueIdx.eq_ix2 y
  rw [ey]
  have h0 : (y 0).val < 2048 := (y 0).isLt
  have h1 : (y 1).val < 128 := (y 1).isLt
  have ht : t.val < 24 := lt_of_lt_of_eq t.isLt N_0
  let p : Fin 16384 := ⟨t.val / 3 * 2048 + (y 0).val, by omega⟩
  exact (narrow m c t hl (y 0) (y 1) p rfl ⟨3840 + (y 1).val, by omega⟩ rfl).trans (blk5 (S m c) t (y 0) (y 1) p rfl).symm

end Cert.Proof.Even
end
-- ==== Proof.EvenRef.lean ====
module
public import proofs.«01_k».proof.Proof.EvenSpec
public import Idealize.ShloMosaic.Lib.Tactic.CleanTypes
public import proofs.«01_k».proof.Proof.Gen.Reference2Ideal.Run

/-!
# The even layer's projection at the reference
-/

@[expose] public section
set_option maxRecDepth 16384
noncomputable section
namespace Cert.Proof.Even.Ref
open Idealize.ShloMosaic Idealize.ShloMosaic.TcCoe Idealize.SL.Sem Cert.Reference2Ideal Cert.Reference2Ideal.Gen Cert.Reference2Ideal.Value

theorem wide (P : Vec Ideal S16384x4384 .f32) (i : Fin 16384) (j : Fin 4608) :
    fn_main_v25 (F := Ideal) (extractStridedSlice S16384x2560 ![0, 0] P slices_S16384x4384_S16384x2560_0_0) (extractStridedSlice S16384x1280 ![0, 2568] P slices_S16384x4384_S16384x1280_0_2568)
      (fn_main_v20 (F := Ideal) (extractStridedSlice S16384x8 ![0, 2560] P slices_S16384x4384_S16384x8_0_2560) (extractStridedSlice S16384x24 ![0, 3848] P slices_S16384x4384_S16384x24_0_3848)
        (broadcastInDim S16384x96 ![] bcast_S_S16384x96 (constant (F := Ideal) S_ .f32 0x00000000#32)))
      (broadcastInDim S16384x128 ![] bcast_S_S16384x128 (constant (F := Ideal) S_ .f32 0x00000000#32)) (extractStridedSlice S16384x512 ![0, 3872] P slices_S16384x4384_S16384x512_0_3872) (ix2 i j) = pick (fun ch => P (ix2 i ch)) j := by
  clean_types
  pointwise [fn_main_v25, fn_main_v20]
  split_ifs <;> first
    | (exfalso; omega)
    | exact pick1 (fun z => P (ix2 i z)) _ _ (by first | omega | (dsimp only <;> omega)) (by first | omega | (dsimp only <;> omega))
    | exact pick2 (fun z => P (ix2 i z)) _ _ (by first | omega | (dsimp only <;> omega)) (by first | omega | (dsimp only <;> omega)) (by first | omega | (dsimp only <;> omega))
    | exact pick3 (fun z => P (ix2 i z)) _ _ (by first | omega | (dsimp only <;> omega)) (by first | omega | (dsimp only <;> omega)) (by first | omega | (dsimp only <;> omega)) (by first | omega | (dsimp only <;> omega))
    | exact pick4 (fun z => P (ix2 i z)) _ _ (by first | omega | (dsimp only <;> omega)) (by first | omega | (dsimp only <;> omega)) (by first | omega | (dsimp only <;> omega)) (by first | omega | (dsimp only <;> omega)) (by first | omega | (dsimp only <;> omega))
    | exact pick5 (fun z => P (ix2 i z)) _ (by first | omega | (dsimp only <;> omega)) (by first | omega | (dsimp only <;> omega)) (by first | omega | (dsimp only <;> omega)) (by first | omega | (dsimp only <;> omega)) (by first | omega | (dsimp only <;> omega))
    | exact pick6 (fun z => P (ix2 i z)) _ _ (by first | omega | (dsimp only <;> omega)) (by first | omega | (dsimp only <;> omega)) (by first | omega | (dsimp only <;> omega)) (by first | omega | (dsimp only <;> omega)) (by first | omega | (dsimp only <;> omega)) (by first | omega | (dsimp only <;> omega))

theorem small (P : Vec Ideal S16384x4384 .f32) (i : Fin 16384) (j : Fin 128) (j' : Fin 4608) (hj : j'.val = 3840 + j.val) :
    fn_main_v20 (F := Ideal) (extractStridedSlice S16384x8 ![0, 2560] P slices_S16384x4384_S16384x8_0_2560) (extractStridedSlice S16384x24 ![0, 3848] P slices_S16384x4384_S16384x24_0_3848)
        (broadcastInDim S16384x96 ![] bcast_S_S16384x96 (constant (F := Ideal) S_ .f32 0x00000000#32)) (ix2 i j) = pick (fun ch => P (ix2 i ch)) j' := by
  clean_types
  pointwise [fn_main_v20]
  split_ifs <;> first
    | (exfalso; omega)
    | exact pick1 (fun z => P (ix2 i z)) _ _ (by first | omega | (dsimp only <;> omega)) (by first | omega | (dsimp only <;> omega))
    | exact pick2 (fun z => P (ix2 i z)) _ _ (by first | omega | (dsimp only <;> omega)) (by first | omega | (dsimp only <;> omega)) (by first | omega | (dsimp only <;> omega))
    | exact pick3 (fun z => P (ix2 i z)) _ _ (by first | omega | (dsimp only <;> omega)) (by first | omega | (dsimp only <;> omega)) (by first | omega | (dsimp only <;> omega)) (by first | omega | (dsimp only <;> omega))
    | exact pick4 (fun z => P (ix2 i z)) _ _ (by first | omega | (dsimp only <;> omega)) (by first | omega | (dsimp only <;> omega)) (by first | omega | (dsimp only <;> omega)) (by first | omega | (dsimp only <;> omega)) (by first | omega | (dsimp only <;> omega))
    | exact pick5 (fun z => P (ix2 i z)) _ (by first | omega | (dsimp only <;> omega)) (by first | omega | (dsimp only <;> omega)) (by first | omega | (dsimp only <;> omega)) (by first | omega | (dsimp only <;> omega)) (by first | omega | (dsimp only <;> omega))
    | exact pick6 (fun z => P (ix2 i z)) _ _ (by first | omega | (dsimp only <;> omega)) (by first | omega | (dsimp only <;> omega)) (by first | omega | (dsimp only <;> omega)) (by first | omega | (dsimp only <;> omega)) (by first | omega | (dsimp only <;> omega)) (by first | omega | (dsimp only <;> omega))

/-- The projection. -/
def P (x : Vec Ideal S16384x1024 .f32) (g : Vec Ideal S1024 .f32) (w : Vec Ideal S1024x4384 .f32) (b : Vec Ideal S4384 .f32) : FVec Ideal S16384x4384 .f32 :=
  addf (F := Ideal) (Host.dotGeneral (F := Ideal) (φ₁ := .f32) (φ₂ := .f32) dot_S16384x1024_S1024x4384_S16384x4384_1_0_0_1_n_n none
    (mulf (mulf x (broadcastInDim S16384x1024 ![0, 1] bcast_S16384x1_S16384x1024_0_1 (Host.rsqrt (addf (Host.divf (broadcastInDim S16384x1 ![0] bcast_S16384_S16384x1_0
      (Host.reduceAdd (F := Ideal) (mulf x x) (constant S_ .f32 0x00000000#32) reducesTo_S16384x1024_S16384_d1 h_S_)) (broadcastInDim S16384x1 ![] bcast_S_S16384x1 (constant S_ .f32 0x44800000#32)))
      (broadcastInDim S16384x1 ![] bcast_S_S16384x1 (constant S_ .f32 0x358637BD#32))))))
      (broadcastInDim S16384x1024 ![0, 1] bcast_S1x1024_S16384x1024_0_1 (broadcastInDim S1x1024 ![1] bcast_S1024_S1x1024_1 g))) w)
    (broadcastInDim S16384x4384 ![0, 1] bcast_S1x4384_S16384x4384_0_1 (broadcastInDim S1x4384 ![1] bcast_S4384_S1x4384_1 b))

theorem P_at (x : Vec Ideal S16384x1024 .f32) (g : Vec Ideal S1024 .f32) (w : Vec Ideal S1024x4384 .f32) (b : Vec Ideal S4384 .f32) (i : Fin 16384) (ch : Fin 4384) :
    P x g w b (ix2 i ch) = proj x g w b i ch := by
  unfold proj nrm
  clean_types
  pointwise [P]

end Cert.Proof.Even.Ref
end
-- ==== Proof.EvenProj.lean ====
module
public import proofs.«01_k».proof.Defs
public import proofs.«01_k».proof.Proof.EvenKer
public import proofs.«01_k».proof.Proof.EvenRef
public import Idealize.ShloMosaic.Lib.Claim

/-!
# The even layer's projection: the kernel and the reference agree
-/

@[expose] public section
set_option maxRecDepth 16384
noncomputable section
namespace Cert.Proof.Even
open Idealize.ShloMosaic Idealize.ShloMosaic.TcCoe Idealize.SL.Sem

/-- The reference's wide result. -/
theorem ref_wide (x : Vec Ideal Cert.Reference2Ideal.S16384x1024 .f32) (g : Vec Ideal Cert.Reference2Ideal.S1024 .f32) (w : Vec Ideal Cert.Reference2Ideal.S1024x4384 .f32) (b : Vec Ideal Cert.Reference2Ideal.S4384 .f32)
    (m : (ℓ : Loc Cert.Reference2Ideal.nD Cert.Reference2Ideal.τ Cert.Reference2Ideal.sig) → Buf (Elt Ideal) ℓ) (c : Dev Cert.Reference2Ideal.nD)
    (h0 : m ((c.tc : Thread Cert.Reference2Ideal.nD Cert.Reference2Ideal.τ).loc Cert.Reference2Ideal.main_arg0) = x)
    (h1 : m ((c.tc : Thread Cert.Reference2Ideal.nD Cert.Reference2Ideal.τ).loc Cert.Reference2Ideal.main_arg1) = g)
    (h2 : m ((c.tc : Thread Cert.Reference2Ideal.nD Cert.Reference2Ideal.τ).loc Cert.Reference2Ideal.main_arg2) = w)
    (h3 : m ((c.tc : Thread Cert.Reference2Ideal.nD Cert.Reference2Ideal.τ).loc Cert.Reference2Ideal.main_arg3) = b) :
    Cert.Reference2Ideal.Value.res_main_v26 m c = fun i => pick (proj x g w b (i 0)) (i 1) := by
  funext i
  have ei : i = ix2 (i 0) (i 1) := ValueIdx.eq_ix2 i
  subst h0 h1 h2 h3
  rw [ei]
  refine Eq.trans ?_ ((Ref.wide (Ref.P _ _ _ _) (i 0) (i 1)).trans (congrArg (fun f => pick f (i 1)) (funext fun ch => Ref.P_at _ _ _ _ (i 0) ch)))
  rfl

/-- The reference's narrow result. -/
theorem ref_small (x : Vec Ideal Cert.Reference2Ideal.S16384x1024 .f32) (g : Vec Ideal Cert.Reference2Ideal.S1024 .f32) (w : Vec Ideal Cert.Reference2Ideal.S1024x4384 .f32) (b : Vec Ideal Cert.Reference2Ideal.S4384 .f32)
    (Z : Vec Ideal Cert.Reference2Ideal.S16384x128 .f32)
    (hZ : Z = Cert.Reference2Ideal.Value.fn_main_v20 (F := Ideal) (extractStridedSlice Cert.Reference2Ideal.S16384x8 ![0, 2560] (Ref.P x g w b) Cert.Reference2Ideal.Gen.facts.slices_S16384x4384_S16384x8_0_2560)
      (extractStridedSlice Cert.Reference2Ideal.S16384x24 ![0, 3848] (Ref.P x g w b) Cert.Reference2Ideal.Gen.facts.slices_S16384x4384_S16384x24_0_3848)
        (broadcastInDim Cert.Reference2Ideal.S16384x96 ![] Cert.Reference2Ideal.Gen.facts.bcast_S_S16384x96 (constant (F := Ideal) Cert.Reference2Ideal.S_ .f32 0x00000000#32))) :
    Z = fun i => pick (proj x g w b (i 0)) ⟨3840 + (i 1).val, by have h : (i 1).val < 128 := (i 1).isLt; omega⟩ := by
  funext i
  have ei : i = ix2 (i 0) (i 1) := ValueIdx.eq_ix2 i
  rw [ei, hZ]
  exact (Ref.small (Ref.P x g w b) (i 0) (i 1) ⟨3840 + (i 1).val, by have h : (i 1).val < 128 := (i 1).isLt; omega⟩ rfl).trans
    (congrArg (fun f => pick f _) (funext fun ch => Ref.P_at _ _ _ _ (i 0) ch))

/-- The reference's arguments end unchanged; it has no semaphore. -/
theorem ref_frame : Cert.quiescent_Reference2Ideal := fun m g _ =>
  (θ_run _ _ _).mono (fun r h => ⟨fun c => (h c).2.2, Idealize.ShloMosaic.sem_eq_zero_of_no_sems (by decide) r.2⟩) (Cert.Reference2Ideal.Value.run m g)

/-- The kernel and the reference, from the same arguments, end with the same results. -/
theorem same : Cert.algebraic_Kernel2Ideal_Reference2Ideal := fun m g m' g' _ hargs =>
  ⟨fun c => W m c, fun c => S m c,
    (θ_run _ _ _).mono (fun _ h c => ⟨(h c).1.trans (final4 m c), (h c).2.1.trans (final5 m c), (h c).2.2⟩) (Cert.Kernel2Ideal.Value.run_blocks m g),
    (θ_run _ _ _).mono (fun _ h c => ⟨(h c).1.trans (ref_wide _ _ _ _ m' c (hargs c).1 (hargs c).2.1 (hargs c).2.2.1 (hargs c).2.2.2),
      ref_small _ _ _ _ _ ((h c).2.1.trans (by
        obtain ⟨h0, h1, h2, h3⟩ := hargs c
        rw [h0, h1, h2, h3]
        rfl)), (h c).2.2⟩) (Cert.Reference2Ideal.Value.run m' g')⟩

end Cert.Proof.Even
end
-- ==== Proof.LastProj.lean ====
module
public import proofs.«01_k».proof.Proof.Gen.Kernel3Ideal.Value
public import proofs.«01_k».proof.Proof.Gen.Reference3Ideal.Run
public import proofs.«01_k».proof.Defs
public import Idealize.ShloMosaic.Lib.Pointwise
public import Idealize.ShloMosaic.Lib.Claim
public import Idealize.ShloMosaic.Lib.Pipeline.ValueKit
public import Idealize.ShloMosaic.Lib.StableHlo.RunRead
public import Idealize.ShloMosaic.Lib.Tactic.CleanTypes

/-!
# The last projection

The odd layer's output projection added to the residual stream, at the kernel and at the reference.
-/

@[expose] public section
set_option maxRecDepth 16384
noncomputable section
namespace Cert.Proof.Last
open Idealize.ShloMosaic Idealize.ShloMosaic.TcCoe Idealize.SL.Sem

/-- The residual stream plus the product. -/
def sumProd (y x : (⟨2, ![16384, 1024]⟩ : Shape).Idx → EReal) (w : (⟨2, ![1024, 1024]⟩ : Shape).Idx → EReal) (i : Fin 16384) (j : Fin 1024) : EReal :=
  x (ix2 i j) + ∑ k : Fin 1024, y (ix2 i k) * w (ix2 k j)

namespace Ker
open Cert.Kernel3Ideal Cert.Kernel3Ideal.Gen
variable (m : (ℓ : Loc nD τ sig) → Buf (Elt Ideal) ℓ) (c : Dev nD)

/-- Which block of each array a point has. -/
theorem idx : ∀ t : Fin cfg0.N, win0_0.index t = ![t.val, 0] ∧ win0_1.index t = ![0, 0] ∧ win0_2.index t = ![t.val, 0] ∧ win0_3.index t = ![t.val, 0] := by decide +kernel

/-- What a point computes. -/
theorem pay (x : Vec Ideal S1024x1024 .f32) (y w : Vec Ideal S1024x1024 .bf16) (r : Fin 1024) (j : Fin 1024) :
    k0_pay1 (F := Ideal) x y w (ix2 r j) = x (ix2 r j) + ∑ k : Fin 1024, y (ix2 r k) * w (ix2 k j) := by
  clean_types
  pointwise [k0_pay1]

theorem blk0 (X : Vec Ideal S16384x1024 .bf16) (t : Fin cfg0.N) (r : Fin 1024) (ch : Fin 1024) (p : Fin 16384) (hp : p.val = t.val * 1024 + r.val) :
    ((cfg0.win 0).blk t).view.read (Elt Ideal) X (ix2 r ch) = X (ix2 p ch) := by
  have e := (idx t).1
  refine congrArg X ?_
  funext a
  apply Fin.ext
  match a with
  | ⟨0, _⟩ => blk_simp [e]; exact hp.symm
  | ⟨1, _⟩ => blk_simp [e]

theorem blk1 (X : Vec Ideal S1024x1024 .bf16) (t : Fin cfg0.N) (r : Fin 1024) (ch : Fin 1024) :
    ((cfg0.win 1).blk t).view.read (Elt Ideal) X (ix2 r ch) = X (ix2 r ch) := by
  have e := (idx t).2.1
  refine congrArg X ?_
  funext a
  apply Fin.ext
  match a with
  | ⟨0, _⟩ => blk_simp [e]
  | ⟨1, _⟩ => blk_simp [e]

theorem blk2 (X : Vec Ideal S16384x1024 .f32) (t : Fin cfg0.N) (r : Fin 1024) (ch : Fin 1024) (p : Fin 16384) (hp : p.val = t.val * 1024 + r.val) :
    ((cfg0.win 2).blk t).view.read (Elt Ideal) X (ix2 r ch) = X (ix2 p ch) := by
  have e := (idx t).2.2.1
  refine congrArg X ?_
  funext a
  apply Fin.ext
  match a with
  | ⟨0, _⟩ => blk_simp [e]; exact hp.symm
  | ⟨1, _⟩ => blk_simp [e]

theorem blk3 (X : S16384x1024.Idx → EReal) (t : Fin cfg0.N) (r : Fin 1024) (ch : Fin 1024) (p : Fin 16384) (hp : p.val = t.val * 1024 + r.val) :
    X (((cfg0.win 3).blk t).view.emb (ix2 r ch)) = X (ix2 p ch) := by
  have e := (idx t).2.2.2
  refine congrArg X ?_
  funext a
  apply Fin.ext
  match a with
  | ⟨0, _⟩ => blk_simp [e]; exact hp.symm
  | ⟨1, _⟩ => blk_simp [e]

/-- The weight the windows read is the argument. -/
theorem v0_read : V m c main_v0 = m ((c : Thread nD τ).loc main_arg1) := by
  entry_read
  rfl

/-- The array of the result. -/
def G : S16384x1024.Idx → EReal := fun i =>
  sumProd (m ((c : Thread nD τ).loc main_arg0)) (m ((c : Thread nD τ).loc main_arg2)) (m ((c : Thread nD τ).loc main_arg1)) (i 0) (i 1)

/-- The kernel's result. -/
theorem final : (dats m 0 c).arrAt 3 cfg0.N = G m c := by
  refine (dats m 0 c).arrAt_eq_of_covers 3 _ (by decide +kernel) fun t hf y => ?_
  blk_simp
  rw [after0_3]
  frame_out
  have ey : y = ix2 (y 0) (y 1) := ValueIdx.eq_ix2 y
  rw [ey]
  have h0 : (y 0).val < 1024 := (y 0).isLt
  have ht : t.val < 16 := t.isLt
  let p : Fin 16384 := ⟨t.val * 1024 + (y 0).val, by omega⟩
  refine (pay _ _ _ (y 0) (y 1)).trans (Eq.trans ?_ (blk3 (G m c) t (y 0) (y 1) p rfl).symm)
  show _ = sumProd _ _ _ p (y 1)
  unfold sumProd
  refine congrArg₂ (· + ·) ((blk2 (V m c main_arg2) t (y 0) (y 1) p rfl).trans (congrFun (V_main_arg2 m c) _)) (Finset.sum_congr rfl fun k _ => ?_)
  exact congrArg₂ (· * ·) ((blk0 (V m c main_arg0) t (y 0) k p rfl).trans (congrFun (V_main_arg0 m c) _))
    ((blk1 (V m c main_v0) t k (y 1)).trans (congrFun (v0_read m c) _))
end Ker

namespace Ref
open Cert.Reference3Ideal Cert.Reference3Ideal.Gen Cert.Reference3Ideal.Value

/-- The reference's result. -/
theorem final (y : Vec Ideal S16384x1024 .bf16) (w : Vec Ideal S1024x1024 .f32) (x : Vec Ideal S16384x1024 .f32) :
    addf (F := Ideal) x (Host.dotGeneral (F := Ideal) (φ₁ := .f32) (φ₂ := .f32) dot_S16384x1024_S1024x1024_S16384x1024_1_0_0_1_n_n none (extf .f32 y bitsLt_bf16_f32) w)
      = fun i => sumProd y x w (i 0) (i 1) := by
  funext i
  have ei : i = ix2 (i 0) (i 1) := ValueIdx.eq_ix2 i
  rw [ei]
  generalize (i 0) = a
  generalize (i 1) = b
  change Fin 16384 at a
  change Fin 1024 at b
  show _ = sumProd y x w a b
  unfold sumProd
  clean_types
  pointwise
end Ref

/-- The reference's arguments end unchanged; it has no semaphore. -/
theorem ref_frame : Cert.quiescent_Reference3Ideal := fun m g _ =>
  (θ_run _ _ _).mono (fun r h => ⟨fun c => (h c).2, Idealize.ShloMosaic.sem_eq_zero_of_no_sems (by decide) r.2⟩) (Cert.Reference3Ideal.Value.run m g)

/-- The kernel and the reference, from the same arguments, end with the same result. -/
theorem same : Cert.algebraic_Kernel3Ideal_Reference3Ideal := fun m g m' g' _ hargs =>
  ⟨fun c => Ker.G m c,
    (θ_run _ _ _).mono (fun _ h c => ⟨(h c).1.trans (Ker.final m c), (h c).2⟩) (Cert.Kernel3Ideal.Value.run_blocks m g),
    (θ_run _ _ _).mono (fun _ h c => ⟨(h c).1.trans ((Ref.final _ _ _).trans (by
      obtain ⟨h0, h1, h2⟩ := hargs c
      rw [h0, h1, h2]
      rfl)), (h c).2⟩) (Cert.Reference3Ideal.Value.run m' g')⟩
end Cert.Proof.Last
end
-- ==== Proof.MidRunIdeal.lean ====
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Pipeline.Frame
public import Idealize.ShloMosaic.Lib.Pipeline.TableIdle
public import Idealize.ShloMosaic.Lib.Claim
public import Idealize.ShloMosaic.Lib.Ring
public import Idealize.ShloMosaic.Lib.Tactic
public import Idealize.ShloMosaic.Lib.WordCmp

/-!
# The run of the call between the layers (Kernel4Ideal)

The grid is 16 blocks of rows by 4 blocks of columns. At the first column block of a row block the body stores
the new residual stream, the forget gate's columns and, in its scratch, the normalised rows; at the other three
it stores the projection's columns alone. The two outputs stored once per row block are written back after its
last point, so what their buffers hold is followed through the points that leave them alone.
-/

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Up to the call -/

/-- A core's buffers when the call is reached. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program up to the call: the operations of the host. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No operation of the host writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No operation of the host writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No operation of the host writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No operation of the host writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No operation of the host writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No operation of the host writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No operation of the host writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- A window's block at a point, of its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input 0's buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input 1's buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input 2's buffer holds its block at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input 3's buffer holds its block at every point. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input 4's buffer holds its block at every point. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input 5's buffer holds its block at every point. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input 6's buffer holds its block at every point. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input 7's buffer holds its block at every point. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- The arguments end as they began, from what a run says of every array. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The two conditions, and the points left alone -/

theorem hcond1 : ∀ t : Fin cfg0.N, k0_cond1 (grid0.coords t) = 1#1 ↔ t.val % 4 = 0 :=
  (by decide +kernel : ∀ t : Fin grid0.N, k0_cond1 (grid0.coords t) = 1#1 ↔ t.val % 4 = 0)
theorem hcond2 : ∀ t : Fin cfg0.N, k0_cond2 (grid0.coords t) = 1#1 ↔ t.val % 4 = 0 :=
  (by decide +kernel : ∀ t : Fin grid0.N, k0_cond2 (grid0.coords t) = 1#1 ↔ t.val % 4 = 0)
theorem idle8 : ∀ t : Fin cfg0.N, ¬ t.val % 4 = 0 → cfg0.idle 8 (grid0.coords t) = true :=
  (by decide +kernel : ∀ t : Fin grid0.N, ¬ t.val % 4 = 0 → cfg0.idle 8 (grid0.coords t) = true)
theorem live8 : ∀ t : Fin cfg0.N, t.val % 4 = 0 → cfg0.idle 8 (grid0.coords t) = false :=
  (by decide +kernel : ∀ t : Fin grid0.N, t.val % 4 = 0 → cfg0.idle 8 (grid0.coords t) = false)
theorem idle10 : ∀ t : Fin cfg0.N, ¬ t.val % 4 = 0 → cfg0.idle 10 (grid0.coords t) = true :=
  (by decide +kernel : ∀ t : Fin grid0.N, ¬ t.val % 4 = 0 → cfg0.idle 10 (grid0.coords t) = true)
theorem live10 : ∀ t : Fin cfg0.N, t.val % 4 = 0 → cfg0.idle 10 (grid0.coords t) = false :=
  (by decide +kernel : ∀ t : Fin grid0.N, t.val % 4 = 0 → cfg0.idle 10 (grid0.coords t) = false)
theorem flush8_false (t : Fin cfg0.N) (h : ¬ t.val % 4 = 3) : (cfg0.win 8).flush t = false :=
  Bool.eq_false_iff.mpr fun e => h ((flush0_8 t).mp e)
theorem flush10_false (t : Fin cfg0.N) (h : ¬ t.val % 4 = 3) : (cfg0.win 10).flush t = false :=
  Bool.eq_false_iff.mpr fun e => h ((flush0_10 t).mp e)

/-- The first point of a point's row block. -/
def row (t : Fin cfg0.N) : Fin cfg0.N := ⟨4 * (t.val / 4), by have := t.isLt; omega⟩
theorem row_self (t : Fin cfg0.N) (h : t.val % 4 = 0) : row t = t := Fin.ext (by show 4 * (t.val / 4) = t.val; omega)
theorem row_pred (t : Fin cfg0.N) (h : ¬ t.val % 4 = 0) (h' : t.val - 1 < cfg0.N) : row ⟨t.val - 1, h'⟩ = row t :=
  Fin.ext (by show 4 * ((t.val - 1) / 4) = 4 * (t.val / 4); omega)

/-! ## What the body leaves -/

abbrev rS : Rect S1024x1024 := Rect.unit (s := S1024x1024) ![0, 0] S1024x1024.size inb_S1024x1024_S1024x1024_0_0
abbrev rY : Rect S1024x512 := Rect.unit (s := S1024x512) ![0, 0] S1024x512.size inb_S1024x512_S1024x512_0_0
abbrev rW : Rect S512x1024 := Rect.unit (s := S512x1024) ![0, 0] S512x1024.size inb_S512x1024_S512x1024_0_0
abbrev rB : Rect S1x1024 := Rect.unit (s := S1x1024) ![0, 0] S1x1024.size inb_S1x1024_S1x1024_0_0

/-- The new residual rows. -/
def outX (x0 : Vec F S1024x1024 .f32) (x1 x2 : Vec F S1024x512 .bf16) (x3 x4 : Vec F S512x1024 .bf16) : Vec F S1024x1024 .f32 :=
  View.canon [⟨rS, k0_pay1 (View.ld x0 rS) (View.ld x1 rY) (View.ld x3 rW) (View.ld x2 rY) (View.ld x4 rW)⟩]
/-- The normalised rows. -/
def outH (x0 : Vec F S1024x1024 .f32) (x1 x2 : Vec F S1024x512 .bf16) (x3 x4 : Vec F S512x1024 .bf16) (x5 : Vec F S1x1024 .f32) : Vec F S1024x1024 .bf16 :=
  View.canon [⟨rS, k0_pay2 (View.ld x0 rS) (View.ld x1 rY) (View.ld x3 rW) (View.ld x2 rY) (View.ld x4 rW) (View.ld x5 rB)⟩]
/-- The projection's columns, rounded. -/
def outP (h : Vec F S1024x1024 .bf16) (x6 : Vec F S1024x1024 .bf16) (x7 : Vec F S1x1024 .f32) : Vec F S1024x1024 .bf16 :=
  View.canon [⟨rS, k0_pay4 (View.ld h rS) (View.ld x6 rS) (View.ld x7 rB)⟩]
/-- The gate's columns. -/
def outG (h : Vec F S1024x1024 .bf16) (x6 : Vec F S1024x1024 .bf16) (x7 : Vec F S1x1024 .f32) : Vec F S1024x1024 .f32 :=
  View.canon [⟨rS, k0_pay3 (View.ld h rS) (View.ld x6 rS) (View.ld x7 rB)⟩]

/-- A whole-block piece covers the block. -/
theorem coverS {e : EltTy} (p0 : Vec F S1024x1024 e) (y : S1024x1024.Idx) :
    ∃ pc ∈ ([⟨rS, p0⟩] : List (View.Piece (Elt F) S1024x1024 e)), y ∈ pc.1.set :=
  View.cover_of_tiled [⟨rS, p0⟩] S1024x1024.size (by rfl) y

set_option maxHeartbeats 2000000 in
/-- The body at the first column block of a row block. -/
theorem soundA (c : Dev nD) (E : Set ℕ) (i : grid0.Coords) (arg2 : Memref sig .tc .vmem S1024x1024 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .bf16) (harg11 : arg11.IsWhole) (arg12 : Memref sig .tc .vmem S1024x1024 .f32) (harg12 : arg12.IsWhole) (arg13 : Memref sig .tc .vmem S1024x1024 .bf16) (harg13 : arg13.IsWhole)
    (h1 : k0_cond1 i = 1#1) (h2 : k0_cond2 i = 1#1) (x0 : Vec F S1024x1024 .f32) (x1 : Vec F S1024x512 .bf16) (x2 : Vec F S1024x512 .bf16) (x3 : Vec F S512x1024 .bf16) (x4 : Vec F S512x1024 .bf16) (x5 : Vec F S1x1024 .f32) (x6 : Vec F S1024x1024 .bf16) (x7 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (outX x0 x1 x2 x3 x4) ∗ owns (c : Thread nD τ) arg11 fullShare (outP (outH x0 x1 x2 x3 x4 x5) x6 x7) ∗ owns (c : Thread nD τ) arg12 fullShare (outG (outH x0 x1 x2 x3 x4 x5) x6 x7) ∗ owns (c : Thread nD τ) arg13 fullShare (outH x0 x1 x2 x3 x4 x5)) -∗ K ⟨⟩))
      ⊢ wp frame (wpE (defs₀ (F := F)) Variants.none c none) E (cc0_norm_proj i arg2 harg2 arg3 harg3 arg4 harg4 arg5 harg5 arg6 harg6 arg7 harg7 arg8 harg8 arg9 harg9 arg10 harg10 arg11 harg11 arg12 harg12 arg13 harg13) K := by
  simp only [cc0_norm_proj_eq_skeleton]; unfold cc0_norm_proj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
  subst hf0 hf1 hf2 hf3 hf4 hf5 hf6 hf7
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverS (F := F) _)
  isplitl [H9]
  · iexists _; isplitr
    swap; · iexact H9
    ipureintro
    unfold outP outH
    refine (View.read_writes_eq_canon _ _ _ (coverS (F := F) _)).trans ?_
    have e : soundA.sl.v3 c arg2 arg3 arg4 arg5 arg6 arg7 arg13 f0 f1 f2 f3 f4 f5 = View.ld (View.canon
        [⟨rS, k0_pay2 (View.ld (View.read (Elt F) arg2.view f0) rS) (View.ld (View.read (Elt F) arg3.view f1) rY)
          (View.ld (View.read (Elt F) arg5.view f3) rW) (View.ld (View.read (Elt F) arg4.view f2) rY)
          (View.ld (View.read (Elt F) arg6.view f4) rW) (View.ld (View.read (Elt F) arg7.view f5) rB)⟩]) rS := by
      unfold soundA.sl.v3
      exact View.readCov_eq_canon_ld _ _ _ (coverS (F := F) _)
    rw [e]
    rfl
  isplitl [H10]
  · iexists _; isplitr
    swap; · iexact H10
    ipureintro
    unfold outG outH
    refine (View.read_writes_eq_canon _ _ _ (coverS (F := F) _)).trans ?_
    have e : soundA.sl.v3 c arg2 arg3 arg4 arg5 arg6 arg7 arg13 f0 f1 f2 f3 f4 f5 = View.ld (View.canon
        [⟨rS, k0_pay2 (View.ld (View.read (Elt F) arg2.view f0) rS) (View.ld (View.read (Elt F) arg3.view f1) rY)
          (View.ld (View.read (Elt F) arg5.view f3) rW) (View.ld (View.read (Elt F) arg4.view f2) rY)
          (View.ld (View.read (Elt F) arg6.view f4) rW) (View.ld (View.read (Elt F) arg7.view f5) rB)⟩]) rS := by
      unfold soundA.sl.v3
      exact View.readCov_eq_canon_ld _ _ _ (coverS (F := F) _)
    rw [e]
    rfl
  iexists _; isplitr
  swap; · iexact H11
  ipureintro
  exact View.read_writes_eq_canon _ _ _ (coverS (F := F) _)

set_option maxHeartbeats 2000000 in
/-- The body at the other column blocks. -/
theorem soundB (c : Dev nD) (E : Set ℕ) (i : grid0.Coords) (arg2 : Memref sig .tc .vmem S1024x1024 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .bf16) (harg11 : arg11.IsWhole) (arg12 : Memref sig .tc .vmem S1024x1024 .f32) (harg12 : arg12.IsWhole) (arg13 : Memref sig .tc .vmem S1024x1024 .bf16) (harg13 : arg13.IsWhole)
    (h1 : ¬k0_cond1 i = 1#1) (h2 : ¬k0_cond2 i = 1#1) (x0 : Vec F S1024x1024 .f32) (x1 : Vec F S1024x512 .bf16) (x2 : Vec F S1024x512 .bf16) (x3 : Vec F S512x1024 .bf16) (x4 : Vec F S512x1024 .bf16) (x5 : Vec F S1x1024 .f32) (x6 : Vec F S1024x1024 .bf16) (x7 : Vec F S1x1024 .f32) (x8 : Vec F S1024x1024 .f32) (x10 : Vec F S1024x1024 .f32) (x11 : Vec F S1024x1024 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare x10 ∗ owns (c : Thread nD τ) arg13 fullShare x11
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (outP x11 x6 x7) ∗ owns (c : Thread nD τ) arg12 fullShare x10 ∗ owns (c : Thread nD τ) arg13 fullShare x11) -∗ K ⟨⟩))
      ⊢ wp frame (wpE (defs₀ (F := F)) Variants.none c none) E (cc0_norm_proj i arg2 harg2 arg3 harg3 arg4 harg4 arg5 harg5 arg6 harg6 arg7 harg7 arg8 harg8 arg9 harg9 arg10 harg10 arg11 harg11 arg12 harg12 arg13 harg13) K := by
  simp only [cc0_norm_proj_eq_skeleton]; unfold cc0_norm_proj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, Hk⟩
  subst hf0 hf1 hf2 hf3 hf4 hf5 hf6 hf7 hf8 hf10 hf11
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (coverS (F := F) _)
  isplitl [H10]
  · iexists f10; isplitr; · ipureintro; rfl
    iexact H10
  iexists f11; isplitr; · ipureintro; rfl
  iexact H11

end Cert.Kernel4Ideal.Gen

end
-- ==== Proof.MidFrameIdeal.lean ====
module

public import proofs.«01_k».proof.Proof.MidRunIdeal
public import Idealize.ShloMosaic.Lib.Pipeline.TableIdle

/-!
# The frame of the call between the layers (Kernel4Ideal)

What every buffer holds at every point, the two outputs left alone at three points of four among them, and the run.
-/

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each buffer holds -/

/-- The residual rows of a point's row block. -/
def valX (c : Dev nD) (t : Fin cfg0.N) : Vec F S1024x1024 .f32 := outX (iblk m c 0 (row t)) (iblk m c 1 (row t)) (iblk m c 2 (row t)) (iblk m c 3 (row t)) (iblk m c 4 (row t))
/-- Its normalised rows. -/
def valH (c : Dev nD) (t : Fin cfg0.N) : Vec F S1024x1024 .bf16 := outH (iblk m c 0 (row t)) (iblk m c 1 (row t)) (iblk m c 2 (row t)) (iblk m c 3 (row t)) (iblk m c 4 (row t)) (iblk m c 5 (row t))
/-- Its gate. -/
def valG (c : Dev nD) (t : Fin cfg0.N) : Vec F S1024x1024 .f32 := outG (valH m c t) (iblk m c 6 (row t)) (iblk m c 7 (row t))
/-- The projection's columns at a point. -/
def valP (c : Dev nD) (t : Fin cfg0.N) : Vec F S1024x1024 .bf16 := outP (valH m c t) (iblk m c 6 t) (iblk m c 7 t)

theorem valX_pred (c : Dev nD) (t : Fin cfg0.N) (h : ¬ t.val % 4 = 0) (h' : t.val - 1 < cfg0.N) : valX m c ⟨t.val - 1, h'⟩ = valX m c t := by
  unfold valX; rw [row_pred t h h']
theorem valH_pred (c : Dev nD) (t : Fin cfg0.N) (h : ¬ t.val % 4 = 0) (h' : t.val - 1 < cfg0.N) : valH m c ⟨t.val - 1, h'⟩ = valH m c t := by
  unfold valH; rw [row_pred t h h']
theorem valG_pred (c : Dev nD) (t : Fin cfg0.N) (h : ¬ t.val % 4 = 0) (h' : t.val - 1 < cfg0.N) : valG m c ⟨t.val - 1, h'⟩ = valG m c t := by
  unfold valG; rw [row_pred t h h', valH_pred m c t h h']

/-- The scratch. -/
abbrev scM0_0 : Memref sig .tc .vmem S1024x1024 .bf16 := Memref.whole cc0_scratch0

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- Between points: nothing is known at first, then the scratch holds the last point's normalised rows. -/
def PhiS (c : Dev nD) : (n : ℕ) → n ≤ cfg0.N → sProp 𝕄
  | 0, _ => Pipeline.ΦA spec0 c
  | n + 1, h => iprop(iprop(owns (c : Thread nD τ) scM0_0 fullShare (valH m c ⟨n, h⟩)) ∗ (∃ r, prngReg c r))
theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare (valH m c ⟨n, hn⟩)) ∗ (∃ r, prngReg c r)) := rfl
theorem PhiS_pos (c : Dev nD) (n : ℕ) (h : n ≤ cfg0.N) (hz : n ≠ 0) :
    PhiS m c n h = iprop(iprop(owns (c : Thread nD τ) scM0_0 fullShare (valH m c ⟨n - 1, by omega⟩)) ∗ (∃ r, prngReg c r)) := by
  cases n with
  | zero => exact absurd rfl hz
  | succ n => rfl
theorem PhiS_any (c : Dev nD) (n : ℕ) (h : n ≤ cfg0.N) : PhiS m c n h ⊢ Pipeline.ΦA spec0 c := by
  by_cases hz : n = 0
  · rw [PhiS_zero m c n h hz]
  · rw [PhiS_pos m c n h hz, PhiA0_eq]
    iintro ⟨HS0, Hg⟩
    isplitl [HS0]
    · iexists _; iexact HS0
    iexact Hg

/-- What every array and buffer holds. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => valX m c t
    | ⟨9, _⟩ => valP m c t
    | ⟨10, _⟩ => valG m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = valX m c t := by dsimp only [dats]
theorem after0_9 (c : Dev nD) (t : Fin cfg0.N) : (dats m 0 c).after 9 t = valP m c t := by dsimp only [dats]
theorem after0_10 (c : Dev nD) (t : Fin cfg0.N) : (dats m 0 c).after 10 t = valG m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

theorem kept8 (c : Dev nD) (t : Fin cfg0.N) (d) : (dats m 0 c).kept 8 t d = valX m c t :=
  (show (dats m 0 c).kept 8 t d = (dats m 0 c).after 8 t from by
    unfold Dat.kept
    rw [Pipeline.fill_of_clip_none 8 _ (fun _ => rfl) d ((dats m 0 c).after 8 _), Window.fill_cut]).trans (after0_8 m c t)

/-- Past the first point of a row block the buffer still holds what that point stored. -/
theorem before0_8 (c : Dev nD) : ∀ (n : ℕ) (t : Fin cfg0.N), t.val = n → ¬ t.val % 4 = 0 → ∀ d, (dats m 0 c).before 8 t d = valX m c t := by
  intro n
  induction n with
  | zero => intro t e h d; exact absurd (by rw [e]) h
  | succ n ih =>
    intro t e h d
    have hlt : t.val - 1 < cfg0.N := Nat.lt_of_le_of_lt (Nat.sub_le _ _) t.isLt
    rw [(dats m 0 c).before_of_pos 8 t (by omega) ((cfg0.win 8).fetch_out rfl t), flush8_false _ (by show ¬ (t.val - 1) % 4 = 3; omega), if_neg Bool.false_ne_true]
    unfold Dat.left
    by_cases hz : (t.val - 1) % 4 = 0
    · rw [live8 ⟨t.val - 1, hlt⟩ hz]
      exact (kept8 m c _ d).trans (valX_pred m c t h hlt)
    · rw [idle8 ⟨t.val - 1, hlt⟩ hz]
      exact (ih ⟨t.val - 1, hlt⟩ (by show t.val - 1 = n; omega) hz d).trans (valX_pred m c t h hlt)

/-- A point that leaves the buffer alone hands it on at those contents, written back or not. -/
theorem leaves8 (c : Dev nD) (t : Fin cfg0.N) (h : ¬ t.val % 4 = 0) :
    owns (c : Thread nD τ) (st0_8 t) fullShare (valX m c t) ⊢ ((dats m 0 c).leavesExact 8 t : sProp 𝕄) := by
  by_cases hf : t.val % 4 = 3
  · rw [show (dats m 0 c).leavesExact 8 t = owns (c : Thread nD τ) (st0_8 t) fullShare ((dats m 0 c).after 8 t) from by
        unfold Dat.leavesExact; rw [idle8 t h, (flush0_8 t).mpr hf], after0_8]
  · rw [Dat.leavesExact_idle (dats m 0 c) 8 t (idle8 t h) (flush8_false t hf)]
    iintro H
    iexists (fun _ => Classical.arbitrary _)
    rw [before0_8 m c t.val t rfl h]
    iexact H

theorem kept10 (c : Dev nD) (t : Fin cfg0.N) (d) : (dats m 0 c).kept 10 t d = valG m c t :=
  (show (dats m 0 c).kept 10 t d = (dats m 0 c).after 10 t from by
    unfold Dat.kept
    rw [Pipeline.fill_of_clip_none 10 _ (fun _ => rfl) d ((dats m 0 c).after 10 _), Window.fill_cut]).trans (after0_10 m c t)

/-- Past the first point of a row block the buffer still holds what that point stored. -/
theorem before0_10 (c : Dev nD) : ∀ (n : ℕ) (t : Fin cfg0.N), t.val = n → ¬ t.val % 4 = 0 → ∀ d, (dats m 0 c).before 10 t d = valG m c t := by
  intro n
  induction n with
  | zero => intro t e h d; exact absurd (by rw [e]) h
  | succ n ih =>
    intro t e h d
    have hlt : t.val - 1 < cfg0.N := Nat.lt_of_le_of_lt (Nat.sub_le _ _) t.isLt
    rw [(dats m 0 c).before_of_pos 10 t (by omega) ((cfg0.win 10).fetch_out rfl t), flush10_false _ (by show ¬ (t.val - 1) % 4 = 3; omega), if_neg Bool.false_ne_true]
    unfold Dat.left
    by_cases hz : (t.val - 1) % 4 = 0
    · rw [live10 ⟨t.val - 1, hlt⟩ hz]
      exact (kept10 m c _ d).trans (valG_pred m c t h hlt)
    · rw [idle10 ⟨t.val - 1, hlt⟩ hz]
      exact (ih ⟨t.val - 1, hlt⟩ (by show t.val - 1 = n; omega) hz d).trans (valG_pred m c t h hlt)

/-- A point that leaves the buffer alone hands it on at those contents, written back or not. -/
theorem leaves10 (c : Dev nD) (t : Fin cfg0.N) (h : ¬ t.val % 4 = 0) :
    owns (c : Thread nD τ) (st0_10 t) fullShare (valG m c t) ⊢ ((dats m 0 c).leavesExact 10 t : sProp 𝕄) := by
  by_cases hf : t.val % 4 = 3
  · rw [show (dats m 0 c).leavesExact 10 t = owns (c : Thread nD τ) (st0_10 t) fullShare ((dats m 0 c).after 10 t) from by
        unfold Dat.leavesExact; rw [idle10 t h, (flush0_10 t).mpr hf], after0_10]
  · rw [Dat.leavesExact_idle (dats m 0 c) 10 t (idle10 t h) (flush10_false t hf)]
    iintro H
    iexists (fun _ => Classical.arbitrary _)
    rw [before0_10 m c t.val t rfl h]
    iexact H

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 2000000 in
/-- The body at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = PhiS m c (t.val + 1) t.isLt from rfl, PhiS_succ m c t.val t.isLt,
    show (dats m 0 c).owesAt () t.succ = (dats m 0 c).owesAt () t.castSucc from rfl, PhiS_castSucc m c t]
  rw [show (dats m 0 c).leavesExact 0 t = owns (c : Thread nD τ) (st0_0 t) fullShare ((dats m 0 c).after 0 t) from rfl, after0_0]
  rw [show (dats m 0 c).leavesExact 1 t = owns (c : Thread nD τ) (st0_1 t) fullShare ((dats m 0 c).after 1 t) from rfl, after0_1]
  rw [show (dats m 0 c).leavesExact 2 t = owns (c : Thread nD τ) (st0_2 t) fullShare ((dats m 0 c).after 2 t) from rfl, after0_2]
  rw [show (dats m 0 c).leavesExact 3 t = owns (c : Thread nD τ) (st0_3 t) fullShare ((dats m 0 c).after 3 t) from rfl, after0_3]
  rw [show (dats m 0 c).leavesExact 4 t = owns (c : Thread nD τ) (st0_4 t) fullShare ((dats m 0 c).after 4 t) from rfl, after0_4]
  rw [show (dats m 0 c).leavesExact 5 t = owns (c : Thread nD τ) (st0_5 t) fullShare ((dats m 0 c).after 5 t) from rfl, after0_5]
  rw [show (dats m 0 c).leavesExact 6 t = owns (c : Thread nD τ) (st0_6 t) fullShare ((dats m 0 c).after 6 t) from rfl, after0_6]
  rw [show (dats m 0 c).leavesExact 7 t = owns (c : Thread nD τ) (st0_7 t) fullShare ((dats m 0 c).after 7 t) from rfl, after0_7]
  rw [show (dats m 0 c).leavesExact 9 t = owns (c : Thread nD τ) (st0_9 t) fullShare ((dats m 0 c).after 9 t) from rfl, after0_9]
  by_cases h0 : t.val % 4 = 0
  · rw [show (dats m 0 c).leavesExact 8 t = owns (c : Thread nD τ) (st0_8 t) fullShare ((dats m 0 c).after 8 t) from by
        unfold Dat.leavesExact; rw [live8 t h0], after0_8,
      show (dats m 0 c).leavesExact 10 t = owns (c : Thread nD τ) (st0_10 t) fullShare ((dats m 0 c).after 10 t) from by
        unfold Dat.leavesExact; rw [live10 t h0], after0_10]
    have eX : valX m c t = outX (iblk m c 0 t) (iblk m c 1 t) (iblk m c 2 t) (iblk m c 3 t) (iblk m c 4 t) := by unfold valX; rw [row_self t h0]
    have eH : valH m c t = outH (iblk m c 0 t) (iblk m c 1 t) (iblk m c 2 t) (iblk m c 3 t) (iblk m c 4 t) (iblk m c 5 t) := by unfold valH; rw [row_self t h0]
    have eG : valG m c t = outG (outH (iblk m c 0 t) (iblk m c 1 t) (iblk m c 2 t) (iblk m c 3 t) (iblk m c 4 t) (iblk m c 5 t)) (iblk m c 6 t) (iblk m c 7 t) := by unfold valG; rw [row_self t h0, eH]
    have eP : valP m c t = outP (outH (iblk m c 0 t) (iblk m c 1 t) (iblk m c 2 t) (iblk m c 3 t) (iblk m c 4 t) (iblk m c 5 t)) (iblk m c 6 t) (iblk m c 7 t) := by unfold valP; rw [eH]
    rw [eX, eG, eP, show valH m c ⟨t.val, t.isLt⟩ = _ from eH]
    by_cases hz : t.val = 0
    · rw [PhiS_zero m c _ _ hz, PhiA0_eq]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (soundA c Set.univ (grid0.coords t) _ _ _ _ _ _ _ _ _ _ _ _ _ _ _ _ _ _ _ _ _ _ _ _ ((hcond1 t).mpr h0) ((hcond2 t).mpr h0) (iblk m c 0 t) (iblk m c 1 t) (iblk m c 2 t) (iblk m c 3 t) (iblk m c 4 t) (iblk m c 5 t) (iblk m c 6 t) (iblk m c 7 t) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [HS]; · iexact HS
      iintro ⟨H0, H1, H2, H3, H4, H5, H6, H7, H8, H9, H10, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · rw [PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (soundA c Set.univ (grid0.coords t) _ _ _ _ _ _ _ _ _ _ _ _ _ _ _ _ _ _ _ _ _ _ _ _ ((hcond1 t).mpr h0) ((hcond2 t).mpr h0) (iblk m c 0 t) (iblk m c 1 t) (iblk m c 2 t) (iblk m c 3 t) (iblk m c 4 t) (iblk m c 5 t) (iblk m c 6 t) (iblk m c 7 t) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [HS]; · iexists _; iexact HS
      iintro ⟨H0, H1, H2, H3, H4, H5, H6, H7, H8, H9, H10, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
  · have hz : t.val ≠ 0 := fun e => h0 (by rw [e])
    rw [PhiS_pos m c _ _ hz, valH_pred m c t h0]
    simp only [before0_8 m c t.val t rfl h0, before0_10 m c t.val t rfl h0]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (soundB c Set.univ (grid0.coords t) _ _ _ _ _ _ _ _ _ _ _ _ _ _ _ _ _ _ _ _ _ _ _ _ (fun e => h0 ((hcond1 t).mp e)) (fun e => h0 ((hcond2 t).mp e)) (iblk m c 0 t) (iblk m c 1 t) (iblk m c 2 t) (iblk m c 3 t) (iblk m c 4 t) (iblk m c 5 t) (iblk m c 6 t) (iblk m c 7 t) _ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [HS]; · iexact HS
    iintro ⟨H0, H1, H2, H3, H4, H5, H6, H7, H8, H9, H10, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iapply (leaves8 m c t h0); iexact H8
    isplitl [H9]; · iexact H9
    iapply (leaves10 m c t h0); iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _
theorem hout (c : Dev nD) : (dats m 0 c).Φ (Fin.last cfg0.N) ⊢ Pipeline.ΦA spec0 c := by
  rw [show (dats m 0 c).Φ (Fin.last cfg0.N) = PhiS m c cfg0.N (Nat.le_refl _) from rfl]
  exact PhiS_any m c _ _

set_option backward.isDefEq.respectTransparency.types false in
/-- The whole run, with every semaphore counter back at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every array after the run. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.Kernel4Ideal.Gen

end
-- ==== Proof.MidSpec.lean ====
module
public import proofs.«01_k».proof.Proof.EvenSpec

/-!
# The call between the layers: the formulas

The residual stream plus the even layer's output projection, its normalised rows, and their projection.
-/

@[expose] public section
noncomputable section
namespace Cert.Proof.Mid
open Idealize.ShloMosaic

/-- The residual stream plus the product of the two halves of the mixers' output with the two halves of the weight. -/
def res (x : (⟨2, ![16384, 1024]⟩ : Shape).Idx → EReal) (ya yb : (⟨2, ![16384, 512]⟩ : Shape).Idx → EReal) (w : (⟨2, ![1024, 1024]⟩ : Shape).Idx → EReal)
    (i : Fin 16384) (j : Fin 1024) : EReal :=
  x (ix2 i j) + (∑ k : Fin 512, ya (ix2 i k) * w (ix2 (⟨k.val, by omega⟩ : Fin 1024) j)) + ∑ k : Fin 512, yb (ix2 i k) * w (ix2 (⟨512 + k.val, by omega⟩ : Fin 1024) j)

/-- A row over the root of its mean square, times the norm's weight. -/
def nrm (X : Fin 16384 → Fin 1024 → EReal) (g : (⟨1, ![1024]⟩ : Shape).Idx → EReal) (i : Fin 16384) (k : Fin 1024) : EReal :=
  X i k * Ideal.rsqrt (Ideal.div (∑ q : Fin 1024, X i q * X i q) (Ideal.ofBits FTy.f32 1149239296#32) + Ideal.ofBits FTy.f32 897988541#32) * g (ix1 k)

/-- The projection of the normalised rows. -/
def proj (X : Fin 16384 → Fin 1024 → EReal) (g : (⟨1, ![1024]⟩ : Shape).Idx → EReal) (w : (⟨2, ![1024, 4096]⟩ : Shape).Idx → EReal)
    (b : (⟨1, ![4096]⟩ : Shape).Idx → EReal) (i : Fin 16384) (ch : Fin 4096) : EReal :=
  (∑ k : Fin 1024, nrm X g i k * w (ix2 k ch)) + b (ix1 ch)

/-- A sum over 1024 is the sum of its halves. -/
theorem sum_halves (f : Fin 1024 → EReal) :
    ∑ k : Fin 1024, f k = (∑ k : Fin 512, f ⟨k.val, by omega⟩) + ∑ k : Fin 512, f ⟨512 + k.val, by omega⟩ :=
  Fin.sum_univ_add (a := 512) (b := 512) f

end Cert.Proof.Mid
end
-- ==== Proof.MidStep.lean ====
module
public import proofs.«01_k».proof.Proof.MidSpec
public import proofs.«01_k».proof.Proof.MidFrameIdeal
public import Idealize.ShloMosaic.Lib.Pointwise
public import Idealize.ShloMosaic.Lib.Pipeline.ValueKit
public import Idealize.ShloMosaic.Lib.StableHlo.RunRead
public import Idealize.ShloMosaic.Lib.Tactic.CleanTypes

/-!
# The call between the layers: what a point reads and computes
-/

@[expose] public section
set_option maxRecDepth 16384
noncomputable section
namespace Cert.Proof.Mid
open Idealize.ShloMosaic Idealize.ShloMosaic.TcCoe Idealize.SL.Sem Cert.Kernel4Ideal Cert.Kernel4Ideal.Gen
variable (m : (ℓ : Loc nD τ sig) → Buf (Elt Ideal) ℓ) (c : Dev nD)

/-- Which block of each array a point has. -/
theorem idx : ∀ t : Fin cfg0.N, win0_0.index t = ![t.val / 4, 0]
    ∧ win0_1.index t = ![t.val / 4, 0]
    ∧ win0_2.index t = ![t.val / 4, 0]
    ∧ win0_3.index t = ![0, 0]
    ∧ win0_4.index t = ![0, 0]
    ∧ win0_5.index t = ![0, 0]
    ∧ win0_6.index t = ![0, t.val % 4]
    ∧ win0_7.index t = ![0, t.val % 4]
    ∧ win0_8.index t = ![t.val / 4, 0]
    ∧ win0_9.index t = ![t.val / 4, t.val % 4]
    ∧ win0_10.index t = ![t.val / 4, 0] := by decide +kernel

theorem blk0 (X : Vec Ideal S16384x1024 .f32) (t : Fin cfg0.N) (r : Fin 1024) (ch : Fin 1024) (p : Fin 16384) (hp : p.val = t.val / 4 * 1024 + r.val) :
    ((cfg0.win 0).blk t).view.read (Elt Ideal) X (ix2 r ch) = X (ix2 p ch) := by
  have e := (idx t).1
  refine congrArg X ?_
  funext a
  apply Fin.ext
  match a with
  | ⟨0, _⟩ => blk_simp [e]; exact hp.symm
  | ⟨1, _⟩ => blk_simp [e]

theorem blk1 (X : Vec Ideal S16384x512 .bf16) (t : Fin cfg0.N) (r : Fin 1024) (ch : Fin 512) (p : Fin 16384) (hp : p.val = t.val / 4 * 1024 + r.val) :
    ((cfg0.win 1).blk t).view.read (Elt Ideal) X (ix2 r ch) = X (ix2 p ch) := by
  have e := (idx t).2.1
  refine congrArg X ?_
  funext a
  apply Fin.ext
  match a with
  | ⟨0, _⟩ => blk_simp [e]; exact hp.symm
  | ⟨1, _⟩ => blk_simp [e]

theorem blk2 (X : Vec Ideal S16384x512 .bf16) (t : Fin cfg0.N) (r : Fin 1024) (ch : Fin 512) (p : Fin 16384) (hp : p.val = t.val / 4 * 1024 + r.val) :
    ((cfg0.win 2).blk t).view.read (Elt Ideal) X (ix2 r ch) = X (ix2 p ch) := by
  have e := (idx t).2.2.1
  refine congrArg X ?_
  funext a
  apply Fin.ext
  match a with
  | ⟨0, _⟩ => blk_simp [e]; exact hp.symm
  | ⟨1, _⟩ => blk_simp [e]

theorem blk3 (X : Vec Ideal S512x1024 .bf16) (t : Fin cfg0.N) (r : Fin 512) (ch : Fin 1024) :
    ((cfg0.win 3).blk t).view.read (Elt Ideal) X (ix2 r ch) = X (ix2 r ch) := by
  have e := (idx t).2.2.2.1
  refine congrArg X ?_
  funext a
  apply Fin.ext
  match a with
  | ⟨0, _⟩ => blk_simp [e]
  | ⟨1, _⟩ => blk_simp [e]

theorem blk4 (X : Vec Ideal S512x1024 .bf16) (t : Fin cfg0.N) (r : Fin 512) (ch : Fin 1024) :
    ((cfg0.win 4).blk t).view.read (Elt Ideal) X (ix2 r ch) = X (ix2 r ch) := by
  have e := (idx t).2.2.2.2.1
  refine congrArg X ?_
  funext a
  apply Fin.ext
  match a with
  | ⟨0, _⟩ => blk_simp [e]
  | ⟨1, _⟩ => blk_simp [e]

theorem blk5 (X : Vec Ideal S1x1024 .f32) (t : Fin cfg0.N) (ch : Fin 1024) :
    ((cfg0.win 5).blk t).view.read (Elt Ideal) X (ix2 0 ch) = X (ix2 0 ch) := by
  have e := (idx t).2.2.2.2.2.1
  refine congrArg X ?_
  funext a
  apply Fin.ext
  match a with
  | ⟨0, _⟩ => blk_simp [e]
  | ⟨1, _⟩ => blk_simp [e]

theorem blk6 (X : Vec Ideal S1024x4096 .bf16) (t : Fin cfg0.N) (r : Fin 1024) (ch : Fin 1024) (q : Fin 4096) (hq : q.val = t.val % 4 * 1024 + ch.val) :
    ((cfg0.win 6).blk t).view.read (Elt Ideal) X (ix2 r ch) = X (ix2 r q) := by
  have e := (idx t).2.2.2.2.2.2.1
  refine congrArg X ?_
  funext a
  apply Fin.ext
  match a with
  | ⟨0, _⟩ => blk_simp [e]
  | ⟨1, _⟩ => blk_simp [e]; exact hq.symm

theorem blk7 (X : Vec Ideal S1x4096 .f32) (t : Fin cfg0.N) (ch : Fin 1024) (q : Fin 4096) (hq : q.val = t.val % 4 * 1024 + ch.val) :
    ((cfg0.win 7).blk t).view.read (Elt Ideal) X (ix2 0 ch) = X (ix2 0 q) := by
  have e := (idx t).2.2.2.2.2.2.2.1
  refine congrArg X ?_
  funext a
  apply Fin.ext
  match a with
  | ⟨0, _⟩ => blk_simp [e]
  | ⟨1, _⟩ => blk_simp [e]; exact hq.symm

theorem blk8 (X : S16384x1024.Idx → EReal) (t : Fin cfg0.N) (r : Fin 1024) (ch : Fin 1024) (p : Fin 16384) (hp : p.val = t.val / 4 * 1024 + r.val) :
    X (((cfg0.win 8).blk t).view.emb (ix2 r ch)) = X (ix2 p ch) := by
  have e := (idx t).2.2.2.2.2.2.2.2.1
  refine congrArg X ?_
  funext a
  apply Fin.ext
  match a with
  | ⟨0, _⟩ => blk_simp [e]; exact hp.symm
  | ⟨1, _⟩ => blk_simp [e]

theorem blk9 (X : S16384x4096.Idx → EReal) (t : Fin cfg0.N) (r : Fin 1024) (ch : Fin 1024) (p : Fin 16384) (hp : p.val = t.val / 4 * 1024 + r.val) (q : Fin 4096) (hq : q.val = t.val % 4 * 1024 + ch.val) :
    X (((cfg0.win 9).blk t).view.emb (ix2 r ch)) = X (ix2 p q) := by
  have e := (idx t).2.2.2.2.2.2.2.2.2.1
  refine congrArg X ?_
  funext a
  apply Fin.ext
  match a with
  | ⟨0, _⟩ => blk_simp [e]; exact hp.symm
  | ⟨1, _⟩ => blk_simp [e]; exact hq.symm

theorem blk10 (X : S16384x1024.Idx → EReal) (t : Fin cfg0.N) (r : Fin 1024) (ch : Fin 1024) (p : Fin 16384) (hp : p.val = t.val / 4 * 1024 + r.val) :
    X (((cfg0.win 10).blk t).view.emb (ix2 r ch)) = X (ix2 p ch) := by
  have e := (idx t).2.2.2.2.2.2.2.2.2.2
  refine congrArg X ?_
  funext a
  apply Fin.ext
  match a with
  | ⟨0, _⟩ => blk_simp [e]; exact hp.symm
  | ⟨1, _⟩ => blk_simp [e]

/-- The new residual rows. -/
theorem pay1 (x : Vec Ideal S1024x1024 .f32) (ya : Vec Ideal S1024x512 .bf16) (wa : Vec Ideal S512x1024 .bf16) (yb : Vec Ideal S1024x512 .bf16) (wb : Vec Ideal S512x1024 .bf16) (r j : Fin 1024) :
    k0_pay1 (F := Ideal) x ya wa yb wb (ix2 r j) = x (ix2 r j) + (∑ k : Fin 512, ya (ix2 r k) * wa (ix2 k j)) + ∑ k : Fin 512, yb (ix2 r k) * wb (ix2 k j) := by
  clean_types
  pointwise [k0_pay1]

/-- The normalised rows, from the new residual rows. -/
theorem pay2 (x : Vec Ideal S1024x1024 .f32) (ya : Vec Ideal S1024x512 .bf16) (wa : Vec Ideal S512x1024 .bf16) (yb : Vec Ideal S1024x512 .bf16) (wb : Vec Ideal S512x1024 .bf16) (g : Vec Ideal S1x1024 .f32)
    (X : Vec Ideal S1024x1024 .f32) (hX : k0_pay1 (F := Ideal) x ya wa yb wb = X) (r k : Fin 1024) :
    k0_pay2 (F := Ideal) x ya wa yb wb g (ix2 r k)
      = X (ix2 r k) * Ideal.rsqrt (Ideal.div (∑ q : Fin 1024, X (ix2 r q) * X (ix2 r q)) (Ideal.ofBits FTy.f32 1149239296#32) + Ideal.ofBits FTy.f32 897988541#32) * g (ix2 0 k) := by
  unfold k0_pay2
  rw [hX]
  clean_types
  pointwise

theorem pay3 (h : Vec Ideal S1024x1024 .bf16) (w : Vec Ideal S1024x1024 .bf16) (b : Vec Ideal S1x1024 .f32) (r j : Fin 1024) :
    k0_pay3 (F := Ideal) h w b (ix2 r j) = (∑ k : Fin 1024, h (ix2 r k) * w (ix2 k j)) + b (ix2 0 j) := by
  clean_types
  pointwise [k0_pay3]

theorem pay4 (h : Vec Ideal S1024x1024 .bf16) (w : Vec Ideal S1024x1024 .bf16) (b : Vec Ideal S1x1024 .f32) (r j : Fin 1024) :
    k0_pay4 (F := Ideal) h w b (ix2 r j) = (∑ k : Fin 1024, h (ix2 r k) * w (ix2 k j)) + b (ix2 0 j) := by
  clean_types
  pointwise [k0_pay4, k0_pay3]

theorem outX_eq (x0 : Vec Ideal S1024x1024 .f32) (x1 x2 : Vec Ideal S1024x512 .bf16) (x3 x4 : Vec Ideal S512x1024 .bf16) : outX x0 x1 x2 x3 x4 = k0_pay1 x0 x1 x3 x2 x4 := by
  unfold outX
  frame_out
theorem outH_eq (x0 : Vec Ideal S1024x1024 .f32) (x1 x2 : Vec Ideal S1024x512 .bf16) (x3 x4 : Vec Ideal S512x1024 .bf16) (x5 : Vec Ideal S1x1024 .f32) : outH x0 x1 x2 x3 x4 x5 = k0_pay2 x0 x1 x3 x2 x4 x5 := by
  unfold outH
  frame_out
theorem outP_eq (h x6 : Vec Ideal S1024x1024 .bf16) (x7 : Vec Ideal S1x1024 .f32) : outP h x6 x7 = k0_pay4 h x6 x7 := by
  unfold outP
  frame_out
theorem outG_eq (h x6 : Vec Ideal S1024x1024 .bf16) (x7 : Vec Ideal S1x1024 .f32) : outG h x6 x7 = k0_pay3 h x6 x7 := by
  unfold outG
  frame_out

theorem halfA (X : Vec Ideal S512x1024 .bf16) (W : Vec Ideal S1024x1024 .f32) (h : X = extractStridedSlice S512x1024 ![0, 0] (truncf (F := Ideal) .bf16 W bitsLt_bf16_f32) slices_S1024x1024_S512x1024_0_0) (k : Fin 512) (j : Fin 1024) :
    X (ix2 k j) = W (ix2 (⟨k.val, by omega⟩ : Fin 1024) j) := by
  rw [h]
  clean_types
  pointwise
theorem halfB (X : Vec Ideal S512x1024 .bf16) (W : Vec Ideal S1024x1024 .f32) (h : X = extractStridedSlice S512x1024 ![512, 0] (truncf (F := Ideal) .bf16 W bitsLt_bf16_f32) slices_S1024x1024_S512x1024_512_0) (k : Fin 512) (j : Fin 1024) :
    X (ix2 k j) = W (ix2 (⟨512 + k.val, by omega⟩ : Fin 1024) j) := by
  rw [h]
  clean_types
  pointwise
theorem rowN (X : Vec Ideal S1x1024 .f32) (W : Vec Ideal S1024 .f32) (h : X = shapeCast S1x1024 W shapeCasts_S1024_S1x1024) (k : Fin 1024) : X (ix2 0 k) = W (ix1 k) := by
  rw [h]
  pointwise
theorem rowB (X : Vec Ideal S1x4096 .f32) (W : Vec Ideal S4096 .f32) (h : X = shapeCast S1x4096 W shapeCasts_S4096_S1x4096) (k : Fin 4096) : X (ix2 0 k) = W (ix1 k) := by
  rw [h]
  pointwise

/-- The first half of the output weight. -/
theorem v1_read (k : Fin 512) (j : Fin 1024) : V m c main_v1 (ix2 k j) = m ((c : Thread nD τ).loc main_arg3) (ix2 (⟨k.val, by omega⟩ : Fin 1024) j) := by
  have e : V m c main_v1 = extractStridedSlice S512x1024 ![0, 0] (truncf (F := Ideal) .bf16 (m ((c : Thread nD τ).loc main_arg3) : FVec Ideal S1024x1024 .f32) bitsLt_bf16_f32) slices_S1024x1024_S512x1024_0_0 := by
    entry_read
    all_goals rfl
  exact halfA _ _ e k j

/-- The second half of the output weight. -/
theorem v2_read (k : Fin 512) (j : Fin 1024) : V m c main_v2 (ix2 k j) = m ((c : Thread nD τ).loc main_arg3) (ix2 (⟨512 + k.val, by omega⟩ : Fin 1024) j) := by
  have e : V m c main_v2 = extractStridedSlice S512x1024 ![512, 0] (truncf (F := Ideal) .bf16 (m ((c : Thread nD τ).loc main_arg3) : FVec Ideal S1024x1024 .f32) bitsLt_bf16_f32) slices_S1024x1024_S512x1024_512_0 := by
    entry_read
    all_goals rfl
  exact halfB _ _ e k j

/-- The projection's weight. -/
theorem v3_read : V m c main_v3 = m ((c : Thread nD τ).loc main_arg5) := by
  entry_read
  rfl

/-- The norm's weight. -/
theorem v4_read (k : Fin 1024) : V m c main_v4 (ix2 0 k) = m ((c : Thread nD τ).loc main_arg4) (ix1 k) := by
  have e : V m c main_v4 = shapeCast S1x1024 (m ((c : Thread nD τ).loc main_arg4) : Vec Ideal S1024 .f32) shapeCasts_S1024_S1x1024 := by
    entry_read
    all_goals rfl
  exact rowN _ _ e k

/-- The projection's bias. -/
theorem v5_read (k : Fin 4096) : V m c main_v5 (ix2 0 k) = m ((c : Thread nD τ).loc main_arg6) (ix1 k) := by
  have e : V m c main_v5 = shapeCast S1x4096 (m ((c : Thread nD τ).loc main_arg6) : Vec Ideal S4096 .f32) shapeCasts_S4096_S1x4096 := by
    entry_read
    all_goals rfl
  exact rowB _ _ e k

end Cert.Proof.Mid
end
-- ==== Proof.MidKer.lean ====
module
public import proofs.«01_k».proof.Proof.MidStep

/-!
# The call between the layers at the kernel: its three results
-/

@[expose] public section
set_option maxRecDepth 16384
noncomputable section
namespace Cert.Proof.Mid
open Idealize.ShloMosaic Idealize.ShloMosaic.TcCoe Idealize.SL.Sem Cert.Kernel4Ideal Cert.Kernel4Ideal.Gen
variable (m : (ℓ : Loc nD τ sig) → Buf (Elt Ideal) ℓ) (c : Dev nD)

/-- The new residual stream at the kernel's arguments. -/
def X : Fin 16384 → Fin 1024 → EReal :=
  res (m ((c : Thread nD τ).loc main_arg0)) (m ((c : Thread nD τ).loc main_arg1)) (m ((c : Thread nD τ).loc main_arg2)) (m ((c : Thread nD τ).loc main_arg3))

/-- The projection at the kernel's arguments. -/
def Y : Fin 16384 → Fin 4096 → EReal :=
  proj (X m c) (m ((c : Thread nD τ).loc main_arg4)) (m ((c : Thread nD τ).loc main_arg5)) (m ((c : Thread nD τ).loc main_arg6))

/-- The new residual rows of a point's row block. -/
theorem fresh (t : Fin cfg0.N) (r j : Fin 1024) (p : Fin 16384) (hp : p.val = t.val / 4 * 1024 + r.val) :
    k0_pay1 (F := Ideal) (iblk m c 0 t) (iblk m c 1 t) (iblk m c 3 t) (iblk m c 2 t) (iblk m c 4 t) (ix2 r j) = X m c p j := by
  rw [pay1]
  unfold X res
  refine congrArg₂ (· + ·) (congrArg₂ (· + ·) ?_ (Finset.sum_congr rfl fun k _ => congrArg₂ (· * ·) ?_ ?_)) (Finset.sum_congr rfl fun k _ => congrArg₂ (· * ·) ?_ ?_)
  · exact (blk0 (V m c main_arg0) t r j p hp).trans (congrFun (V_main_arg0 m c) _)
  · exact (blk1 (V m c main_arg1) t r k p hp).trans (congrFun (V_main_arg1 m c) _)
  · exact (blk3 (V m c main_v1) t k j).trans (v1_read m c k j)
  · exact (blk2 (V m c main_arg2) t r k p hp).trans (congrFun (V_main_arg2 m c) _)
  · exact (blk4 (V m c main_v2) t k j).trans (v2_read m c k j)

/-- Their normalised rows. -/
theorem rows (t : Fin cfg0.N) (r k : Fin 1024) (p : Fin 16384) (hp : p.val = t.val / 4 * 1024 + r.val) :
    k0_pay2 (F := Ideal) (iblk m c 0 t) (iblk m c 1 t) (iblk m c 3 t) (iblk m c 2 t) (iblk m c 4 t) (iblk m c 5 t) (ix2 r k)
      = nrm (X m c) (m ((c : Thread nD τ).loc main_arg4)) p k := by
  refine (pay2 _ _ _ _ _ _ _ rfl r k).trans ?_
  unfold nrm
  have hg : iblk m c 5 t (ix2 0 k) = m ((c : Thread nD τ).loc main_arg4) (ix1 k) := (blk5 (V m c main_v4) t k).trans (v4_read m c k)
  simp only [fun j => fresh m c t r j p hp]
  exact congrArg (fun z => _ * z) hg

theorem row_div (t : Fin cfg0.N) : (row t).val / 4 = t.val / 4 := by
  show 4 * (t.val / 4) / 4 = t.val / 4
  omega

theorem row_mod (t : Fin cfg0.N) : (row t).val % 4 = 0 := by
  show 4 * (t.val / 4) % 4 = 0
  omega

theorem valX_at (t : Fin cfg0.N) (r j : Fin 1024) (p : Fin 16384) (hp : p.val = t.val / 4 * 1024 + r.val) :
    valX m c t (ix2 r j) = X m c p j := by
  unfold valX
  rw [outX_eq]
  exact fresh m c (row t) r j p (by rw [row_div]; exact hp)

theorem valH_at (t : Fin cfg0.N) (r k : Fin 1024) (p : Fin 16384) (hp : p.val = t.val / 4 * 1024 + r.val) :
    valH m c t (ix2 r k) = nrm (X m c) (m ((c : Thread nD τ).loc main_arg4)) p k := by
  unfold valH
  rw [outH_eq]
  exact rows m c (row t) r k p (by rw [row_div]; exact hp)

/-- The product of normalised rows with a point's columns. -/
theorem prod (t : Fin cfg0.N) (h : Vec Ideal S1024x1024 .bf16) (r : Fin 1024) (p : Fin 16384)
    (hh : ∀ k : Fin 1024, h (ix2 r k) = nrm (X m c) (m ((c : Thread nD τ).loc main_arg4)) p k)
    (j : Fin 1024) (q : Fin 4096) (hq : q.val = t.val % 4 * 1024 + j.val) :
    (∑ k : Fin 1024, h (ix2 r k) * (iblk m c 6 t : Vec Ideal S1024x1024 .bf16) (ix2 k j)) + (iblk m c 7 t : Vec Ideal S1x1024 .f32) (ix2 0 j) = Y m c p q := by
  unfold Y proj
  refine congrArg₂ (· + ·) (Finset.sum_congr rfl fun k _ => congrArg₂ (· * ·) (hh k) ?_) ?_
  · exact (blk6 (V m c main_v3) t k j q hq).trans (congrFun (v3_read m c) _)
  · exact (blk7 (V m c main_v5) t j q hq).trans (v5_read m c q)

theorem valP_at (t : Fin cfg0.N) (r j : Fin 1024) (p : Fin 16384) (hp : p.val = t.val / 4 * 1024 + r.val) (q : Fin 4096) (hq : q.val = t.val % 4 * 1024 + j.val) :
    valP m c t (ix2 r j) = Y m c p q := by
  unfold valP
  rw [outP_eq, pay4]
  exact prod m c t _ r p (fun k => valH_at m c t r k p hp) j q hq

theorem valG_at (t : Fin cfg0.N) (r j : Fin 1024) (p : Fin 16384) (hp : p.val = t.val / 4 * 1024 + r.val) (q : Fin 4096) (hq : q.val = j.val) :
    valG m c t (ix2 r j) = Y m c p q := by
  unfold valG
  rw [outG_eq, pay3]
  exact prod m c (row t) _ r p (fun k => valH_at m c t r k p hp) j q (by rw [row_mod, hq]; omega)

/-- The new residual stream. -/
def A8 : S16384x1024.Idx → EReal := fun i => X m c (i 0) (i 1)
/-- The projection. -/
def A9 : S16384x4096.Idx → EReal := fun i => Y m c (i 0) (i 1)
/-- The gate: the projection's first columns. -/
def A10 : S16384x1024.Idx → EReal := fun i => Y m c (i 0) ⟨(i 1).val, by have h : (i 1).val < 1024 := (i 1).isLt; omega⟩

theorem final8 : (dats m 0 c).arrAt 8 cfg0.N = A8 m c := by
  refine (dats m 0 c).arrAt_eq_of_covers 8 _ (by decide +kernel) fun t hf y => ?_
  blk_simp
  rw [after0_8]
  have ey : y = ix2 (y 0) (y 1) := ValueIdx.eq_ix2 y
  rw [ey]
  have h0 : (y 0).val < 1024 := (y 0).isLt
  have ht : t.val < 64 := lt_of_lt_of_eq t.isLt N_0
  let p : Fin 16384 := ⟨t.val / 4 * 1024 + (y 0).val, by omega⟩
  exact (valX_at m c t (y 0) (y 1) p rfl).trans (blk8 (A8 m c) t (y 0) (y 1) p rfl).symm

theorem final9 : (dats m 0 c).arrAt 9 cfg0.N = A9 m c := by
  refine (dats m 0 c).arrAt_eq_of_covers 9 _ (by decide +kernel) fun t hf y => ?_
  blk_simp
  rw [after0_9]
  have ey : y = ix2 (y 0) (y 1) := ValueIdx.eq_ix2 y
  rw [ey]
  have h0 : (y 0).val < 1024 := (y 0).isLt
  have h1 : (y 1).val < 1024 := (y 1).isLt
  have ht : t.val < 64 := lt_of_lt_of_eq t.isLt N_0
  let p : Fin 16384 := ⟨t.val / 4 * 1024 + (y 0).val, by omega⟩
  let q : Fin 4096 := ⟨t.val % 4 * 1024 + (y 1).val, by omega⟩
  exact (valP_at m c t (y 0) (y 1) p rfl q rfl).trans (blk9 (A9 m c) t (y 0) (y 1) p rfl q rfl).symm

theorem final10 : (dats m 0 c).arrAt 10 cfg0.N = A10 m c := by
  refine (dats m 0 c).arrAt_eq_of_covers 10 _ (by decide +kernel) fun t hf y => ?_
  blk_simp
  rw [after0_10]
  have ey : y = ix2 (y 0) (y 1) := ValueIdx.eq_ix2 y
  rw [ey]
  have h0 : (y 0).val < 1024 := (y 0).isLt
  have h1 : (y 1).val < 1024 := (y 1).isLt
  have ht : t.val < 64 := lt_of_lt_of_eq t.isLt N_0
  let p : Fin 16384 := ⟨t.val / 4 * 1024 + (y 0).val, by omega⟩
  exact (valG_at m c t (y 0) (y 1) p rfl ⟨(y 1).val, by omega⟩ rfl).trans (blk10 (A10 m c) t (y 0) (y 1) p rfl).symm

end Cert.Proof.Mid
end
-- ==== Proof.MidRef.lean ====
module
public import proofs.«01_k».proof.Proof.MidSpec
public import Idealize.ShloMosaic.Lib.Tactic.CleanTypes
public import proofs.«01_k».proof.Proof.Gen.Reference4Ideal.Run

/-!
# The call between the layers at the reference
-/

@[expose] public section
set_option maxRecDepth 16384
noncomputable section
namespace Cert.Proof.Mid.Ref
open Idealize.ShloMosaic Idealize.ShloMosaic.TcCoe Idealize.SL.Sem Cert.Reference4Ideal Cert.Reference4Ideal.Gen Cert.Reference4Ideal.Value

/-- The two halves of the mixers' output side by side. -/
def cat (ya yb : Vec Ideal S16384x512 .bf16) : FVec Ideal S16384x1024 .f32 :=
  concatenate S16384x1024 1 [⟨S16384x512, (extf (F := Ideal) .f32 ya bitsLt_bf16_f32)⟩, ⟨S16384x512, (extf (F := Ideal) .f32 yb bitsLt_bf16_f32)⟩] concatenates_S16384x512_S16384x512_S16384x1024_d1

theorem catA (ya yb : Vec Ideal S16384x512 .bf16) (i : Fin 16384) (k : Fin 512) : cat ya yb (ix2 i (⟨k.val, by omega⟩ : Fin 1024)) = ya (ix2 i k) := by
  have hk := k.isLt
  clean_types
  pointwise [cat]

theorem catB (ya yb : Vec Ideal S16384x512 .bf16) (i : Fin 16384) (k : Fin 512) : cat ya yb (ix2 i (⟨512 + k.val, by omega⟩ : Fin 1024)) = yb (ix2 i k) := by
  have hk := k.isLt
  clean_types
  pointwise [cat]

/-- The new residual stream. -/
def R (x : Vec Ideal S16384x1024 .f32) (ya yb : Vec Ideal S16384x512 .bf16) (w : Vec Ideal S1024x1024 .f32) : FVec Ideal S16384x1024 .f32 :=
  addf (F := Ideal) x (Host.dotGeneral (F := Ideal) (φ₁ := .f32) (φ₂ := .f32) dot_S16384x1024_S1024x1024_S16384x1024_1_0_0_1_n_n none (cat ya yb) w)

theorem R_sum (x : Vec Ideal S16384x1024 .f32) (C : FVec Ideal S16384x1024 .f32) (w : Vec Ideal S1024x1024 .f32) (i : Fin 16384) (j : Fin 1024) :
    addf (F := Ideal) x (Host.dotGeneral (F := Ideal) (φ₁ := .f32) (φ₂ := .f32) dot_S16384x1024_S1024x1024_S16384x1024_1_0_0_1_n_n none C w) (ix2 i j)
      = x (ix2 i j) + ∑ k : Fin 1024, C (ix2 i k) * w (ix2 k j) := by
  clean_types
  pointwise

theorem R_at (x : Vec Ideal S16384x1024 .f32) (ya yb : Vec Ideal S16384x512 .bf16) (w : Vec Ideal S1024x1024 .f32) (i : Fin 16384) (j : Fin 1024) :
    R x ya yb w (ix2 i j) = res x ya yb w i j := by
  unfold R res
  rw [R_sum, sum_halves, add_assoc]
  refine congrArg (fun z => _ + z) (congrArg₂ (· + ·) (Finset.sum_congr rfl fun k _ => ?_) (Finset.sum_congr rfl fun k _ => ?_))
  · exact congrArg (fun z => z * _) (catA ya yb i k)
  · exact congrArg (fun z => z * _) (catB ya yb i k)

/-- The projection. -/
def P (x : FVec Ideal S16384x1024 .f32) (g : Vec Ideal S1024 .f32) (w : Vec Ideal S1024x4096 .f32) (b : Vec Ideal S4096 .f32) : FVec Ideal S16384x4096 .f32 :=
  addf (F := Ideal) (Host.dotGeneral (F := Ideal) (φ₁ := .f32) (φ₂ := .f32) dot_S16384x1024_S1024x4096_S16384x4096_1_0_0_1_n_n none
    (mulf (mulf x (broadcastInDim S16384x1024 ![0, 1] bcast_S16384x1_S16384x1024_0_1 (Host.rsqrt (addf (Host.divf (broadcastInDim S16384x1 ![0] bcast_S16384_S16384x1_0
      (Host.reduceAdd (F := Ideal) (mulf x x) (constant S_ .f32 0x00000000#32) reducesTo_S16384x1024_S16384_d1 h_S_)) (broadcastInDim S16384x1 ![] bcast_S_S16384x1 (constant S_ .f32 0x44800000#32)))
      (broadcastInDim S16384x1 ![] bcast_S_S16384x1 (constant S_ .f32 0x358637BD#32))))))
      (broadcastInDim S16384x1024 ![0, 1] bcast_S1x1024_S16384x1024_0_1 (broadcastInDim S1x1024 ![1] bcast_S1024_S1x1024_1 g))) w)
    (broadcastInDim S16384x4096 ![0, 1] bcast_S1x4096_S16384x4096_0_1 (broadcastInDim S1x4096 ![1] bcast_S4096_S1x4096_1 b))

theorem P_sum (x : FVec Ideal S16384x1024 .f32) (g : Vec Ideal S1024 .f32) (w : Vec Ideal S1024x4096 .f32) (b : Vec Ideal S4096 .f32) (i : Fin 16384) (ch : Fin 4096) :
    P x g w b (ix2 i ch) = proj (fun i j => x (ix2 i j)) g w b i ch := by
  unfold proj nrm
  clean_types
  pointwise [P]

theorem P_at (x : Vec Ideal S16384x1024 .f32) (ya yb : Vec Ideal S16384x512 .bf16) (wo : Vec Ideal S1024x1024 .f32) (g : Vec Ideal S1024 .f32) (w : Vec Ideal S1024x4096 .f32) (b : Vec Ideal S4096 .f32)
    (i : Fin 16384) (ch : Fin 4096) : P (R x ya yb wo) g w b (ix2 i ch) = proj (res x ya yb wo) g w b i ch :=
  (P_sum _ _ _ _ i ch).trans (congrArg (fun X => proj X g w b i ch) (funext fun i => funext fun j => R_at x ya yb wo i j))

/-- The rounded projection is the projection. -/
theorem wide (Z : FVec Ideal S16384x4096 .f32) (i : Fin 16384) (ch : Fin 4096) : truncf (F := Ideal) .bf16 Z bitsLt_bf16_f32 (ix2 i ch) = Z (ix2 i ch) := rfl

/-- Its first columns. -/
theorem gate (Z : FVec Ideal S16384x4096 .f32) (i : Fin 16384) (j : Fin 1024) :
    extractStridedSlice S16384x1024 ![0, 0] Z slices_S16384x4096_S16384x1024_0_0 (ix2 i j) = Z (ix2 i (⟨j.val, by omega⟩ : Fin 4096)) := by
  clean_types
  pointwise

end Cert.Proof.Mid.Ref
end
-- ==== Proof.MidProj.lean ====
module
public import proofs.«01_k».proof.Defs
public import proofs.«01_k».proof.Proof.MidKer
public import proofs.«01_k».proof.Proof.MidRef
public import Idealize.ShloMosaic.Lib.Claim

/-!
# The call between the layers: the kernel and the reference agree
-/

@[expose] public section
set_option maxRecDepth 16384
noncomputable section
namespace Cert.Proof.Mid
open Idealize.ShloMosaic Idealize.ShloMosaic.TcCoe Idealize.SL.Sem

section Ker
open Cert.Kernel4Ideal Cert.Kernel4Ideal.Gen

/-- The kernel's run: its three results, its arguments unchanged. -/
theorem ker_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v6_0) = A8 m c
      ∧ r.2.mem ((c.tc : Thread nD τ).loc main_v6_1) = A9 m c
      ∧ r.2.mem ((c.tc : Thread nD τ).loc main_v6_2) = A10 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run _ _ _).mono (fun _ h c => ⟨((h c).1 8).trans (final8 m c), ((h c).1 9).trans (final9 m c), ((h c).1 10).trans (final10 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) (run_main m ρ)
end Ker

section RefSide
open Cert.Reference4Ideal Cert.Reference4Ideal.Gen
variable (x : Vec Ideal S16384x1024 .f32) (ya yb : Vec Ideal S16384x512 .bf16) (wo : Vec Ideal S1024x1024 .f32) (g : Vec Ideal S1024 .f32) (w : Vec Ideal S1024x4096 .f32) (b : Vec Ideal S4096 .f32)

theorem ref8 (Z : Vec Ideal S16384x1024 .f32) (hZ : Z = Ref.R x ya yb wo) : Z = fun i => res x ya yb wo (i 0) (i 1) := by
  funext i
  have ei : i = ix2 (i 0) (i 1) := ValueIdx.eq_ix2 i
  rw [ei, hZ]
  exact Ref.R_at x ya yb wo (i 0) (i 1)

theorem ref9 (Z : Vec Ideal S16384x4096 .bf16) (hZ : Z = truncf (F := Ideal) .bf16 (Ref.P (Ref.R x ya yb wo) g w b) bitsLt_bf16_f32) :
    Z = fun i => proj (res x ya yb wo) g w b (i 0) (i 1) := by
  funext i
  have ei : i = ix2 (i 0) (i 1) := ValueIdx.eq_ix2 i
  rw [ei, hZ]
  exact (Ref.wide _ (i 0) (i 1)).trans (Ref.P_at x ya yb wo g w b (i 0) (i 1))

theorem ref10 (Z : Vec Ideal S16384x1024 .f32) (hZ : Z = extractStridedSlice S16384x1024 ![0, 0] (Ref.P (Ref.R x ya yb wo) g w b) slices_S16384x4096_S16384x1024_0_0) :
    Z = fun i => proj (res x ya yb wo) g w b (i 0) ⟨(i 1).val, by have h : (i 1).val < 1024 := (i 1).isLt; omega⟩ := by
  funext i
  have ei : i = ix2 (i 0) (i 1) := ValueIdx.eq_ix2 i
  rw [ei, hZ]
  exact (Ref.gate _ (i 0) (i 1)).trans (Ref.P_at x ya yb wo g w b (i 0) _)
end RefSide

/-- The reference's arguments end unchanged; it has no semaphore. -/
theorem ref_frame : Cert.quiescent_Reference4Ideal := fun m g _ =>
  (θ_run _ _ _).mono (fun r h => ⟨fun c => (h c).2.2.2, Idealize.ShloMosaic.sem_eq_zero_of_no_sems (by decide) r.2⟩) (Cert.Reference4Ideal.Value.run m g)

/-- The kernel and the reference, from the same arguments, end with the same results. -/
theorem same : Cert.algebraic_Kernel4Ideal_Reference4Ideal := fun m g m' g' _ hargs =>
  ⟨fun c => A8 m c, fun c => A9 m c, fun c => A10 m c, ker_run m g,
    (θ_run _ _ _).mono (fun _ h c => ⟨
      ref8 _ _ _ _ _ ((h c).1.trans (by
        obtain ⟨h0, h1, h2, h3, h4, h5, h6⟩ := hargs c
        rw [h0, h1, h2, h3]
        rfl)),
      ref9 _ _ _ _ _ _ _ _ ((h c).2.1.trans (by
        obtain ⟨h0, h1, h2, h3, h4, h5, h6⟩ := hargs c
        rw [h0, h1, h2, h3, h4, h5, h6]
        rfl)),
      ref10 _ _ _ _ _ _ _ _ ((h c).2.2.1.trans (by
        obtain ⟨h0, h1, h2, h3, h4, h5, h6⟩ := hargs c
        rw [h0, h1, h2, h3, h4, h5, h6]
        rfl)), (h c).2.2.2⟩) (Cert.Reference4Ideal.Value.run m' g')⟩

end Cert.Proof.Mid
end
-- ==== Proof.lean ====
module

public import proofs.«01_k».proof.Proof.Gen.KernelIdeal.Value
public import proofs.«01_k».proof.Proof.Gen.ReferenceIdeal.Run
public import proofs.«01_k».proof.Proof.KFinal
public import proofs.«01_k».proof.Proof.RefFinal
public import proofs.«01_k».proof.Proof.EvenProj
public import proofs.«01_k».proof.Proof.LastProj
public import proofs.«01_k».proof.Proof.MidFrame
public import proofs.«01_k».proof.Proof.MidFrameIdeal
public import proofs.«01_k».proof.Proof.MidProj
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Reference4Ideal
public import proofs.«01_k».proof.Proof.Gen.Reference4Ideal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import Idealize.ShloMosaic.Adequacy
public import Idealize.ShloMosaic.Init

@[expose] public section

noncomputable section

namespace Cert.Proof

open Idealize.ShloMosaic Idealize.ShloMosaic.TcCoe Idealize.SL.Sem Idealize.ShloMosaic.HostLoop Idealize.ShloMosaic.StableHlo

/-- The reference's result, from the launch's arguments, is the same array of them. -/
theorem ref_final (m : (ℓ : Loc Cert.ReferenceIdeal.nD Cert.ReferenceIdeal.τ Cert.ReferenceIdeal.sig) → Buf (Elt Ideal) ℓ)
    (c : Dev Cert.ReferenceIdeal.nD) (A : Args) (hA : vargs (launchContents m c) = A) :
    Cert.ReferenceIdeal.Value.out_main_v102 (F := Ideal)
        (Cert.ReferenceIdeal.Value.STEP^[64] (entryContents Cert.ReferenceIdeal.Value.preI m c)) = K.resArr A := by
  subst hA
  funext i
  rw [ValueIdx.eq_ix3 i]
  generalize (i 0) = b
  generalize (i 1) = p
  generalize (i 2) = col
  change Fin 2 at b
  change Fin 8192 at p
  change Fin 512 at col
  have hp := p.isLt
  have hc := col.isLt
  have R := ref_out (launchContents m c) b (⟨col.val / 128, by omega⟩ : Fin 4) (⟨p.val / 128, by omega⟩ : Fin 64)
    (⟨p.val % 128, by omega⟩ : Fin 128) (⟨col.val % 128, by omega⟩ : Fin 128)
    (Cert.ReferenceIdeal.Value.iter_main_arg0 m c 64) (Cert.ReferenceIdeal.Value.iter_main_arg4 m c 64)
  have e1 : Args.pos (⟨p.val / 128, by omega⟩ : Fin 64) (⟨p.val % 128, by omega⟩ : Fin 128) = p :=
    Fin.ext (by show p.val / 128 * 128 + p.val % 128 = p.val; omega)
  have e2 : (⟨col.val / 128 * 128 + col.val % 128, by omega⟩ : Fin 512) = col :=
    Fin.ext (by show col.val / 128 * 128 + col.val % 128 = col.val; omega)
  rw [e1] at R
  refine Eq.trans ?_ (R.trans (K.resArr_at _ b p col _ _ _ _ (by show p.val = p.val / 128 * 128 + p.val % 128; omega)
    (by show col.val = col.val / 128 * 128 + col.val % 128; omega)).symm)
  exact congrArg (fun k => Cert.ReferenceIdeal.Value.out_main_v102 (F := Ideal)
        (Cert.ReferenceIdeal.Value.STEP^[64] (entryContents Cert.ReferenceIdeal.Value.preI m c)) (ix3 b p k)) e2.symm

/-- The reference's arguments end unchanged; it has no semaphore. -/
theorem ref_frame : Cert.quiescent_ReferenceIdeal := fun m g _ =>
  (θ_run _ _ _).mono (fun r h => ⟨fun c => (h c).2, Idealize.ShloMosaic.sem_eq_zero_of_no_sems (by decide) r.2⟩) (Cert.ReferenceIdeal.Value.run m g)

/-- The kernel and the reference, from the same arguments, end with the same result. -/
theorem same : Cert.algebraic_KernelIdeal_ReferenceIdeal := fun m g m' g' _ hargs =>
  ⟨fun c => K.resArr (K.kargs m c),
    (θ_run _ _ _).mono (fun _ h c => ⟨(h c).1.trans (K.final m c), (h c).2⟩) (Cert.KernelIdeal.Value.run_blocks m g),
    (θ_run _ _ _).mono (fun _ h c => ⟨(h c).1.trans (ref_final m' c (K.kargs m c) (by
      obtain ⟨h0, h1, h2, h3, h4⟩ := hargs c
      show Args.mk _ _ _ _ _ = Args.mk _ _ _ _ _
      congr 1)), (h c).2⟩) (Cert.ReferenceIdeal.Value.run m' g')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  fun m g _ => Cert.Kernel.Gen.frame m g, fun m g _ => Cert.KernelIdeal.Gen.frame m g, ref_frame,
  fun m g _ => Cert.Kernel2.Gen.frame m g, fun m g _ => Cert.Kernel2Ideal.Gen.frame m g, Even.ref_frame,
  fun m g _ => Cert.Kernel3.Gen.frame m g, fun m g _ => Cert.Kernel3Ideal.Gen.frame m g, Last.ref_frame,
  fun m g _ => Cert.Kernel4.Gen.frame m g, fun m g _ => Cert.Kernel4Ideal.Gen.frame m g, Mid.ref_frame,
  trivial, same, trivial, Even.same, trivial, Last.same, trivial, Mid.same⟩

end Cert.Proof

end
